-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_keys_and_gates [hPre_finite_keys_and_gates : Cert.Pre_finite_keys_and_gates.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_keys_and_gates.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_keys_and_gates [hPre_finite_keys_and_gates : Cert.Pre_finite_keys_and_gates.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_keys_and_gates.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Kernel8Ideal_pre_finite_keys_and_gates [hKernel8Ideal : Cert.Kernel8Ideal.Facts] [hPre_finite_keys_and_gates : Cert.Pre_finite_keys_and_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_keys_and_gates m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Reference8Ideal_pre_finite_keys_and_gates [hReference8Ideal : Cert.Reference8Ideal.Facts] [hPre_finite_keys_and_gates : Cert.Pre_finite_keys_and_gates.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_keys_and_gates m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v23)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v106) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)) (v4 : (c : Dev Cert.Kernel5Ideal.nD) → Buf (Elt Ideal) ((c.tc : Thread Cert.Kernel5Ideal.nD Cert.Kernel5Ideal.τ).loc Cert.Kernel5Ideal.main_v20_4)) (v5 : (c : Dev Cert.Kernel5Ideal.nD) → Buf (Elt Ideal) ((c.tc : Thread Cert.Kernel5Ideal.nD Cert.Kernel5Ideal.τ).loc Cert.Kernel5Ideal.main_v20_5)) (v6 : (c : Dev Cert.Kernel5Ideal.nD) → Buf (Elt Ideal) ((c.tc : Thread Cert.Kernel5Ideal.nD Cert.Kernel5Ideal.τ).loc Cert.Kernel5Ideal.main_v20_6)) (v7 : (c : Dev Cert.Kernel5Ideal.nD) → Buf (Elt Ideal) ((c.tc : Thread Cert.Kernel5Ideal.nD Cert.Kernel5Ideal.τ).loc Cert.Kernel5Ideal.main_v20_7)) (v8 : (c : Dev Cert.Kernel5Ideal.nD) → Buf (Elt Ideal) ((c.tc : Thread Cert.Kernel5Ideal.nD Cert.Kernel5Ideal.τ).loc Cert.Kernel5Ideal.main_v20_8)) (v9 : (c : Dev Cert.Kernel5Ideal.nD) → Buf (Elt Ideal) ((c.tc : Thread Cert.Kernel5Ideal.nD Cert.Kernel5Ideal.τ).loc Cert.Kernel5Ideal.main_v20_9)) (v10 : (c : Dev Cert.Kernel5Ideal.nD) → Buf (Elt Ideal) ((c.tc : Thread Cert.Kernel5Ideal.nD Cert.Kernel5Ideal.τ).loc Cert.Kernel5Ideal.main_v20_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_v20_4) = v4 c
          ∧ r.2.mem ((c.tc : Thread Cert.Kernel5Ideal.nD Cert.Kernel5Ideal.τ).loc Cert.Kernel5Ideal.main_v20_5) = v5 c
          ∧ r.2.mem ((c.tc : Thread Cert.Kernel5Ideal.nD Cert.Kernel5Ideal.τ).loc Cert.Kernel5Ideal.main_v20_6) = v6 c
          ∧ r.2.mem ((c.tc : Thread Cert.Kernel5Ideal.nD Cert.Kernel5Ideal.τ).loc Cert.Kernel5Ideal.main_v20_7) = v7 c
          ∧ r.2.mem ((c.tc : Thread Cert.Kernel5Ideal.nD Cert.Kernel5Ideal.τ).loc Cert.Kernel5Ideal.main_v20_8) = v8 c
          ∧ r.2.mem ((c.tc : Thread Cert.Kernel5Ideal.nD Cert.Kernel5Ideal.τ).loc Cert.Kernel5Ideal.main_v20_9) = v9 c
          ∧ r.2.mem ((c.tc : Thread Cert.Kernel5Ideal.nD Cert.Kernel5Ideal.τ).loc Cert.Kernel5Ideal.main_v20_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v51) = v2 c
          ∧ r.2.mem ((c.tc : Thread Cert.Reference5Ideal.nD Cert.Reference5Ideal.τ).loc Cert.Reference5Ideal.main_v52) = v3 c
          ∧ r.2.mem ((c.tc : Thread Cert.Reference5Ideal.nD Cert.Reference5Ideal.τ).loc Cert.Reference5Ideal.main_v56) = v4 c
          ∧ r.2.mem ((c.tc : Thread Cert.Reference5Ideal.nD Cert.Reference5Ideal.τ).loc Cert.Reference5Ideal.main_v57) = v5 c
          ∧ r.2.mem ((c.tc : Thread Cert.Reference5Ideal.nD Cert.Reference5Ideal.τ).loc Cert.Reference5Ideal.main_v58) = v6 c
          ∧ r.2.mem ((c.tc : Thread Cert.Reference5Ideal.nD Cert.Reference5Ideal.τ).loc Cert.Reference5Ideal.main_v60) = v7 c
          ∧ r.2.mem ((c.tc : Thread Cert.Reference5Ideal.nD Cert.Reference5Ideal.τ).loc Cert.Reference5Ideal.main_v62) = v8 c
          ∧ r.2.mem ((c.tc : Thread Cert.Reference5Ideal.nD Cert.Reference5Ideal.τ).loc Cert.Reference5Ideal.main_v63) = v9 c
          ∧ r.2.mem ((c.tc : Thread Cert.Reference5Ideal.nD Cert.Reference5Ideal.τ).loc Cert.Reference5Ideal.main_v65) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)) (v3 : (c : Dev Cert.Kernel6Ideal.nD) → Buf (Elt Ideal) ((c.tc : Thread Cert.Kernel6Ideal.nD Cert.Kernel6Ideal.τ).loc Cert.Kernel6Ideal.main_v20_3)) (v4 : (c : Dev Cert.Kernel6Ideal.nD) → Buf (Elt Ideal) ((c.tc : Thread Cert.Kernel6Ideal.nD Cert.Kernel6Ideal.τ).loc Cert.Kernel6Ideal.main_v20_4)) (v5 : (c : Dev Cert.Kernel6Ideal.nD) → Buf (Elt Ideal) ((c.tc : Thread Cert.Kernel6Ideal.nD Cert.Kernel6Ideal.τ).loc Cert.Kernel6Ideal.main_v20_5)) (v6 : (c : Dev Cert.Kernel6Ideal.nD) → Buf (Elt Ideal) ((c.tc : Thread Cert.Kernel6Ideal.nD Cert.Kernel6Ideal.τ).loc Cert.Kernel6Ideal.main_v20_6)) (v7 : (c : Dev Cert.Kernel6Ideal.nD) → Buf (Elt Ideal) ((c.tc : Thread Cert.Kernel6Ideal.nD Cert.Kernel6Ideal.τ).loc Cert.Kernel6Ideal.main_v20_7)) (v8 : (c : Dev Cert.Kernel6Ideal.nD) → Buf (Elt Ideal) ((c.tc : Thread Cert.Kernel6Ideal.nD Cert.Kernel6Ideal.τ).loc Cert.Kernel6Ideal.main_v20_8)) (v9 : (c : Dev Cert.Kernel6Ideal.nD) → Buf (Elt Ideal) ((c.tc : Thread Cert.Kernel6Ideal.nD Cert.Kernel6Ideal.τ).loc Cert.Kernel6Ideal.main_v20_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_v20_3) = v3 c
          ∧ r.2.mem ((c.tc : Thread Cert.Kernel6Ideal.nD Cert.Kernel6Ideal.τ).loc Cert.Kernel6Ideal.main_v20_4) = v4 c
          ∧ r.2.mem ((c.tc : Thread Cert.Kernel6Ideal.nD Cert.Kernel6Ideal.τ).loc Cert.Kernel6Ideal.main_v20_5) = v5 c
          ∧ r.2.mem ((c.tc : Thread Cert.Kernel6Ideal.nD Cert.Kernel6Ideal.τ).loc Cert.Kernel6Ideal.main_v20_6) = v6 c
          ∧ r.2.mem ((c.tc : Thread Cert.Kernel6Ideal.nD Cert.Kernel6Ideal.τ).loc Cert.Kernel6Ideal.main_v20_7) = v7 c
          ∧ r.2.mem ((c.tc : Thread Cert.Kernel6Ideal.nD Cert.Kernel6Ideal.τ).loc Cert.Kernel6Ideal.main_v20_8) = v8 c
          ∧ r.2.mem ((c.tc : Thread Cert.Kernel6Ideal.nD Cert.Kernel6Ideal.τ).loc Cert.Kernel6Ideal.main_v20_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v49) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_v52) = v3 c
          ∧ r.2.mem ((c.tc : Thread Cert.Reference6Ideal.nD Cert.Reference6Ideal.τ).loc Cert.Reference6Ideal.main_v56) = v4 c
          ∧ r.2.mem ((c.tc : Thread Cert.Reference6Ideal.nD Cert.Reference6Ideal.τ).loc Cert.Reference6Ideal.main_v57) = v5 c
          ∧ r.2.mem ((c.tc : Thread Cert.Reference6Ideal.nD Cert.Reference6Ideal.τ).loc Cert.Reference6Ideal.main_v58) = v6 c
          ∧ r.2.mem ((c.tc : Thread Cert.Reference6Ideal.nD Cert.Reference6Ideal.τ).loc Cert.Reference6Ideal.main_v60) = v7 c
          ∧ r.2.mem ((c.tc : Thread Cert.Reference6Ideal.nD Cert.Reference6Ideal.τ).loc Cert.Reference6Ideal.main_v62) = v8 c
          ∧ r.2.mem ((c.tc : Thread Cert.Reference6Ideal.nD Cert.Reference6Ideal.τ).loc Cert.Reference6Ideal.main_v63) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)) →
    ∃ (v0 : (c : Dev Cert.Kernel7Ideal.nD) → Buf (Elt Ideal) ((c.tc : Thread Cert.Kernel7Ideal.nD Cert.Kernel7Ideal.τ).loc Cert.Kernel7Ideal.main_v26_0)) (v1 : (c : Dev Cert.Kernel7Ideal.nD) → Buf (Elt Ideal) ((c.tc : Thread Cert.Kernel7Ideal.nD Cert.Kernel7Ideal.τ).loc Cert.Kernel7Ideal.main_v26_1)) (v2 : (c : Dev Cert.Kernel7Ideal.nD) → Buf (Elt Ideal) ((c.tc : Thread Cert.Kernel7Ideal.nD Cert.Kernel7Ideal.τ).loc Cert.Kernel7Ideal.main_v26_2)) (v3 : (c : Dev Cert.Kernel7Ideal.nD) → Buf (Elt Ideal) ((c.tc : Thread Cert.Kernel7Ideal.nD Cert.Kernel7Ideal.τ).loc Cert.Kernel7Ideal.main_v26_3)) (v4 : (c : Dev Cert.Kernel7Ideal.nD) → Buf (Elt Ideal) ((c.tc : Thread Cert.Kernel7Ideal.nD Cert.Kernel7Ideal.τ).loc Cert.Kernel7Ideal.main_v26_4)) (v5 : (c : Dev Cert.Kernel7Ideal.nD) → Buf (Elt Ideal) ((c.tc : Thread Cert.Kernel7Ideal.nD Cert.Kernel7Ideal.τ).loc Cert.Kernel7Ideal.main_v26_5)) (v6 : (c : Dev Cert.Kernel7Ideal.nD) → Buf (Elt Ideal) ((c.tc : Thread Cert.Kernel7Ideal.nD Cert.Kernel7Ideal.τ).loc Cert.Kernel7Ideal.main_v26_6)) (v7 : (c : Dev Cert.Kernel7Ideal.nD) → Buf (Elt Ideal) ((c.tc : Thread Cert.Kernel7Ideal.nD Cert.Kernel7Ideal.τ).loc Cert.Kernel7Ideal.main_v26_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26_0) = v0 c
          ∧ r.2.mem ((c.tc : Thread Cert.Kernel7Ideal.nD Cert.Kernel7Ideal.τ).loc Cert.Kernel7Ideal.main_v26_1) = v1 c
          ∧ r.2.mem ((c.tc : Thread Cert.Kernel7Ideal.nD Cert.Kernel7Ideal.τ).loc Cert.Kernel7Ideal.main_v26_2) = v2 c
          ∧ r.2.mem ((c.tc : Thread Cert.Kernel7Ideal.nD Cert.Kernel7Ideal.τ).loc Cert.Kernel7Ideal.main_v26_3) = v3 c
          ∧ r.2.mem ((c.tc : Thread Cert.Kernel7Ideal.nD Cert.Kernel7Ideal.τ).loc Cert.Kernel7Ideal.main_v26_4) = v4 c
          ∧ r.2.mem ((c.tc : Thread Cert.Kernel7Ideal.nD Cert.Kernel7Ideal.τ).loc Cert.Kernel7Ideal.main_v26_5) = v5 c
          ∧ r.2.mem ((c.tc : Thread Cert.Kernel7Ideal.nD Cert.Kernel7Ideal.τ).loc Cert.Kernel7Ideal.main_v26_6) = v6 c
          ∧ r.2.mem ((c.tc : Thread Cert.Kernel7Ideal.nD Cert.Kernel7Ideal.τ).loc Cert.Kernel7Ideal.main_v26_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v127) = v0 c
          ∧ r.2.mem ((c.tc : Thread Cert.Reference7Ideal.nD Cert.Reference7Ideal.τ).loc Cert.Reference7Ideal.main_v129) = v1 c
          ∧ r.2.mem ((c.tc : Thread Cert.Reference7Ideal.nD Cert.Reference7Ideal.τ).loc Cert.Reference7Ideal.main_v131) = v2 c
          ∧ r.2.mem ((c.tc : Thread Cert.Reference7Ideal.nD Cert.Reference7Ideal.τ).loc Cert.Reference7Ideal.main_v133) = v3 c
          ∧ r.2.mem ((c.tc : Thread Cert.Reference7Ideal.nD Cert.Reference7Ideal.τ).loc Cert.Reference7Ideal.main_v135) = v4 c
          ∧ r.2.mem ((c.tc : Thread Cert.Reference7Ideal.nD Cert.Reference7Ideal.τ).loc Cert.Reference7Ideal.main_v136) = v5 c
          ∧ r.2.mem ((c.tc : Thread Cert.Reference7Ideal.nD Cert.Reference7Ideal.τ).loc Cert.Reference7Ideal.main_v138) = v6 c
          ∧ r.2.mem ((c.tc : Thread Cert.Reference7Ideal.nD Cert.Reference7Ideal.τ).loc Cert.Reference7Ideal.main_v139) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16))

def preserves_Kernel8_Kernel8Ideal : Prop :=
  True

def algebraic_Kernel8Ideal_Reference8Ideal_pre_finite_keys_and_gates [hKernel8Ideal : Cert.Kernel8Ideal.Facts] [hReference8Ideal : Cert.Reference8Ideal.Facts] [hPre_finite_keys_and_gates : Cert.Pre_finite_keys_and_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_keys_and_gates m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v22_0)) (v1 : (c : Dev Cert.Kernel8Ideal.nD) → Buf (Elt Ideal) ((c.tc : Thread Cert.Kernel8Ideal.nD Cert.Kernel8Ideal.τ).loc Cert.Kernel8Ideal.main_v22_1)) (v2 : (c : Dev Cert.Kernel8Ideal.nD) → Buf (Elt Ideal) ((c.tc : Thread Cert.Kernel8Ideal.nD Cert.Kernel8Ideal.τ).loc Cert.Kernel8Ideal.main_v22_2)) (v3 : (c : Dev Cert.Kernel8Ideal.nD) → Buf (Elt Ideal) ((c.tc : Thread Cert.Kernel8Ideal.nD Cert.Kernel8Ideal.τ).loc Cert.Kernel8Ideal.main_v22_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22_0) = v0 c
          ∧ r.2.mem ((c.tc : Thread Cert.Kernel8Ideal.nD Cert.Kernel8Ideal.τ).loc Cert.Kernel8Ideal.main_v22_1) = v1 c
          ∧ r.2.mem ((c.tc : Thread Cert.Kernel8Ideal.nD Cert.Kernel8Ideal.τ).loc Cert.Kernel8Ideal.main_v22_2) = v2 c
          ∧ r.2.mem ((c.tc : Thread Cert.Kernel8Ideal.nD Cert.Kernel8Ideal.τ).loc Cert.Kernel8Ideal.main_v22_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v93) = v0 c
          ∧ r.2.mem ((c.tc : Thread Cert.Reference8Ideal.nD Cert.Reference8Ideal.τ).loc Cert.Reference8Ideal.main_v65) = v1 c
          ∧ r.2.mem ((c.tc : Thread Cert.Reference8Ideal.nD Cert.Reference8Ideal.τ).loc Cert.Reference8Ideal.main_v70) = v2 c
          ∧ r.2.mem ((c.tc : Thread Cert.Reference8Ideal.nD Cert.Reference8Ideal.τ).loc Cert.Reference8Ideal.main_v94) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_keys_and_gates : Cert.Pre_finite_keys_and_gates.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_keys_and_gates (hKernel8Ideal := hKernel8Ideal) (hPre_finite_keys_and_gates := hPre_finite_keys_and_gates)
    ∧ quiescent_Reference8Ideal (hReference8Ideal := hReference8Ideal)
    ∧ quiescent_Reference8Ideal_pre_finite_keys_and_gates (hReference8Ideal := hReference8Ideal) (hPre_finite_keys_and_gates := hPre_finite_keys_and_gates)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_keys_and_gates (hKernel8Ideal := hKernel8Ideal) (hReference8Ideal := hReference8Ideal) (hPre_finite_keys_and_gates := hPre_finite_keys_and_gates)
    ∧ preserves_Kernel9_Kernel9Ideal
    ∧ algebraic_Kernel9Ideal_Reference9Ideal (hKernel9Ideal := hKernel9Ideal) (hReference9Ideal := hReference9Ideal)
-- ==== Pre_finite_keys_and_gates.lean ====
abbrev S128x1x4x64 : Shape := ⟨4, ![128, 1, 4, 64]⟩
abbrev S128x1x4x128 : Shape := ⟨4, ![128, 1, 4, 128]⟩
abbrev S128x1x512 : Shape := ⟨3, ![128, 1, 512]⟩
abbrev S128x1x4 : Shape := ⟨3, ![128, 1, 4]⟩
abbrev S1x512 : Shape := ⟨2, ![1, 512]⟩
abbrev S1x128x4x64x128 : Shape := ⟨5, ![1, 128, 4, 64, 128]⟩
abbrev S1x128x4x64 : Shape := ⟨4, ![1, 128, 4, 64]⟩
abbrev S1x128x4 : Shape := ⟨3, ![1, 128, 4]⟩
abbrev S_ : Shape := ⟨0, ![]⟩

class Facts : Prop where
  bcast_S_S128x1x4x64 : S_.BroadcastsInDim S128x1x4x64 (![] : Fin 0 → Fin S128x1x4x64.rank)
  reducesTo_S128x1x4x64_S_d0_1_2_3 : S128x1x4x64.ReducesTo [0, 1, 2, 3] S_
  h_S_ : 0 < S_.numel
  bcast_S_S128x1x4 : S_.BroadcastsInDim S128x1x4 (![] : Fin 0 → Fin S128x1x4.rank)
  reducesTo_S128x1x4_S_d0_1_2 : S128x1x4.ReducesTo [0, 1, 2] S_

variable [Facts]

def fn {F : FTy → Type} [FloatOps F] (main_arg0 : FVec F S128x1x4x64 .f32) (main_arg1 : FVec F S128x1x4x64 .f32) (main_arg2 : FVec F S128x1x4x128 .f32) (main_arg3 : FVec F S128x1x512 .f32) (main_arg4 : FVec F S128x1x4 .f32) (main_arg5 : FVec F S128x1x4 .f32) (main_arg6 : FVec F S1x512 .f32) (main_arg7 : FVec F S1x128x4x64x128 .f32) (main_arg8 : FVec F S1x128x4x64 .f32) (main_arg9 : FVec F S1x128x4 .f32) : IVec S_ 1 :=
  let main_v0 : FVec F S128x1x4x64 .f32 := Host.absf main_arg1
  let main_cst : FVec F S_ .f32 := constant S_ .f32 0x7F800000#32
  let main_v1 : FVec F S128x1x4x64 .f32 := broadcastInDim S128x1x4x64 ![] bcast_S_S128x1x4x64 main_cst
  let main_v2 : IVec S128x1x4x64 1 := cmpf .olt main_v0 main_v1
  let main_c : IVec S_ 1 := constantI S_ 1 1#1
  let main_v3 : IVec S_ 1 := (fun x v => Host.reduce IntOp.andi x v reducesTo_S128x1x4x64_S_d0_1_2_3 h_S_) main_v2 main_c
  let main_v4 : FVec F S128x1x4 .f32 := Host.absf main_arg5
  let main_cst_0 : FVec F S_ .f32 := constant S_ .f32 0x7F800000#32
  let main_v5 : FVec F S128x1x4 .f32 := broadcastInDim S128x1x4 ![] bcast_S_S128x1x4 main_cst_0
  let main_v6 : IVec S128x1x4 1 := cmpf .olt main_v4 main_v5
  let main_c_1 : IVec S_ 1 := constantI S_ 1 1#1
  let main_v7 : IVec S_ 1 := (fun x v => Host.reduce IntOp.andi x v reducesTo_S128x1x4_S_d0_1_2 h_S_) main_v6 main_c_1
  let main_v8 : IVec S_ 1 := andi main_v3 main_v7
  main_v8
-- ==== Kernel.lean ====
abbrev S128x1x16x64 : Shape := ⟨4, ![128, 1, 16, 64]⟩
abbrev S1x128x16x64x64 : Shape := ⟨5, ![1, 128, 16, 64, 64]⟩
abbrev S128x1024 : Shape := ⟨2, ![128, 1024]⟩
abbrev S1024x128 : Shape := ⟨2, ![1024, 128]⟩
abbrev S128x16x64x64 : Shape := ⟨4, ![128, 16, 64, 64]⟩
abbrev S16x64x64x128 : Shape := ⟨4, ![16, 64, 64, 128]⟩
abbrev S64x128 : Shape := ⟨2, ![64, 128]⟩
abbrev S1x64x64x128 : Shape := ⟨4, ![1, 64, 64, 128]⟩
abbrev S8x128 : Shape := ⟨2, ![8, 128]⟩
abbrev S1x1x64x128 : Shape := ⟨4, ![1, 1, 64, 128]⟩
abbrev S128 : Shape := ⟨1, ![128]⟩
abbrev S1x128 : Shape := ⟨2, ![1, 128]⟩

abbrev nBuf : Space → Nat
  | .hbm => 23
  | .vmem => 18
  | .smem => 0
  | _ => 0

abbrev bufTy : (tb : Table) → Fin (tcTables nBuf tb) → BufTy
  | .hbm, ⟨0, _⟩ => ⟨S128x1x16x64, .f32⟩
  | .hbm, ⟨1, _⟩ => ⟨S128x1x16x64, .f32⟩
  | .hbm, ⟨2, _⟩ => ⟨S128x1x16x64, .f32⟩
  | .hbm, ⟨3, _⟩ => ⟨S128x1x16x64, .f32⟩
  | .hbm, ⟨4, _⟩ => ⟨S128x1x16x64, .f32⟩
  | .hbm, ⟨5, _⟩ => ⟨S128x1x16x64, .f32⟩
  | .hbm, ⟨6, _⟩ => ⟨S1x128x16x64x64, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S1024x128, .f32⟩
  | .hbm, ⟨11, _⟩ => ⟨S128x1024, .f32⟩
  | .hbm, ⟨12, _⟩ => ⟨S1024x128, .f32⟩
  | .hbm, ⟨13, _⟩ => ⟨S128x1024, .f32⟩
  | .hbm, ⟨14, _⟩ => ⟨S1024x128, .f32⟩
  | .hbm, ⟨15, _⟩ => ⟨S128x1024, .f32⟩
  | .hbm, ⟨16, _⟩ => ⟨S1024x128, .f32⟩
  | .hbm, ⟨17, _⟩ => ⟨S128x1024, .f32⟩
  | .hbm, ⟨18, _⟩ => ⟨S1024x128, .f32⟩
  | .hbm, ⟨19, _⟩ => ⟨S128x16x64x64, .f32⟩
  | .hbm, ⟨20, _⟩ => ⟨S16x64x64x128, .f32⟩
  | .hbm, ⟨21, _⟩ => ⟨S1024x128, .f32⟩
  | .hbm, ⟨22, _⟩ => ⟨S16x64x64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S1x64x64x128, .f32⟩
  | .local _ .vmem, ⟨13, _⟩ => ⟨S1x64x64x128, .f32⟩
  | .local _ .vmem, ⟨14, _⟩ => ⟨S64x128, .f32⟩
  | .local _ .vmem, ⟨15, _⟩ => ⟨S64x128, .f32⟩
  | .local _ .vmem, ⟨16, _⟩ => ⟨S1x64x64x128, .f32⟩
  | .local _ .vmem, ⟨17, _⟩ => ⟨S1x64x64x128, .f32⟩
  | _, _ => ⟨S128x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_10 : BitVec 32 := 8#32
  let v12 : BitVec 32 := Scalar.muli arg10 c8_i32_10
  v12
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_10 : BitVec 32 := 8#32
  let v12 : BitVec 32 := Scalar.muli arg10 c8_i32_10
  let v13 : BitVec 32 := v12
  let v14 : Index := Scalar.indexCast v13
  let c0_11 : Index := 0#32
  ![v14.toNat, 0]
def k0_off2 (k0_t1 : Fin k0_t1_loop.trips) (c0_i32_12 : BitVec 32) : Fin 4 → Nat :=
  let c0_13 : Index := 0#32
  let c0_i32 : BitVec 32 := 0#32
  let c1_i32 : BitVec 32 := 1#32
  let arg10 : BitVec 32 := Scf.iv c0_i32 c1_i32 k0_t1
  let c8_i32_10 : BitVec 32 := 8#32
  let v12 : BitVec 32 := Scalar.muli arg10 c8_i32_10
  let v13 : BitVec 32 := v12
  let v17 : BitVec 32 := Scalar.addi v13 c0_i32_12
  let v18 : Index := Scalar.indexCast v17
  let c0_14 : Index := 0#32
  let c0_15 : Index := 0#32
  ![0, v18.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x1x16x64 : Shape := ⟨4, ![128, 1, 16, 64]⟩
abbrev S1x128x16x64x64 : Shape := ⟨5, ![1, 128, 16, 64, 64]⟩
abbrev S128x16x64x64 : Shape := ⟨4, ![128, 16, 64, 64]⟩
abbrev S128x16x64 : Shape := ⟨3, ![128, 16, 64]⟩
abbrev S128x16x1x64 : Shape := ⟨4, ![128, 16, 1, 64]⟩
abbrev S128x16x64x1 : Shape := ⟨4, ![128, 16, 64, 1]⟩
abbrev S128x1024 : Shape := ⟨2, ![128, 1024]⟩
abbrev S1024x128 : Shape := ⟨2, ![1024, 128]⟩
abbrev S16x64x64x128 : Shape := ⟨4, ![16, 64, 64, 128]⟩

abbrev nBuf : Space → Nat
  | .hbm => 35
  | .vmem => 0
  | .smem => 0
  | _ => 0

abbrev bufTy : (tb : Table) → Fin (tcTables nBuf tb) → BufTy
  | .hbm, ⟨0, _⟩ => ⟨S128x1x16x64, .f32⟩
  | .hbm, ⟨1, _⟩ => ⟨S128x1x16x64, .f32⟩
  | .hbm, ⟨2, _⟩ => ⟨S128x1x16x64, .f32⟩
  | .hbm, ⟨3, _⟩ => ⟨S128x1x16x64, .f32⟩
  | .hbm, ⟨4, _⟩ => ⟨S128x1x16x64, .f32⟩
  | .hbm, ⟨5, _⟩ => ⟨S128x1x16x64, .f32⟩
  | .hbm, ⟨6, _⟩ => ⟨S1x128x16x64x64, .f32⟩
  | .hbm, ⟨7, _⟩ => ⟨S128x16x64x64, .f32⟩
  | .hbm, ⟨8, _⟩ => ⟨S128x1x16x64, .f32⟩
  | .hbm, ⟨9, _⟩ => ⟨S128x16x64, .f32⟩
  | .hbm, ⟨10, _⟩ => ⟨S128x16x64, .f32⟩
  | .hbm, ⟨11, _⟩ => ⟨S128x16x64, .f32⟩
  | .hbm, ⟨12, _⟩ => ⟨S128x16x64, .f32⟩
  | .hbm, ⟨13, _⟩ => ⟨S128x16x64, .f32⟩
  | .hbm, ⟨14, _⟩ => ⟨S128x16x64, .f32⟩
  | .hbm, ⟨15, _⟩ => ⟨S128x16x1x64, .f32⟩
  | .hbm, ⟨16, _⟩ => ⟨S128x16x64x64, .f32⟩
  | .hbm, ⟨17, _⟩ => ⟨S128x16x64x64, .f32⟩
  | .hbm, ⟨18, _⟩ => ⟨S128x16x64, .f32⟩
  | .hbm, ⟨19, _⟩ => ⟨S128x16x64x1, .f32⟩
  | .hbm, ⟨20, _⟩ => ⟨S128x16x1x64, .f32⟩
  | .hbm, ⟨21, _⟩ => ⟨S128x16x64x64, .f32⟩
  | .hbm, ⟨22, _⟩ => ⟨S128x16x64x64, .f32⟩
  | .hbm, ⟨23, _⟩ => ⟨S128x16x64x64, .f32⟩
  | .hbm, ⟨24, _⟩ => ⟨S128x16x64x64, .f32⟩
  | .hbm, ⟨25, _⟩ => ⟨S128x16x64x1, .f32⟩
  | .hbm, ⟨26, _⟩ => ⟨S128x16x1x64, .f32⟩
  | .hbm, ⟨27, _⟩ => ⟨S128x16x64x64, .f32⟩
  | .hbm, ⟨28, _⟩ => ⟨S128x16x64x64, .f32⟩
  | .hbm, ⟨29, _⟩ => ⟨S128x16x64x64, .f32⟩
  | .hbm, ⟨30, _⟩ => ⟨S128x16x64x64, .f32⟩
  | .hbm, ⟨31, _⟩ => ⟨S128x16x64, .f32⟩
  | .hbm, ⟨32, _⟩ => ⟨S128x1024, .f32⟩
  | .hbm, ⟨33, _⟩ => ⟨S1024x128, .f32⟩
  | .hbm, ⟨34, _⟩ => ⟨S16x64x64x128, .f32⟩
  | _, _ => ⟨S128x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x4x1024 : Shape := ⟨3, ![2, 4, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S16384x512 : Shape := ⟨2, ![16384, 512]⟩
abbrev S1024x1024 : Shape := ⟨2, ![1024, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S512x512 : Shape := ⟨2, ![512, 512]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 25
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x4x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S16384x1024, .f32⟩
  | .hbm, ⟨9, _⟩ => ⟨S16384x512, .bf16⟩
  | .hbm, ⟨10, _⟩ => ⟨S16384x512, .bf16⟩
  | .hbm, ⟨11, _⟩ => ⟨S1024x1024, .f32⟩
  | .hbm, ⟨12, _⟩ => ⟨S1024x1024, .bf16⟩
  | .hbm, ⟨13, _⟩ => ⟨S1x3x1024, .f32⟩
  | .hbm, ⟨14, _⟩ => ⟨S3x1024, .f32⟩
  | .hbm, ⟨15, _⟩ => ⟨S1x1024x2816, .f32⟩
  | .hbm, ⟨16, _⟩ => ⟨S1024x2816, .f32⟩
  | .hbm, ⟨17, _⟩ => ⟨S1024x2816, .bf16⟩
  | .hbm, ⟨18, _⟩ => ⟨S1x1024x2816, .f32⟩
  | .hbm, ⟨19, _⟩ => ⟨S1024x2816, .f32⟩
  | .hbm, ⟨20, _⟩ => ⟨S1024x2816, .bf16⟩
  | .hbm, ⟨21, _⟩ => ⟨S1x2816x1024, .f32⟩
  | .hbm, ⟨22, _⟩ => ⟨S2816x1024, .f32⟩
  | .hbm, ⟨23, _⟩ => ⟨S2816x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S3x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S2x8192x512 : Shape := ⟨3, ![2, 8192, 512]⟩
abbrev S2x4x1024 : Shape := ⟨3, ![2, 4, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x4x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S2x8192x512, .f32⟩
  | .hbm, ⟨9, _⟩ => ⟨S2x8192x512, .f32⟩
  | .hbm, ⟨10, _⟩ => ⟨S2x8192x1024, .f32⟩
  | .hbm, ⟨11, _⟩ => ⟨S1024x1024, .f32⟩
  | .hbm, ⟨12, _⟩ => ⟨S2x8192x1024, .f32⟩
  | .hbm, ⟨13, _⟩ => ⟨S1x1x1024, .f32⟩
  | .hbm, ⟨14, _⟩ => ⟨S1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S1x1024x2816, .f32⟩
  | .hbm, ⟨51, _⟩ => ⟨S1024x2816, .f32⟩
  | .hbm, ⟨52, _⟩ => ⟨S1x1024x2816, .f32⟩
  | .hbm, ⟨53, _⟩ => ⟨S1024x2816, .f32⟩
  | .hbm, ⟨54, _⟩ => ⟨S1x2816x1024, .f32⟩
  | .hbm, ⟨55, _⟩ => ⟨S2816x1024, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S_, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x1024, .f32⟩
  | .hbm, ⟨69, _⟩ => ⟨S1x1x1024, .f32⟩
  | .hbm, ⟨70, _⟩ => ⟨S1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S2x8192x1024, .f32⟩
  | .hbm, ⟨88, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x16x64 : Shape := ⟨4, ![2, 8192, 16, 64]⟩
abbrev S1x1024 : Shape := ⟨2, ![1, 1024]⟩
abbrev S1x16x64 : Shape := ⟨3, ![1, 16, 64]⟩
abbrev S1x1024x1024 : Shape := ⟨3, ![1, 1024, 1024]⟩
abbrev S2x4x1024 : Shape := ⟨3, ![2, 4, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S_ : Shape := ⟨0, ![]⟩
abbrev S5x1024 : Shape := ⟨2, ![5, 1024]⟩
abbrev S8x1024 : Shape := ⟨2, ![8, 1024]⟩
abbrev S1024x1024 : Shape := ⟨2, ![1024, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S256x1024 : Shape := ⟨2, ![256, 1024]⟩

abbrev nBuf : Space → Nat
  | .hbm => 38
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x16x64, .f32⟩
  | .hbm, ⟨2, _⟩ => ⟨S2x8192x1024, .bf16⟩
  | .hbm, ⟨3, _⟩ => ⟨S2x8192x1024, .bf16⟩
  | .hbm, ⟨4, _⟩ => ⟨S2x8192x1024, .bf16⟩
  | .hbm, ⟨5, _⟩ => ⟨S2x8192x1024, .bf16⟩
  | .hbm, ⟨6, _⟩ => ⟨S1x1024, .f32⟩
  | .hbm, ⟨7, _⟩ => ⟨S1x1024, .f32⟩
  | .hbm, ⟨8, _⟩ => ⟨S1x16x64, .f32⟩
  | .hbm, ⟨9, _⟩ => ⟨S1x1024x1024, .f32⟩
  | .hbm, ⟨10, _⟩ => ⟨S2x4x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S1x1024, .f32⟩
  | .hbm, ⟨21, _⟩ => ⟨S_, .f32⟩
  | .hbm, ⟨22, _⟩ => ⟨S5x1024, .f32⟩
  | .hbm, ⟨23, _⟩ => ⟨S8x1024, .f32⟩
  | .hbm, ⟨24, _⟩ => ⟨S1024x1024, .f32⟩
  | .hbm, ⟨25, _⟩ => ⟨S1024x1024, .bf16⟩
  | .hbm, ⟨26, _⟩ => ⟨S1x3x1024, .f32⟩
  | .hbm, ⟨27, _⟩ => ⟨S3x1024, .f32⟩
  | .hbm, ⟨28, _⟩ => ⟨S1x1024x2816, .f32⟩
  | .hbm, ⟨29, _⟩ => ⟨S1024x2816, .f32⟩
  | .hbm, ⟨30, _⟩ => ⟨S1024x2816, .bf16⟩
  | .hbm, ⟨31, _⟩ => ⟨S1x1024x2816, .f32⟩
  | .hbm, ⟨32, _⟩ => ⟨S1024x2816, .f32⟩
  | .hbm, ⟨33, _⟩ => ⟨S1024x2816, .bf16⟩
  | .hbm, ⟨34, _⟩ => ⟨S1x2816x1024, .f32⟩
  | .hbm, ⟨35, _⟩ => ⟨S2816x1024, .f32⟩
  | .hbm, ⟨36, _⟩ => ⟨S2816x1024, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S1024x1024, .bf16⟩
  | .local _ .vmem, ⟨14, _⟩ => ⟨S3x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S2x8192x1024 : Shape := ⟨3, ![2, 8192, 1024]⟩
abbrev S2x8192x16x64 : Shape := ⟨4, ![2, 8192, 16, 64]⟩
abbrev S1x1024 : Shape := ⟨2, ![1, 1024]⟩
abbrev S1x16x64 : Shape := ⟨3, ![1, 16, 64]⟩
abbrev S1x1024x1024 : Shape := ⟨3, ![1, 1024, 1024]⟩
abbrev S2x4x1024 : Shape := ⟨3, ![2, 4, 1024]⟩
abbrev S2x1024x2816 : Shape := ⟨3, ![2, 1024, 2816]⟩
abbrev S2x2816x1024 : Shape := ⟨3, ![2, 2816, 1024]⟩
abbrev S_ : Shape := ⟨0, ![]⟩
abbrev S2x8192x16 : Shape := ⟨3, ![2, 8192, 16]⟩
abbrev S2x8192x16x1 : Shape := ⟨4, ![2, 8192, 16, 1]⟩
abbrev S1024 : Shape := ⟨1, ![1024]⟩
abbrev S1x1x1024 : Shape := ⟨3, ![1, 1, 1024]⟩
abbrev S16x64 : Shape := ⟨2, ![16, 64]⟩
abbrev S1x1x16x64 : Shape := ⟨4, ![1, 1, 16, 64]⟩
abbrev S1024x1024 : Shape := ⟨2, ![1024, 1024]⟩
abbrev S2x8192 : Shape := ⟨2, ![2, 8192]⟩
abbrev S2x8192x1 : Shape := ⟨3, ![2, 8192, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S2x8192x2816 : Shape := ⟨3, ![2, 8192, 2816]⟩
abbrev S16384x1024 : Shape := ⟨2, ![16384, 1024]⟩

abbrev nBuf : Space → Nat
  | .hbm => 144
  | .vmem => 0
  | .smem => 0
  | _ => 0

abbrev hbmTy0_0 (i : Nat) : BufTy := match i % 128 with
  | 0 => ⟨S2x8192x1024, .f32⟩
  | 1 => ⟨S2x8192x16x64, .f32⟩
  | 2 => ⟨S2x8192x1024, .bf16⟩
  | 3 => ⟨S2x8192x1024, .bf16⟩
  | 4 => ⟨S2x8192x1024, .bf16⟩
  | 5 => ⟨S2x8192x1024, .bf16⟩
  | 6 => ⟨S1x1024, .f32⟩
  | 7 => ⟨S1x1024, .f32⟩
  | 8 => ⟨S1x16x64, .f32⟩
  | 9 => ⟨S1x1024x1024, .f32⟩
  | 10 => ⟨S2x4x1024, .f32⟩
  | 11 => ⟨S2x1024x2816, .f32⟩
  | 12 => ⟨S2x1024x2816, .f32⟩
  | 13 => ⟨S2x2816x1024, .f32⟩
  | 14 => ⟨S2x8192x1024, .f32⟩
  | 15 => ⟨S2x8192x16x64, .f32⟩
  | 16 => ⟨S2x8192x1024, .f32⟩
  | 17 => ⟨S2x8192x16x64, .f32⟩
  | 18 => ⟨S2x8192x1024, .f32⟩
  | 19 => ⟨S2x8192x16x64, .f32⟩
  | 20 => ⟨S_, .f32⟩
  | 21 => ⟨S2x8192x16, .f32⟩
  | 22 => ⟨S2x8192x16x1, .f32⟩
  | 23 => ⟨S_, .f32⟩
  | 24 => ⟨S2x8192x16x1, .f32⟩
  | 25 => ⟨S2x8192x16x1, .f32⟩
  | 26 => ⟨S2x8192x16x64, .f32⟩
  | 27 => ⟨S2x8192x16x64, .f32⟩
  | 28 => ⟨S2x8192x16x64, .f32⟩
  | 29 => ⟨S_, .f32⟩
  | 30 => ⟨S2x8192x16, .f32⟩
  | 31 => ⟨S2x8192x16x1, .f32⟩
  | 32 => ⟨S_, .f32⟩
  | 33 => ⟨S2x8192x16x1, .f32⟩
  | 34 => ⟨S2x8192x16x1, .f32⟩
  | 35 => ⟨S2x8192x16x64, .f32⟩
  | 36 => ⟨S2x8192x16x64, .f32⟩
  | 37 => ⟨S_, .f32⟩
  | 38 => ⟨S2x8192x16x1, .f32⟩
  | 39 => ⟨S2x8192x16x1, .f32⟩
  | 40 => ⟨S2x8192x16x1, .f32⟩
  | 41 => ⟨S2x8192x16x64, .f32⟩
  | 42 => ⟨S2x8192x16x64, .f32⟩
  | 43 => ⟨S2x8192x1024, .f32⟩
  | 44 => ⟨S1024, .f32⟩
  | 45 => ⟨S1x1x1024, .f32⟩
  | 46 => ⟨S2x8192x1024, .f32⟩
  | 47 => ⟨S2x8192x1024, .f32⟩
  | 48 => ⟨S1024, .f32⟩
  | 49 => ⟨S1x1x1024, .f32⟩
  | 50 => ⟨S2x8192x1024, .f32⟩
  | 51 => ⟨S2x8192x1024, .f32⟩
  | 52 => ⟨S2x8192x16x64, .f32⟩
  | 53 => ⟨S16x64, .f32⟩
  | 54 => ⟨S1x1x16x64, .f32⟩
  | 55 => ⟨S2x8192x16x64, .f32⟩
  | 56 => ⟨S2x8192x16x64, .f32⟩
  | 57 => ⟨S_, .f32⟩
  | 58 => ⟨S2x8192x16, .f32⟩
  | 59 => ⟨S2x8192x16x1, .f32⟩
  | 60 => ⟨S2x8192x16x64, .f32⟩
  | 61 => ⟨S2x8192x16x64, .f32⟩
  | 62 => ⟨S2x8192x1024, .f32⟩
  | 63 => ⟨S2x8192x1024, .f32⟩
  | 64 => ⟨S2x8192x1024, .f32⟩
  | 65 => ⟨S2x8192x1024, .f32⟩
  | 66 => ⟨S1024x1024, .f32⟩
  | 67 => ⟨S2x8192x1024, .f32⟩
  | 68 => ⟨S1x1x1024, .f32⟩
  | 69 => ⟨S1024, .f32⟩
  | 70 => ⟨S2x8192x1024, .f32⟩
  | 71 => ⟨S_, .f32⟩
  | 72 => ⟨S2x8192, .f32⟩
  | 73 => ⟨S2x8192x1, .f32⟩
  | 74 => ⟨S_, .f32⟩
  | 75 => ⟨S2x8192x1, .f32⟩
  | 76 => ⟨S2x8192x1, .f32⟩
  | 77 => ⟨S_, .f32⟩
  | 78 => ⟨S2x8192x1, .f32⟩
  | 79 => ⟨S2x8192x1, .f32⟩
  | 80 => ⟨S2x8192x1, .f32⟩
  | 81 => ⟨S2x8192x1024, .f32⟩
  | 82 => ⟨S2x8192x1024, .f32⟩
  | 83 => ⟨S1x1x1024, .f32⟩
  | 84 => ⟨S2x8192x1024, .f32⟩
  | 85 => ⟨S2x8192x1024, .f32⟩
  | 86 => ⟨S2x8192x1024, .f32⟩
  | 87 => ⟨S1x1x1024, .f32⟩
  | 88 => ⟨S1024, .f32⟩
  | 89 => ⟨S2x8192x1024, .f32⟩
  | 90 => ⟨S_, .f32⟩
  | 91 => ⟨S2x8192, .f32⟩
  | 92 => ⟨S2x8192x1, .f32⟩
  | 93 => ⟨S_, .f32⟩
  | 94 => ⟨S2x8192x1, .f32⟩
  | 95 => ⟨S2x8192x1, .f32⟩
  | 96 => ⟨S_, .f32⟩
  | 97 => ⟨S2x8192x1, .f32⟩
  | 98 => ⟨S2x8192x1, .f32⟩
  | 99 => ⟨S2x8192x1, .f32⟩
  | 100 => ⟨S2x8192x1024, .f32⟩
  | 101 => ⟨S2x8192x1024, .f32⟩
  | 102 => ⟨S1x1x1024, .f32⟩
  | 103 => ⟨S2x8192x1024, .f32⟩
  | 104 => ⟨S2x8192x1024, .f32⟩
  | 105 => ⟨S1x1024x2816, .f32⟩
  | 106 => ⟨S1024x2816, .f32⟩
  | 107 => ⟨S1x1024x2816, .f32⟩
  | 108 => ⟨S1024x2816, .f32⟩
  | 109 => ⟨S1x2816x1024, .f32⟩
  | 110 => ⟨S2816x1024, .f32⟩
  | 111 => ⟨S2x8192x2816, .f32⟩
  | 112 => ⟨S2x8192x2816, .f32⟩
  | 113 => ⟨S2x8192x2816, .f32⟩
  | 114 => ⟨S_, .f32⟩
  | 115 => ⟨S2x8192x2816, .f32⟩
  | 116 => ⟨S2x8192x2816, .f32⟩
  | 117 => ⟨S_, .f32⟩
  | 118 => ⟨S2x8192x2816, .f32⟩
  | 119 => ⟨S2x8192x2816, .f32⟩
  | 120 => ⟨S2x8192x2816, .f32⟩
  | 121 => ⟨S2x8192x2816, .f32⟩
  | 122 => ⟨S2x8192x2816, .f32⟩
  | 123 => ⟨S2x8192x1024, .f32⟩
  | 124 => ⟨S1x1x1024, .f32⟩
  | 125 => ⟨S1024, .f32⟩
  | 126 => ⟨S2x8192x1024, .f32⟩
  | 127 => ⟨S_, .f32⟩
  | _ => ⟨S2x8192x1024, .f32⟩

abbrev hbmTy0_1 (i : Nat) : BufTy := match i % 128 with
  | 0 => ⟨S2x8192, .f32⟩
  | 1 => ⟨S2x8192x1, .f32⟩
  | 2 => ⟨S_, .f32⟩
  | 3 => ⟨S2x8192x1, .f32⟩
  | 4 => ⟨S2x8192x1, .f32⟩
  | 5 => ⟨S_, .f32⟩
  | 6 => ⟨S2x8192x1, .f32⟩
  | 7 => ⟨S2x8192x1, .f32⟩
  | 8 => ⟨S2x8192x1, .f32⟩
  | 9 => ⟨S2x8192x1024, .f32⟩
  | 10 => ⟨S2x8192x1024, .f32⟩
  | 11 => ⟨S1x1x1024, .f32⟩
  | 12 => ⟨S2x8192x1024, .f32⟩
  | 13 => ⟨S2x8192x1024, .f32⟩
  | 14 => ⟨S2x8192x1024, .f32⟩
  | 15 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_11 : Ref sig .tc := ⟨.hbm, 127, rfl⟩
abbrev main_v93 : Ref sig .tc := ⟨.hbm, 128, rfl⟩
abbrev main_v94 : Ref sig .tc := ⟨.hbm, 129, rfl⟩
abbrev main_cst_12 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Kernel4.lean ====
abbrev S128x1x1024 : Shape := ⟨3, ![128, 1, 1024]⟩
abbrev S128x1x16x64 : Shape := ⟨4, ![128, 1, 16, 64]⟩
abbrev S1x1024 : Shape := ⟨2, ![1, 1024]⟩
abbrev S1x16x64 : Shape := ⟨3, ![1, 16, 64]⟩
abbrev S1x1024x1024 : Shape := ⟨3, ![1, 1024, 1024]⟩
abbrev S2x4x1024 : Shape := ⟨3, ![2, 4, 1024]⟩
abbrev S2x1024x2816 : Shape := ⟨3, ![2, 1024, 2816]⟩
abbrev S2x2816x1024 : Shape := ⟨3, ![2, 2816, 1024]⟩
abbrev S128x1024 : Shape := ⟨2, ![128, 1024]⟩
abbrev S1024x128 : Shape := ⟨2, ![1024, 128]⟩
abbrev S_ : Shape := ⟨0, ![]⟩
abbrev S5x1024 : Shape := ⟨2, ![5, 1024]⟩
abbrev S8x1024 : Shape := ⟨2, ![8, 1024]⟩
abbrev S1024x1024 : Shape := ⟨2, ![1024, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S256x256 : Shape := ⟨2, ![256, 256]⟩
abbrev S128x256 : Shape := ⟨2, ![128, 256]⟩
abbrev S128 : Shape := ⟨1, ![128]⟩
abbrev S128x1 : Shape := ⟨2, ![128, 1]⟩
abbrev S1024x256 : Shape := ⟨2, ![1024, 256]⟩
abbrev S256x1024 : Shape := ⟨2, ![256, 1024]⟩

abbrev nBuf : Space → Nat
  | .hbm => 39
  | .vmem => 13
  | .smem => 0
  | _ => 0

abbrev bufTy : (tb : Table) → Fin (tcTables nBuf tb) → BufTy
  | .hbm, ⟨0, _⟩ => ⟨S128x1x1024, .f32⟩
  | .hbm, ⟨1, _⟩ => ⟨S128x1x16x64, .f32⟩
  | .hbm, ⟨2, _⟩ => ⟨S128x1x1024, .bf16⟩
  | .hbm, ⟨3, _⟩ => ⟨S128x1x1024, .bf16⟩
  | .hbm, ⟨4, _⟩ => ⟨S128x1x1024, .bf16⟩
  | .hbm, ⟨5, _⟩ => ⟨S128x1x1024, .bf16⟩
  | .hbm, ⟨6, _⟩ => ⟨S1x1024, .f32⟩
  | .hbm, ⟨7, _⟩ => ⟨S1x1024, .f32⟩
  | .hbm, ⟨8, _⟩ => ⟨S1x16x64, .f32⟩
  | .hbm, ⟨9, _⟩ => ⟨S1x1024x1024, .f32⟩
  | .hbm, ⟨10, _⟩ => ⟨S2x4x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S128x1024, .f32⟩
  | .hbm, ⟨15, _⟩ => ⟨S128x1024, .f32⟩
  | .hbm, ⟨16, _⟩ => ⟨S1024x128, .f32⟩
  | .hbm, ⟨17, _⟩ => ⟨S128x1024, .bf16⟩
  | .hbm, ⟨18, _⟩ => ⟨S128x1024, .bf16⟩
  | .hbm, ⟨19, _⟩ => ⟨S128x1024, .bf16⟩
  | .hbm, ⟨20, _⟩ => ⟨S128x1024, .bf16⟩
  | .hbm, ⟨21, _⟩ => ⟨S1x1024, .f32⟩
  | .hbm, ⟨22, _⟩ => ⟨S_, .f32⟩
  | .hbm, ⟨23, _⟩ => ⟨S5x1024, .f32⟩
  | .hbm, ⟨24, _⟩ => ⟨S8x1024, .f32⟩
  | .hbm, ⟨25, _⟩ => ⟨S1024x1024, .f32⟩
  | .hbm, ⟨26, _⟩ => ⟨S1024x1024, .bf16⟩
  | .hbm, ⟨27, _⟩ => ⟨S1x3x1024, .f32⟩
  | .hbm, ⟨28, _⟩ => ⟨S3x1024, .f32⟩
  | .hbm, ⟨29, _⟩ => ⟨S1x1024x2816, .f32⟩
  | .hbm, ⟨30, _⟩ => ⟨S1024x2816, .f32⟩
  | .hbm, ⟨31, _⟩ => ⟨S1024x2816, .bf16⟩
  | .hbm, ⟨32, _⟩ => ⟨S1x1024x2816, .f32⟩
  | .hbm, ⟨33, _⟩ => ⟨S1024x2816, .f32⟩
  | .hbm, ⟨34, _⟩ => ⟨S1024x2816, .bf16⟩
  | .hbm, ⟨35, _⟩ => ⟨S1x2816x1024, .f32⟩
  | .hbm, ⟨36, _⟩ => ⟨S2816x1024, .f32⟩
  | .hbm, ⟨37, _⟩ => ⟨S2816x1024, .bf16⟩
  | .hbm, ⟨38, _⟩ => ⟨S128x1024, .f32⟩
  | .local _ .vmem, ⟨0, _⟩ => ⟨S128x1024, .f32⟩
  | .local _ .vmem, ⟨1, _⟩ => ⟨S1024x128, .f32⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S8x1024, .f32⟩
  | .local _ .vmem, ⟨7, _⟩ => ⟨S1024x1024, .bf16⟩
  | .local _ .vmem, ⟨8, _⟩ => ⟨S3x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== Reference4Ideal.lean ====
abbrev S128x1x1024 : Shape := ⟨3, ![128, 1, 1024]⟩
abbrev S128x1x16x64 : Shape := ⟨4, ![128, 1, 16, 64]⟩
abbrev S1x1024 : Shape := ⟨2, ![1, 1024]⟩
abbrev S1x16x64 : Shape := ⟨3, ![1, 16, 64]⟩
abbrev S1x1024x1024 : Shape := ⟨3, ![1, 1024, 1024]⟩
abbrev S2x4x1024 : Shape := ⟨3, ![2, 4, 1024]⟩
abbrev S2x1024x2816 : Shape := ⟨3, ![2, 1024, 2816]⟩
abbrev S2x2816x1024 : Shape := ⟨3, ![2, 2816, 1024]⟩
abbrev S_ : Shape := ⟨0, ![]⟩
abbrev S128x1x16 : Shape := ⟨3, ![128, 1, 16]⟩
abbrev S128x1x16x1 : Shape := ⟨4, ![128, 1, 16, 1]⟩
abbrev S1024 : Shape := ⟨1, ![1024]⟩
abbrev S1x1x1024 : Shape := ⟨3, ![1, 1, 1024]⟩
abbrev S16x64 : Shape := ⟨2, ![16, 64]⟩
abbrev S1x1x16x64 : Shape := ⟨4, ![1, 1, 16, 64]⟩
abbrev S1024x1024 : Shape := ⟨2, ![1024, 1024]⟩
abbrev S128x1 : Shape := ⟨2, ![128, 1]⟩
abbrev S128x1x1 : Shape := ⟨3, ![128, 1, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x1x2816 : Shape := ⟨3, ![128, 1, 2816]⟩
abbrev S128x1024 : Shape := ⟨2, ![128, 1024]⟩

abbrev nBuf : Space → Nat
  | .hbm => 144
  | .vmem => 0
  | .smem => 0
  | _ => 0

abbrev hbmTy0_0 (i : Nat) : BufTy := match i % 128 with
  | 0 => ⟨S128x1x1024, .f32⟩
  | 1 => ⟨S128x1x16x64, .f32⟩
  | 2 => ⟨S128x1x1024, .bf16⟩
  | 3 => ⟨S128x1x1024, .bf16⟩
  | 4 => ⟨S128x1x1024, .bf16⟩
  | 5 => ⟨S128x1x1024, .bf16⟩
  | 6 => ⟨S1x1024, .f32⟩
  | 7 => ⟨S1x1024, .f32⟩
  | 8 => ⟨S1x16x64, .f32⟩
  | 9 => ⟨S1x1024x1024, .f32⟩
  | 10 => ⟨S2x4x1024, .f32⟩
  | 11 => ⟨S2x1024x2816, .f32⟩
  | 12 => ⟨S2x1024x2816, .f32⟩
  | 13 => ⟨S2x2816x1024, .f32⟩
  | 14 => ⟨S128x1x1024, .f32⟩
  | 15 => ⟨S128x1x16x64, .f32⟩
  | 16 => ⟨S128x1x1024, .f32⟩
  | 17 => ⟨S128x1x16x64, .f32⟩
  | 18 => ⟨S128x1x1024, .f32⟩
  | 19 => ⟨S128x1x16x64, .f32⟩
  | 20 => ⟨S_, .f32⟩
  | 21 => ⟨S128x1x16, .f32⟩
  | 22 => ⟨S128x1x16x1, .f32⟩
  | 23 => ⟨S_, .f32⟩
  | 24 => ⟨S128x1x16x1, .f32⟩
  | 25 => ⟨S128x1x16x1, .f32⟩
  | 26 => ⟨S128x1x16x64, .f32⟩
  | 27 => ⟨S128x1x16x64, .f32⟩
  | 28 => ⟨S128x1x16x64, .f32⟩
  | 29 => ⟨S_, .f32⟩
  | 30 => ⟨S128x1x16, .f32⟩
  | 31 => ⟨S128x1x16x1, .f32⟩
  | 32 => ⟨S_, .f32⟩
  | 33 => ⟨S128x1x16x1, .f32⟩
  | 34 => ⟨S128x1x16x1, .f32⟩
  | 35 => ⟨S128x1x16x64, .f32⟩
  | 36 => ⟨S128x1x16x64, .f32⟩
  | 37 => ⟨S_, .f32⟩
  | 38 => ⟨S128x1x16x1, .f32⟩
  | 39 => ⟨S128x1x16x1, .f32⟩
  | 40 => ⟨S128x1x16x1, .f32⟩
  | 41 => ⟨S128x1x16x64, .f32⟩
  | 42 => ⟨S128x1x16x64, .f32⟩
  | 43 => ⟨S128x1x1024, .f32⟩
  | 44 => ⟨S1024, .f32⟩
  | 45 => ⟨S1x1x1024, .f32⟩
  | 46 => ⟨S128x1x1024, .f32⟩
  | 47 => ⟨S128x1x1024, .f32⟩
  | 48 => ⟨S1024, .f32⟩
  | 49 => ⟨S1x1x1024, .f32⟩
  | 50 => ⟨S128x1x1024, .f32⟩
  | 51 => ⟨S128x1x1024, .f32⟩
  | 52 => ⟨S128x1x16x64, .f32⟩
  | 53 => ⟨S16x64, .f32⟩
  | 54 => ⟨S1x1x16x64, .f32⟩
  | 55 => ⟨S128x1x16x64, .f32⟩
  | 56 => ⟨S128x1x16x64, .f32⟩
  | 57 => ⟨S_, .f32⟩
  | 58 => ⟨S128x1x16, .f32⟩
  | 59 => ⟨S128x1x16x1, .f32⟩
  | 60 => ⟨S128x1x16x64, .f32⟩
  | 61 => ⟨S128x1x16x64, .f32⟩
  | 62 => ⟨S128x1x1024, .f32⟩
  | 63 => ⟨S128x1x1024, .f32⟩
  | 64 => ⟨S128x1x1024, .f32⟩
  | 65 => ⟨S128x1x1024, .f32⟩
  | 66 => ⟨S1024x1024, .f32⟩
  | 67 => ⟨S128x1x1024, .f32⟩
  | 68 => ⟨S1x1x1024, .f32⟩
  | 69 => ⟨S1024, .f32⟩
  | 70 => ⟨S128x1x1024, .f32⟩
  | 71 => ⟨S_, .f32⟩
  | 72 => ⟨S128x1, .f32⟩
  | 73 => ⟨S128x1x1, .f32⟩
  | 74 => ⟨S_, .f32⟩
  | 75 => ⟨S128x1x1, .f32⟩
  | 76 => ⟨S128x1x1, .f32⟩
  | 77 => ⟨S_, .f32⟩
  | 78 => ⟨S128x1x1, .f32⟩
  | 79 => ⟨S128x1x1, .f32⟩
  | 80 => ⟨S128x1x1, .f32⟩
  | 81 => ⟨S128x1x1024, .f32⟩
  | 82 => ⟨S128x1x1024, .f32⟩
  | 83 => ⟨S1x1x1024, .f32⟩
  | 84 => ⟨S128x1x1024, .f32⟩
  | 85 => ⟨S128x1x1024, .f32⟩
  | 86 => ⟨S128x1x1024, .f32⟩
  | 87 => ⟨S1x1x1024, .f32⟩
  | 88 => ⟨S1024, .f32⟩
  | 89 => ⟨S128x1x1024, .f32⟩
  | 90 => ⟨S_, .f32⟩
  | 91 => ⟨S128x1, .f32⟩
  | 92 => ⟨S128x1x1, .f32⟩
  | 93 => ⟨S_, .f32⟩
  | 94 => ⟨S128x1x1, .f32⟩
  | 95 => ⟨S128x1x1, .f32⟩
  | 96 => ⟨S_, .f32⟩
  | 97 => ⟨S128x1x1, .f32⟩
  | 98 => ⟨S128x1x1, .f32⟩
  | 99 => ⟨S128x1x1, .f32⟩
  | 100 => ⟨S128x1x1024, .f32⟩
  | 101 => ⟨S128x1x1024, .f32⟩
  | 102 => ⟨S1x1x1024, .f32⟩
  | 103 => ⟨S128x1x1024, .f32⟩
  | 104 => ⟨S128x1x1024, .f32⟩
  | 105 => ⟨S1x1024x2816, .f32⟩
  | 106 => ⟨S1024x2816, .f32⟩
  | 107 => ⟨S1x1024x2816, .f32⟩
  | 108 => ⟨S1024x2816, .f32⟩
  | 109 => ⟨S1x2816x1024, .f32⟩
  | 110 => ⟨S2816x1024, .f32⟩
  | 111 => ⟨S128x1x2816, .f32⟩
  | 112 => ⟨S128x1x2816, .f32⟩
  | 113 => ⟨S128x1x2816, .f32⟩
  | 114 => ⟨S_, .f32⟩
  | 115 => ⟨S128x1x2816, .f32⟩
  | 116 => ⟨S128x1x2816, .f32⟩
  | 117 => ⟨S_, .f32⟩
  | 118 => ⟨S128x1x2816, .f32⟩
  | 119 => ⟨S128x1x2816, .f32⟩
  | 120 => ⟨S128x1x2816, .f32⟩
  | 121 => ⟨S128x1x2816, .f32⟩
  | 122 => ⟨S128x1x2816, .f32⟩
  | 123 => ⟨S128x1x1024, .f32⟩
  | 124 => ⟨S1x1x1024, .f32⟩
  | 125 => ⟨S1024, .f32⟩
  | 126 => ⟨S128x1x1024, .f32⟩
  | 127 => ⟨S_, .f32⟩
  | _ => ⟨S128x1x1024, .f32⟩

abbrev hbmTy0_1 (i : Nat) : BufTy := match i % 128 with
  | 0 => ⟨S128x1, .f32⟩
  | 1 => ⟨S128x1x1, .f32⟩
  | 2 => ⟨S_, .f32⟩
  | 3 => ⟨S128x1x1, .f32⟩
  | 4 => ⟨S128x1x1, .f32⟩
  | 5 => ⟨S_, .f32⟩
  | 6 => ⟨S128x1x1, .f32⟩
  | 7 => ⟨S128x1x1, .f32⟩
  | 8 => ⟨S128x1x1, .f32⟩
  | 9 => ⟨S128x1x1024, .f32⟩
  | 10 => ⟨S128x1x1024, .f32⟩
  | 11 => ⟨S1x1x1024, .f32⟩
  | 12 => ⟨S128x1x1024, .f32⟩
  | 13 => ⟨S128x1x1024, .f32⟩
  | 14 => ⟨S128x1x1024, .f32⟩
  | 15 => ⟨S128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_11 : Ref sig .tc := ⟨.hbm, 127, rfl⟩
abbrev main_v93 : Ref sig .tc := ⟨.hbm, 128, rfl⟩
abbrev main_v94 : Ref sig .tc := ⟨.hbm, 129, rfl⟩
abbrev main_cst_12 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x4x1024 : Shape := ⟨3, ![2, 4, 1024]⟩
abbrev S1x1024x3088 : Shape := ⟨3, ![1, 1024, 3088]⟩
abbrev S1x4 : Shape := ⟨2, ![1, 4]⟩
abbrev S1x8 : Shape := ⟨2, ![1, 8]⟩
abbrev S1024x3088 : Shape := ⟨2, ![1024, 3088]⟩
abbrev S1024x1536 : Shape := ⟨2, ![1024, 1536]⟩
abbrev S1024x3072 : Shape := ⟨2, ![1024, 3072]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S4 : Shape := ⟨1, ![4]⟩
abbrev S8 : Shape := ⟨1, ![8]⟩
abbrev S16 : Shape := ⟨1, ![16]⟩
abbrev S128 : Shape := ⟨1, ![128]⟩
abbrev S1x128 : Shape := ⟨2, ![1, 128]⟩
abbrev S16384x1024 : Shape := ⟨2, ![16384, 1024]⟩
abbrev S1x1x1024 : Shape := ⟨3, ![1, 1, 1024]⟩
abbrev S1024 : Shape := ⟨1, ![1024]⟩
abbrev S1x1024 : Shape := ⟨2, ![1, 1024]⟩
abbrev S16384x256 : Shape := ⟨2, ![16384, 256]⟩
abbrev S16384x512 : Shape := ⟨2, ![16384, 512]⟩
abbrev S2x512x8192 : Shape := ⟨3, ![2, 512, 8192]⟩
abbrev S16384x128 : Shape := ⟨2, ![16384, 128]⟩
abbrev S128x16384 : Shape := ⟨2, ![128, 16384]⟩
abbrev S512x1024 : Shape := ⟨2, ![512, 1024]⟩
abbrev S512x256 : Shape := ⟨2, ![512, 256]⟩
abbrev S512x512 : Shape := ⟨2, ![512, 512]⟩
abbrev S1x512x512 : Shape := ⟨3, ![1, 512, 512]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S1024x256 : Shape := ⟨2, ![1024, 256]⟩
abbrev S1024x512 : Shape := ⟨2, ![1024, 512]⟩

abbrev nBuf : Space → Nat
  | .hbm => 41
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x4x1024, .f32⟩
  | .hbm, ⟨2, _⟩ => ⟨S1x1024x3088, .f32⟩
  | .hbm, ⟨3, _⟩ => ⟨S1x4, .f32⟩
  | .hbm, ⟨4, _⟩ => ⟨S1x4, .f32⟩
  | .hbm, ⟨5, _⟩ => ⟨S1x8, .f32⟩
  | .hbm, ⟨6, _⟩ => ⟨S1024x3088, .f32⟩
  | .hbm, ⟨7, _⟩ => ⟨S1024x1536, .f32⟩
  | .hbm, ⟨8, _⟩ => ⟨S1024x1536, .f32⟩
  | .hbm, ⟨9, _⟩ => ⟨S1024x3072, .f32⟩
  | .hbm, ⟨10, _⟩ => ⟨S1024x3072, .bf16⟩
  | .hbm, ⟨11, _⟩ => ⟨S1024x8, .f32⟩
  | .hbm, ⟨12, _⟩ => ⟨S1024x8, .f32⟩
  | .hbm, ⟨13, _⟩ => ⟨S1024x16, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S4, .f32⟩
  | .hbm, ⟨19, _⟩ => ⟨S4, .f32⟩
  | .hbm, ⟨20, _⟩ => ⟨S8, .f32⟩
  | .hbm, ⟨21, _⟩ => ⟨S16, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S16384x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S16384x256, .bf16⟩
  | .hbm, ⟨31, _⟩ => ⟨S16384x256, .bf16⟩
  | .hbm, ⟨32, _⟩ => ⟨S16384x512, .bf16⟩
  | .hbm, ⟨33, _⟩ => ⟨S16384x512, .f32⟩
  | .hbm, ⟨34, _⟩ => ⟨S16384x512, .bf16⟩
  | .hbm, ⟨35, _⟩ => ⟨S2x512x8192, .f32⟩
  | .hbm, ⟨36, _⟩ => ⟨S2x512x8192, .f32⟩
  | .hbm, ⟨37, _⟩ => ⟨S16384x512, .bf16⟩
  | .hbm, ⟨38, _⟩ => ⟨S2x512x8192, .bf16⟩
  | .hbm, ⟨39, _⟩ => ⟨S16384x128, .f32⟩
  | .hbm, ⟨40, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S512x512, .bf16⟩
  | .local _ .vmem, ⟨21, _⟩ => ⟨S512x512, .bf16⟩
  | .local _ .vmem, ⟨22, _⟩ => ⟨S1x512x512, .bf16⟩
  | .local _ .vmem, ⟨23, _⟩ => ⟨S1x512x512, .bf16⟩
  | .local _ .vmem, ⟨24, _⟩ => ⟨S512x128, .f32⟩
  | .local _ .vmem, ⟨25, _⟩ => ⟨S512x128, .f32⟩
  | .local _ .vmem, ⟨26, _⟩ => ⟨S128x512, .f32⟩
  | .local _ .vmem, ⟨27, _⟩ => ⟨S128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev main_v20_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S2x8192x1024 : Shape := ⟨3, ![2, 8192, 1024]⟩
abbrev S2x4x1024 : Shape := ⟨3, ![2, 4, 1024]⟩
abbrev S1x1024x3088 : Shape := ⟨3, ![1, 1024, 3088]⟩
abbrev S1x4 : Shape := ⟨2, ![1, 4]⟩
abbrev S1x8 : Shape := ⟨2, ![1, 8]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1024x3088 : Shape := ⟨2, ![1024, 3088]⟩
abbrev S2x8192x3088 : Shape := ⟨3, ![2, 8192, 3088]⟩
abbrev S2x8192x256 : Shape := ⟨3, ![2, 8192, 256]⟩
abbrev S2x8192x512 : Shape := ⟨3, ![2, 8192, 512]⟩
abbrev S2x8192x4 : Shape := ⟨3, ![2, 8192, 4]⟩
abbrev S2x8192x8 : Shape := ⟨3, ![2, 8192, 8]⟩
abbrev S4 : Shape := ⟨1, ![4]⟩
abbrev S1x1x4 : Shape := ⟨3, ![1, 1, 4]⟩
abbrev S8 : Shape := ⟨1, ![8]⟩
abbrev S1x1x8 : Shape := ⟨3, ![1, 1, 8]⟩
abbrev S2x8192x112 : Shape := ⟨3, ![2, 8192, 112]⟩
abbrev S2x8192x128 : Shape := ⟨3, ![2, 8192, 128]⟩
abbrev S16384x256 : Shape := ⟨2, ![16384, 256]⟩
abbrev S16384x512 : Shape := ⟨2, ![16384, 512]⟩
abbrev S2x512x8192 : Shape := ⟨3, ![2, 512, 8192]⟩
abbrev S16384x128 : Shape := ⟨2, ![16384, 128]⟩
abbrev S128x16384 : Shape := ⟨2, ![128, 16384]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x4x1024, .f32⟩
  | .hbm, ⟨2, _⟩ => ⟨S1x1024x3088, .f32⟩
  | .hbm, ⟨3, _⟩ => ⟨S1x4, .f32⟩
  | .hbm, ⟨4, _⟩ => ⟨S1x4, .f32⟩
  | .hbm, ⟨5, _⟩ => ⟨S1x8, .f32⟩
  | .hbm, ⟨6, _⟩ => ⟨S1x1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x3088, .f32⟩
  | .hbm, ⟨25, _⟩ => ⟨S2x8192x3088, .f32⟩
  | .hbm, ⟨26, _⟩ => ⟨S2x8192x256, .f32⟩
  | .hbm, ⟨27, _⟩ => ⟨S2x8192x256, .f32⟩
  | .hbm, ⟨28, _⟩ => ⟨S2x8192x512, .f32⟩
  | .hbm, ⟨29, _⟩ => ⟨S2x8192x512, .f32⟩
  | .hbm, ⟨30, _⟩ => ⟨S2x8192x4, .f32⟩
  | .hbm, ⟨31, _⟩ => ⟨S2x8192x4, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x8, .f32⟩
  | .hbm, ⟨36, _⟩ => ⟨S_, .f32⟩
  | .hbm, ⟨37, _⟩ => ⟨S2x8192x256, .f32⟩
  | .hbm, ⟨38, _⟩ => ⟨S2x8192x256, .f32⟩
  | .hbm, ⟨39, _⟩ => ⟨S4, .f32⟩
  | .hbm, ⟨40, _⟩ => ⟨S1x1x4, .f32⟩
  | .hbm, ⟨41, _⟩ => ⟨S2x8192x4, .f32⟩
  | .hbm, ⟨42, _⟩ => ⟨S2x8192x4, .f32⟩
  | .hbm, ⟨43, _⟩ => ⟨S4, .f32⟩
  | .hbm, ⟨44, _⟩ => ⟨S1x1x4, .f32⟩
  | .hbm, ⟨45, _⟩ => ⟨S2x8192x4, .f32⟩
  | .hbm, ⟨46, _⟩ => ⟨S2x8192x4, .f32⟩
  | .hbm, ⟨47, _⟩ => ⟨S2x8192x4, .f32⟩
  | .hbm, ⟨48, _⟩ => ⟨S_, .f32⟩
  | .hbm, ⟨49, _⟩ => ⟨S2x8192x4, .f32⟩
  | .hbm, ⟨50, _⟩ => ⟨S2x8192x4, .f32⟩
  | .hbm, ⟨51, _⟩ => ⟨S2x8192x4, .f32⟩
  | .hbm, ⟨52, _⟩ => ⟨S2x8192x4, .f32⟩
  | .hbm, ⟨53, _⟩ => ⟨S2x8192x4, .i1⟩
  | .hbm, ⟨54, _⟩ => ⟨S2x8192x4, .f32⟩
  | .hbm, ⟨55, _⟩ => ⟨S2x8192x4, .f32⟩
  | .hbm, ⟨56, _⟩ => ⟨S2x8192x4, .f32⟩
  | .hbm, ⟨57, _⟩ => ⟨S2x8192x4, .f32⟩
  | .hbm, ⟨58, _⟩ => ⟨S2x8192x4, .f32⟩
  | .hbm, ⟨59, _⟩ => ⟨S2x8192x4, .f32⟩
  | .hbm, ⟨60, _⟩ => ⟨S2x8192x4, .f32⟩
  | .hbm, ⟨61, _⟩ => ⟨S2x8192x4, .f32⟩
  | .hbm, ⟨62, _⟩ => ⟨S2x8192x4, .f32⟩
  | .hbm, ⟨63, _⟩ => ⟨S8, .f32⟩
  | .hbm, ⟨64, _⟩ => ⟨S1x1x8, .f32⟩
  | .hbm, ⟨65, _⟩ => ⟨S2x8192x8, .f32⟩
  | .hbm, ⟨66, _⟩ => ⟨S2x8192x8, .f32⟩
  | .hbm, ⟨67, _⟩ => ⟨S2x8192x8, .f32⟩
  | .hbm, ⟨68, _⟩ => ⟨S_, .f32⟩
  | .hbm, ⟨69, _⟩ => ⟨S2x8192x8, .f32⟩
  | .hbm, ⟨70, _⟩ => ⟨S2x8192x8, .f32⟩
  | .hbm, ⟨71, _⟩ => ⟨S2x8192x8, .f32⟩
  | .hbm, ⟨72, _⟩ => ⟨S2x8192x8, .f32⟩
  | .hbm, ⟨73, _⟩ => ⟨S2x8192x8, .i1⟩
  | .hbm, ⟨74, _⟩ => ⟨S2x8192x8, .f32⟩
  | .hbm, ⟨75, _⟩ => ⟨S2x8192x8, .f32⟩
  | .hbm, ⟨76, _⟩ => ⟨S2x8192x8, .f32⟩
  | .hbm, ⟨77, _⟩ => ⟨S2x8192x8, .f32⟩
  | .hbm, ⟨78, _⟩ => ⟨S2x8192x8, .f32⟩
  | .hbm, ⟨79, _⟩ => ⟨S2x8192x8, .f32⟩
  | .hbm, ⟨80, _⟩ => ⟨S2x8192x8, .f32⟩
  | .hbm, ⟨81, _⟩ => ⟨S2x8192x8, .f32⟩
  | .hbm, ⟨82, _⟩ => ⟨S2x8192x8, .f32⟩
  | .hbm, ⟨83, _⟩ => ⟨S_, .f32⟩
  | .hbm, ⟨84, _⟩ => ⟨S2x8192x112, .f32⟩
  | .hbm, ⟨85, _⟩ => ⟨S2x8192x112, .f32⟩
  | .hbm, ⟨86, _⟩ => ⟨S_, .f32⟩
  | .hbm, ⟨87, _⟩ => ⟨S2x8192x112, .f32⟩
  | .hbm, ⟨88, _⟩ => ⟨S2x8192x112, .f32⟩
  | .hbm, ⟨89, _⟩ => ⟨S2x8192x112, .f32⟩
  | .hbm, ⟨90, _⟩ => ⟨S2x8192x112, .f32⟩
  | .hbm, ⟨91, _⟩ => ⟨S2x8192x112, .i1⟩
  | .hbm, ⟨92, _⟩ => ⟨S2x8192x112, .f32⟩
  | .hbm, ⟨93, _⟩ => ⟨S2x8192x112, .f32⟩
  | .hbm, ⟨94, _⟩ => ⟨S2x8192x112, .f32⟩
  | .hbm, ⟨95, _⟩ => ⟨S2x8192x112, .f32⟩
  | .hbm, ⟨96, _⟩ => ⟨S2x8192x112, .f32⟩
  | .hbm, ⟨97, _⟩ => ⟨S2x8192x112, .f32⟩
  | .hbm, ⟨98, _⟩ => ⟨S2x8192x112, .f32⟩
  | .hbm, ⟨99, _⟩ => ⟨S2x8192x112, .f32⟩
  | .hbm, ⟨100, _⟩ => ⟨S2x8192x112, .f32⟩
  | .hbm, ⟨101, _⟩ => ⟨S2x8192x128, .f32⟩
  | .hbm, ⟨102, _⟩ => ⟨S16384x256, .f32⟩
  | .hbm, ⟨103, _⟩ => ⟨S16384x256, .bf16⟩
  | .hbm, ⟨104, _⟩ => ⟨S16384x256, .f32⟩
  | .hbm, ⟨105, _⟩ => ⟨S16384x256, .bf16⟩
  | .hbm, ⟨106, _⟩ => ⟨S16384x512, .f32⟩
  | .hbm, ⟨107, _⟩ => ⟨S16384x512, .bf16⟩
  | .hbm, ⟨108, _⟩ => ⟨S16384x512, .f32⟩
  | .hbm, ⟨109, _⟩ => ⟨S_, .f32⟩
  | .hbm, ⟨110, _⟩ => ⟨S2x8192x512, .f32⟩
  | .hbm, ⟨111, _⟩ => ⟨S2x8192x512, .f32⟩
  | .hbm, ⟨112, _⟩ => ⟨S16384x512, .f32⟩
  | .hbm, ⟨113, _⟩ => ⟨S16384x512, .bf16⟩
  | .hbm, ⟨114, _⟩ => ⟨S2x512x8192, .f32⟩
  | .hbm, ⟨115, _⟩ => ⟨S2x512x8192, .f32⟩
  | .hbm, ⟨116, _⟩ => ⟨S16384x512, .f32⟩
  | .hbm, ⟨117, _⟩ => ⟨S16384x512, .bf16⟩
  | .hbm, ⟨118, _⟩ => ⟨S2x512x8192, .f32⟩
  | .hbm, ⟨119, _⟩ => ⟨S2x512x8192, .bf16⟩
  | .hbm, ⟨120, _⟩ => ⟨S16384x128, .f32⟩
  | .hbm, ⟨121, _⟩ => ⟨S16384x128, .f32⟩
  | .hbm, ⟨122, _⟩ => ⟨S128x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1 : Ref sig .tc := ⟨.hbm, 81, rfl⟩
abbrev main_v42 : Ref sig .tc := ⟨.hbm, 82, rfl⟩
abbrev main_cst_3 : Ref sig .tc := ⟨.hbm, 83, rfl⟩
abbrev main_v43 : Ref sig .tc := ⟨.hbm, 84, rfl⟩
abbrev main_call2_v0 : Ref sig .tc := ⟨.hbm, 85, rfl⟩
abbrev main_call2_call0_cst : Ref sig .tc := ⟨.hbm, 86, rfl⟩
abbrev main_call2_call0_v0 : Ref sig .tc := ⟨.hbm, 87, rfl⟩
abbrev main_call2_call0_v1 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_v7 : Ref sig .tc := ⟨.hbm, 94, rfl⟩
abbrev main_call2_call0_v8 : Ref sig .tc := ⟨.hbm, 95, rfl⟩
abbrev main_call2_call0_v9 : Ref sig .tc := ⟨.hbm, 96, rfl⟩
abbrev main_call2_call0_v10 : Ref sig .tc := ⟨.hbm, 97, rfl⟩
abbrev main_call2_call0_v11 : Ref sig .tc := ⟨.hbm, 98, rfl⟩
abbrev main_call2_v1 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_4 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩

abbrev nD : Nat := 1
abbrev τ : Topo := Topo.v7x

variable {F : FTy → Type} [FloatOps F]
-- ==== Kernel6.lean ====
abbrev S128x1x1024 : Shape := ⟨3, ![128, 1, 1024]⟩
abbrev S2x4x1024 : Shape := ⟨3, ![2, 4, 1024]⟩
abbrev S1x1024x3088 : Shape := ⟨3, ![1, 1024, 3088]⟩
abbrev S1x4 : Shape := ⟨2, ![1, 4]⟩
abbrev S1x8 : Shape := ⟨2, ![1, 8]⟩
abbrev S1024x3088 : Shape := ⟨2, ![1024, 3088]⟩
abbrev S1024x1536 : Shape := ⟨2, ![1024, 1536]⟩
abbrev S1024x3072 : Shape := ⟨2, ![1024, 3072]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S4 : Shape := ⟨1, ![4]⟩
abbrev S8 : Shape := ⟨1, ![8]⟩
abbrev S16 : Shape := ⟨1, ![16]⟩
abbrev S128 : Shape := ⟨1, ![128]⟩
abbrev S1x128 : Shape := ⟨2, ![1, 128]⟩
abbrev S128x1024 : Shape := ⟨2, ![128, 1024]⟩
abbrev S1x1x1024 : Shape := ⟨3, ![1, 1, 1024]⟩
abbrev S1024 : Shape := ⟨1, ![1024]⟩
abbrev S1x1024 : Shape := ⟨2, ![1, 1024]⟩
abbrev S128x256 : Shape := ⟨2, ![128, 256]⟩
abbrev S128x512 : Shape := ⟨2, ![128, 512]⟩
abbrev S128x128 : Shape := ⟨2, ![128, 128]⟩
abbrev S128x1 : Shape := ⟨2, ![128, 1]⟩
abbrev S1024x256 : Shape := ⟨2, ![1024, 256]⟩
abbrev S1024x512 : Shape := ⟨2, ![1024, 512]⟩

abbrev nBuf : Space → Nat
  | .hbm => 40
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S2x4x1024, .f32⟩
  | .hbm, ⟨2, _⟩ => ⟨S1x1024x3088, .f32⟩
  | .hbm, ⟨3, _⟩ => ⟨S1x4, .f32⟩
  | .hbm, ⟨4, _⟩ => ⟨S1x4, .f32⟩
  | .hbm, ⟨5, _⟩ => ⟨S1x8, .f32⟩
  | .hbm, ⟨6, _⟩ => ⟨S1024x3088, .f32⟩
  | .hbm, ⟨7, _⟩ => ⟨S1024x1536, .f32⟩
  | .hbm, ⟨8, _⟩ => ⟨S1024x1536, .f32⟩
  | .hbm, ⟨9, _⟩ => ⟨S1024x3072, .f32⟩
  | .hbm, ⟨10, _⟩ => ⟨S1024x3072, .bf16⟩
  | .hbm, ⟨11, _⟩ => ⟨S1024x8, .f32⟩
  | .hbm, ⟨12, _⟩ => ⟨S1024x8, .f32⟩
  | .hbm, ⟨13, _⟩ => ⟨S1024x16, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S4, .f32⟩
  | .hbm, ⟨19, _⟩ => ⟨S4, .f32⟩
  | .hbm, ⟨20, _⟩ => ⟨S8, .f32⟩
  | .hbm, ⟨21, _⟩ => ⟨S16, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S128x1024, .f32⟩
  | .hbm, ⟨27, _⟩ => ⟨S1x1x1024, .f32⟩
  | .hbm, ⟨28, _⟩ => ⟨S1024, .f32⟩
  | .hbm, ⟨29, _⟩ => ⟨S1x1024, .f32⟩
  | .hbm, ⟨30, _⟩ => ⟨S128x256, .bf16⟩
  | .hbm, ⟨31, _⟩ => ⟨S128x256, .bf16⟩
  | .hbm, ⟨32, _⟩ => ⟨S128x512, .bf16⟩
  | .hbm, ⟨33, _⟩ => ⟨S128x512, .f32⟩
  | .hbm, ⟨34, _⟩ => ⟨S128x512, .bf16⟩
  | .hbm, ⟨35, _⟩ => ⟨S128x512, .f32⟩
  | .hbm, ⟨36, _⟩ => ⟨S128x512, .f32⟩
  | .hbm, ⟨37, _⟩ => ⟨S128x512, .bf16⟩
  | .hbm, ⟨38, _⟩ => ⟨S128x512, .bf16⟩
  | .hbm, ⟨39, _⟩ => ⟨S128x128, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S1024x128, .bf16⟩
  | .local _ .vmem, ⟨4, _⟩ => ⟨S1x128, .f32⟩
  | .local _ .vmem, ⟨5, _⟩ => ⟨S128x256, .bf16⟩
  | .local _ .vmem, ⟨6, _⟩ => ⟨S128x256, .bf16⟩
  | .local _ .vmem, ⟨7, _⟩ => ⟨S128x512, .bf16⟩
  | .local _ .vmem, ⟨8, _⟩ => ⟨S128x512, .f32⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .bf16⟩
  | .local _ .vmem, ⟨13, _⟩ => ⟨S128x512, .bf16⟩
  | .local _ .vmem, ⟨14, _⟩ => ⟨S128x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_v20_7 : Ref sig .tc := ⟨.hbm, 37, rfl⟩
abbrev main_v20_8 : Ref sig .tc := ⟨.hbm, 38, rfl⟩
abbrev main_v20_9 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference6Ideal.lean ====
abbrev S128x1x1024 : Shape := ⟨3, ![128, 1, 1024]⟩
abbrev S2x4x1024 : Shape := ⟨3, ![2, 4, 1024]⟩
abbrev S1x1024x3088 : Shape := ⟨3, ![1, 1024, 3088]⟩
abbrev S1x4 : Shape := ⟨2, ![1, 4]⟩
abbrev S1x8 : Shape := ⟨2, ![1, 8]⟩
abbrev S1x1x1024 : Shape := ⟨3, ![1, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1024x3088 : Shape := ⟨2, ![1024, 3088]⟩
abbrev S128x1x3088 : Shape := ⟨3, ![128, 1, 3088]⟩
abbrev S128x1x256 : Shape := ⟨3, ![128, 1, 256]⟩
abbrev S128x1x512 : Shape := ⟨3, ![128, 1, 512]⟩
abbrev S128x1x4 : Shape := ⟨3, ![128, 1, 4]⟩
abbrev S128x1x8 : Shape := ⟨3, ![128, 1, 8]⟩
abbrev S4 : Shape := ⟨1, ![4]⟩
abbrev S1x1x4 : Shape := ⟨3, ![1, 1, 4]⟩
abbrev S8 : Shape := ⟨1, ![8]⟩
abbrev S1x1x8 : Shape := ⟨3, ![1, 1, 8]⟩
abbrev S128x1x112 : Shape := ⟨3, ![128, 1, 112]⟩
abbrev S128x1x128 : Shape := ⟨3, ![128, 1, 128]⟩
abbrev S128x256 : Shape := ⟨2, ![128, 256]⟩
abbrev S128x512 : Shape := ⟨2, ![128, 512]⟩
abbrev S128x128 : Shape := ⟨2, ![128, 128]⟩

abbrev nBuf : Space → Nat
  | .hbm => 121
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S2x4x1024, .f32⟩
  | .hbm, ⟨2, _⟩ => ⟨S1x1024x3088, .f32⟩
  | .hbm, ⟨3, _⟩ => ⟨S1x4, .f32⟩
  | .hbm, ⟨4, _⟩ => ⟨S1x4, .f32⟩
  | .hbm, ⟨5, _⟩ => ⟨S1x8, .f32⟩
  | .hbm, ⟨6, _⟩ => ⟨S1x1x1024, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S1024x3088, .f32⟩
  | .hbm, ⟨25, _⟩ => ⟨S128x1x3088, .f32⟩
  | .hbm, ⟨26, _⟩ => ⟨S128x1x256, .f32⟩
  | .hbm, ⟨27, _⟩ => ⟨S128x1x256, .f32⟩
  | .hbm, ⟨28, _⟩ => ⟨S128x1x512, .f32⟩
  | .hbm, ⟨29, _⟩ => ⟨S128x1x512, .f32⟩
  | .hbm, ⟨30, _⟩ => ⟨S128x1x4, .f32⟩
  | .hbm, ⟨31, _⟩ => ⟨S128x1x4, .f32⟩
  | .hbm, ⟨32, _⟩ => ⟨S128x1x512, .f32⟩
  | .hbm, ⟨33, _⟩ => ⟨S128x1x512, .f32⟩
  | .hbm, ⟨34, _⟩ => ⟨S128x1x512, .f32⟩
  | .hbm, ⟨35, _⟩ => ⟨S128x1x8, .f32⟩
  | .hbm, ⟨36, _⟩ => ⟨S_, .f32⟩
  | .hbm, ⟨37, _⟩ => ⟨S128x1x256, .f32⟩
  | .hbm, ⟨38, _⟩ => ⟨S128x1x256, .f32⟩
  | .hbm, ⟨39, _⟩ => ⟨S4, .f32⟩
  | .hbm, ⟨40, _⟩ => ⟨S1x1x4, .f32⟩
  | .hbm, ⟨41, _⟩ => ⟨S128x1x4, .f32⟩
  | .hbm, ⟨42, _⟩ => ⟨S128x1x4, .f32⟩
  | .hbm, ⟨43, _⟩ => ⟨S4, .f32⟩
  | .hbm, ⟨44, _⟩ => ⟨S1x1x4, .f32⟩
  | .hbm, ⟨45, _⟩ => ⟨S128x1x4, .f32⟩
  | .hbm, ⟨46, _⟩ => ⟨S128x1x4, .f32⟩
  | .hbm, ⟨47, _⟩ => ⟨S128x1x4, .f32⟩
  | .hbm, ⟨48, _⟩ => ⟨S_, .f32⟩
  | .hbm, ⟨49, _⟩ => ⟨S128x1x4, .f32⟩
  | .hbm, ⟨50, _⟩ => ⟨S128x1x4, .f32⟩
  | .hbm, ⟨51, _⟩ => ⟨S128x1x4, .f32⟩
  | .hbm, ⟨52, _⟩ => ⟨S128x1x4, .f32⟩
  | .hbm, ⟨53, _⟩ => ⟨S128x1x4, .i1⟩
  | .hbm, ⟨54, _⟩ => ⟨S128x1x4, .f32⟩
  | .hbm, ⟨55, _⟩ => ⟨S128x1x4, .f32⟩
  | .hbm, ⟨56, _⟩ => ⟨S128x1x4, .f32⟩
  | .hbm, ⟨57, _⟩ => ⟨S128x1x4, .f32⟩
  | .hbm, ⟨58, _⟩ => ⟨S128x1x4, .f32⟩
  | .hbm, ⟨59, _⟩ => ⟨S128x1x4, .f32⟩
  | .hbm, ⟨60, _⟩ => ⟨S128x1x4, .f32⟩
  | .hbm, ⟨61, _⟩ => ⟨S128x1x4, .f32⟩
  | .hbm, ⟨62, _⟩ => ⟨S128x1x4, .f32⟩
  | .hbm, ⟨63, _⟩ => ⟨S8, .f32⟩
  | .hbm, ⟨64, _⟩ => ⟨S1x1x8, .f32⟩
  | .hbm, ⟨65, _⟩ => ⟨S128x1x8, .f32⟩
  | .hbm, ⟨66, _⟩ => ⟨S128x1x8, .f32⟩
  | .hbm, ⟨67, _⟩ => ⟨S128x1x8, .f32⟩
  | .hbm, ⟨68, _⟩ => ⟨S_, .f32⟩
  | .hbm, ⟨69, _⟩ => ⟨S128x1x8, .f32⟩
  | .hbm, ⟨70, _⟩ => ⟨S128x1x8, .f32⟩
  | .hbm, ⟨71, _⟩ => ⟨S128x1x8, .f32⟩
  | .hbm, ⟨72, _⟩ => ⟨S128x1x8, .f32⟩
  | .hbm, ⟨73, _⟩ => ⟨S128x1x8, .i1⟩
  | .hbm, ⟨74, _⟩ => ⟨S128x1x8, .f32⟩
  | .hbm, ⟨75, _⟩ => ⟨S128x1x8, .f32⟩
  | .hbm, ⟨76, _⟩ => ⟨S128x1x8, .f32⟩
  | .hbm, ⟨77, _⟩ => ⟨S128x1x8, .f32⟩
  | .hbm, ⟨78, _⟩ => ⟨S128x1x8, .f32⟩
  | .hbm, ⟨79, _⟩ => ⟨S128x1x8, .f32⟩
  | .hbm, ⟨80, _⟩ => ⟨S128x1x8, .f32⟩
  | .hbm, ⟨81, _⟩ => ⟨S128x1x8, .f32⟩
  | .hbm, ⟨82, _⟩ => ⟨S128x1x8, .f32⟩
  | .hbm, ⟨83, _⟩ => ⟨S_, .f32⟩
  | .hbm, ⟨84, _⟩ => ⟨S128x1x112, .f32⟩
  | .hbm, ⟨85, _⟩ => ⟨S128x1x112, .f32⟩
  | .hbm, ⟨86, _⟩ => ⟨S_, .f32⟩
  | .hbm, ⟨87, _⟩ => ⟨S128x1x112, .f32⟩
  | .hbm, ⟨88, _⟩ => ⟨S128x1x112, .f32⟩
  | .hbm, ⟨89, _⟩ => ⟨S128x1x112, .f32⟩
  | .hbm, ⟨90, _⟩ => ⟨S128x1x112, .f32⟩
  | .hbm, ⟨91, _⟩ => ⟨S128x1x112, .i1⟩
  | .hbm, ⟨92, _⟩ => ⟨S128x1x112, .f32⟩
  | .hbm, ⟨93, _⟩ => ⟨S128x1x112, .f32⟩
  | .hbm, ⟨94, _⟩ => ⟨S128x1x112, .f32⟩
  | .hbm, ⟨95, _⟩ => ⟨S128x1x112, .f32⟩
  | .hbm, ⟨96, _⟩ => ⟨S128x1x112, .f32⟩
  | .hbm, ⟨97, _⟩ => ⟨S128x1x112, .f32⟩
  | .hbm, ⟨98, _⟩ => ⟨S128x1x112, .f32⟩
  | .hbm, ⟨99, _⟩ => ⟨S128x1x112, .f32⟩
  | .hbm, ⟨100, _⟩ => ⟨S128x1x112, .f32⟩
  | .hbm, ⟨101, _⟩ => ⟨S128x1x128, .f32⟩
  | .hbm, ⟨102, _⟩ => ⟨S128x256, .f32⟩
  | .hbm, ⟨103, _⟩ => ⟨S128x256, .bf16⟩
  | .hbm, ⟨104, _⟩ => ⟨S128x256, .f32⟩
  | .hbm, ⟨105, _⟩ => ⟨S128x256, .bf16⟩
  | .hbm, ⟨106, _⟩ => ⟨S128x512, .f32⟩
  | .hbm, ⟨107, _⟩ => ⟨S128x512, .bf16⟩
  | .hbm, ⟨108, _⟩ => ⟨S128x512, .f32⟩
  | .hbm, ⟨109, _⟩ => ⟨S_, .f32⟩
  | .hbm, ⟨110, _⟩ => ⟨S128x1x512, .f32⟩
  | .hbm, ⟨111, _⟩ => ⟨S128x1x512, .f32⟩
  | .hbm, ⟨112, _⟩ => ⟨S128x512, .f32⟩
  | .hbm, ⟨113, _⟩ => ⟨S128x512, .bf16⟩
  | .hbm, ⟨114, _⟩ => ⟨S128x512, .f32⟩
  | .hbm, ⟨115, _⟩ => ⟨S128x512, .f32⟩
  | .hbm, ⟨116, _⟩ => ⟨S128x512, .f32⟩
  | .hbm, ⟨117, _⟩ => ⟨S128x512, .bf16⟩
  | .hbm, ⟨118, _⟩ => ⟨S128x512, .f32⟩
  | .hbm, ⟨119, _⟩ => ⟨S128x512, .bf16⟩
  | .hbm, ⟨120, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1 : Ref sig .tc := ⟨.hbm, 81, rfl⟩
abbrev main_v42 : Ref sig .tc := ⟨.hbm, 82, rfl⟩
abbrev main_cst_3 : Ref sig .tc := ⟨.hbm, 83, rfl⟩
abbrev main_v43 : Ref sig .tc := ⟨.hbm, 84, rfl⟩
abbrev main_call2_v0 : Ref sig .tc := ⟨.hbm, 85, rfl⟩
abbrev main_call2_call0_cst : Ref sig .tc := ⟨.hbm, 86, rfl⟩
abbrev main_call2_call0_v0 : Ref sig .tc := ⟨.hbm, 87, rfl⟩
abbrev main_call2_call0_v1 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_v7 : Ref sig .tc := ⟨.hbm, 94, rfl⟩
abbrev main_call2_call0_v8 : Ref sig .tc := ⟨.hbm, 95, rfl⟩
abbrev main_call2_call0_v9 : Ref sig .tc := ⟨.hbm, 96, rfl⟩
abbrev main_call2_call0_v10 : Ref sig .tc := ⟨.hbm, 97, rfl⟩
abbrev main_call2_call0_v11 : Ref sig .tc := ⟨.hbm, 98, rfl⟩
abbrev main_call2_v1 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_4 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩

abbrev nD : Nat := 1
abbrev τ : Topo := Topo.v7x

variable {F : FTy → Type} [FloatOps F]
-- ==== Kernel7.lean ====
abbrev S2x8192x1024 : Shape := ⟨3, ![2, 8192, 1024]⟩
abbrev S2x1024 : Shape := ⟨2, ![2, 1024]⟩
abbrev S2x4x1024 : Shape := ⟨3, ![2, 4, 1024]⟩
abbrev S1x6x1024 : Shape := ⟨3, ![1, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S16384x1024 : Shape := ⟨2, ![16384, 1024]⟩
abbrev S1x1x1024 : Shape := ⟨3, ![1, 1, 1024]⟩
abbrev S1024 : Shape := ⟨1, ![1024]⟩
abbrev S6x1024 : Shape := ⟨2, ![6, 1024]⟩
abbrev S_ : Shape := ⟨0, ![]⟩
abbrev S16x1024 : Shape := ⟨2, ![16, 1024]⟩
abbrev S2x1x1024 : Shape := ⟨3, ![2, 1, 1024]⟩
abbrev S2x8x1024 : Shape := ⟨3, ![2, 8, 1024]⟩
abbrev S512x1024 : Shape := ⟨2, ![512, 1024]⟩
abbrev S8x1024 : Shape := ⟨2, ![8, 1024]⟩
abbrev S1x8x1024 : Shape := ⟨3, ![1, 8, 1024]⟩
abbrev S512 : Shape := ⟨1, ![512]⟩
abbrev S512x1 : Shape := ⟨2, ![512, 1]⟩
abbrev S8 : Shape := ⟨1, ![8]⟩
abbrev S8x1 : Shape := ⟨2, ![8, 1]⟩
abbrev S512x64 : Shape := ⟨2, ![512, 64]⟩
abbrev S512x128 : Shape := ⟨2, ![512, 128]⟩
abbrev S256x256 : Shape := ⟨2, ![256, 256]⟩
abbrev S512x256 : Shape := ⟨2, ![512, 256]⟩

abbrev nBuf : Space → Nat
  | .hbm => 52
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x4x1024, .f32⟩
  | .hbm, ⟨3, _⟩ => ⟨S1x6x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024, .f32⟩
  | .hbm, ⟨11, _⟩ => ⟨S1x1024x64, .f32⟩
  | .hbm, ⟨12, _⟩ => ⟨S1x64x1024, .f32⟩
  | .hbm, ⟨13, _⟩ => ⟨S1x1024x128, .f32⟩
  | .hbm, ⟨14, _⟩ => ⟨S1x128x1024, .f32⟩
  | .hbm, ⟨15, _⟩ => ⟨S1x1024, .f32⟩
  | .hbm, ⟨16, _⟩ => ⟨S1x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x64, .f32⟩
  | .hbm, ⟨24, _⟩ => ⟨S1024x64, .bf16⟩
  | .hbm, ⟨25, _⟩ => ⟨S64x1024, .f32⟩
  | .hbm, ⟨26, _⟩ => ⟨S64x1024, .bf16⟩
  | .hbm, ⟨27, _⟩ => ⟨S1024x64, .f32⟩
  | .hbm, ⟨28, _⟩ => ⟨S1024x64, .bf16⟩
  | .hbm, ⟨29, _⟩ => ⟨S64x1024, .f32⟩
  | .hbm, ⟨30, _⟩ => ⟨S64x1024, .bf16⟩
  | .hbm, ⟨31, _⟩ => ⟨S1024x128, .f32⟩
  | .hbm, ⟨32, _⟩ => ⟨S1024x128, .bf16⟩
  | .hbm, ⟨33, _⟩ => ⟨S128x1024, .f32⟩
  | .hbm, ⟨34, _⟩ => ⟨S128x1024, .bf16⟩
  | .hbm, ⟨35, _⟩ => ⟨S16384x1024, .f32⟩
  | .hbm, ⟨36, _⟩ => ⟨S1x1x1024, .f32⟩
  | .hbm, ⟨37, _⟩ => ⟨S1024, .f32⟩
  | .hbm, ⟨38, _⟩ => ⟨S1x1024, .f32⟩
  | .hbm, ⟨39, _⟩ => ⟨S6x1024, .f32⟩
  | .hbm, ⟨40, _⟩ => ⟨S_, .f32⟩
  | .hbm, ⟨41, _⟩ => ⟨S6x1024, .f32⟩
  | .hbm, ⟨42, _⟩ => ⟨S16x1024, .f32⟩
  | .hbm, ⟨43, _⟩ => ⟨S2x1x1024, .f32⟩
  | .hbm, ⟨44, _⟩ => ⟨S16384x1024, .bf16⟩
  | .hbm, ⟨45, _⟩ => ⟨S16384x1024, .bf16⟩
  | .hbm, ⟨46, _⟩ => ⟨S16384x1024, .bf16⟩
  | .hbm, ⟨47, _⟩ => ⟨S16384x1024, .bf16⟩
  | .hbm, ⟨48, _⟩ => ⟨S16384x1024, .bf16⟩
  | .hbm, ⟨49, _⟩ => ⟨S16384x1024, .f32⟩
  | .hbm, ⟨50, _⟩ => ⟨S16384x1024, .bf16⟩
  | .hbm, ⟨51, _⟩ => ⟨S2x8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S16x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x64, .bf16⟩
  | .local _ .vmem, ⟨12, _⟩ => ⟨S64x1024, .bf16⟩
  | .local _ .vmem, ⟨13, _⟩ => ⟨S1024x64, .bf16⟩
  | .local _ .vmem, ⟨14, _⟩ => ⟨S64x1024, .bf16⟩
  | .local _ .vmem, ⟨15, _⟩ => ⟨S1024x128, .bf16⟩
  | .local _ .vmem, ⟨16, _⟩ => ⟨S128x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S1x8x1024, .f32⟩
  | .local _ .vmem, ⟨32, _⟩ => ⟨S1x8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v26_3 : Ref sig .tc := ⟨.hbm, 47, rfl⟩
abbrev main_v26_4 : Ref sig .tc := ⟨.hbm, 48, rfl⟩
abbrev main_v26_5 : Ref sig .tc := ⟨.hbm, 49, rfl⟩
abbrev main_v26_6 : Ref sig .tc := ⟨.hbm, 50, rfl⟩
abbrev main_v26_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Reference7Ideal.lean ====
abbrev S2x8192x1024 : Shape := ⟨3, ![2, 8192, 1024]⟩
abbrev S2x1024 : Shape := ⟨2, ![2, 1024]⟩
abbrev S2x4x1024 : Shape := ⟨3, ![2, 4, 1024]⟩
abbrev S1x6x1024 : Shape := ⟨3, ![1, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S1x1x1024 : Shape := ⟨3, ![1, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S2x1x1024 : Shape := ⟨3, ![2, 1, 1024]⟩
abbrev S2x8191x1024 : Shape := ⟨3, ![2, 8191, 1024]⟩
abbrev S1024x1024 : Shape := ⟨2, ![1024, 1024]⟩
abbrev S1024x64 : Shape := ⟨2, ![1024, 64]⟩
abbrev S2x8192x64 : Shape := ⟨3, ![2, 8192, 64]⟩
abbrev S64x1024 : Shape := ⟨2, ![64, 1024]⟩
abbrev S1024x128 : Shape := ⟨2, ![1024, 128]⟩
abbrev S2x8192x128 : Shape := ⟨3, ![2, 8192, 128]⟩
abbrev S128x1024 : Shape := ⟨2, ![128, 1024]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S16384x1024 : Shape := ⟨2, ![16384, 1024]⟩
abbrev S2x8x1024 : Shape := ⟨3, ![2, 8, 1024]⟩

abbrev nBuf : Space → Nat
  | .hbm => 182
  | .vmem => 0
  | .smem => 0
  | _ => 0

abbrev hbmTy0_0 (i : Nat) : BufTy := match i % 128 with
  | 0 => ⟨S2x8192x1024, .f32⟩
  | 1 => ⟨S2x1024, .f32⟩
  | 2 => ⟨S2x4x1024, .f32⟩
  | 3 => ⟨S1x6x1024, .f32⟩
  | 4 => ⟨S1x1024x1024, .f32⟩
  | 5 => ⟨S1x1024x1024, .f32⟩
  | 6 => ⟨S1x1024x1024, .f32⟩
  | 7 => ⟨S1x1024, .f32⟩
  | 8 => ⟨S1x1024x64, .f32⟩
  | 9 => ⟨S1x64x1024, .f32⟩
  | 10 => ⟨S1x1024, .f32⟩
  | 11 => ⟨S1x1024x64, .f32⟩
  | 12 => ⟨S1x64x1024, .f32⟩
  | 13 => ⟨S1x1024x128, .f32⟩
  | 14 => ⟨S1x128x1024, .f32⟩
  | 15 => ⟨S1x1024, .f32⟩
  | 16 => ⟨S1x1024, .f32⟩
  | 17 => ⟨S1x1x1024, .f32⟩
  | 18 => ⟨S1024, .f32⟩
  | 19 => ⟨S2x8192x1024, .f32⟩
  | 20 => ⟨S_, .f32⟩
  | 21 => ⟨S2x8192, .f32⟩
  | 22 => ⟨S2x8192x1, .f32⟩
  | 23 => ⟨S_, .f32⟩
  | 24 => ⟨S2x8192x1, .f32⟩
  | 25 => ⟨S2x8192x1, .f32⟩
  | 26 => ⟨S_, .f32⟩
  | 27 => ⟨S2x8192x1, .f32⟩
  | 28 => ⟨S2x8192x1, .f32⟩
  | 29 => ⟨S2x8192x1, .f32⟩
  | 30 => ⟨S2x8192x1024, .f32⟩
  | 31 => ⟨S2x8192x1024, .f32⟩
  | 32 => ⟨S1x1x1024, .f32⟩
  | 33 => ⟨S2x8192x1024, .f32⟩
  | 34 => ⟨S2x8192x1024, .f32⟩
  | 35 => ⟨S2x1x1024, .f32⟩
  | 36 => ⟨S2x8191x1024, .f32⟩
  | 37 => ⟨S2x8192x1024, .f32⟩
  | 38 => ⟨S2x8192x1024, .f32⟩
  | 39 => ⟨S1x1x1024, .f32⟩
  | 40 => ⟨S1024, .f32⟩
  | 41 => ⟨S1x1x1024, .f32⟩
  | 42 => ⟨S2x8192x1024, .f32⟩
  | 43 => ⟨S2x8192x1024, .f32⟩
  | 44 => ⟨S2x8192x1024, .f32⟩
  | 45 => ⟨S1x1x1024, .f32⟩
  | 46 => ⟨S1024, .f32⟩
  | 47 => ⟨S1x1x1024, .f32⟩
  | 48 => ⟨S2x8192x1024, .f32⟩
  | 49 => ⟨S2x8192x1024, .f32⟩
  | 50 => ⟨S2x8192x1024, .f32⟩
  | 51 => ⟨S1x1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S1x1x1024, .f32⟩
  | 58 => ⟨S1024, .f32⟩
  | 59 => ⟨S1x1x1024, .f32⟩
  | 60 => ⟨S2x8192x1024, .f32⟩
  | 61 => ⟨S2x8192x1024, .f32⟩
  | 62 => ⟨S2x8192x1024, .f32⟩
  | 63 => ⟨S1x1x1024, .f32⟩
  | 64 => ⟨S1024, .f32⟩
  | 65 => ⟨S1x1x1024, .f32⟩
  | 66 => ⟨S2x8192x1024, .f32⟩
  | 67 => ⟨S2x8192x1024, .f32⟩
  | 68 => ⟨S2x8192x1024, .f32⟩
  | 69 => ⟨S1x1x1024, .f32⟩
  | 70 => ⟨S1024, .f32⟩
  | 71 => ⟨S1x1x1024, .f32⟩
  | 72 => ⟨S2x8192x1024, .f32⟩
  | 73 => ⟨S2x8192x1024, .f32⟩
  | 74 => ⟨S2x8192x1024, .f32⟩
  | 75 => ⟨S1024x1024, .f32⟩
  | 76 => ⟨S2x8192x1024, .f32⟩
  | 77 => ⟨S1024x1024, .f32⟩
  | 78 => ⟨S2x8192x1024, .f32⟩
  | 79 => ⟨S1024x1024, .f32⟩
  | 80 => ⟨S2x8192x1024, .f32⟩
  | 81 => ⟨S1024, .f32⟩
  | 82 => ⟨S1024x64, .f32⟩
  | 83 => ⟨S2x8192x64, .f32⟩
  | 84 => ⟨S2x8192x64, .f32⟩
  | 85 => ⟨S64x1024, .f32⟩
  | 86 => ⟨S2x8192x1024, .f32⟩
  | 87 => ⟨S1x1x1024, .f32⟩
  | 88 => ⟨S2x8192x1024, .f32⟩
  | 89 => ⟨S2x8192x1024, .f32⟩
  | 90 => ⟨S2x8192x1024, .f32⟩
  | 91 => ⟨S_, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .i1⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S2x8192x1024, .f32⟩
  | 106 => ⟨S_, .f32⟩
  | 107 => ⟨S2x8192x1024, .f32⟩
  | 108 => ⟨S2x8192x1024, .f32⟩
  | 109 => ⟨S1024, .f32⟩
  | 110 => ⟨S1024x64, .f32⟩
  | 111 => ⟨S2x8192x64, .f32⟩
  | 112 => ⟨S64x1024, .f32⟩
  | 113 => ⟨S2x8192x1024, .f32⟩
  | 114 => ⟨S1x1x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S_, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S1024x128, .f32⟩
  | 126 => ⟨S2x8192x128, .f32⟩
  | 127 => ⟨S2x8192x128, .f32⟩
  | _ => ⟨S2x8192x1024, .f32⟩

abbrev hbmTy0_1 (i : Nat) : BufTy := match i % 128 with
  | 0 => ⟨S2x8192x128, .f32⟩
  | 1 => ⟨S_, .f32⟩
  | 2 => ⟨S2x8192x128, .f32⟩
  | 3 => ⟨S2x8192x128, .f32⟩
  | 4 => ⟨S_, .f32⟩
  | 5 => ⟨S2x8192x128, .f32⟩
  | 6 => ⟨S2x8192x128, .f32⟩
  | 7 => ⟨S128x1024, .f32⟩
  | 8 => ⟨S2x8192x1024, .f32⟩
  | 9 => ⟨S1024, .f32⟩
  | 10 => ⟨S1x1x1024, .f32⟩
  | 11 => ⟨S2x8192x1024, .f32⟩
  | 12 => ⟨S2x8192x1024, .f32⟩
  | 13 => ⟨S2x8192x16x64, .f32⟩
  | 14 => ⟨S2x8192x16x64, .f32⟩
  | 15 => ⟨S_, .f32⟩
  | 16 => ⟨S2x8192x16, .f32⟩
  | 17 => ⟨S2x8192x16x1, .f32⟩
  | 18 => ⟨S2x8192x16x1, .f32⟩
  | 19 => ⟨S_, .f32⟩
  | 20 => ⟨S2x8192x16x1, .f32⟩
  | 21 => ⟨S2x8192x16x1, .f32⟩
  | 22 => ⟨S2x8192x16x64, .f32⟩
  | 23 => ⟨S2x8192x16x64, .f32⟩
  | 24 => ⟨S2x8192x1024, .f32⟩
  | 25 => ⟨S_, .f32⟩
  | 26 => ⟨S2x8192x1024, .f32⟩
  | 27 => ⟨S2x8192x1024, .f32⟩
  | 28 => ⟨S1024, .f32⟩
  | 29 => ⟨S1x1x1024, .f32⟩
  | 30 => ⟨S2x8192x1024, .f32⟩
  | 31 => ⟨S2x8192x1024, .f32⟩
  | 32 => ⟨S_, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S16384x1024, .f32⟩
  | 41 => ⟨S16384x1024, .bf16⟩
  | 42 => ⟨S16384x1024, .f32⟩
  | 43 => ⟨S16384x1024, .bf16⟩
  | 44 => ⟨S16384x1024, .f32⟩
  | 45 => ⟨S16384x1024, .bf16⟩
  | 46 => ⟨S16384x1024, .f32⟩
  | 47 => ⟨S16384x1024, .bf16⟩
  | 48 => ⟨S16384x1024, .f32⟩
  | 49 => ⟨S16384x1024, .bf16⟩
  | 50 => ⟨S16384x1024, .f32⟩
  | 51 => ⟨S16384x1024, .f32⟩
  | 52 => ⟨S16384x1024, .bf16⟩
  | 53 => ⟨S2x8x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_v71 : Ref sig .tc := ⟨.hbm, 104, rfl⟩
abbrev main_v72 : Ref sig .tc := ⟨.hbm, 105, rfl⟩
abbrev main_cst_2 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_3 : Ref sig .tc := ⟨.hbm, 119, rfl⟩
abbrev main_v85 : Ref sig .tc := ⟨.hbm, 120, rfl⟩
abbrev main_v86 : Ref sig .tc := ⟨.hbm, 121, rfl⟩
abbrev main_cst_4 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_5 : Ref sig .tc := ⟨.hbm, 129, rfl⟩
abbrev main_v93 : Ref sig .tc := ⟨.hbm, 130, rfl⟩
abbrev main_v94 : Ref sig .tc := ⟨.hbm, 131, rfl⟩
abbrev main_cst_6 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_7 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_8 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_9 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_10 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩

abbrev nD : Nat := 1
abbrev τ : Topo := Topo.v7x

variable {F : FTy → Type} [FloatOps F]
-- ==== Kernel8.lean ====
abbrev S128x1x4x64 : Shape := ⟨4, ![128, 1, 4, 64]⟩
abbrev S128x1x4x128 : Shape := ⟨4, ![128, 1, 4, 128]⟩
abbrev S128x1x512 : Shape := ⟨3, ![128, 1, 512]⟩
abbrev S128x1x4 : Shape := ⟨3, ![128, 1, 4]⟩
abbrev S1x512 : Shape := ⟨2, ![1, 512]⟩
abbrev S1x128x4x64x128 : Shape := ⟨5, ![1, 128, 4, 64, 128]⟩
abbrev S1x128x4x64 : Shape := ⟨4, ![1, 128, 4, 64]⟩
abbrev S1x128x4 : Shape := ⟨3, ![1, 128, 4]⟩
abbrev S128x4 : Shape := ⟨2, ![128, 4]⟩
abbrev S_ : Shape := ⟨0, ![]⟩
abbrev S128x120 : Shape := ⟨2, ![128, 120]⟩
abbrev S128x128 : Shape := ⟨2, ![128, 128]⟩
abbrev S128x256 : Shape := ⟨2, ![128, 256]⟩
abbrev S128x512 : Shape := ⟨2, ![128, 512]⟩
abbrev S512 : Shape := ⟨1, ![512]⟩
abbrev S128x4x64x128 : Shape := ⟨4, ![128, 4, 64, 128]⟩
abbrev S128x4x64 : Shape := ⟨3, ![128, 4, 64]⟩
abbrev S128x4x128 : Shape := ⟨3, ![128, 4, 128]⟩
abbrev S128x1x128 : Shape := ⟨3, ![128, 1, 128]⟩
abbrev S1x4x64 : Shape := ⟨3, ![1, 4, 64]⟩
abbrev S1x4x128 : Shape := ⟨3, ![1, 4, 128]⟩
abbrev S1x1x512 : Shape := ⟨3, ![1, 1, 512]⟩
abbrev S1x1x128 : Shape := ⟨3, ![1, 1, 128]⟩
abbrev S1x1x4 : Shape := ⟨3, ![1, 1, 4]⟩
abbrev S1x4x64x128 : Shape := ⟨4, ![1, 4, 64, 128]⟩
abbrev S4x64 : Shape := ⟨2, ![4, 64]⟩
abbrev S8x64 : Shape := ⟨2, ![8, 64]⟩
abbrev S64x64 : Shape := ⟨2, ![64, 64]⟩
abbrev S24x64 : Shape := ⟨2, ![24, 64]⟩
abbrev S64x24 : Shape := ⟨2, ![64, 24]⟩
abbrev S64x8 : Shape := ⟨2, ![64, 8]⟩
abbrev S1x128 : Shape := ⟨2, ![1, 128]⟩
abbrev S1x4 : Shape := ⟨2, ![1, 4]⟩
abbrev S1x1x64 : Shape := ⟨3, ![1, 1, 64]⟩
abbrev S1x64 : Shape := ⟨2, ![1, 64]⟩
abbrev S1x1 : Shape := ⟨2, ![1, 1]⟩
abbrev S1 : Shape := ⟨1, ![1]⟩
abbrev S1x1x64x128 : Shape := ⟨4, ![1, 1, 64, 128]⟩
abbrev S64x128 : Shape := ⟨2, ![64, 128]⟩
abbrev S8x128 : Shape := ⟨2, ![8, 128]⟩
abbrev S64x1 : Shape := ⟨2, ![64, 1]⟩
abbrev S1x1x1 : Shape := ⟨3, ![1, 1, 1]⟩

abbrev nBuf : Space → Nat
  | .hbm => 37
  | .vmem => 25
  | .smem => 0
  | _ => 0

abbrev bufTy : (tb : Table) → Fin (tcTables nBuf tb) → BufTy
  | .hbm, ⟨0, _⟩ => ⟨S128x1x4x64, .f32⟩
  | .hbm, ⟨1, _⟩ => ⟨S128x1x4x64, .f32⟩
  | .hbm, ⟨2, _⟩ => ⟨S128x1x4x128, .f32⟩
  | .hbm, ⟨3, _⟩ => ⟨S128x1x512, .f32⟩
  | .hbm, ⟨4, _⟩ => ⟨S128x1x4, .f32⟩
  | .hbm, ⟨5, _⟩ => ⟨S128x1x4, .f32⟩
  | .hbm, ⟨6, _⟩ => ⟨S1x512, .f32⟩
  | .hbm, ⟨7, _⟩ => ⟨S1x128x4x64x128, .f32⟩
  | .hbm, ⟨8, _⟩ => ⟨S1x128x4x64, .f32⟩
  | .hbm, ⟨9, _⟩ => ⟨S1x128x4, .f32⟩
  | .hbm, ⟨10, _⟩ => ⟨S128x4, .f32⟩
  | .hbm, ⟨11, _⟩ => ⟨S128x4, .f32⟩
  | .hbm, ⟨12, _⟩ => ⟨S_, .f32⟩
  | .hbm, ⟨13, _⟩ => ⟨S128x120, .f32⟩
  | .hbm, ⟨14, _⟩ => ⟨S128x128, .f32⟩
  | .hbm, ⟨15, _⟩ => ⟨S128x256, .f32⟩
  | .hbm, ⟨16, _⟩ => ⟨S128x256, .bf16⟩
  | .hbm, ⟨17, _⟩ => ⟨S128x256, .f32⟩
  | .hbm, ⟨18, _⟩ => ⟨S128x256, .bf16⟩
  | .hbm, ⟨19, _⟩ => ⟨S128x512, .f32⟩
  | .hbm, ⟨20, _⟩ => ⟨S128x512, .bf16⟩
  | .hbm, ⟨21, _⟩ => ⟨S128x512, .f32⟩
  | .hbm, ⟨22, _⟩ => ⟨S512, .f32⟩
  | .hbm, ⟨23, _⟩ => ⟨S1x512, .f32⟩
  | .hbm, ⟨24, _⟩ => ⟨S128x4x64x128, .f32⟩
  | .hbm, ⟨25, _⟩ => ⟨S128x4x64, .f32⟩
  | .hbm, ⟨26, _⟩ => ⟨S128x4, .f32⟩
  | .hbm, ⟨27, _⟩ => ⟨S128x4x64, .bf16⟩
  | .hbm, ⟨28, _⟩ => ⟨S128x4x64, .bf16⟩
  | .hbm, ⟨29, _⟩ => ⟨S128x4x128, .bf16⟩
  | .hbm, ⟨30, _⟩ => ⟨S128x1x512, .f32⟩
  | .hbm, ⟨31, _⟩ => ⟨S128x1x128, .f32⟩
  | .hbm, ⟨32, _⟩ => ⟨S128x1x4, .f32⟩
  | .hbm, ⟨33, _⟩ => ⟨S128x1x512, .f32⟩
  | .hbm, ⟨34, _⟩ => ⟨S128x4x64x128, .f32⟩
  | .hbm, ⟨35, _⟩ => ⟨S128x4x64, .f32⟩
  | .hbm, ⟨36, _⟩ => ⟨S128x1x4, .f32⟩
  | .local _ .vmem, ⟨0, _⟩ => ⟨S1x4x64, .bf16⟩
  | .local _ .vmem, ⟨1, _⟩ => ⟨S1x4x64, .bf16⟩
  | .local _ .vmem, ⟨2, _⟩ => ⟨S1x4x64, .bf16⟩
  | .local _ .vmem, ⟨3, _⟩ => ⟨S1x4x64, .bf16⟩
  | .local _ .vmem, ⟨4, _⟩ => ⟨S1x4x128, .bf16⟩
  | .local _ .vmem, ⟨5, _⟩ => ⟨S1x4x128, .bf16⟩
  | .local _ .vmem, ⟨6, _⟩ => ⟨S1x1x512, .f32⟩
  | .local _ .vmem, ⟨7, _⟩ => ⟨S1x1x512, .f32⟩
  | .local _ .vmem, ⟨8, _⟩ => ⟨S1x1x128, .f32⟩
  | .local _ .vmem, ⟨9, _⟩ => ⟨S1x1x128, .f32⟩
  | .local _ .vmem, ⟨10, _⟩ => ⟨S1x1x4, .f32⟩
  | .local _ .vmem, ⟨11, _⟩ => ⟨S1x1x4, .f32⟩
  | .local _ .vmem, ⟨12, _⟩ => ⟨S1x512, .f32⟩
  | .local _ .vmem, ⟨13, _⟩ => ⟨S1x4x64x128, .f32⟩
  | .local _ .vmem, ⟨14, _⟩ => ⟨S1x4x64x128, .f32⟩
  | .local _ .vmem, ⟨15, _⟩ => ⟨S1x4x64, .f32⟩
  | .local _ .vmem, ⟨16, _⟩ => ⟨S1x4x64, .f32⟩
  | .local _ .vmem, ⟨17, _⟩ => ⟨S1x1x512, .f32⟩
  | .local _ .vmem, ⟨18, _⟩ => ⟨S1x1x512, .f32⟩
  | .local _ .vmem, ⟨19, _⟩ => ⟨S1x4x64x128, .f32⟩
  | .local _ .vmem, ⟨20, _⟩ => ⟨S1x4x64x128, .f32⟩
  | .local _ .vmem, ⟨21, _⟩ => ⟨S1x4x64, .f32⟩
  | .local _ .vmem, ⟨22, _⟩ => ⟨S1x4x64, .f32⟩
  | .local _ .vmem, ⟨23, _⟩ => ⟨S1x1x4, .f32⟩
  | .local _ .vmem, ⟨24, _⟩ => ⟨S1x1x4, .f32⟩
  | _, _ => ⟨S128x1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S128x1x4x64 : Shape := ⟨4, ![128, 1, 4, 64]⟩
abbrev S128x1x4x128 : Shape := ⟨4, ![128, 1, 4, 128]⟩
abbrev S128x1x512 : Shape := ⟨3, ![128, 1, 512]⟩
abbrev S128x1x4 : Shape := ⟨3, ![128, 1, 4]⟩
abbrev S1x512 : Shape := ⟨2, ![1, 512]⟩
abbrev S1x128x4x64x128 : Shape := ⟨5, ![1, 128, 4, 64, 128]⟩
abbrev S1x128x4x64 : Shape := ⟨4, ![1, 128, 4, 64]⟩
abbrev S1x128x4 : Shape := ⟨3, ![1, 128, 4]⟩
abbrev S128x4x64x128 : Shape := ⟨4, ![128, 4, 64, 128]⟩
abbrev S128x4x64 : Shape := ⟨3, ![128, 4, 64]⟩
abbrev S128x4 : Shape := ⟨2, ![128, 4]⟩
abbrev S128x4x1x64 : Shape := ⟨4, ![128, 4, 1, 64]⟩
abbrev S128x4x1x128 : Shape := ⟨4, ![128, 4, 1, 128]⟩
abbrev S128x4x1 : Shape := ⟨3, ![128, 4, 1]⟩
abbrev S_ : Shape := ⟨0, ![]⟩
abbrev S1x1 : Shape := ⟨2, ![1, 1]⟩
abbrev S128x4x1x1 : Shape := ⟨4, ![128, 4, 1, 1]⟩
abbrev S128x1x4x1 : Shape := ⟨4, ![128, 1, 4, 1]⟩
abbrev S512 : Shape := ⟨1, ![512]⟩
abbrev S1x1x512 : Shape := ⟨3, ![1, 1, 512]⟩

abbrev nBuf : Space → Nat
  | .hbm => 128
  | .vmem => 0
  | .smem => 0
  | _ => 0

abbrev bufTy : (tb : Table) → Fin (tcTables nBuf tb) → BufTy
  | .hbm, ⟨0, _⟩ => ⟨S128x1x4x64, .f32⟩
  | .hbm, ⟨1, _⟩ => ⟨S128x1x4x64, .f32⟩
  | .hbm, ⟨2, _⟩ => ⟨S128x1x4x128, .f32⟩
  | .hbm, ⟨3, _⟩ => ⟨S128x1x512, .f32⟩
  | .hbm, ⟨4, _⟩ => ⟨S128x1x4, .f32⟩
  | .hbm, ⟨5, _⟩ => ⟨S128x1x4, .f32⟩
  | .hbm, ⟨6, _⟩ => ⟨S1x512, .f32⟩
  | .hbm, ⟨7, _⟩ => ⟨S1x128x4x64x128, .f32⟩
  | .hbm, ⟨8, _⟩ => ⟨S1x128x4x64, .f32⟩
  | .hbm, ⟨9, _⟩ => ⟨S1x128x4, .f32⟩
  | .hbm, ⟨10, _⟩ => ⟨S128x4x64x128, .f32⟩
  | .hbm, ⟨11, _⟩ => ⟨S128x4x64, .f32⟩
  | .hbm, ⟨12, _⟩ => ⟨S128x4, .f32⟩
  | .hbm, ⟨13, _⟩ => ⟨S128x4x1x64, .f32⟩
  | .hbm, ⟨14, _⟩ => ⟨S128x4x1x64, .f32⟩
  | .hbm, ⟨15, _⟩ => ⟨S128x4x1x128, .f32⟩
  | .hbm, ⟨16, _⟩ => ⟨S128x4x1, .f32⟩
  | .hbm, ⟨17, _⟩ => ⟨S128x4x1, .f32⟩
  | .hbm, ⟨18, _⟩ => ⟨S_, .i1⟩
  | .hbm, ⟨19, _⟩ => ⟨S1x1, .i1⟩
  | .hbm, ⟨20, _⟩ => ⟨S1x1, .i32⟩
  | .hbm, ⟨21, _⟩ => ⟨S_, .i32⟩
  | .hbm, ⟨22, _⟩ => ⟨S1x1, .i32⟩
  | .hbm, ⟨23, _⟩ => ⟨S1x1, .i32⟩
  | .hbm, ⟨24, _⟩ => ⟨S1x1, .i32⟩
  | .hbm, ⟨25, _⟩ => ⟨S1x1, .i1⟩
  | .hbm, ⟨26, _⟩ => ⟨S_, .i1⟩
  | .hbm, ⟨27, _⟩ => ⟨S1x1, .i1⟩
  | .hbm, ⟨28, _⟩ => ⟨S1x1, .i1⟩
  | .hbm, ⟨29, _⟩ => ⟨S_, .f32⟩
  | .hbm, ⟨30, _⟩ => ⟨S_, .f32⟩
  | .hbm, ⟨31, _⟩ => ⟨S128x4x1, .f32⟩
  | .hbm, ⟨32, _⟩ => ⟨S128x4x1x1, .f32⟩
  | .hbm, ⟨33, _⟩ => ⟨S128x4x1x1, .f32⟩
  | .hbm, ⟨34, _⟩ => ⟨S128x4x1x1, .f32⟩
  | .hbm, ⟨35, _⟩ => ⟨S128x4x1x1, .f32⟩
  | .hbm, ⟨36, _⟩ => ⟨S128x4x1x1, .f32⟩
  | .hbm, ⟨37, _⟩ => ⟨S_, .f32⟩
  | .hbm, ⟨38, _⟩ => ⟨S_, .f32⟩
  | .hbm, ⟨39, _⟩ => ⟨S128x4x1x1, .i1⟩
  | .hbm, ⟨40, _⟩ => ⟨S128x4x1x1, .f32⟩
  | .hbm, ⟨41, _⟩ => ⟨S128x4x1x1, .f32⟩
  | .hbm, ⟨42, _⟩ => ⟨S128x4x1, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S128x4x1x1, .f32⟩
  | .hbm, ⟨48, _⟩ => ⟨S128x4x1x1, .f32⟩
  | .hbm, ⟨49, _⟩ => ⟨S128x4x1x1, .f32⟩
  | .hbm, ⟨50, _⟩ => ⟨S128x4x1, .f32⟩
  | .hbm, ⟨51, _⟩ => ⟨S128x4x1, .f32⟩
  | .hbm, ⟨52, _⟩ => ⟨S128x4x1x1, .f32⟩
  | .hbm, ⟨53, _⟩ => ⟨S128x4x1x1, .f32⟩
  | .hbm, ⟨54, _⟩ => ⟨S128x4x1x1, .f32⟩
  | .hbm, ⟨55, _⟩ => ⟨S128x4x1x128, .f32⟩
  | .hbm, ⟨56, _⟩ => ⟨S128x4x1x128, .f32⟩
  | .hbm, ⟨57, _⟩ => ⟨S128x4x1x128, .f32⟩
  | .hbm, ⟨58, _⟩ => ⟨S128x4x1x128, .f32⟩
  | .hbm, ⟨59, _⟩ => ⟨S128x4x1x128, .f32⟩
  | .hbm, ⟨60, _⟩ => ⟨S128x4x1, .f32⟩
  | .hbm, ⟨61, _⟩ => ⟨S128x4x1, .f32⟩
  | .hbm, ⟨62, _⟩ => ⟨S_, .f32⟩
  | .hbm, ⟨63, _⟩ => ⟨S128x4x1, .f32⟩
  | .hbm, ⟨64, _⟩ => ⟨S128x4x1, .f32⟩
  | .hbm, ⟨65, _⟩ => ⟨S128x4x1, .f32⟩
  | .hbm, ⟨66, _⟩ => ⟨S128x4x1, .f32⟩
  | .hbm, ⟨67, _⟩ => ⟨S128x4x1, .f32⟩
  | .hbm, ⟨68, _⟩ => ⟨S128x4x1, .f32⟩
  | .hbm, ⟨69, _⟩ => ⟨S128x4x1x1, .f32⟩
  | .hbm, ⟨70, _⟩ => ⟨S128x4x1x128, .f32⟩
  | .hbm, ⟨71, _⟩ => ⟨S128x4x1x128, .f32⟩
  | .hbm, ⟨72, _⟩ => ⟨S128x4, .f32⟩
  | .hbm, ⟨73, _⟩ => ⟨S128x4x1, .f32⟩
  | .hbm, ⟨74, _⟩ => ⟨S128x4x1, .f32⟩
  | .hbm, ⟨75, _⟩ => ⟨S128x4x1, .f32⟩
  | .hbm, ⟨76, _⟩ => ⟨S128x4, .f32⟩
  | .hbm, ⟨77, _⟩ => ⟨S_, .f32⟩
  | .hbm, ⟨78, _⟩ => ⟨S128x4, .f32⟩
  | .hbm, ⟨79, _⟩ => ⟨S128x4, .f32⟩
  | .hbm, ⟨80, _⟩ => ⟨S128x4x1, .f32⟩
  | .hbm, ⟨81, _⟩ => ⟨S128x4x1, .f32⟩
  | .hbm, ⟨82, _⟩ => ⟨S128x4x1, .f32⟩
  | .hbm, ⟨83, _⟩ => ⟨S128x4, .f32⟩
  | .hbm, ⟨84, _⟩ => ⟨S128x4, .f32⟩
  | .hbm, ⟨85, _⟩ => ⟨S128x4, .f32⟩
  | .hbm, ⟨86, _⟩ => ⟨S128x4x1x1, .f32⟩
  | .hbm, ⟨87, _⟩ => ⟨S128x4x64x128, .f32⟩
  | .hbm, ⟨88, _⟩ => ⟨S128x4x64x128, .f32⟩
  | .hbm, ⟨89, _⟩ => ⟨S128x4x1x1, .f32⟩
  | .hbm, ⟨90, _⟩ => ⟨S128x4x1x64, .f32⟩
  | .hbm, ⟨91, _⟩ => ⟨S128x4x1x64, .f32⟩
  | .hbm, ⟨92, _⟩ => ⟨S128x4x64x128, .f32⟩
  | .hbm, ⟨93, _⟩ => ⟨S128x4x64x128, .f32⟩
  | .hbm, ⟨94, _⟩ => ⟨S128x4x1, .f32⟩
  | .hbm, ⟨95, _⟩ => ⟨S128x4x64, .f32⟩
  | .hbm, ⟨96, _⟩ => ⟨S128x4x64, .f32⟩
  | .hbm, ⟨97, _⟩ => ⟨S128x4x64, .f32⟩
  | .hbm, ⟨98, _⟩ => ⟨S128x4x64, .f32⟩
  | .hbm, ⟨99, _⟩ => ⟨S128x1x4x128, .f32⟩
  | .hbm, ⟨100, _⟩ => ⟨S128x1x4x128, .f32⟩
  | .hbm, ⟨101, _⟩ => ⟨S_, .f32⟩
  | .hbm, ⟨102, _⟩ => ⟨S128x1x4, .f32⟩
  | .hbm, ⟨103, _⟩ => ⟨S128x1x4x1, .f32⟩
  | .hbm, ⟨104, _⟩ => ⟨S_, .f32⟩
  | .hbm, ⟨105, _⟩ => ⟨S128x1x4x1, .f32⟩
  | .hbm, ⟨106, _⟩ => ⟨S128x1x4x1, .f32⟩
  | .hbm, ⟨107, _⟩ => ⟨S_, .f32⟩
  | .hbm, ⟨108, _⟩ => ⟨S128x1x4x1, .f32⟩
  | .hbm, ⟨109, _⟩ => ⟨S128x1x4x1, .f32⟩
  | .hbm, ⟨110, _⟩ => ⟨S128x1x4x1, .f32⟩
  | .hbm, ⟨111, _⟩ => ⟨S128x1x4x128, .f32⟩
  | .hbm, ⟨112, _⟩ => ⟨S128x1x4x128, .f32⟩
  | .hbm, ⟨113, _⟩ => ⟨S128x1x512, .f32⟩
  | .hbm, ⟨114, _⟩ => ⟨S512, .f32⟩
  | .hbm, ⟨115, _⟩ => ⟨S1x1x512, .f32⟩
  | .hbm, ⟨116, _⟩ => ⟨S128x1x512, .f32⟩
  | .hbm, ⟨117, _⟩ => ⟨S128x1x512, .f32⟩
  | .hbm, ⟨118, _⟩ => ⟨S128x1x512, .f32⟩
  | .hbm, ⟨119, _⟩ => ⟨S128x1x512, .f32⟩
  | .hbm, ⟨120, _⟩ => ⟨S_, .f32⟩
  | .hbm, ⟨121, _⟩ => ⟨S128x1x512, .f32⟩
  | .hbm, ⟨122, _⟩ => ⟨S128x1x512, .f32⟩
  | .hbm, ⟨123, _⟩ => ⟨S_, .f32⟩
  | .hbm, ⟨124, _⟩ => ⟨S128x1x512, .f32⟩
  | .hbm, ⟨125, _⟩ => ⟨S128x1x512, .f32⟩
  | .hbm, ⟨126, _⟩ => ⟨S128x1x512, .f32⟩
  | .hbm, ⟨127, _⟩ => ⟨S128x1x4, .f32⟩
  | _, _ => ⟨S128x1x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v9 : Ref sig .tc := ⟨.hbm, 28, rfl⟩
abbrev main_call1_call0_cst : Ref sig .tc := ⟨.hbm, 29, rfl⟩
abbrev main_call1_call0_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_3 : Ref sig .tc := ⟨.hbm, 101, rfl⟩
abbrev main_v73 : Ref sig .tc := ⟨.hbm, 102, rfl⟩
abbrev main_v74 : Ref sig .tc := ⟨.hbm, 103, rfl⟩
abbrev main_cst_4 : Ref sig .tc := ⟨.hbm, 104, rfl⟩
abbrev main_v75 : Ref sig .tc := ⟨.hbm, 105, rfl⟩
abbrev main_v76 : Ref sig .tc := ⟨.hbm, 106, rfl⟩
abbrev main_cst_5 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_6 : Ref sig .tc := ⟨.hbm, 120, rfl⟩
abbrev main_v89 : Ref sig .tc := ⟨.hbm, 121, rfl⟩
abbrev main_v90 : Ref sig .tc := ⟨.hbm, 122, rfl⟩
abbrev main_cst_7 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel9.lean ====
abbrev S128x1x1024 : Shape := ⟨3, ![128, 1, 1024]⟩
abbrev S128x1x512 : Shape := ⟨3, ![128, 1, 512]⟩
abbrev S2x4x1024 : Shape := ⟨3, ![2, 4, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S128x1024 : Shape := ⟨2, ![128, 1024]⟩
abbrev S128x512 : Shape := ⟨2, ![128, 512]⟩
abbrev S1024x1024 : Shape := ⟨2, ![1024, 1024]⟩
abbrev S1x3x1024 : Shape := ⟨3, ![1, 3, 1024]⟩
abbrev S3x1024 : Shape := ⟨2, ![3, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 25
  | .vmem => 9
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .bf16⟩
  | .hbm, ⟨2, _⟩ => ⟨S128x1x512, .bf16⟩
  | .hbm, ⟨3, _⟩ => ⟨S2x4x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S128x1024, .f32⟩
  | .hbm, ⟨9, _⟩ => ⟨S128x512, .bf16⟩
  | .hbm, ⟨10, _⟩ => ⟨S128x512, .bf16⟩
  | .hbm, ⟨11, _⟩ => ⟨S1024x1024, .f32⟩
  | .hbm, ⟨12, _⟩ => ⟨S1024x1024, .bf16⟩
  | .hbm, ⟨13, _⟩ => ⟨S1x3x1024, .f32⟩
  | .hbm, ⟨14, _⟩ => ⟨S3x1024, .f32⟩
  | .hbm, ⟨15, _⟩ => ⟨S1x1024x2816, .f32⟩
  | .hbm, ⟨16, _⟩ => ⟨S1024x2816, .f32⟩
  | .hbm, ⟨17, _⟩ => ⟨S1024x2816, .bf16⟩
  | .hbm, ⟨18, _⟩ => ⟨S1x1024x2816, .f32⟩
  | .hbm, ⟨19, _⟩ => ⟨S1024x2816, .f32⟩
  | .hbm, ⟨20, _⟩ => ⟨S1024x2816, .bf16⟩
  | .hbm, ⟨21, _⟩ => ⟨S1x2816x1024, .f32⟩
  | .hbm, ⟨22, _⟩ => ⟨S2816x1024, .f32⟩
  | .hbm, ⟨23, _⟩ => ⟨S2816x1024, .bf16⟩
  | .hbm, ⟨24, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S1024x1024, .bf16⟩
  | .local _ .vmem, ⟨4, _⟩ => ⟨S3x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S128x1x1024 : Shape := ⟨3, ![128, 1, 1024]⟩
abbrev S128x1x512 : Shape := ⟨3, ![128, 1, 512]⟩
abbrev S2x4x1024 : Shape := ⟨3, ![2, 4, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x1x2816 : Shape := ⟨3, ![128, 1, 2816]⟩
abbrev S128x1024 : Shape := ⟨2, ![128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x512, .bf16⟩
  | .hbm, ⟨2, _⟩ => ⟨S128x1x512, .bf16⟩
  | .hbm, ⟨3, _⟩ => ⟨S2x4x1024, .f32⟩
  | .hbm, ⟨4, _⟩ => ⟨S1x1024x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S128x1x512, .f32⟩
  | .hbm, ⟨9, _⟩ => ⟨S128x1x512, .f32⟩
  | .hbm, ⟨10, _⟩ => ⟨S128x1x1024, .f32⟩
  | .hbm, ⟨11, _⟩ => ⟨S1024x1024, .f32⟩
  | .hbm, ⟨12, _⟩ => ⟨S128x1x1024, .f32⟩
  | .hbm, ⟨13, _⟩ => ⟨S1x1x1024, .f32⟩
  | .hbm, ⟨14, _⟩ => ⟨S1024, .f32⟩
  | .hbm, ⟨15, _⟩ => ⟨S128x1x1024, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S_, .f32⟩
  | .hbm, ⟨20, _⟩ => ⟨S128x1x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S128x1x1, .f32⟩
  | .hbm, ⟨26, _⟩ => ⟨S128x1x1024, .f32⟩
  | .hbm, ⟨27, _⟩ => ⟨S128x1x1024, .f32⟩
  | .hbm, ⟨28, _⟩ => ⟨S1x1x1024, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S1x1x1024, .f32⟩
  | .hbm, ⟨33, _⟩ => ⟨S1024, .f32⟩
  | .hbm, ⟨34, _⟩ => ⟨S128x1x1024, .f32⟩
  | .hbm, ⟨35, _⟩ => ⟨S_, .f32⟩
  | .hbm, ⟨36, _⟩ => ⟨S128x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1, .f32⟩
  | .hbm, ⟨45, _⟩ => ⟨S128x1x1024, .f32⟩
  | .hbm, ⟨46, _⟩ => ⟨S128x1x1024, .f32⟩
  | .hbm, ⟨47, _⟩ => ⟨S1x1x1024, .f32⟩
  | .hbm, ⟨48, _⟩ => ⟨S128x1x1024, .f32⟩
  | .hbm, ⟨49, _⟩ => ⟨S128x1x1024, .f32⟩
  | .hbm, ⟨50, _⟩ => ⟨S1x1024x2816, .f32⟩
  | .hbm, ⟨51, _⟩ => ⟨S1024x2816, .f32⟩
  | .hbm, ⟨52, _⟩ => ⟨S1x1024x2816, .f32⟩
  | .hbm, ⟨53, _⟩ => ⟨S1024x2816, .f32⟩
  | .hbm, ⟨54, _⟩ => ⟨S1x2816x1024, .f32⟩
  | .hbm, ⟨55, _⟩ => ⟨S2816x1024, .f32⟩
  | .hbm, ⟨56, _⟩ => ⟨S128x1x2816, .f32⟩
  | .hbm, ⟨57, _⟩ => ⟨S128x1x2816, .f32⟩
  | .hbm, ⟨58, _⟩ => ⟨S128x1x2816, .f32⟩
  | .hbm, ⟨59, _⟩ => ⟨S_, .f32⟩
  | .hbm, ⟨60, _⟩ => ⟨S128x1x2816, .f32⟩
  | .hbm, ⟨61, _⟩ => ⟨S128x1x2816, .f32⟩
  | .hbm, ⟨62, _⟩ => ⟨S_, .f32⟩
  | .hbm, ⟨63, _⟩ => ⟨S128x1x2816, .f32⟩
  | .hbm, ⟨64, _⟩ => ⟨S128x1x2816, .f32⟩
  | .hbm, ⟨65, _⟩ => ⟨S128x1x2816, .f32⟩
  | .hbm, ⟨66, _⟩ => ⟨S128x1x2816, .f32⟩
  | .hbm, ⟨67, _⟩ => ⟨S128x1x2816, .f32⟩
  | .hbm, ⟨68, _⟩ => ⟨S128x1x1024, .f32⟩
  | .hbm, ⟨69, _⟩ => ⟨S1x1x1024, .f32⟩
  | .hbm, ⟨70, _⟩ => ⟨S1024, .f32⟩
  | .hbm, ⟨71, _⟩ => ⟨S128x1x1024, .f32⟩
  | .hbm, ⟨72, _⟩ => ⟨S_, .f32⟩
  | .hbm, ⟨73, _⟩ => ⟨S128x1, .f32⟩
  | .hbm, ⟨74, _⟩ => ⟨S128x1x1, .f32⟩
  | .hbm, ⟨75, _⟩ => ⟨S_, .f32⟩
  | .hbm, ⟨76, _⟩ => ⟨S128x1x1, .f32⟩
  | .hbm, ⟨77, _⟩ => ⟨S128x1x1, .f32⟩
  | .hbm, ⟨78, _⟩ => ⟨S_, .f32⟩
  | .hbm, ⟨79, _⟩ => ⟨S128x1x1, .f32⟩
  | .hbm, ⟨80, _⟩ => ⟨S128x1x1, .f32⟩
  | .hbm, ⟨81, _⟩ => ⟨S128x1x1, .f32⟩
  | .hbm, ⟨82, _⟩ => ⟨S128x1x1024, .f32⟩
  | .hbm, ⟨83, _⟩ => ⟨S128x1x1024, .f32⟩
  | .hbm, ⟨84, _⟩ => ⟨S1x1x1024, .f32⟩
  | .hbm, ⟨85, _⟩ => ⟨S128x1x1024, .f32⟩
  | .hbm, ⟨86, _⟩ => ⟨S128x1x1024, .f32⟩
  | .hbm, ⟨87, _⟩ => ⟨S128x1x1024, .f32⟩
  | .hbm, ⟨88, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Proof.StepTrip.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.RefValue

open Cert.KernelIdeal Cert.KernelIdeal.Gen
open Idealize.ShloMosaic Idealize.ShloMosaic.TcCoe Idealize.SL.Sem
open Idealize.ShloMosaic.Pipeline (Dat)

/-- One entry of the new state of a head: row `p` (the value axis), column `q` (the key axis), sample `n`. -/
def newState (lw a b k v : FVec Ideal S64x128 .f32) (s : FVec Ideal S1x64x64x128 .f32) (p q : Fin 64) (n : Fin 128) : EReal :=
  s (ix4 0 p q n) * Ideal.exp (lw (ix2 q n)) + (∑ j : Fin 64, s (ix4 0 p j n) * a (ix2 j n)) * b (ix2 q n) + v (ix2 p n) * k (ix2 q n)

theorem row_emb {off : Fin 4 → ℕ} {o : ℕ} (h : off = ![0, o, 0, 0]) (inb : ∀ a, off a + S1x1x64x128.size a ≤ S1x64x64x128.size a)
    (ho : o < 64) (x : S1x1x64x128.Idx) :
    (Rect.unit (s := S1x64x64x128) off S1x1x64x128.size inb).emb x = ix4 0 ⟨o, ho⟩ (x 2) (x 3) := by
  subst h
  idx_vars x
  funext a
  fin_cases a <;> apply Fin.ext <;> simp [Rect.emb, Rect.unit]
  all_goals rfl

theorem trip_state {𝒱 : Variants} {c : Dev nD} {bd : Option 𝒱.V} {i : grid0.Coords} {arg1 : Memref sig .tc .vmem S64x128 .f32} {harg1 : arg1.IsWhole} {arg2 : Memref sig .tc .vmem S64x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x128 .f32} {harg5 : arg5.IsWhole} {arg6 : Memref sig .tc .vmem S64x128 .f32} {harg6 : arg6.IsWhole} {arg7 : Memref sig .tc .vmem S1x64x64x128 .f32} {harg7 : arg7.IsWhole} {arg8 : Memref sig .tc .vmem S64x128 .f32} {harg8 : arg8.IsWhole} {arg9 : Memref sig .tc .vmem S1x64x64x128 .f32} {harg9 : arg9.IsWhole}
    (lw a b kk r v : FVec Ideal S64x128 .f32) (s : FVec Ideal S1x64x64x128 .f32) (k : Fin k0_t1_loop.trips) :
    View.PiecesOf (fun i : S1x64x64x128.Idx => newState lw a b kk v s (i 1) (i 2) (i 3))
    (tripL_k0_t1 (F := Ideal) 𝒱 c bd i arg1 harg1 arg2 harg2 arg3 harg3 arg4 harg4 arg5 harg5 arg6 harg6 arg7 harg7 arg8 harg8 arg9 harg9 lw a b kk r (harg3.unread v) (harg7.unread s) k).2 := by
  have hk : k.val < 8 := Nat.lt_of_lt_of_le k.isLt k0_t1_abs.2.1
  unfold tripL_k0_t1 trip_k0_t1
  dsimp only
  frame_open
  refine ⟨fun x => ?_, fun x => ?_, fun x => ?_, fun x => ?_, fun x => ?_, fun x => ?_, fun x => ?_, fun x => ?_, trivial⟩
  all_goals simp only [View.readAt_eq_ld, Memref.IsWhole.read_unread]
  · refine Eq.trans ?_ (congrArg (fun i : S1x64x64x128.Idx => newState lw a b kk v s (i 1) (i 2) (i 3)) (row_emb (k0_off2_eq k 7) _ (by show 8 * k.val + 7 < 64; omega) x)).symm
    idx_vars x
    have e1 : k0_off1 k = ![8 * k.val, 0] := k0_off1_eq k
    have e2 : k0_off2 k 7#32 = ![0, 8 * k.val + 7, 0, 0] := k0_off2_eq k 7
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 6) _ (by show 8 * k.val + 6 < 64; omega) x)).symm
    idx_vars x
    have e1 : k0_off1 k = ![8 * k.val, 0] := k0_off1_eq k
    have e2 : k0_off2 k 6#32 = ![0, 8 * k.val + 6, 0, 0] := k0_off2_eq k 6
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 5) _ (by show 8 * k.val + 5 < 64; omega) x)).symm
    idx_vars x
    have e1 : k0_off1 k = ![8 * k.val, 0] := k0_off1_eq k
    have e2 : k0_off2 k 5#32 = ![0, 8 * k.val + 5, 0, 0] := k0_off2_eq k 5
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 4) _ (by show 8 * k.val + 4 < 64; omega) x)).symm
    idx_vars x
    have e1 : k0_off1 k = ![8 * k.val, 0] := k0_off1_eq k
    have e2 : k0_off2 k 4#32 = ![0, 8 * k.val + 4, 0, 0] := k0_off2_eq k 4
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 3) _ (by show 8 * k.val + 3 < 64; omega) x)).symm
    idx_vars x
    have e1 : k0_off1 k = ![8 * k.val, 0] := k0_off1_eq k
    have e2 : k0_off2 k 3#32 = ![0, 8 * k.val + 3, 0, 0] := k0_off2_eq k 3
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 2) _ (by show 8 * k.val + 2 < 64; omega) x)).symm
    idx_vars x
    have e1 : k0_off1 k = ![8 * k.val, 0] := k0_off1_eq k
    have e2 : k0_off2 k 2#32 = ![0, 8 * k.val + 2, 0, 0] := k0_off2_eq k 2
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 1) _ (by show 8 * k.val + 1 < 64; omega) x)).symm
    idx_vars x
    have e1 : k0_off1 k = ![8 * k.val, 0] := k0_off1_eq k
    have e2 : k0_off2 k 1#32 = ![0, 8 * k.val + 1, 0, 0] := k0_off2_eq k 1
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl
  · refine Eq.trans ?_ (congrArg (fun i : S1x64x64x128.Idx => newState lw a b kk v s (i 1) (i 2) (i 3)) (row_emb (k0_off2_eq k 0) _ (by show 8 * k.val + 0 < 64; omega) x)).symm
    idx_vars x
    have e1 : k0_off1 k = ![8 * k.val, 0] := k0_off1_eq k
    have e2 : k0_off2 k 0#32 = ![0, 8 * k.val + 0, 0, 0] := k0_off2_eq k 0
    pointwise [k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
    simp only [e1, e2, Matrix.cons_val, zero_add]
    rfl

theorem out_emb {off : Fin 2 → ℕ} {o : ℕ} (h : off = ![o, 0]) (inb : ∀ a, off a + S8x128.size a ≤ S64x128.size a)
    (ho : o + 8 ≤ 64) (x : S8x128.Idx) :
    (Rect.unit (s := S64x128) off S8x128.size inb).emb x = ix2 ⟨o + (x 0).val, Nat.lt_of_lt_of_le (Nat.add_lt_add_left (show (x 0).val < 8 from (x 0).isLt) o) ho⟩ (x 1) := by
  subst h
  idx_vars x
  funext a
  fin_cases a <;> apply Fin.ext <;> simp [Rect.emb, Rect.unit]

theorem trip_out {𝒱 : Variants} {c : Dev nD} {bd : Option 𝒱.V} {i : grid0.Coords} {arg1 : Memref sig .tc .vmem S64x128 .f32} {harg1 : arg1.IsWhole} {arg2 : Memref sig .tc .vmem S64x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x128 .f32} {harg5 : arg5.IsWhole} {arg6 : Memref sig .tc .vmem S64x128 .f32} {harg6 : arg6.IsWhole} {arg7 : Memref sig .tc .vmem S1x64x64x128 .f32} {harg7 : arg7.IsWhole} {arg8 : Memref sig .tc .vmem S64x128 .f32} {harg8 : arg8.IsWhole} {arg9 : Memref sig .tc .vmem S1x64x64x128 .f32} {harg9 : arg9.IsWhole}
    (lw a b kk r v : FVec Ideal S64x128 .f32) (s : FVec Ideal S1x64x64x128 .f32) (k : Fin k0_t1_loop.trips) :
    View.PiecesOf (fun i : S64x128.Idx => ∑ j : Fin 64, newState lw a b kk v s (i 0) j (i 1) * r (ix2 j (i 1)))
    (tripL_k0_t1 (F := Ideal) 𝒱 c bd i arg1 harg1 arg2 harg2 arg3 harg3 arg4 harg4 arg5 harg5 arg6 harg6 arg7 harg7 arg8 harg8 arg9 harg9 lw a b kk r (harg3.unread v) (harg7.unread s) k).1 := by
  have hk : k.val < 8 := Nat.lt_of_lt_of_le k.isLt k0_t1_abs.2.1
  unfold tripL_k0_t1 trip_k0_t1
  dsimp only
  frame_open
  refine ⟨fun x => ?_, trivial⟩
  simp only [View.readAt_eq_ld, Memref.IsWhole.read_unread]
  refine Eq.trans ?_ (congrArg (fun i : S64x128.Idx => ∑ j : Fin 64, newState lw a b kk v s (i 0) j (i 1) * r (ix2 j (i 1))) (out_emb (k0_off1_eq k) _ (by show 8 * k.val + 8 ≤ 64; omega) x)).symm
  idx_vars x
  have e1 : k0_off1 k = ![8 * k.val, 0] := k0_off1_eq k
  have f0 : k0_off2 k 0#32 = ![0, 8 * k.val + 0, 0, 0] := k0_off2_eq k 0
  have f1 : k0_off2 k 1#32 = ![0, 8 * k.val + 1, 0, 0] := k0_off2_eq k 1
  have f2 : k0_off2 k 2#32 = ![0, 8 * k.val + 2, 0, 0] := k0_off2_eq k 2
  have f3 : k0_off2 k 3#32 = ![0, 8 * k.val + 3, 0, 0] := k0_off2_eq k 3
  have f4 : k0_off2 k 4#32 = ![0, 8 * k.val + 4, 0, 0] := k0_off2_eq k 4
  have f5 : k0_off2 k 5#32 = ![0, 8 * k.val + 5, 0, 0] := k0_off2_eq k 5
  have f6 : k0_off2 k 6#32 = ![0, 8 * k.val + 6, 0, 0] := k0_off2_eq k 6
  have f7 : k0_off2 k 7#32 = ![0, 8 * k.val + 7, 0, 0] := k0_off2_eq k 7
  pointwise [k0_pay9, k0_pay13, k0_pay1, k0_pay2, k0_pay3, k0_pay4, k0_pay5, k0_pay6, k0_pay7, k0_pay8, k0_pay10, k0_pay11, k0_pay12, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, newState]
  simp only [e1, f0, f1, f2, f3, f4, f5, f6, f7, Matrix.cons_val, zero_add]
  fin_vals x0 with hx
  all_goals simp only [hx, Nat.reduceSub, Nat.reduceLT, ↓reduceDIte]
  all_goals rfl

theorem piecesOf_append {S : Shape} {e : EltTy} {G : S.Idx → Elt Ideal e} : ∀ {L L' : List (View.Piece (Elt Ideal) S e)},
    View.PiecesOf G L → View.PiecesOf G L' → View.PiecesOf G (L ++ L')
  | [], _, _, h => h
  | _ :: _, _, h, h' => ⟨h.1, piecesOf_append h.2 h'⟩

theorem loop_pieces {𝒱 : Variants} {c : Dev nD} {bd : Option 𝒱.V} {i : grid0.Coords} {arg1 : Memref sig .tc .vmem S64x128 .f32} {harg1 : arg1.IsWhole} {arg2 : Memref sig .tc .vmem S64x128 .f32} {harg2 : arg2.IsWhole} {arg3 : Memref sig .tc .vmem S64x128 .f32} {harg3 : arg3.IsWhole} {arg4 : Memref sig .tc .vmem S64x128 .f32} {harg4 : arg4.IsWhole} {arg5 : Memref sig .tc .vmem S64x128 .f32} {harg5 : arg5.IsWhole} {arg6 : Memref sig .tc .vmem S64x128 .f32} {harg6 : arg6.IsWhole} {arg7 : Memref sig .tc .vmem S1x64x64x128 .f32} {harg7 : arg7.IsWhole} {arg8 : Memref sig .tc .vmem S64x128 .f32} {harg8 : arg8.IsWhole} {arg9 : Memref sig .tc .vmem S1x64x64x128 .f32} {harg9 : arg9.IsWhole}
    (lw a b kk r v : FVec Ideal S64x128 .f32) (s : FVec Ideal S1x64x64x128 .f32)
 : ∀ n : ℕ, n ≤ k0_t1_loop.trips →
    View.PiecesOf (fun i : S64x128.Idx => ∑ j : Fin 64, newState lw a b kk v s (i 0) j (i 1) * r (ix2 j (i 1)))
      (pb_k0_t1 (F := Ideal) 𝒱 c bd i arg1 harg1 arg2 harg2 arg3 harg3 arg4 harg4 arg5 harg5 arg6 harg6 arg7 harg7 arg8 harg8 arg9 harg9 lw a b kk r (harg3.unread v) (harg7.unread s) n).1
    ∧ View.PiecesOf (fun i : S1x64x64x128.Idx => newState lw a b kk v s (i 1) (i 2) (i 3))
      (pb_k0_t1 (F := Ideal) 𝒱 c bd i arg1 harg1 arg2 harg2 arg3 harg3 arg4 harg4 arg5 harg5 arg6 harg6 arg7 harg7 arg8 harg8 arg9 harg9 lw a b kk r (harg3.unread v) (harg7.unread s) n).2
  | 0, _ => ⟨trivial, trivial⟩
  | n + 1, h => by
    have ih := loop_pieces (𝒱 := 𝒱) (c := c) (bd := bd) (i := i) (harg1 := harg1) (harg2 := harg2) (harg3 := harg3) (harg4 := harg4) (harg5 := harg5) (harg6 := harg6) (harg7 := harg7) (harg8 := harg8) (harg9 := harg9) lw a b kk r v s n (by omega)
    have e := pb_k0_t1_succ (F := Ideal) 𝒱 c bd i arg1 harg1 arg2 harg2 arg3 harg3 arg4 harg4 arg5 harg5 arg6 harg6 arg7 harg7 arg8 harg8 arg9 harg9 lw a b kk r (harg3.unread v) (harg7.unread s) ⟨n, h⟩
    constructor
    · refine Eq.mp (congrArg (fun z => View.PiecesOf _ z.1) e.symm) ?_
      exact piecesOf_append (trip_out lw a b kk r v s ⟨n, h⟩) ih.1
    · refine Eq.mp (congrArg (fun z => View.PiecesOf _ z.2) e.symm) ?_
      exact piecesOf_append (trip_state lw a b kk r v s ⟨n, h⟩) ih.2

/-- What the body leaves in the first result's block: each row of the new state against the receptance. -/
theorem out_block (c : Dev nD) (i : grid0.Coords) (arg1 : Memref sig .tc .vmem S64x128 .f32) (harg1 : arg1.IsWhole)
 (arg2 : Memref sig .tc .vmem S64x128 .f32) (harg2 : arg2.IsWhole)
 (arg3 : Memref sig .tc .vmem S64x128 .f32) (harg3 : arg3.IsWhole)
 (arg4 : Memref sig .tc .vmem S64x128 .f32) (harg4 : arg4.IsWhole)
 (arg5 : Memref sig .tc .vmem S64x128 .f32) (harg5 : arg5.IsWhole)
 (arg6 : Memref sig .tc .vmem S64x128 .f32) (harg6 : arg6.IsWhole)
 (arg7 : Memref sig .tc .vmem S1x64x64x128 .f32) (harg7 : arg7.IsWhole)
 (arg8 : Memref sig .tc .vmem S64x128 .f32) (harg8 : arg8.IsWhole)
 (arg9 : Memref sig .tc .vmem S1x64x64x128 .f32) (harg9 : arg9.IsWhole)
    (r k v a b lw : FVec Ideal S64x128 .f32) (s : FVec Ideal S1x64x64x128 .f32) :
    out0_A_7 (F := Ideal) c i arg1 harg1 arg2 harg2 arg3 harg3 arg4 harg4 arg5 harg5 arg6 harg6 arg7 harg7 arg8 harg8 arg9 harg9 r k v a b lw s
      = fun y => ∑ j : Fin 64, newState lw a b k v s (y 0) j (y 1) * r (ix2 j (y 1)) := by
  funext y
  unfold out0_A_7
  rw [View.read_writes_junk_eq_canon]
  refine View.canon_apply_of_pieces (fun y : S64x128.Idx => ∑ j : Fin 64, newState lw a b k v s (y 0) j (y 1) * r (ix2 j (y 1))) _ (fun p hp => ?_) y (cover0_A_7 (F := Ideal) c i arg1 harg1 arg2 harg2 arg3 harg3 arg4 harg4 arg5 harg5 arg6 harg6 arg7 harg7 arg8 harg8 arg9 harg9 r k v a b lw s y)
  refine View.PiecesOf.mem (G := fun y : S64x128.Idx => ∑ j : Fin 64, newState lw a b k v s (y 0) j (y 1) * r (ix2 j (y 1))) ?_ p hp
  frame_out
  exact (loop_pieces lw a b k r v s _ le_rfl).1

/-- What it leaves in the second's: the head's new state. -/
theorem state_block (c : Dev nD) (i : grid0.Coords) (arg1 : Memref sig .tc .vmem S64x128 .f32) (harg1 : arg1.IsWhole)
 (arg2 : Memref sig .tc .vmem S64x128 .f32) (harg2 : arg2.IsWhole)
 (arg3 : Memref sig .tc .vmem S64x128 .f32) (harg3 : arg3.IsWhole)
 (arg4 : Memref sig .tc .vmem S64x128 .f32) (harg4 : arg4.IsWhole)
 (arg5 : Memref sig .tc .vmem S64x128 .f32) (harg5 : arg5.IsWhole)
 (arg6 : Memref sig .tc .vmem S64x128 .f32) (harg6 : arg6.IsWhole)
 (arg7 : Memref sig .tc .vmem S1x64x64x128 .f32) (harg7 : arg7.IsWhole)
 (arg8 : Memref sig .tc .vmem S64x128 .f32) (harg8 : arg8.IsWhole)
 (arg9 : Memref sig .tc .vmem S1x64x64x128 .f32) (harg9 : arg9.IsWhole)
    (r k v a b lw : FVec Ideal S64x128 .f32) (s : FVec Ideal S1x64x64x128 .f32) :
    out0_A_8 (F := Ideal) c i arg1 harg1 arg2 harg2 arg3 harg3 arg4 harg4 arg5 harg5 arg6 harg6 arg7 harg7 arg8 harg8 arg9 harg9 r k v a b lw s = fun y => newState lw a b k v s (y 1) (y 2) (y 3) := by
  funext y
  unfold out0_A_8
  rw [View.read_writes_junk_eq_canon]
  refine View.canon_apply_of_pieces (fun y : S1x64x64x128.Idx => newState lw a b k v s (y 1) (y 2) (y 3)) _ (fun p hp => ?_) y (cover0_A_8 (F := Ideal) c i arg1 harg1 arg2 harg2 arg3 harg3 arg4 harg4 arg5 harg5 arg6 harg6 arg7 harg7 arg8 harg8 arg9 harg9 r k v a b lw s y)
  refine View.PiecesOf.mem (G := fun y : S1x64x64x128.Idx => newState lw a b k v s (y 1) (y 2) (y 3)) ?_ p hp
  frame_out
  exact (loop_pieces lw a b k r v s _ le_rfl).2

end Cert.KernelIdeal.RefValue

end
-- ==== Proof.StepValue.lean ====
module

public import proofs.«01_k».proof.Proof.StepTrip
public import proofs.«01_k».proof.Proof.Gen.ReferenceIdeal.Run
public import Idealize.ShloMosaic.Lib.Claim

@[expose] public section

set_option maxRecDepth 16384

noncomputable section

namespace Cert.KernelIdeal.RefValue

open Cert.KernelIdeal Cert.KernelIdeal.Gen
open Idealize.ShloMosaic Idealize.ShloMosaic.TcCoe Idealize.SL.Sem
open Idealize.ShloMosaic.Pipeline (Dat)

/-- One entry of the recurrence's new state: head `h`, value coordinate `p`, key coordinate `q`, sample `n`. -/
def stateAt (lw k v a b : FVec Ideal S128x1x16x64 .f32) (s : FVec Ideal S1x128x16x64x64 .f32)
    (h : Fin 16) (p q : Fin 64) (n : Fin 128) : EReal :=
  s (ix5 0 n h p q) * Ideal.exp (lw (ix4 n 0 h q)) + (∑ j : Fin 64, s (ix5 0 n h p j) * a (ix4 n 0 h j)) * b (ix4 n 0 h q)
    + v (ix4 n 0 h p) * k (ix4 n 0 h q)

/-- One entry of its output: channel `p` of head `h`, sample `n`. -/
def outAt (r lw k v a b : FVec Ideal S128x1x16x64 .f32) (s : FVec Ideal S1x128x16x64x64 .f32)
    (h : Fin 16) (p : Fin 64) (n : Fin 128) : EReal :=
  ∑ j : Fin 64, stateAt lw k v a b s h p j n * r (ix4 n 0 h j)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0, 0, 0]
    ∧ win0_7.index t = ![t.val, 0] ∧ win0_8.index t = ![t.val, 0, 0, 0] ∧ t.val < 16 :=
  (by decide +kernel : ∀ t : Fin grid0.N, _)

/-- The head a grid point works on. -/
def head (t : Fin cfg0.N) : Fin 16 := ⟨t.val, (idx t).2.2.2.2.2.2.2.2.2⟩

theorem blk0 (c : Dev nD) (t : Fin cfg0.N) (p : Fin 64) (n : Fin 128) :
    (iblk m c 0 t : FVec Ideal S64x128 .f32) (ix2 p n)
      = (m ((c : Thread nD τ).loc main_arg0) : FVec Ideal S128x1x16x64 .f32) (ix4 n 0 (head t) p) := by
  blk_simp [iblk]
  entry_read
  pointwise
  blk_ext [head, idx t]

theorem blk1 (c : Dev nD) (t : Fin cfg0.N) (p : Fin 64) (n : Fin 128) :
    (iblk m c 1 t : FVec Ideal S64x128 .f32) (ix2 p n)
      = (m ((c : Thread nD τ).loc main_arg2) : FVec Ideal S128x1x16x64 .f32) (ix4 n 0 (head t) p) := by
  blk_simp [iblk]
  entry_read
  pointwise
  blk_ext [head, idx t]

theorem blk2 (c : Dev nD) (t : Fin cfg0.N) (p : Fin 64) (n : Fin 128) :
    (iblk m c 2 t : FVec Ideal S64x128 .f32) (ix2 p n)
      = (m ((c : Thread nD τ).loc main_arg3) : FVec Ideal S128x1x16x64 .f32) (ix4 n 0 (head t) p) := by
  blk_simp [iblk]
  entry_read
  pointwise
  blk_ext [head, idx t]

theorem blk3 (c : Dev nD) (t : Fin cfg0.N) (p : Fin 64) (n : Fin 128) :
    (iblk m c 3 t : FVec Ideal S64x128 .f32) (ix2 p n)
      = (m ((c : Thread nD τ).loc main_arg4) : FVec Ideal S128x1x16x64 .f32) (ix4 n 0 (head t) p) := by
  blk_simp [iblk]
  entry_read
  pointwise
  blk_ext [head, idx t]

theorem blk4 (c : Dev nD) (t : Fin cfg0.N) (p : Fin 64) (n : Fin 128) :
    (iblk m c 4 t : FVec Ideal S64x128 .f32) (ix2 p n)
      = (m ((c : Thread nD τ).loc main_arg5) : FVec Ideal S128x1x16x64 .f32) (ix4 n 0 (head t) p) := by
  blk_simp [iblk]
  entry_read
  pointwise
  blk_ext [head, idx t]

theorem blk5 (c : Dev nD) (t : Fin cfg0.N) (p : Fin 64) (n : Fin 128) :
    (iblk m c 5 t : FVec Ideal S64x128 .f32) (ix2 p n)
      = (m ((c : Thread nD τ).loc main_arg1) : FVec Ideal S128x1x16x64 .f32) (ix4 n 0 (head t) p) := by
  blk_simp [iblk]
  entry_read
  pointwise
  blk_ext [head, idx t]

theorem blk6 (c : Dev nD) (t : Fin cfg0.N) (p q : Fin 64) (n : Fin 128) :
    (iblk m c 6 t : FVec Ideal S1x64x64x128 .f32) (ix4 0 p q n)
      = (m ((c : Thread nD τ).loc main_arg6) : FVec Ideal S1x128x16x64x64 .f32) (ix5 0 n (head t) p q) := by
  blk_simp [iblk]
  entry_read
  pointwise
  blk_ext [head, idx t]

theorem newState_blk (c : Dev nD) (t : Fin cfg0.N) (p q : Fin 64) (n : Fin 128) :
    newState (iblk m c 5 t) (iblk m c 3 t) (iblk m c 4 t) (iblk m c 1 t) (iblk m c 2 t) (iblk m c 6 t) p q n
      = stateAt (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (head t) p q n := by
  unfold newState stateAt
  simp only [blk1, blk2, blk3, blk4, blk5, blk6]

theorem final_state (c : Dev nD) : (dats m 0 c).arrAt 8 (cfgs 0).N
    = fun i : S16x64x64x128.Idx => stateAt (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3) := by
  refine (dats m 0 c).arrAt_eq_of_covers 8 _ (by decide +kernel) fun t _ y => ?_
  blk_simp
  rw [after0_8]
  unfold outsAt0
  dsimp only
  rw [state_block]
  refine (newState_blk m c t (y 1) (y 2) (y 3)).trans ?_
  have e : ((View.whole main_v14_1).slice (win0_8.rect t)).emb y = (ix4 (head t) (y 1) (y 2) (y 3) : S16x64x64x128.Idx) := by
    blk_ext [head, idx t]
  simp only [e]
  rfl

theorem final_out (c : Dev nD) : (dats m 0 c).arrAt 7 (cfgs 0).N
    = fun i : S1024x128.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ⟨(i 0).val / 64, Nat.div_lt_of_lt_mul (i 0).isLt⟩ ⟨(i 0).val % 64, Nat.mod_lt _ (by decide)⟩ (i 1) := by
  refine (dats m 0 c).arrAt_eq_of_covers 7 _ (by decide +kernel) fun t _ y => ?_
  blk_simp
  rw [after0_7]
  unfold outsAt0
  dsimp only
  rw [out_block]
  have h0 : win0_7.index t 0 = t.val := by rw [(idx t).2.2.2.2.2.2.2.1]; rfl
  have h1 : win0_7.index t 1 = 0 := by rw [(idx t).2.2.2.2.2.2.2.1]; rfl
  have hy : (y 0).val < 64 := (y 0).isLt
  refine Eq.trans (b := outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (head t) (y 0) (y 1)) ?_ ?_
  · unfold outAt
    exact Finset.sum_congr rfl fun j _ => congrArg₂ (· * ·) (newState_blk m c t (y 0) j (y 1)) (blk0 m c t j (y 1))
  · congr 1
    · apply Fin.ext; show t.val = _; simp only [h0]; omega
    · apply Fin.ext; show (y 0).val = _; simp only [h0]; omega
    · apply Fin.ext; blk_simp; rw [h1]; omega

end Cert.KernelIdeal.RefValue

namespace Cert.ReferenceIdeal.RefValue

open Cert.ReferenceIdeal Cert.ReferenceIdeal.Gen
open Cert.KernelIdeal.RefValue (stateAt outAt)
open Idealize.ShloMosaic Idealize.ShloMosaic.TcCoe Idealize.SL.Sem

variable (m : (ℓ : Loc nD τ sig) → Buf (Elt Ideal) ℓ)

theorem state_eq (r lw k v a b : FVec Ideal S128x1x16x64 .f32) (s : FVec Ideal S1x128x16x64x64 .f32) :
    (transpose S16x64x64x128 [1, 2, 3, 0] (addf (addf (mulf (shapeCast _ s shapeCasts_S1x128x16x64x64_S128x16x64x64) (broadcastInDim S128x16x64x64 ![0, 1, 2, 3] bcast_S128x16x1x64_S128x16x64x64_0_1_2_3 (broadcastInDim S128x16x1x64 ![0, 1, 3] bcast_S128x16x64_S128x16x1x64_0_1_3 (shapeCast _ (Host.exp lw) shapeCasts_S128x1x16x64_S128x16x64)))) (mulf (broadcastInDim S128x16x64x64 ![0, 1, 2, 3] bcast_S128x16x64x1_S128x16x64x64_0_1_2_3 (broadcastInDim S128x16x64x1 ![0, 1, 2] bcast_S128x16x64_S128x16x64x1_0_1_2 (Host.dotGeneral dot_S128x16x64x64_S128x16x64_S128x16x64_3_2_2_n_01_01 none (shapeCast _ s shapeCasts_S1x128x16x64x64_S128x16x64x64) (shapeCast _ a shapeCasts_S128x1x16x64_S128x16x64)))) (broadcastInDim S128x16x64x64 ![0, 1, 2, 3] bcast_S128x16x1x64_S128x16x64x64_0_1_2_3 (broadcastInDim S128x16x1x64 ![0, 1, 3] bcast_S128x16x64_S128x16x1x64_0_1_3 (shapeCast _ b shapeCasts_S128x1x16x64_S128x16x64))))) (mulf (broadcastInDim S128x16x64x64 ![0, 1, 2, 3] bcast_S128x16x64x1_S128x16x64x64_0_1_2_3 (broadcastInDim S128x16x64x1 ![0, 1, 2] bcast_S128x16x64_S128x16x64x1_0_1_2 (shapeCast _ v shapeCasts_S128x1x16x64_S128x16x64))) (broadcastInDim S128x16x64x64 ![0, 1, 2, 3] bcast_S128x16x1x64_S128x16x64x64_0_1_2_3 (broadcastInDim S128x16x1x64 ![0, 1, 3] bcast_S128x16x64_S128x16x1x64_0_1_3 (shapeCast _ k shapeCasts_S128x1x16x64_S128x16x64))))) transposes_S128x16x64x64_S16x64x64x128_1_2_3_0 : FVec Ideal S16x64x64x128 .f32)
      = fun i => stateAt lw k v a b s (i 0) (i 1) (i 2) (i 3) := by
  funext i
  idx_vars i
  pointwise [stateAt]
  try rfl

theorem out_eq (r lw k v a b : FVec Ideal S128x1x16x64 .f32) (s : FVec Ideal S1x128x16x64x64 .f32) :
    (transpose S1024x128 [1, 0] (shapeCast _ (Host.dotGeneral dot_S128x16x64x64_S128x16x64_S128x16x64_3_2_2_n_01_01 none (addf (addf (mulf (shapeCast _ s shapeCasts_S1x128x16x64x64_S128x16x64x64) (broadcastInDim S128x16x64x64 ![0, 1, 2, 3] bcast_S128x16x1x64_S128x16x64x64_0_1_2_3 (broadcastInDim S128x16x1x64 ![0, 1, 3] bcast_S128x16x64_S128x16x1x64_0_1_3 (shapeCast _ (Host.exp lw) shapeCasts_S128x1x16x64_S128x16x64)))) (mulf (broadcastInDim S128x16x64x64 ![0, 1, 2, 3] bcast_S128x16x64x1_S128x16x64x64_0_1_2_3 (broadcastInDim S128x16x64x1 ![0, 1, 2] bcast_S128x16x64_S128x16x64x1_0_1_2 (Host.dotGeneral dot_S128x16x64x64_S128x16x64_S128x16x64_3_2_2_n_01_01 none (shapeCast _ s shapeCasts_S1x128x16x64x64_S128x16x64x64) (shapeCast _ a shapeCasts_S128x1x16x64_S128x16x64)))) (broadcastInDim S128x16x64x64 ![0, 1, 2, 3] bcast_S128x16x1x64_S128x16x64x64_0_1_2_3 (broadcastInDim S128x16x1x64 ![0, 1, 3] bcast_S128x16x64_S128x16x1x64_0_1_3 (shapeCast _ b shapeCasts_S128x1x16x64_S128x16x64))))) (mulf (broadcastInDim S128x16x64x64 ![0, 1, 2, 3] bcast_S128x16x64x1_S128x16x64x64_0_1_2_3 (broadcastInDim S128x16x64x1 ![0, 1, 2] bcast_S128x16x64_S128x16x64x1_0_1_2 (shapeCast _ v shapeCasts_S128x1x16x64_S128x16x64))) (broadcastInDim S128x16x64x64 ![0, 1, 2, 3] bcast_S128x16x1x64_S128x16x64x64_0_1_2_3 (broadcastInDim S128x16x1x64 ![0, 1, 3] bcast_S128x16x64_S128x16x1x64_0_1_3 (shapeCast _ k shapeCasts_S128x1x16x64_S128x16x64))))) (shapeCast _ r shapeCasts_S128x1x16x64_S128x16x64)) shapeCasts_S128x16x64_S128x1024) transposes_S128x1024_S1024x128_1_0 : FVec Ideal S1024x128 .f32)
      = fun i => outAt r lw k v a b s ⟨(i 0).val / 64, Nat.div_lt_of_lt_mul (i 0).isLt⟩ ⟨(i 0).val % 64, Nat.mod_lt _ (by decide)⟩ (i 1) := by
  funext i
  idx_vars i
  pointwise [outAt, stateAt]
  try rfl

end Cert.ReferenceIdeal.RefValue

end
-- ==== Proof.StepClaim.lean ====
module

public import proofs.«01_k».proof.Defs
public import proofs.«01_k».proof.Proof.StepValue
public import proofs.«01_k».proof.Proof.Gen.Kernel.Frame
public import proofs.«01_k».proof.Proof.Gen.KernelIdeal.Value
public import proofs.«01_k».proof.Proof.Gen.ReferenceIdeal.Run
public import Idealize.ShloMosaic.Lib.Pipeline.Value
public import Idealize.ShloMosaic.Lib.Quiescent

@[expose] public section

set_option maxRecDepth 16384

noncomputable section

namespace Cert.Proof.StepClaim

open Idealize.ShloMosaic Idealize.ShloMosaic.TcCoe Idealize.SL.Sem

/-- Result 0 of the call as a function of the argument arrays. -/
def value0 (m : (ℓ : Loc Cert.KernelIdeal.nD Cert.KernelIdeal.τ Cert.KernelIdeal.sig) → Buf (Elt Ideal) ℓ) (c : Dev Cert.KernelIdeal.nD) : FVec Ideal Cert.KernelIdeal.S1024x128 .f32 :=
  fun i => Cert.KernelIdeal.RefValue.outAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(i 0).val / 64, Nat.div_lt_of_lt_mul (i 0).isLt⟩ ⟨(i 0).val % 64, Nat.mod_lt _ (by decide)⟩ (i 1)

/-- Result 1 of the call as a function of the argument arrays. -/
def value1 (m : (ℓ : Loc Cert.KernelIdeal.nD Cert.KernelIdeal.τ Cert.KernelIdeal.sig) → Buf (Elt Ideal) ℓ) (c : Dev Cert.KernelIdeal.nD) : FVec Ideal Cert.KernelIdeal.S16x64x64x128 .f32 :=
  fun i => Cert.KernelIdeal.RefValue.stateAt (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2) (i 3)

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem preserves : Cert.preserves_Kernel_KernelIdeal := trivial

/-- The kernel's result arrays and the reference's are the same functions of the same arguments. -/
theorem algebraic : Cert.algebraic_KernelIdeal_ReferenceIdeal := by
  intro m ρ m' ρ' _ hagree
  refine ⟨fun c => value0 m c, fun c => value1 m c, ?_, ?_⟩
  · refine (θ_run Cert.KernelIdeal.defs _ _).mono (fun _ h c => ⟨(h c).1.trans (Cert.KernelIdeal.RefValue.final_out m c), (h c).2.1.trans (Cert.KernelIdeal.RefValue.final_state m c), (h c).2.2⟩)
      (Cert.KernelIdeal.Value.run_blocks (F := Ideal) m ρ)
  · refine (θ_run Cert.ReferenceIdeal.defs _ _).mono (fun _ h c => ⟨(h c).1.trans ((Cert.ReferenceIdeal.RefValue.out_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_), (h c).2.1.trans ((Cert.ReferenceIdeal.RefValue.state_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_), (h c).2.2⟩)
      (Cert.ReferenceIdeal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2]
      rfl

end Cert.Proof.StepClaim

end
-- ==== Proof.Rows.lean ====
module

public import Idealize.ShloMosaic.Lib.Pointwise
public import Idealize.ShloMosaic.Lib.Claim

@[expose] public section

set_option maxRecDepth 16384

noncomputable section

/-! The row functions the layer's blocks are made of, over the extended reals: one row of an array is a function of its
column, and the normalisation and the feed-forward part act on each row by itself. -/

namespace Cert.Rows

open Idealize.ShloMosaic

/-- The root mean square normalisation of a row `v` of 1024 entries with gains `g`. -/
def rms (v g : Fin 1024 → EReal) (j : Fin 1024) : EReal :=
  v j * Ideal.rsqrt (Ideal.div (∑ k : Fin 1024, v k * v k) (Ideal.ofBits .f32 0x44800000#32) + Ideal.ofBits .f32 0x358637BD#32) * g j

/-- One hidden unit of the gated feed-forward part: the gate through `a / (1 + exp (-a))`, times the upward product. -/
def unit (h : Fin 1024 → EReal) (wg wu : Fin 1024 → Fin 2816 → EReal) (k : Fin 2816) : EReal :=
  (∑ l : Fin 1024, h l * wg l k) * Ideal.div 1 (1 + Ideal.exp (-(∑ l : Fin 1024, h l * wg l k))) * (∑ l : Fin 1024, h l * wu l k)

/-- The feed-forward part of a row `h`. -/
def ffn (h : Fin 1024 → EReal) (wg wu : Fin 1024 → Fin 2816 → EReal) (wd : Fin 2816 → Fin 1024 → EReal) (j : Fin 1024) : EReal :=
  ∑ k : Fin 2816, unit h wg wu k * wd k j

/-- What one tile of 256 hidden units, the one starting at unit `o`, adds to the feed-forward part. -/
def tile (h : Fin 1024 → EReal) (wg wu : Fin 1024 → Fin 2816 → EReal) (wd : Fin 2816 → Fin 1024 → EReal) (j : Fin 1024)
    (o : ℕ) (ho : o + 256 ≤ 2816) : EReal :=
  ∑ t : Fin 256, unit h wg wu ⟨o + t.val, by omega⟩ * wd ⟨o + t.val, by omega⟩ j

theorem sum_eleven (F : Fin 11 → EReal) :
    ∑ j, F j = 0 + F 0 + F 1 + F 2 + F 3 + F 4 + F 5 + F 6 + F 7 + F 8 + F 9 + F 10 := by
  simp only [Fin.sum_univ_castSucc, Fin.sum_univ_zero]
  rfl

/-- The feed-forward part is the sum of its eleven tiles, taken from the first to the last. -/
theorem ffn_tiles (h : Fin 1024 → EReal) (wg wu : Fin 1024 → Fin 2816 → EReal) (wd : Fin 2816 → Fin 1024 → EReal) (j : Fin 1024) :
    ffn h wg wu wd j = 0 + tile h wg wu wd j 0 (by decide) + tile h wg wu wd j 256 (by decide) + tile h wg wu wd j 512 (by decide)
      + tile h wg wu wd j 768 (by decide) + tile h wg wu wd j 1024 (by decide) + tile h wg wu wd j 1280 (by decide)
      + tile h wg wu wd j 1536 (by decide) + tile h wg wu wd j 1792 (by decide) + tile h wg wu wd j 2048 (by decide)
      + tile h wg wu wd j 2304 (by decide) + tile h wg wu wd j 2560 (by decide) := by
  unfold ffn
  rw [Fin.sum_univ_tiles 11 256 rfl (fun k : Fin 2816 => unit h wg wu k * wd k j)]
  exact sum_eleven _

/-- A row after a residual block whose normalised increment is `v`, and then the feed-forward block: both increments are
normalised before they are added, with gains `g0` and `g2`, and `g1` are the gains of the feed-forward part's argument. -/
def twoBlocks (x v g0 g1 g2 : Fin 1024 → EReal) (wg wu : Fin 1024 → Fin 2816 → EReal) (wd : Fin 2816 → Fin 1024 → EReal)
    (j : Fin 1024) : EReal :=
  (x j + rms v g0 j) + rms (ffn (rms (fun k => x k + rms v g0 k) g1) wg wu wd) g2 j

end Cert.Rows

end
-- ==== Proof.FfnBlock.lean ====
module

public import proofs.«01_k».proof.Proof.Rows
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Kernel2Ideal.RefValue

open Cert.Kernel2Ideal Cert.Kernel2Ideal.Gen Cert.Rows
open Idealize.ShloMosaic Idealize.ShloMosaic.TcCoe Idealize.SL.Sem
open Idealize.ShloMosaic.Pipeline (Dat)

/-- One entry of the two mixers' outputs through the output projection. -/
def mixed (hm hf : Fin 512 → EReal) (wo : Fin 1024 → Fin 1024 → EReal) (j : Fin 1024) : EReal :=
  (∑ k : Fin 512, hm k * wo ⟨k.val, by omega⟩ j) + ∑ k : Fin 512, hf k * wo ⟨512 + k.val, by omega⟩ j

variable (x0 : FVec Ideal S512x1024 .f32) (x1 x2 : FVec Ideal S512x512 .bf16) (x3 : FVec Ideal S1024x1024 .bf16)
  (x4 : FVec Ideal S3x1024 .f32) (x5 x6 : FVec Ideal S1024x2816 .bf16) (x7 : FVec Ideal S2816x1024 .bf16)

/-- Row `p` of the projected mixers of a block. -/
def vRow (p : Fin 512) : Fin 1024 → EReal :=
  mixed (fun k => x1 (ix2 p k)) (fun k => x2 (ix2 p k)) (fun k j => x3 (ix2 k j))

/-- Row `p` of a block after the first residual sum. -/
def xRow (p : Fin 512) (j : Fin 1024) : EReal :=
  x0 (ix2 p j) + rms (vRow x1 x2 x3 p) (fun k => x4 (ix2 0 k)) j

theorem pay22_at (p : Fin 512) (j : Fin 1024) :
    k0_pay22 (F := Ideal) x0 x1 x2 x3 x4 x5 x6 x7 (ix2 p j) = xRow x0 x1 x2 x3 x4 p j := by
  pointwise [k0_pay22, k0_pay2, xRow, rms, vRow, mixed]

theorem pay24_at (p : Fin 512) :
    k0_pay24 (F := Ideal) x0 x1 x2 x3 x4 x5 x6 x7 (ix2 p 0)
      = Ideal.div (∑ k : Fin 1024, xRow x0 x1 x2 x3 x4 p k * xRow x0 x1 x2 x3 x4 p k) (Ideal.ofBits .f32 0x44800000#32) + Ideal.ofBits .f32 0x358637BD#32 := by
  have h : k0_pay24 (F := Ideal) x0 x1 x2 x3 x4 x5 x6 x7 (ix2 p 0)
      = Ideal.div (∑ k : Fin 1024, k0_pay22 (F := Ideal) x0 x1 x2 x3 x4 x5 x6 x7 (ix2 p k) * k0_pay22 (F := Ideal) x0 x1 x2 x3 x4 x5 x6 x7 (ix2 p k)) (Ideal.ofBits .f32 0x44800000#32) + Ideal.ofBits .f32 0x358637BD#32 := by
    pointwise [k0_pay24, k0_pay4]
    rfl
  rw [h]
  simp only [pay22_at]

theorem pay25_at (p : Fin 512) (j : Fin 1024) :
    k0_pay25 (F := Ideal) x0 x1 x2 x3 x4 x5 x6 x7 (ix2 p j)
      = rms (xRow x0 x1 x2 x3 x4 p) (fun k => x4 (ix2 1 k)) j := by
  pointwise [k0_pay25, k0_pay5, pay22_at, pay24_at, k0_pay23, k0_pay3, rms]

theorem pay5_at (p : Fin 512) (j : Fin 1024) :
    k0_pay5 (F := Ideal) (k0_pay22 x0 x1 x2 x3 x4 x5 x6 x7) (k0_pay23 x0 x1 x2 x3 x4 x5 x6 x7) (k0_pay24 x0 x1 x2 x3 x4 x5 x6 x7) (ix2 p j)
      = rms (xRow x0 x1 x2 x3 x4 p) (fun k => x4 (ix2 1 k)) j :=
  pay25_at x0 x1 x2 x3 x4 x5 x6 x7 p j

/-- A block of the result, row by row. -/
theorem block_at (p : Fin 512) (j : Fin 1024) :
    out0_8 (F := Ideal) x0 x1 x2 x3 x4 x5 x6 x7 (ix2 p j)
      = twoBlocks (fun k => x0 (ix2 p k)) (vRow x1 x2 x3 p) (fun k => x4 (ix2 0 k)) (fun k => x4 (ix2 1 k)) (fun k => x4 (ix2 2 k))
          (fun k n => x5 (ix2 k n)) (fun k n => x6 (ix2 k n)) (fun n k => x7 (ix2 n k)) j := by
  unfold out0_8
  rw [View.canon_unit_zero (by funext a; fin_cases a <;> rfl)]
  generalize hY : k0_pay21 (F := Ideal) _ _ _ _ _ _ _ _ = Y
  have hr : ∀ i : Fin 1024, Y (ix2 p i) = ffn (rms (xRow x0 x1 x2 x3 x4 p) (fun k => x4 (ix2 1 k))) (fun k n => x5 (ix2 k n)) (fun k n => x6 (ix2 k n)) (fun n k => x7 (ix2 n k)) i := by
    intro i
    rw [ffn_tiles, ← hY]
    pointwise [k0_pay21, k0_pay20, k0_pay19, k0_pay18, k0_pay17, k0_pay16, k0_pay15, k0_pay14, k0_pay13, k0_pay12, k0_pay11, k0_pay10, k0_pay9, k0_pay8, k0_pay7, k0_pay6, pay5_at, pay25_at, tile, unit]
    simp only [zero_sub, zero_add]
  pointwise [k0_pay1, hr, pay22_at, twoBlocks, xRow, rms]
  rfl

end Cert.Kernel2Ideal.RefValue

end
-- ==== Proof.FfnValue.lean ====
module

public import proofs.«01_k».proof.Proof.FfnBlock
public import proofs.«01_k».proof.Proof.Gen.Reference2Ideal.Run
public import Idealize.ShloMosaic.Lib.Claim

@[expose] public section

set_option maxRecDepth 16384

noncomputable section

namespace Cert.Kernel2Ideal.RefValue

open Cert.Kernel2Ideal Cert.Kernel2Ideal.Gen Cert.Rows
open Idealize.ShloMosaic Idealize.ShloMosaic.TcCoe Idealize.SL.Sem
open Idealize.ShloMosaic.Pipeline (Dat)

/-- One entry of the even layer's output: token `t` of sequence `b`. -/
def outAt (x : FVec Ideal S2x8192x1024 .f32) (hm hf : FVec Ideal S2x8192x512 .bf16) (g : FVec Ideal S2x4x1024 .f32)
    (wo : FVec Ideal S1x1024x1024 .f32) (wg wu : FVec Ideal S2x1024x2816 .f32) (wd : FVec Ideal S2x2816x1024 .f32)
    (b : Fin 2) (t : Fin 8192) (j : Fin 1024) : EReal :=
  twoBlocks (fun k => x (ix3 b t k)) (mixed (fun k => hm (ix3 b t k)) (fun k => hf (ix3 b t k)) (fun k n => wo (ix3 0 k n)))
    (fun k => g (ix3 0 1 k)) (fun k => g (ix3 0 2 k)) (fun k => g (ix3 0 3 k))
    (fun k n => wg (ix3 0 k n)) (fun k n => wu (ix3 0 k n)) (fun n k => wd (ix3 0 n k)) j

/-- The sequence and the token of row `r` of the flattened activations. -/
def rowSeq (r : Fin 16384) : Fin 2 := ⟨r.val / 8192, by omega⟩
def rowTok (r : Fin 16384) : Fin 8192 := ⟨r.val % 8192, by omega⟩

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ t.val < 32 :=
  (by decide +kernel : ∀ t : Fin grid0.N, _)

theorem point_lt (t : Fin cfg0.N) : t.val < 32 := (idx t).2.2.2.2.2.2.2.2.2

/-- The sequence and the token of row `p` of a grid point's blocks. -/
def seqOf (t : Fin cfg0.N) (p : Fin 512) : Fin 2 := ⟨(t.val * 512 + p.val) / 8192, by have := point_lt t; omega⟩
def tokOf (t : Fin cfg0.N) (p : Fin 512) : Fin 8192 := ⟨(t.val * 512 + p.val) % 8192, by omega⟩

theorem blk0 (c : Dev nD) (t : Fin cfg0.N) (p : Fin 512) (n : Fin 1024) :
    (iblk m c 0 t : FVec Ideal S512x1024 .f32) (ix2 p n)
      = (m ((c : Thread nD τ).loc main_arg0) : FVec Ideal S2x8192x1024 .f32) (ix3 (seqOf t p) (tokOf t p) n) := by
  blk_simp [iblk]
  entry_read
  pointwise
  blk_ext [seqOf, tokOf, idx t]

theorem blk1 (c : Dev nD) (t : Fin cfg0.N) (p : Fin 512) (n : Fin 512) :
    (iblk m c 1 t : FVec Ideal S512x512 .bf16) (ix2 p n)
      = (m ((c : Thread nD τ).loc main_arg1) : FVec Ideal S2x8192x512 .bf16) (ix3 (seqOf t p) (tokOf t p) n) := by
  blk_simp [iblk]
  entry_read
  pointwise
  blk_ext [seqOf, tokOf, idx t]

theorem blk2 (c : Dev nD) (t : Fin cfg0.N) (p : Fin 512) (n : Fin 512) :
    (iblk m c 2 t : FVec Ideal S512x512 .bf16) (ix2 p n)
      = (m ((c : Thread nD τ).loc main_arg2) : FVec Ideal S2x8192x512 .bf16) (ix3 (seqOf t p) (tokOf t p) n) := by
  blk_simp [iblk]
  entry_read
  pointwise
  blk_ext [seqOf, tokOf, idx t]

theorem blk3 (c : Dev nD) (t : Fin cfg0.N) (k : Fin 1024) (n : Fin 1024) :
    (iblk m c 3 t : FVec Ideal S1024x1024 .bf16) (ix2 k n)
      = (m ((c : Thread nD τ).loc main_arg4) : FVec Ideal S1x1024x1024 .f32) (ix3 0 k n) := by
  blk_simp [iblk]
  entry_read
  pointwise
  blk_ext [idx t]

theorem blk4 (c : Dev nD) (t : Fin cfg0.N) (k : Fin 3) (n : Fin 1024) :
    (iblk m c 4 t : FVec Ideal S3x1024 .f32) (ix2 k n)
      = (m ((c : Thread nD τ).loc main_arg3) : FVec Ideal S2x4x1024 .f32) (ix3 0 ⟨1 + k.val, by omega⟩ n) := by
  blk_simp [iblk]
  entry_read
  pointwise
  blk_ext [idx t]

theorem blk5 (c : Dev nD) (t : Fin cfg0.N) (k : Fin 1024) (n : Fin 2816) :
    (iblk m c 5 t : FVec Ideal S1024x2816 .bf16) (ix2 k n)
      = (m ((c : Thread nD τ).loc main_arg5) : FVec Ideal S2x1024x2816 .f32) (ix3 0 k n) := by
  blk_simp [iblk]
  entry_read
  pointwise
  blk_ext [idx t]

theorem blk6 (c : Dev nD) (t : Fin cfg0.N) (k : Fin 1024) (n : Fin 2816) :
    (iblk m c 6 t : FVec Ideal S1024x2816 .bf16) (ix2 k n)
      = (m ((c : Thread nD τ).loc main_arg6) : FVec Ideal S2x1024x2816 .f32) (ix3 0 k n) := by
  blk_simp [iblk]
  entry_read
  pointwise
  blk_ext [idx t]

theorem blk7 (c : Dev nD) (t : Fin cfg0.N) (k : Fin 2816) (n : Fin 1024) :
    (iblk m c 7 t : FVec Ideal S2816x1024 .bf16) (ix2 k n)
      = (m ((c : Thread nD τ).loc main_arg7) : FVec Ideal S2x2816x1024 .f32) (ix3 0 k n) := by
  blk_simp [iblk]
  entry_read
  pointwise
  blk_ext [idx t]

theorem block_out (c : Dev nD) (t : Fin cfg0.N) (p : Fin 512) (j : Fin 1024) :
    out0_8 (F := Ideal) (iblk m c 0 t) (iblk m c 1 t) (iblk m c 2 t) (iblk m c 3 t) (iblk m c 4 t) (iblk m c 5 t) (iblk m c 6 t) (iblk m c 7 t) (ix2 p j)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (seqOf t p) (tokOf t p) j := by
  refine (block_at (iblk m c 0 t) (iblk m c 1 t) (iblk m c 2 t) (iblk m c 3 t) (iblk m c 4 t) (iblk m c 5 t) (iblk m c 6 t) (iblk m c 7 t) p j).trans ?_
  unfold vRow outAt
  simp only [blk0, blk1, blk2, blk3, blk4, blk5, blk6, blk7]
  rfl

theorem final_out (c : Dev nD) : (dats m 0 c).arrAt 8 (cfgs 0).N
    = fun i : S16384x1024.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowSeq (i 0)) (rowTok (i 0)) (i 1) := by
  refine (dats m 0 c).arrAt_eq_of_covers 8 _ (by decide +kernel) fun t _ y => ?_
  blk_simp
  rw [after0_8]
  idx_vars y
  refine (block_out m c t y0 y1).trans ?_
  have e : ((View.whole main_v16).slice (win0_8.rect t)).emb (ix2 y0 y1) = (ix2 ⟨t.val * 512 + y0.val, by have := point_lt t; omega⟩ y1 : S16384x1024.Idx) := by
    blk_ext [idx t]
  simp only [e]
  rfl

end Cert.Kernel2Ideal.RefValue

namespace Cert.Reference2Ideal.RefValue

open Cert.Reference2Ideal Cert.Reference2Ideal.Gen Cert.Reference2Ideal.Value Cert.Rows
open Idealize.ShloMosaic Idealize.ShloMosaic.TcCoe Idealize.SL.Sem

/-- The reference's normalisation of an array with gains `g`, operation by operation. -/
def normT (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem normT_at (y : FVec Ideal S2x8192x1024 .f32) (g : FVec Ideal S1024 .f32) (b : Fin 2) (t : Fin 8192) (j : Fin 1024) :
    normT y g (ix3 b t j) = rms (fun k => y (ix3 b t k)) (fun k => g (ix1 k)) j := by
  pointwise [normT, rms]

/-- The reference's output projection of the two mixers. -/
def mixT (hm hf : FVec Ideal S2x8192x512 .bf16) (wo : FVec Ideal S1x1024x1024 .f32) : FVec Ideal S2x8192x1024 .f32 :=
  Host.dotGeneral dot_S2x8192x1024_S1024x1024_S2x8192x1024_2_0_01_1_n_n none
    (concatenate S2x8192x1024 2 [⟨S2x8192x512, (extf .f32 hm bitsLt_bf16_f32)⟩, ⟨S2x8192x512, (extf .f32 hf bitsLt_bf16_f32)⟩] concatenates_S2x8192x512_S2x8192x512_S2x8192x1024_d2)
    (shapeCast _ wo shapeCasts_S1x1024x1024_S1024x1024)

theorem mixT_at (hm hf : FVec Ideal S2x8192x512 .bf16) (wo : FVec Ideal S1x1024x1024 .f32) (b : Fin 2) (t : Fin 8192) (j : Fin 1024) :
    mixT hm hf wo (ix3 b t j)
      = Cert.Kernel2Ideal.RefValue.mixed (fun k => hm (ix3 b t k)) (fun k => hf (ix3 b t k)) (fun k n => wo (ix3 0 k n)) j := by
  pointwise [mixT, Cert.Kernel2Ideal.RefValue.mixed]

/-- The reference's feed-forward part. -/
def ffnT (h : FVec Ideal S2x8192x1024 .f32) (wg wu : FVec Ideal S1024x2816 .f32) (wd : FVec Ideal S2816x1024 .f32) : FVec Ideal S2x8192x1024 .f32 :=
  Host.dotGeneral dot_S2x8192x2816_S2816x1024_S2x8192x1024_2_0_01_1_n_n none
    (mulf (mulf (Host.dotGeneral dot_S2x8192x1024_S1024x2816_S2x8192x2816_2_0_01_1_n_n none h wg)
      (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none h wg))))))
      (Host.dotGeneral dot_S2x8192x1024_S1024x2816_S2x8192x2816_2_0_01_1_n_n none h wu)) wd

theorem ffnT_at (h : FVec Ideal S2x8192x1024 .f32) (wg wu : FVec Ideal S1024x2816 .f32) (wd : FVec Ideal S2816x1024 .f32) (b : Fin 2) (t : Fin 8192) (j : Fin 1024) :
    ffnT h wg wu wd (ix3 b t j) = ffn (fun k => h (ix3 b t k)) (fun k n => wg (ix2 k n)) (fun k n => wu (ix2 k n)) (fun n k => wd (ix2 n k)) j := by
  pointwise [ffnT, ffn, unit]

/-- Row `o` of the even layer's gains. -/
def gain1 (g : FVec Ideal S2x4x1024 .f32) : FVec Ideal S1024 .f32 :=
  shapeCast _ (extractStridedSlice S1x1x1024 ![0, 1, 0] g slices_S2x4x1024_S1x1x1024_0_1_0) shapeCasts_S1x1x1024_S1024
def gain2 (g : FVec Ideal S2x4x1024 .f32) : FVec Ideal S1024 .f32 :=
  shapeCast _ (extractStridedSlice S1x1x1024 ![0, 2, 0] g slices_S2x4x1024_S1x1x1024_0_2_0) shapeCasts_S1x1x1024_S1024
def gain3 (g : FVec Ideal S2x4x1024 .f32) : FVec Ideal S1024 .f32 :=
  shapeCast _ (extractStridedSlice S1x1x1024 ![0, 3, 0] g slices_S2x4x1024_S1x1x1024_0_3_0) shapeCasts_S1x1x1024_S1024

/-- The even layer's matrices. -/
def up0 (w : FVec Ideal S2x1024x2816 .f32) : FVec Ideal S1024x2816 .f32 :=
  shapeCast _ (extractStridedSlice S1x1024x2816 ![0, 0, 0] w slices_S2x1024x2816_S1x1024x2816_0_0_0) shapeCasts_S1x1024x2816_S1024x2816
def down0 (w : FVec Ideal S2x2816x1024 .f32) : FVec Ideal S2816x1024 .f32 :=
  shapeCast _ (extractStridedSlice S1x2816x1024 ![0, 0, 0] w slices_S2x2816x1024_S1x2816x1024_0_0_0) shapeCasts_S1x2816x1024_S2816x1024

/-- The residual sum after the mixers. -/
def midT (x : FVec Ideal S2x8192x1024 .f32) (hm hf : FVec Ideal S2x8192x512 .bf16) (g : FVec Ideal S2x4x1024 .f32)
    (wo : FVec Ideal S1x1024x1024 .f32) : FVec Ideal S2x8192x1024 .f32 :=
  addf x (normT (mixT hm hf wo) (gain1 g))

/-- The whole result as the reference composes it. -/
def outT (x : FVec Ideal S2x8192x1024 .f32) (hm hf : FVec Ideal S2x8192x512 .bf16) (g : FVec Ideal S2x4x1024 .f32)
    (wo : FVec Ideal S1x1024x1024 .f32) (wg wu : FVec Ideal S2x1024x2816 .f32) (wd : FVec Ideal S2x2816x1024 .f32) : FVec Ideal S16384x1024 .f32 :=
  shapeCast _ (addf (midT x hm hf g wo) (normT (ffnT (normT (midT x hm hf g wo) (gain2 g)) (up0 wg) (up0 wu) (down0 wd)) (gain3 g))) shapeCasts_S2x8192x1024_S16384x1024

theorem res_eq (m : (ℓ : Loc nD τ sig) → Buf (Elt Ideal) ℓ) (c : Dev nD) :
    res_main_v63 (F := Ideal) m c = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem outT_eq (x : FVec Ideal S2x8192x1024 .f32) (hm hf : FVec Ideal S2x8192x512 .bf16) (g : FVec Ideal S2x4x1024 .f32)
    (wo : FVec Ideal S1x1024x1024 .f32) (wg wu : FVec Ideal S2x1024x2816 .f32) (wd : FVec Ideal S2x2816x1024 .f32) :
    outT x hm hf g wo wg wu wd = fun i : S16384x1024.Idx => Cert.Kernel2Ideal.RefValue.outAt x hm hf g wo wg wu wd
      (Cert.Kernel2Ideal.RefValue.rowSeq (i 0)) (Cert.Kernel2Ideal.RefValue.rowTok (i 0)) (i 1) := by
  funext i
  idx_vars i
  pointwise [outT, midT, normT_at, ffnT_at, mixT_at, gain1, gain2, gain3, up0, down0, Cert.Kernel2Ideal.RefValue.outAt, Cert.Kernel2Ideal.RefValue.rowSeq, Cert.Kernel2Ideal.RefValue.rowTok, twoBlocks]

end Cert.Reference2Ideal.RefValue

end
-- ==== Proof.FfnClaim.lean ====
module

public import proofs.«01_k».proof.Defs
public import proofs.«01_k».proof.Proof.FfnValue
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.Value
public import Idealize.ShloMosaic.Lib.Quiescent

@[expose] public section

set_option maxRecDepth 16384

noncomputable section

namespace Cert.Proof.FfnClaim

open Idealize.ShloMosaic Idealize.ShloMosaic.TcCoe Idealize.SL.Sem

/-- Result 0 of the call as a function of the argument arrays. -/
def value0 (m : (ℓ : Loc Cert.Kernel2Ideal.nD Cert.Kernel2Ideal.τ Cert.Kernel2Ideal.sig) → Buf (Elt Ideal) ℓ) (c : Dev Cert.Kernel2Ideal.nD) : FVec Ideal Cert.Kernel2Ideal.S16384x1024 .f32 :=
  fun i => Cert.Kernel2Ideal.RefValue.outAt (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (Cert.Kernel2Ideal.RefValue.rowSeq (i 0)) (Cert.Kernel2Ideal.RefValue.rowTok (i 0)) (i 1)

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- The kernel's result arrays and the reference's are the same functions of the same arguments. -/
theorem algebraic : Cert.algebraic_Kernel2Ideal_Reference2Ideal := by
  intro m ρ m' ρ' _ hagree
  refine ⟨fun c => value0 m c, ?_, ?_⟩
  · refine (θ_run Cert.Kernel2Ideal.defs _ _).mono (fun _ h c => ⟨(h c).1.trans (Cert.Kernel2Ideal.RefValue.final_out m c), (h c).2⟩)
      (Cert.Kernel2Ideal.Value.run_blocks (F := Ideal) m ρ)
  · refine (θ_run Cert.Reference2Ideal.defs _ _).mono (fun _ h c => ⟨(h c).1.trans (((Cert.Reference2Ideal.RefValue.res_eq m' c).trans (Cert.Reference2Ideal.RefValue.outT_eq _ _ _ _ _ _ _ _)).trans ?_), (h c).2⟩)
      (Cert.Reference2Ideal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2.1, (hagree c).2.2.2.2.2.2.2]
      rfl

end Cert.Proof.FfnClaim

end
-- ==== Proof.HeadRows.lean ====
module

public import proofs.«01_k».proof.Proof.Rows
public import Idealize.ShloMosaic.Lib.Pointwise
public import Idealize.ShloMosaic.Lib.Claim

@[expose] public section

set_option maxRecDepth 16384

noncomputable section

/-! A row of 1024 entries as sixteen heads of 64: sums over a head, and the normalisation of a head to mean zero and variance
one, which the kernel reaches by a longer way. -/

namespace Cert.Rows

open Idealize.ShloMosaic

/-- Entry `k` of head `h` in a row. -/
def lane (h : Fin 16) (k : Fin 64) : Fin 1024 := ⟨h.val * 64 + k.val, by omega⟩

/-- The head and the place in the head of a row's entry. -/
def hd (j : Fin 1024) : Fin 16 := ⟨j.val / 64, by omega⟩
def plc (j : Fin 1024) : Fin 64 := ⟨j.val % 64, by omega⟩

theorem lane_hd (j : Fin 1024) : lane (hd j) (plc j) = j := by
  apply Fin.ext
  simp only [lane, hd, plc]
  omega

theorem hd_lane (h : Fin 16) (k : Fin 64) : hd (lane h k) = h := by
  apply Fin.ext
  simp only [lane, hd]
  omega

theorem plc_lane (h : Fin 16) (k : Fin 64) : plc (lane h k) = k := by
  apply Fin.ext
  simp only [lane, plc]
  omega

theorem sixty_four : Ideal.ofBits .f32 0x42800000#32 = ((64 : ℝ) : EReal) := by
  simp [Ideal.ofBits, Ideal.ieee, -EReal.coe_mul]; norm_num

theorem sixty_fourth : Ideal.ofBits .f32 0x3C800000#32 = ((1 / 64 : ℝ) : EReal) := by
  simp [Ideal.ofBits, Ideal.ieee, -EReal.coe_mul]; norm_num

theorem group_eps : ∃ r : ℝ, Ideal.ofBits .f32 0x3A27C5AC#32 = (r : EReal) := by
  refine ⟨10995116 / 2 ^ 34, ?_⟩
  simp [Ideal.ofBits, Ideal.ieee, -EReal.coe_mul]; norm_num

theorem div_sixty_four (x : EReal) :
    Ideal.div x (Ideal.ofBits .f32 0x42800000#32) = x * Ideal.ofBits .f32 0x3C800000#32 := by
  rw [sixty_four, sixty_fourth]
  exact Ideal.div_coe (by norm_num) x

/-- In a tile of 256 columns, the sum against the ones of a column's own head is the sum over that head. -/
theorem sum_head (f : Fin 256 → EReal) (q : Fin 4) :
    (∑ a : Fin 256, f a * (if a.val / 64 = q.val then (1 : EReal) else 0)) = ∑ k : Fin 64, f ⟨q.val * 64 + k.val, by omega⟩ := by
  rw [Fin.sum_univ_tiles 4 64 rfl (fun a : Fin 256 => f a * (if a.val / 64 = q.val then (1 : EReal) else 0))]
  rw [Finset.sum_eq_single q]
  · refine Finset.sum_congr rfl fun k _ => ?_
    have e : (q.val * 64 + k.val) / 64 = q.val := by omega
    simp only [e, if_true, mul_one]
  · intro b _ hb
    refine Finset.sum_eq_zero fun k _ => ?_
    have e : (b.val * 64 + k.val) / 64 = b.val := by omega
    have n : b.val ≠ q.val := fun h => hb (Fin.ext h)
    simp only [e, if_neg n, mul_zero]
  · intro h
    exact absurd (Finset.mem_univ q) h

/-- The same in the tile of columns that starts at column `o` of a row. -/
theorem head_tile (o : ℕ) (ho : o % 64 = 0) (hb : o + 256 ≤ 1024) (M : Fin 256 → Fin 256 → EReal)
    (hM : ∀ a b, M a b = if a.val / 64 = b.val / 64 then (1 : EReal) else 0) (f : Fin 1024 → EReal) (b : Fin 256) (j : Fin 1024)
    (hj : j.val = o + b.val) :
    (∑ a : Fin 256, f ⟨o + a.val, by omega⟩ * M a b) = ∑ k : Fin 64, f (lane (hd j) k) := by
  simp only [hM]
  refine (sum_head (fun a : Fin 256 => f ⟨o + a.val, by omega⟩) ⟨b.val / 64, by omega⟩).trans ?_
  refine Finset.sum_congr rfl fun k _ => congrArg f (Fin.ext ?_)
  simp only [lane, hd]
  omega

theorem head_tile0 (M : Fin 256 → Fin 256 → EReal)
    (hM : ∀ a b, M a b = if a.val / 64 = b.val / 64 then (1 : EReal) else 0) (f : Fin 1024 → EReal) (b : Fin 256) (j : Fin 1024)
    (hj : j.val = b.val) :
    (∑ a : Fin 256, f ⟨a.val, by omega⟩ * M a b) = ∑ k : Fin 64, f (lane (hd j) k) := by
  simp only [hM]
  refine (sum_head (fun a : Fin 256 => f ⟨a.val, by omega⟩) ⟨b.val / 64, by omega⟩).trans ?_
  refine Finset.sum_congr rfl fun k _ => congrArg f (Fin.ext ?_)
  simp only [lane, hd]
  omega

/-- The four tiles of a row laid side by side: each column holds the sum over its head. -/
theorem head_tiles (M : Fin 256 → Fin 256 → EReal)
    (hM : ∀ a b, M a b = if a.val / 64 = b.val / 64 then (1 : EReal) else 0) (f : Fin 1024 → EReal) (j : Fin 1024) :
    (if h : j.val < 256 then ∑ a : Fin 256, f ⟨a.val, by omega⟩ * M a ⟨j.val, h⟩
      else if h : j.val - 256 < 256 then ∑ a : Fin 256, f ⟨256 + a.val, by omega⟩ * M a ⟨j.val - 256, h⟩
      else if h : j.val - 256 - 256 < 256 then ∑ a : Fin 256, f ⟨512 + a.val, by omega⟩ * M a ⟨j.val - 256 - 256, h⟩
      else ∑ a : Fin 256, f ⟨768 + a.val, by omega⟩ * M a ⟨j.val - 256 - 256 - 256, by omega⟩)
      = ∑ k : Fin 64, f (lane (hd j) k) := by
  split_ifs
  · exact head_tile0 M hM f _ j rfl
  · exact head_tile 256 rfl (by omega) M hM f _ j (by simp only; omega)
  · exact head_tile 512 rfl (by omega) M hM f _ j (by simp only; omega)
  · exact head_tile 768 rfl (by omega) M hM f _ j (by simp only; omega)

/-- The same with two sums in each column. -/
theorem head_tiles2 (M : Fin 256 → Fin 256 → EReal)
    (hM : ∀ a b, M a b = if a.val / 64 = b.val / 64 then (1 : EReal) else 0) (f g : Fin 1024 → EReal) (j : Fin 1024) :
    (if h : j.val < 256 then (∑ a : Fin 256, f ⟨a.val, by omega⟩ * M a ⟨j.val, h⟩) + ∑ a : Fin 256, g ⟨a.val, by omega⟩ * M a ⟨j.val, h⟩
      else if h : j.val - 256 < 256 then (∑ a : Fin 256, f ⟨256 + a.val, by omega⟩ * M a ⟨j.val - 256, h⟩) + ∑ a : Fin 256, g ⟨256 + a.val, by omega⟩ * M a ⟨j.val - 256, h⟩
      else if h : j.val - 256 - 256 < 256 then (∑ a : Fin 256, f ⟨512 + a.val, by omega⟩ * M a ⟨j.val - 256 - 256, h⟩) + ∑ a : Fin 256, g ⟨512 + a.val, by omega⟩ * M a ⟨j.val - 256 - 256, h⟩
      else (∑ a : Fin 256, f ⟨768 + a.val, by omega⟩ * M a ⟨j.val - 256 - 256 - 256, by omega⟩) + ∑ a : Fin 256, g ⟨768 + a.val, by omega⟩ * M a ⟨j.val - 256 - 256 - 256, by omega⟩)
      = (∑ k : Fin 64, f (lane (hd j) k)) + ∑ k : Fin 64, g (lane (hd j) k) := by
  refine Eq.trans ?_ (congrArg₂ (· + ·) (head_tiles M hM f j) (head_tiles M hM g j))
  split_ifs <;> rfl

/-- The head a column of a tile of 256 belongs to, the way the kernel computes it in 32-bit integers. -/
theorem head_index : ∀ a : Fin 256, Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

theorem head_same : ∀ q r : Fin 4, IntOp.cmpi CmpIPredicate.eq (BitVec.ofNat 32 q.val) (BitVec.ofNat 32 r.val) = if q.val = r.val then 1#1 else 0#1 := by
  decide +kernel

theorem sum_bot (f : Fin 64 → EReal) (k : Fin 64) (h : f k = ⊥) : ∑ j, f j = ⊥ := by
  rw [← Finset.add_sum_erase _ _ (Finset.mem_univ k), h, EReal.bot_add]

theorem sum_top (f : Fin 64 → EReal) (n : ∀ j, f j ≠ ⊥) (k : Fin 64) (h : f k = ⊤) : ∑ j, f j = ⊤ := by
  rw [← Finset.add_sum_erase _ _ (Finset.mem_univ k), h]
  refine EReal.top_add_of_ne_bot (Finset.sum_induction f (· ≠ ⊥) (fun a b ha hb => ?_) EReal.zero_ne_bot fun j _ => n j)
  exact EReal.add_ne_bot_iff.mpr ⟨ha, hb⟩

/-- A head less its mean. -/
def spread (y : Fin 64 → EReal) (l : Fin 64) : EReal := y l - Ideal.div (∑ k, y k) (Ideal.ofBits .f32 0x42800000#32)

/-- A head brought to mean zero and variance one. -/
def normed (y : Fin 64 → EReal) (l : Fin 64) : EReal :=
  spread y l * Ideal.rsqrt (Ideal.div (∑ k, spread y k * spread y k) (Ideal.ofBits .f32 0x42800000#32) + Ideal.ofBits .f32 0x3A27C5AC#32)

/-- A head less its mean when the sum is taken in two terms, the second one of remainders. -/
def spread2 (y : Fin 64 → EReal) (l : Fin 64) : EReal :=
  y l - ((∑ k, y k) + ∑ k, (y k - y k)) * Ideal.ofBits .f32 0x3C800000#32

/-- The same head normalisation from `spread2`. -/
def normed2 (y : Fin 64 → EReal) (l : Fin 64) : EReal :=
  spread2 y l * Ideal.rsqrt ((∑ k, spread2 y k * spread2 y k) * Ideal.ofBits .f32 0x3C800000#32 + Ideal.ofBits .f32 0x3A27C5AC#32)

theorem sub_infinite (x m : EReal) (h : m = ⊤ ∨ m = ⊥) : x - m = ⊤ ∨ x - m = ⊥ := by
  rcases h with rfl | rfl <;> induction x <;> simp [sub_eq_add_neg]

/-- If every deviation is infinite, the normalised head is zero: the variance is infinite. -/
theorem scaled_infinite (d : Fin 64 → EReal) (h : ∀ k, d k = ⊤ ∨ d k = ⊥) (l : Fin 64) :
    d l * Ideal.rsqrt ((∑ k, d k * d k) * Ideal.ofBits .f32 0x3C800000#32 + Ideal.ofBits .f32 0x3A27C5AC#32) = 0 := by
  have hs : ∀ k, d k * d k = ⊤ := by
    intro k
    rcases h k with e | e <;> rw [e] <;> simp
  have ht : (∑ k, d k * d k) = ⊤ := sum_top _ (fun k => by rw [hs k]; simp) l (hs l)
  obtain ⟨r, hr⟩ := group_eps
  rw [ht, hr, sixty_fourth, EReal.top_mul_coe_of_pos (by norm_num), EReal.top_add_coe, Ideal.rsqrt_top, mul_zero]

theorem normed2_eq (y : Fin 64 → EReal) (l : Fin 64) : normed2 y l = normed y l := by
  unfold normed2 normed
  rw [div_sixty_four]
  by_cases h : ∀ k, y k ≠ ⊤ ∧ y k ≠ ⊥
  · have e : spread2 y = spread y := by
      funext k
      unfold spread2 spread
      rw [div_sixty_four, Finset.sum_eq_zero (fun k _ => EReal.sub_self (h k).1 (h k).2), add_zero]
    rw [e]
  · have hi : ∃ k, y k = ⊤ ∨ y k = ⊥ := by
      by_contra hn
      exact h fun k => ⟨fun e => hn ⟨k, .inl e⟩, fun e => hn ⟨k, .inr e⟩⟩
    have pos : (0 : ℝ) < 1 / 64 := by norm_num
    have hsum : (∑ k, y k) = ⊤ ∨ (∑ k, y k) = ⊥ := by
      by_cases hb : ∃ k, y k = ⊥
      · obtain ⟨k, hk⟩ := hb
        exact .inr (sum_bot y k hk)
      · obtain ⟨k, hk⟩ := hi
        refine .inl (sum_top y (fun j e => hb ⟨j, e⟩) k (hk.resolve_right fun e => hb ⟨k, e⟩))
    have hrem : (∑ k, (y k - y k)) = ⊥ := by
      obtain ⟨k, hk⟩ := hi
      refine sum_bot _ k ?_
      rcases hk with e | e <;> rw [e] <;> simp [sub_eq_add_neg]
    have h2 : ∀ k, spread2 y k = ⊤ ∨ spread2 y k = ⊥ := by
      intro k
      refine sub_infinite _ _ (.inr ?_)
      rw [hrem, EReal.add_bot, sixty_fourth, EReal.bot_mul_coe_of_pos pos]
    have h1 : ∀ k, spread y k = ⊤ ∨ spread y k = ⊥ := by
      intro k
      refine sub_infinite _ _ ?_
      rw [div_sixty_four, sixty_fourth]
      rcases hsum with e | e <;> rw [e]
      · exact .inl (EReal.top_mul_coe_of_pos pos)
      · exact .inr (EReal.bot_mul_coe_of_pos pos)
    rw [scaled_infinite _ h2, scaled_infinite _ h1]

/-- The recurrence's output after the group normalisation, the bonus and the gate: `y` by heads, `r`, `k`, `v` and the gate `g`
by columns. -/
def gated (y : Fin 16 → Fin 64 → EReal) (r k v g w b : Fin 1024 → EReal) (rk : Fin 16 → Fin 64 → EReal) (j : Fin 1024) : EReal :=
  (normed (y (hd j)) (plc j) * w j + b j + (∑ l : Fin 64, r (lane (hd j) l) * k (lane (hd j) l) * rk (hd j) l) * v j) * g j

/-- One entry of that through the output projection. -/
def projected (y : Fin 16 → Fin 64 → EReal) (r k v g w b : Fin 1024 → EReal) (rk : Fin 16 → Fin 64 → EReal)
    (wo : Fin 1024 → Fin 1024 → EReal) (j : Fin 1024) : EReal :=
  ∑ l : Fin 1024, gated y r k v g w b rk l * wo l j

end Cert.Rows

end
-- ==== Proof.RwkvBlock.lean ====
module

public import proofs.«01_k».proof.Proof.HeadRows
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.RefValue

open Cert.Kernel3Ideal Cert.Kernel3Ideal.Gen Cert.Rows
open Idealize.ShloMosaic Idealize.ShloMosaic.TcCoe Idealize.SL.Sem
open Idealize.ShloMosaic.Pipeline (Dat)

/-- The matrix of ones on the diagonal blocks of 64, zeros elsewhere. -/
theorem mask_at (a b : Fin 256) :
    k0_pay6 (F := Ideal) k0_pay2 k0_pay3 k0_pay4 k0_pay5 (ix2 a b) = if a.val / 64 = b.val / 64 then (1 : EReal) else 0 := by
  pointwise [k0_pay6, k0_pay2, k0_pay3, k0_pay4, k0_pay5]
  rw [head_index a, head_index b, head_same ⟨a.val / 64, by omega⟩ ⟨b.val / 64, by omega⟩]
  split_ifs <;> rfl

theorem pay7_at (x : FVec Ideal S512x1024 .f32) (p : Fin 512) (j : Fin 1024) :
    k0_pay7 (F := Ideal) k0_pay2 k0_pay3 k0_pay4 k0_pay5 x (ix2 p j) = spread2 (fun k => x (ix2 p (lane (hd j) k))) (plc j) := by
  have hM := mask_at
  generalize hM' : k0_pay6 (F := Ideal) k0_pay2 k0_pay3 k0_pay4 k0_pay5 = M at hM
  pointwise [k0_pay7, hM']
  unfold spread2
  rw [head_tiles2 (fun a b => M (ix2 a b)) hM (fun i => x (ix2 p i)) (fun i => x (ix2 p i) - x (ix2 p i)) j]
  simp only [lane_hd]

theorem pay11_at (x : FVec Ideal S512x1024 .f32) (w b : FVec Ideal S1x1024 .f32) (p : Fin 512) (j : Fin 1024) :
    k0_pay11 (F := Ideal) (k0_pay6 k0_pay2 k0_pay3 k0_pay4 k0_pay5) (k0_pay7 k0_pay2 k0_pay3 k0_pay4 k0_pay5 x)
        (k0_pay8 k0_pay2 k0_pay3 k0_pay4 k0_pay5 x) (k0_pay9 k0_pay2 k0_pay3 k0_pay4 k0_pay5 x)
        (k0_pay10 k0_pay2 k0_pay3 k0_pay4 k0_pay5 x) (constant S512x256 .f32 0x00000000#32) w b (ix2 p j)
      = normed (fun k => x (ix2 p (lane (hd j) k))) (plc j) * w (ix2 0 j) + b (ix2 0 j) := by
  have hM := mask_at
  have hD := pay7_at x p
  generalize hD' : k0_pay7 (F := Ideal) k0_pay2 k0_pay3 k0_pay4 k0_pay5 x = D at hD
  generalize hM' : k0_pay6 (F := Ideal) k0_pay2 k0_pay3 k0_pay4 k0_pay5 = M at hM
  pointwise [k0_pay11, k0_pay10, k0_pay9, k0_pay8, hM', hD']
  rw [head_tiles (fun a b => M (ix2 a b)) hM (fun i => D (ix2 p i) * D (ix2 p i)) j, ← normed2_eq]
  simp only [hD, hd_lane, plc_lane]
  rfl

theorem pay12_at (r k : FVec Ideal S512x1024 .bf16) (w : FVec Ideal S1x1024 .f32) (p : Fin 512) (j : Fin 1024) :
    k0_pay12 (F := Ideal) (k0_pay6 k0_pay2 k0_pay3 k0_pay4 k0_pay5) r k w (ix2 p j)
      = ∑ l : Fin 64, r (ix2 p (lane (hd j) l)) * k (ix2 p (lane (hd j) l)) * w (ix2 0 (lane (hd j) l)) := by
  have hM := mask_at
  generalize hM' : k0_pay6 (F := Ideal) k0_pay2 k0_pay3 k0_pay4 k0_pay5 = M at hM
  pointwise [k0_pay12]
  exact head_tiles (fun a b => M (ix2 a b)) hM (fun i => r (ix2 p i) * k (ix2 p i) * w (ix2 0 i)) j

variable (x0 x1 : FVec Ideal S512x1024 .f32) (x2 x3 x4 x5 : FVec Ideal S512x1024 .bf16) (x6 : FVec Ideal S8x1024 .f32)
  (x7 : FVec Ideal S1024x1024 .bf16) (x8 : FVec Ideal S3x1024 .f32) (x9 x10 : FVec Ideal S1024x2816 .bf16) (x11 : FVec Ideal S2816x1024 .bf16)

theorem pay39_at (p : Fin 512) (j : Fin 1024) :
    k0_pay39 (F := Ideal) x0 x1 x2 x3 x4 x5 x6 x7 x8 x9 x10 x11 (ix2 p j)
      = normed (fun k => x1 (ix2 p (lane (hd j) k))) (plc j) * x6 (ix2 0 j) + x6 (ix2 1 j) := by
  unfold k0_pay39 k0_pay38 k0_pay37 k0_pay36 k0_pay35 k0_pay34
  refine (pay11_at _ _ _ p j).trans ?_
  pointwise

theorem pay40_at (p : Fin 512) (j : Fin 1024) :
    k0_pay40 (F := Ideal) x0 x1 x2 x3 x4 x5 x6 x7 x8 x9 x10 x11 (ix2 p j)
      = ∑ l : Fin 64, x2 (ix2 p (lane (hd j) l)) * x3 (ix2 p (lane (hd j) l)) * x6 (ix2 2 (lane (hd j) l)) := by
  unfold k0_pay40 k0_pay38 k0_pay37 k0_pay36 k0_pay35 k0_pay34
  refine (pay12_at _ _ _ p j).trans ?_
  pointwise

/-- Row `p` of the projected recurrence of a block. -/
def vRow (p : Fin 512) : Fin 1024 → EReal :=
  projected (fun h k => x1 (ix2 p (lane h k))) (fun n => x2 (ix2 p n)) (fun n => x3 (ix2 p n)) (fun n => x4 (ix2 p n)) (fun n => x5 (ix2 p n))
    (fun n => x6 (ix2 0 n)) (fun n => x6 (ix2 1 n)) (fun h k => x6 (ix2 2 (lane h k))) (fun k n => x7 (ix2 k n))

/-- Row `p` of a block after the first residual sum. -/
def xRow (p : Fin 512) (j : Fin 1024) : EReal :=
  x0 (ix2 p j) + rms (vRow x1 x2 x3 x4 x5 x6 x7 p) (fun k => x8 (ix2 0 k)) j

theorem pay13_at (p : Fin 512) (j : Fin 1024) :
    k0_pay13 (F := Ideal) (k0_pay39 x0 x1 x2 x3 x4 x5 x6 x7 x8 x9 x10 x11) (k0_pay40 x0 x1 x2 x3 x4 x5 x6 x7 x8 x9 x10 x11) (View.ld x4 r0_0) (View.ld x5 r0_0) (View.ld x7 r0_4) (View.ld x0 r0_0) (View.ld x8 r0_5) (ix2 p j)
      = xRow x0 x1 x2 x3 x4 x5 x6 x7 x8 p j := by
  pointwise [k0_pay13, pay39_at, pay40_at, xRow, rms, vRow, projected, gated]

theorem pay42_at (p : Fin 512) (j : Fin 1024) :
    k0_pay42 (F := Ideal) x0 x1 x2 x3 x4 x5 x6 x7 x8 x9 x10 x11 (ix2 p j) * x8 (ix2 1 j)
      = rms (xRow x0 x1 x2 x3 x4 x5 x6 x7 x8 p) (fun k => x8 (ix2 1 k)) j := by
  unfold k0_pay42 rms
  pointwise [k0_pay15, pay13_at]

theorem pay43_at (p : Fin 512) (j : Fin 1024) :
    k0_pay43 (F := Ideal) x0 x1 x2 x3 x4 x5 x6 x7 x8 x9 x10 x11 (ix2 p j)
      = rms (xRow x0 x1 x2 x3 x4 x5 x6 x7 x8 p) (fun k => x8 (ix2 1 k)) j := by
  refine Eq.trans ?_ (pay42_at x0 x1 x2 x3 x4 x5 x6 x7 x8 x9 x10 x11 p j)
  pointwise [k0_pay43, k0_pay16, k0_pay41, k0_pay14]

theorem pay16_at (p : Fin 512) (j : Fin 1024) :
    k0_pay16 (F := Ideal) (k0_pay41 x0 x1 x2 x3 x4 x5 x6 x7 x8 x9 x10 x11) (k0_pay42 x0 x1 x2 x3 x4 x5 x6 x7 x8 x9 x10 x11) (ix2 p j)
      = rms (xRow x0 x1 x2 x3 x4 x5 x6 x7 x8 p) (fun k => x8 (ix2 1 k)) j :=
  pay43_at x0 x1 x2 x3 x4 x5 x6 x7 x8 x9 x10 x11 p j

/-- A block of the result, row by row. -/
theorem block_at (p : Fin 512) (j : Fin 1024) :
    out0_12 (F := Ideal) x0 x1 x2 x3 x4 x5 x6 x7 x8 x9 x10 x11 (ix2 p j)
      = twoBlocks (fun k => x0 (ix2 p k)) (vRow x1 x2 x3 x4 x5 x6 x7 p) (fun k => x8 (ix2 0 k)) (fun k => x8 (ix2 1 k)) (fun k => x8 (ix2 2 k))
          (fun k n => x9 (ix2 k n)) (fun k n => x10 (ix2 k n)) (fun n k => x11 (ix2 n k)) j := by
  unfold out0_12
  rw [View.canon_unit_zero (by funext a; fin_cases a <;> rfl)]
  generalize hY : k0_pay33 (F := Ideal) _ _ _ _ _ _ _ _ = Y
  have hr : ∀ i : Fin 1024, Y (ix2 p i) = ffn (rms (xRow x0 x1 x2 x3 x4 x5 x6 x7 x8 p) (fun k => x8 (ix2 1 k))) (fun k n => x9 (ix2 k n)) (fun k n => x10 (ix2 k n)) (fun n k => x11 (ix2 n k)) i := by
    intro i
    rw [ffn_tiles, ← hY]
    pointwise [k0_pay33, k0_pay32, k0_pay31, k0_pay30, k0_pay29, k0_pay28, k0_pay27, k0_pay26, k0_pay25, k0_pay24, k0_pay23, k0_pay22, k0_pay21, k0_pay20, k0_pay19, k0_pay18, k0_pay17, pay16_at, pay43_at, tile, unit]
    simp only [zero_sub, zero_add]
  pointwise [k0_pay1, hr, pay13_at, twoBlocks, xRow, rms]
  rfl

end Cert.Kernel3Ideal.RefValue

end
-- ==== Proof.RwkvValue.lean ====
module

public import proofs.«01_k».proof.Proof.RwkvBlock
public import proofs.«01_k».proof.Proof.Gen.Reference3Ideal.Run
public import Idealize.ShloMosaic.Lib.Claim

@[expose] public section

set_option maxRecDepth 16384

noncomputable section

namespace Cert.Kernel3Ideal.RefValue

open Cert.Kernel3Ideal Cert.Kernel3Ideal.Gen Cert.Rows
open Idealize.ShloMosaic Idealize.ShloMosaic.TcCoe Idealize.SL.Sem
open Idealize.ShloMosaic.Pipeline (Dat)

/-- One entry of the odd layer's output: token `t` of sequence `s`. -/
def outAt (x : FVec Ideal S2x8192x1024 .f32) (y : FVec Ideal S2x8192x16x64 .f32) (r k v g : FVec Ideal S2x8192x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32)
    (s : Fin 2) (t : Fin 8192) (j : Fin 1024) : EReal :=
  twoBlocks (fun n => x (ix3 s t n))
    (projected (fun h l => y (ix4 s t h l)) (fun n => r (ix3 s t n)) (fun n => k (ix3 s t n)) (fun n => v (ix3 s t n)) (fun n => g (ix3 s t n))
      (fun n => w (ix2 0 n)) (fun n => b (ix2 0 n)) (fun h l => rk (ix3 0 h l)) (fun i n => wo (ix3 0 i n)))
    (fun n => ng (ix3 1 1 n)) (fun n => ng (ix3 1 2 n)) (fun n => ng (ix3 1 3 n))
    (fun i n => wg (ix3 1 i n)) (fun i n => wu (ix3 1 i n)) (fun i n => wd (ix3 1 i n)) j

/-- The sequence and the token of row `r` of the flattened activations. -/
def rowSeq (r : Fin 16384) : Fin 2 := ⟨r.val / 8192, by omega⟩
def rowTok (r : Fin 16384) : Fin 8192 := ⟨r.val % 8192, by omega⟩

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0]
    ∧ t.val < 32 :=
  (by decide +kernel : ∀ t : Fin grid0.N, _)

theorem point_lt (t : Fin cfg0.N) : t.val < 32 := (idx t).2.2.2.2.2.2.2.2.2.2.2.2.2

/-- The sequence and the token of row `p` of a grid point's blocks. -/
def seqOf (t : Fin cfg0.N) (p : Fin 512) : Fin 2 := ⟨(t.val * 512 + p.val) / 8192, by have := point_lt t; omega⟩
def tokOf (t : Fin cfg0.N) (p : Fin 512) : Fin 8192 := ⟨(t.val * 512 + p.val) % 8192, by omega⟩

theorem blk0 (c : Dev nD) (t : Fin cfg0.N) (p : Fin 512) (n : Fin 1024) :
    (iblk m c 0 t : FVec Ideal S512x1024 .f32) (ix2 p n)
      = (m ((c : Thread nD τ).loc main_arg0) : FVec Ideal S2x8192x1024 .f32) (ix3 (seqOf t p) (tokOf t p) n) := by
  blk_simp [iblk]
  entry_read
  pointwise
  blk_ext [seqOf, tokOf, idx t]

theorem blk1 (c : Dev nD) (t : Fin cfg0.N) (p : Fin 512) (h : Fin 16) (l : Fin 64) :
    (iblk m c 1 t : FVec Ideal S512x1024 .f32) (ix2 p (lane h l))
      = (m ((c : Thread nD τ).loc main_arg1) : FVec Ideal S2x8192x16x64 .f32) (ix4 (seqOf t p) (tokOf t p) h l) := by
  blk_simp [iblk]
  entry_read
  pointwise
  blk_ext [seqOf, tokOf, lane, idx t]

theorem blk2 (c : Dev nD) (t : Fin cfg0.N) (p : Fin 512) (n : Fin 1024) :
    (iblk m c 2 t : FVec Ideal S512x1024 .bf16) (ix2 p n)
      = (m ((c : Thread nD τ).loc main_arg2) : FVec Ideal S2x8192x1024 .bf16) (ix3 (seqOf t p) (tokOf t p) n) := by
  blk_simp [iblk]
  entry_read
  pointwise
  blk_ext [seqOf, tokOf, idx t]

theorem blk3 (c : Dev nD) (t : Fin cfg0.N) (p : Fin 512) (n : Fin 1024) :
    (iblk m c 3 t : FVec Ideal S512x1024 .bf16) (ix2 p n)
      = (m ((c : Thread nD τ).loc main_arg3) : FVec Ideal S2x8192x1024 .bf16) (ix3 (seqOf t p) (tokOf t p) n) := by
  blk_simp [iblk]
  entry_read
  pointwise
  blk_ext [seqOf, tokOf, idx t]

theorem blk4 (c : Dev nD) (t : Fin cfg0.N) (p : Fin 512) (n : Fin 1024) :
    (iblk m c 4 t : FVec Ideal S512x1024 .bf16) (ix2 p n)
      = (m ((c : Thread nD τ).loc main_arg4) : FVec Ideal S2x8192x1024 .bf16) (ix3 (seqOf t p) (tokOf t p) n) := by
  blk_simp [iblk]
  entry_read
  pointwise
  blk_ext [seqOf, tokOf, idx t]

theorem blk5 (c : Dev nD) (t : Fin cfg0.N) (p : Fin 512) (n : Fin 1024) :
    (iblk m c 5 t : FVec Ideal S512x1024 .bf16) (ix2 p n)
      = (m ((c : Thread nD τ).loc main_arg5) : FVec Ideal S2x8192x1024 .bf16) (ix3 (seqOf t p) (tokOf t p) n) := by
  blk_simp [iblk]
  entry_read
  pointwise
  blk_ext [seqOf, tokOf, idx t]

/-- The three vectors the kernel reads, stacked by the host code. -/
theorem vecs (c : Dev nD) : (V m c main_v8 : FVec Ideal S8x1024 .f32) = concatenate S8x1024 0 [⟨S1x1024, (m ((c : Thread nD τ).loc main_arg6) : FVec Ideal S1x1024 .f32)⟩, ⟨S1x1024, (m ((c : Thread nD τ).loc main_arg7) : FVec Ideal S1x1024 .f32)⟩, ⟨S1x1024, shapeCast S1x1024 (m ((c : Thread nD τ).loc main_arg8) : FVec Ideal S1x16x64 .f32) shapeCasts_S1x16x64_S1x1024⟩, ⟨S5x1024, (broadcastInDim S5x1024 ![] bcast_S_S5x1024 (constant S_ .f32 0x00000000#32) : FVec Ideal S5x1024 .f32)⟩] concatenates_S1x1024_S1x1024_S1x1024_S5x1024_S8x1024_d0 := by
  unfold V
  after_results
  rfl

theorem blk6 (c : Dev nD) (t : Fin cfg0.N) (a : Fin 8) (n : Fin 1024) :
    (iblk m c 6 t : FVec Ideal S8x1024 .f32) (ix2 a n) = (V m c main_v8 : FVec Ideal S8x1024 .f32) (ix2 a n) := by
  blk_simp [iblk]
  blk_ext [idx t]

theorem blk6a (c : Dev nD) (t : Fin cfg0.N) (n : Fin 1024) :
    (iblk m c 6 t : FVec Ideal S8x1024 .f32) (ix2 0 n)
      = (m ((c : Thread nD τ).loc main_arg6) : FVec Ideal S1x1024 .f32) (ix2 0 n) := by
  rw [blk6, vecs]
  pointwise

theorem blk6b (c : Dev nD) (t : Fin cfg0.N) (n : Fin 1024) :
    (iblk m c 6 t : FVec Ideal S8x1024 .f32) (ix2 1 n)
      = (m ((c : Thread nD τ).loc main_arg7) : FVec Ideal S1x1024 .f32) (ix2 0 n) := by
  rw [blk6, vecs]
  pointwise

theorem blk6c (c : Dev nD) (t : Fin cfg0.N) (h : Fin 16) (l : Fin 64) :
    (iblk m c 6 t : FVec Ideal S8x1024 .f32) (ix2 2 (lane h l))
      = (m ((c : Thread nD τ).loc main_arg8) : FVec Ideal S1x16x64 .f32) (ix3 0 h l) := by
  rw [blk6, vecs]
  pointwise [lane]

theorem blk7 (c : Dev nD) (t : Fin cfg0.N) (k n : Fin 1024) :
    (iblk m c 7 t : FVec Ideal S1024x1024 .bf16) (ix2 k n)
      = (m ((c : Thread nD τ).loc main_arg9) : FVec Ideal S1x1024x1024 .f32) (ix3 0 k n) := by
  blk_simp [iblk]
  entry_read
  pointwise
  blk_ext [idx t]

theorem blk8 (c : Dev nD) (t : Fin cfg0.N) (k : Fin 3) (n : Fin 1024) :
    (iblk m c 8 t : FVec Ideal S3x1024 .f32) (ix2 k n)
      = (m ((c : Thread nD τ).loc main_arg10) : FVec Ideal S2x4x1024 .f32) (ix3 1 ⟨1 + k.val, by omega⟩ n) := by
  blk_simp [iblk]
  entry_read
  pointwise
  blk_ext [idx t]

theorem blk9 (c : Dev nD) (t : Fin cfg0.N) (k : Fin 1024) (n : Fin 2816) :
    (iblk m c 9 t : FVec Ideal S1024x2816 .bf16) (ix2 k n)
      = (m ((c : Thread nD τ).loc main_arg11) : FVec Ideal S2x1024x2816 .f32) (ix3 1 k n) := by
  blk_simp [iblk]
  entry_read
  pointwise
  blk_ext [idx t]

theorem blk10 (c : Dev nD) (t : Fin cfg0.N) (k : Fin 1024) (n : Fin 2816) :
    (iblk m c 10 t : FVec Ideal S1024x2816 .bf16) (ix2 k n)
      = (m ((c : Thread nD τ).loc main_arg12) : FVec Ideal S2x1024x2816 .f32) (ix3 1 k n) := by
  blk_simp [iblk]
  entry_read
  pointwise
  blk_ext [idx t]

theorem blk11 (c : Dev nD) (t : Fin cfg0.N) (k : Fin 2816) (n : Fin 1024) :
    (iblk m c 11 t : FVec Ideal S2816x1024 .bf16) (ix2 k n)
      = (m ((c : Thread nD τ).loc main_arg13) : FVec Ideal S2x2816x1024 .f32) (ix3 1 k n) := by
  blk_simp [iblk]
  entry_read
  pointwise
  blk_ext [idx t]

theorem block_out (c : Dev nD) (t : Fin cfg0.N) (p : Fin 512) (j : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (seqOf t p) (tokOf t p) j := by
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p j).trans ?_
  unfold vRow outAt
  simp only [blk0, blk1, blk2, blk3, blk4, blk5, blk6a, blk6b, blk6c, blk7, blk8, blk9, blk10, blk11]
  rfl

theorem final_out (c : Dev nD) : (dats m 0 c).arrAt 12 (cfgs 0).N
    = fun i : S16384x1024.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowSeq (i 0)) (rowTok (i 0)) (i 1) := by
  refine (dats m 0 c).arrAt_eq_of_covers 12 _ (by decide +kernel) fun t _ y => ?_
  blk_simp
  rw [after0_12]
  idx_vars y
  refine (block_out m c t y0 y1).trans ?_
  have e : ((View.whole main_v22).slice (win0_12.rect t)).emb (ix2 y0 y1) = (ix2 ⟨t.val * 512 + y0.val, by have := point_lt t; omega⟩ y1 : S16384x1024.Idx) := by
    blk_ext [idx t]
  simp only [e]
  rfl

end Cert.Kernel3Ideal.RefValue

namespace Cert.Reference3Ideal.RefValue

open Cert.Reference3Ideal Cert.Reference3Ideal.Gen Cert.Reference3Ideal.Value Cert.Rows
open Idealize.ShloMosaic Idealize.ShloMosaic.TcCoe Idealize.SL.Sem

/-- The reference's normalisation of an array with gains `g`, operation by operation. -/
def normT (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf y y) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

theorem normT_at (y : FVec Ideal S2x8192x1024 .f32) (g : FVec Ideal S1024 .f32) (b : Fin 2) (t : Fin 8192) (j : Fin 1024) :
    normT y g (ix3 b t j) = rms (fun k => y (ix3 b t k)) (fun k => g (ix1 k)) j := by
  pointwise [normT, rms]

/-- The reference's mean over each head, and its arrays less that mean. -/
def meanT (y : FVec Ideal S2x8192x16x64 .f32) : FVec Ideal S2x8192x16x1 .f32 :=
  Host.divf (broadcastInDim S2x8192x16x1 ![0, 1, 2] bcast_S2x8192x16_S2x8192x16x1_0_1_2 (Host.reduceAdd y (constant S_ .f32 0x00000000#32) reducesTo_S2x8192x16x64_S2x8192x16_d3 h_S_)) (broadcastInDim S2x8192x16x1 ![] bcast_S_S2x8192x16x1 (constant S_ .f32 0x42800000#32))
def spreadT (y : FVec Ideal S2x8192x16x64 .f32) : FVec Ideal S2x8192x16x64 .f32 :=
  subf y (broadcastInDim S2x8192x16x64 ![0, 1, 2, 3] bcast_S2x8192x16x1_S2x8192x16x64_0_1_2_3 (meanT y))

theorem spreadT_at (y : FVec Ideal S2x8192x16x64 .f32) (b : Fin 2) (t : Fin 8192) (h : Fin 16) (l : Fin 64) :
    spreadT y (ix4 b t h l) = spread (fun k => y (ix4 b t h k)) l := by
  pointwise [spreadT, meanT, spread]

/-- The reference's normalisation of each head. -/
def headT (y : FVec Ideal S2x8192x16x64 .f32) : FVec Ideal S2x8192x16x64 .f32 :=
  mulf (spreadT y) (broadcastInDim S2x8192x16x64 ![0, 1, 2, 3] bcast_S2x8192x16x1_S2x8192x16x64_0_1_2_3 (Host.rsqrt (addf (meanT (mulf (spreadT y) (spreadT y))) (broadcastInDim S2x8192x16x1 ![] bcast_S_S2x8192x16x1 (constant S_ .f32 0x3A27C5AC#32)))))

theorem headT_at (y : FVec Ideal S2x8192x16x64 .f32) (b : Fin 2) (t : Fin 8192) (h : Fin 16) (l : Fin 64) :
    headT y (ix4 b t h l) = normed (fun k => y (ix4 b t h k)) l := by
  pointwise [headT, meanT, normed, spreadT_at]

/-- The reference's bonus: the product of `r`, `k` and the head's weights, summed over the head, times `v`. -/
def bonusT (r k v : FVec Ideal S2x8192x1024 .bf16) (rk : FVec Ideal S1x16x64 .f32) : FVec Ideal S2x8192x16x64 .f32 :=
  mulf (broadcastInDim S2x8192x16x64 ![0, 1, 2, 3] bcast_S2x8192x16x1_S2x8192x16x64_0_1_2_3 (broadcastInDim S2x8192x16x1 ![0, 1, 2] bcast_S2x8192x16_S2x8192x16x1_0_1_2 (Host.reduceAdd (mulf (mulf (shapeCast _ (extf .f32 r bitsLt_bf16_f32) shapeCasts_S2x8192x1024_S2x8192x16x64) (shapeCast _ (extf .f32 k bitsLt_bf16_f32) shapeCasts_S2x8192x1024_S2x8192x16x64)) (broadcastInDim S2x8192x16x64 ![0, 1, 2, 3] bcast_S1x1x16x64_S2x8192x16x64_0_1_2_3 (broadcastInDim S1x1x16x64 ![2, 3] bcast_S16x64_S1x1x16x64_2_3 (shapeCast _ rk shapeCasts_S1x16x64_S16x64)))) (constant S_ .f32 0x00000000#32) reducesTo_S2x8192x16x64_S2x8192x16_d3 h_S_))) (shapeCast _ (extf .f32 v bitsLt_bf16_f32) shapeCasts_S2x8192x1024_S2x8192x16x64)

theorem bonusT_at (r k v : FVec Ideal S2x8192x1024 .bf16) (rk : FVec Ideal S1x16x64 .f32) (b : Fin 2) (t : Fin 8192) (h : Fin 16) (l : Fin 64) :
    bonusT r k v rk (ix4 b t h l)
      = (∑ i : Fin 64, r (ix3 b t (lane h i)) * k (ix3 b t (lane h i)) * rk (ix3 0 h i)) * v (ix3 b t (lane h l)) := by
  pointwise [bonusT, lane]

/-- The reference's recurrence output after the group normalisation, the bonus, the gate and the output projection. -/
def mixT (y : FVec Ideal S2x8192x16x64 .f32) (r k v g : FVec Ideal S2x8192x1024 .bf16)
    (w b : FVec Ideal S1x1024 .f32) (rk : FVec Ideal S1x16x64 .f32) (wo : FVec Ideal S1x1024x1024 .f32) : FVec Ideal S2x8192x1024 .f32 :=
  Host.dotGeneral dot_S2x8192x1024_S1024x1024_S2x8192x1024_2_0_01_1_n_n none
    (mulf (addf (addf (mulf (shapeCast _ (headT y) shapeCasts_S2x8192x16x64_S2x8192x1024) (broadcastInDim S2x8192x1024 ![0, 1, 2] bcast_S1x1x1024_S2x8192x1024_0_1_2 (broadcastInDim S1x1x1024 ![2] bcast_S1024_S1x1x1024_2 (shapeCast _ w shapeCasts_S1x1024_S1024)))) (broadcastInDim S2x8192x1024 ![0, 1, 2] bcast_S1x1x1024_S2x8192x1024_0_1_2 (broadcastInDim S1x1x1024 ![2] bcast_S1024_S1x1x1024_2 (shapeCast _ b shapeCasts_S1x1024_S1024)))) (shapeCast _ (bonusT r k v rk) shapeCasts_S2x8192x16x64_S2x8192x1024)) (extf .f32 g bitsLt_bf16_f32))
    (shapeCast _ wo shapeCasts_S1x1024x1024_S1024x1024)

theorem mixT_at (y : FVec Ideal S2x8192x16x64 .f32) (r k v g : FVec Ideal S2x8192x1024 .bf16)
    (w b : FVec Ideal S1x1024 .f32) (rk : FVec Ideal S1x16x64 .f32) (wo : FVec Ideal S1x1024x1024 .f32) (s : Fin 2) (t : Fin 8192) (j : Fin 1024) :
    mixT y r k v g w b rk wo (ix3 s t j)
      = projected (fun h l => y (ix4 s t h l)) (fun n => r (ix3 s t n)) (fun n => k (ix3 s t n)) (fun n => v (ix3 s t n)) (fun n => g (ix3 s t n))
      (fun n => w (ix2 0 n)) (fun n => b (ix2 0 n)) (fun h l => rk (ix3 0 h l)) (fun i n => wo (ix3 0 i n)) j := by
  unfold projected
  pointwise [mixT, headT_at, bonusT_at, gated, hd, plc, lane]
  simp only [Nat.div_add_mod']

/-- The reference's feed-forward part. -/
def ffnT (h : FVec Ideal S2x8192x1024 .f32) (wg wu : FVec Ideal S1024x2816 .f32) (wd : FVec Ideal S2816x1024 .f32) : FVec Ideal S2x8192x1024 .f32 :=
  Host.dotGeneral dot_S2x8192x2816_S2816x1024_S2x8192x1024_2_0_01_1_n_n none
    (mulf (mulf (Host.dotGeneral dot_S2x8192x1024_S1024x2816_S2x8192x2816_2_0_01_1_n_n none h wg)
      (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none h wg))))))
      (Host.dotGeneral dot_S2x8192x1024_S1024x2816_S2x8192x2816_2_0_01_1_n_n none h wu)) wd

theorem ffnT_at (h : FVec Ideal S2x8192x1024 .f32) (wg wu : FVec Ideal S1024x2816 .f32) (wd : FVec Ideal S2816x1024 .f32) (b : Fin 2) (t : Fin 8192) (j : Fin 1024) :
    ffnT h wg wu wd (ix3 b t j) = ffn (fun k => h (ix3 b t k)) (fun k n => wg (ix2 k n)) (fun k n => wu (ix2 k n)) (fun n k => wd (ix2 n k)) j := by
  pointwise [ffnT, ffn, unit]

/-- The odd layer's gains. -/
def gain1 (g : FVec Ideal S2x4x1024 .f32) : FVec Ideal S1024 .f32 :=
  shapeCast _ (extractStridedSlice S1x1x1024 ![1, 1, 0] g slices_S2x4x1024_S1x1x1024_1_1_0) shapeCasts_S1x1x1024_S1024
def gain2 (g : FVec Ideal S2x4x1024 .f32) : FVec Ideal S1024 .f32 :=
  shapeCast _ (extractStridedSlice S1x1x1024 ![1, 2, 0] g slices_S2x4x1024_S1x1x1024_1_2_0) shapeCasts_S1x1x1024_S1024
def gain3 (g : FVec Ideal S2x4x1024 .f32) : FVec Ideal S1024 .f32 :=
  shapeCast _ (extractStridedSlice S1x1x1024 ![1, 3, 0] g slices_S2x4x1024_S1x1x1024_1_3_0) shapeCasts_S1x1x1024_S1024

/-- The odd layer's matrices. -/
def up1 (w : FVec Ideal S2x1024x2816 .f32) : FVec Ideal S1024x2816 .f32 :=
  shapeCast _ (extractStridedSlice S1x1024x2816 ![1, 0, 0] w slices_S2x1024x2816_S1x1024x2816_1_0_0) shapeCasts_S1x1024x2816_S1024x2816
def down1 (w : FVec Ideal S2x2816x1024 .f32) : FVec Ideal S2816x1024 .f32 :=
  shapeCast _ (extractStridedSlice S1x2816x1024 ![1, 0, 0] w slices_S2x2816x1024_S1x2816x1024_1_0_0) shapeCasts_S1x2816x1024_S2816x1024

/-- The residual sum after the recurrence's block. -/
def midT (x : FVec Ideal S2x8192x1024 .f32) (y : FVec Ideal S2x8192x16x64 .f32) (r k v g : FVec Ideal S2x8192x1024 .bf16)
    (w b : FVec Ideal S1x1024 .f32) (rk : FVec Ideal S1x16x64 .f32) (wo : FVec Ideal S1x1024x1024 .f32) (ng : FVec Ideal S2x4x1024 .f32) : FVec Ideal S2x8192x1024 .f32 :=
  addf x (normT (mixT y r k v g w b rk wo) (gain1 ng))

/-- The whole result as the reference composes it. -/
def outT (x : FVec Ideal S2x8192x1024 .f32) (y : FVec Ideal S2x8192x16x64 .f32) (r k v g : FVec Ideal S2x8192x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32) : FVec Ideal S16384x1024 .f32 :=
  shapeCast _ (addf (midT x y r k v g w b rk wo ng) (normT (ffnT (normT (midT x y r k v g w b rk wo ng) (gain2 ng)) (up1 wg) (up1 wu) (down1 wd)) (gain3 ng))) shapeCasts_S2x8192x1024_S16384x1024

theorem outT_eq (x : FVec Ideal S2x8192x1024 .f32) (y : FVec Ideal S2x8192x16x64 .f32) (r k v g : FVec Ideal S2x8192x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32) :
    outT x y r k v g w b rk wo ng wg wu wd = fun i : S16384x1024.Idx => Cert.Kernel3Ideal.RefValue.outAt x y r k v g w b rk wo ng wg wu wd
      (Cert.Kernel3Ideal.RefValue.rowSeq (i 0)) (Cert.Kernel3Ideal.RefValue.rowTok (i 0)) (i 1) := by
  funext i
  idx_vars i
  pointwise [outT, midT, normT_at, ffnT_at, mixT_at, gain1, gain2, gain3, up1, down1, Cert.Kernel3Ideal.RefValue.outAt, Cert.Kernel3Ideal.RefValue.rowSeq, Cert.Kernel3Ideal.RefValue.rowTok, twoBlocks]

end Cert.Reference3Ideal.RefValue

end
-- ==== Proof.RwkvClaim.lean ====
module

public import proofs.«01_k».proof.Defs
public import proofs.«01_k».proof.Proof.RwkvValue
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.Value
public import Idealize.ShloMosaic.Lib.Quiescent

@[expose] public section

set_option maxRecDepth 16384

noncomputable section

namespace Cert.Proof.RwkvClaim

open Idealize.ShloMosaic Idealize.ShloMosaic.TcCoe Idealize.SL.Sem

/-- Result 0 of the call as a function of the argument arrays. -/
def value0 (m : (ℓ : Loc Cert.Kernel3Ideal.nD Cert.Kernel3Ideal.τ Cert.Kernel3Ideal.sig) → Buf (Elt Ideal) ℓ) (c : Dev Cert.Kernel3Ideal.nD) : FVec Ideal Cert.Kernel3Ideal.S16384x1024 .f32 :=
  fun i => Cert.Kernel3Ideal.RefValue.outAt (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (Cert.Kernel3Ideal.RefValue.rowSeq (i 0)) (Cert.Kernel3Ideal.RefValue.rowTok (i 0)) (i 1)

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

/-- The kernel's result arrays and the reference's are the same functions of the same arguments. -/
theorem algebraic : Cert.algebraic_Kernel3Ideal_Reference3Ideal := by
  intro m ρ m' ρ' _ hagree
  refine ⟨fun c => value0 m c, ?_, ?_⟩
  · refine (θ_run Cert.Kernel3Ideal.defs _ _).mono (fun _ h c => ⟨(h c).1.trans (Cert.Kernel3Ideal.RefValue.final_out m c), (h c).2⟩)
      (Cert.Kernel3Ideal.Value.run_blocks (F := Ideal) m ρ)
  · refine (θ_run Cert.Reference3Ideal.defs _ _).mono (fun _ h c => ⟨(h c).1.trans ((Cert.Reference3Ideal.RefValue.outT_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10)) (m' ((c.tc : Thread Cert.Reference3Ideal.nD Cert.Reference3Ideal.τ).loc Cert.Reference3Ideal.main_arg11)) (m' ((c.tc : Thread Cert.Reference3Ideal.nD Cert.Reference3Ideal.τ).loc Cert.Reference3Ideal.main_arg12)) (m' ((c.tc : Thread Cert.Reference3Ideal.nD Cert.Reference3Ideal.τ).loc Cert.Reference3Ideal.main_arg13))).trans ?_), (h c).2⟩)
      (Cert.Reference3Ideal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      rfl

end Cert.Proof.RwkvClaim

end
-- ==== Proof.RwkvStepBlock.lean ====
module

public import proofs.«01_k».proof.Proof.HeadRows
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Kernel4Ideal.RefValue

open Cert.Kernel4Ideal Cert.Kernel4Ideal.Gen Cert.Rows
open Idealize.ShloMosaic Idealize.ShloMosaic.TcCoe Idealize.SL.Sem
open Idealize.ShloMosaic.Pipeline (Dat)

/-- The matrix of ones on the diagonal blocks of 64, zeros elsewhere. -/
theorem mask_at (a b : Fin 256) :
    k0_pay6 (F := Ideal) k0_pay2 k0_pay3 k0_pay4 k0_pay5 (ix2 a b) = if a.val / 64 = b.val / 64 then (1 : EReal) else 0 := by
  pointwise [k0_pay6, k0_pay2, k0_pay3, k0_pay4, k0_pay5]
  rw [head_index a, head_index b, head_same ⟨a.val / 64, by omega⟩ ⟨b.val / 64, by omega⟩]
  split_ifs <;> rfl

theorem pay7_at (x : FVec Ideal S1024x128 .f32) (p : Fin 128) (j : Fin 1024) :
    k0_pay7 (F := Ideal) k0_pay2 k0_pay3 k0_pay4 k0_pay5 x (ix2 p j) = spread2 (fun k => x (ix2 (lane (hd j) k) p)) (plc j) := by
  have hM := mask_at
  generalize hM' : k0_pay6 (F := Ideal) k0_pay2 k0_pay3 k0_pay4 k0_pay5 = M at hM
  pointwise [k0_pay7, hM']
  unfold spread2
  rw [head_tiles2 (fun a b => M (ix2 a b)) hM (fun i => x (ix2 i p)) (fun i => x (ix2 i p) - x (ix2 i p)) j]
  simp only [lane_hd]

theorem pay11_at (x : FVec Ideal S1024x128 .f32) (w b : FVec Ideal S1x1024 .f32) (p : Fin 128) (j : Fin 1024) :
    k0_pay11 (F := Ideal) (k0_pay6 k0_pay2 k0_pay3 k0_pay4 k0_pay5) (k0_pay7 k0_pay2 k0_pay3 k0_pay4 k0_pay5 x)
        (k0_pay8 k0_pay2 k0_pay3 k0_pay4 k0_pay5 x) (k0_pay9 k0_pay2 k0_pay3 k0_pay4 k0_pay5 x)
        (k0_pay10 k0_pay2 k0_pay3 k0_pay4 k0_pay5 x) w b (ix2 p j)
      = normed (fun k => x (ix2 (lane (hd j) k) p)) (plc j) * w (ix2 0 j) + b (ix2 0 j) := by
  have hM := mask_at
  have hD := pay7_at x p
  generalize hD' : k0_pay7 (F := Ideal) k0_pay2 k0_pay3 k0_pay4 k0_pay5 x = D at hD
  generalize hM' : k0_pay6 (F := Ideal) k0_pay2 k0_pay3 k0_pay4 k0_pay5 = M at hM
  pointwise [k0_pay11, k0_pay10, k0_pay9, k0_pay8, hM', hD']
  rw [head_tiles (fun a b => M (ix2 a b)) hM (fun i => D (ix2 p i) * D (ix2 p i)) j, ← normed2_eq]
  simp only [hD, hd_lane, plc_lane]
  rfl

theorem pay12_at (r k : FVec Ideal S128x1024 .bf16) (w : FVec Ideal S1x1024 .f32) (p : Fin 128) (j : Fin 1024) :
    k0_pay12 (F := Ideal) (k0_pay6 k0_pay2 k0_pay3 k0_pay4 k0_pay5) r k w (ix2 p j)
      = ∑ l : Fin 64, r (ix2 p (lane (hd j) l)) * k (ix2 p (lane (hd j) l)) * w (ix2 0 (lane (hd j) l)) := by
  have hM := mask_at
  generalize hM' : k0_pay6 (F := Ideal) k0_pay2 k0_pay3 k0_pay4 k0_pay5 = M at hM
  pointwise [k0_pay12]
  exact head_tiles (fun a b => M (ix2 a b)) hM (fun i => r (ix2 p i) * k (ix2 p i) * w (ix2 0 i)) j

variable (x0 : FVec Ideal S128x1024 .f32) (x1 : FVec Ideal S1024x128 .f32) (x2 x3 x4 x5 : FVec Ideal S128x1024 .bf16) (x6 : FVec Ideal S8x1024 .f32)
  (x7 : FVec Ideal S1024x1024 .bf16) (x8 : FVec Ideal S3x1024 .f32) (x9 x10 : FVec Ideal S1024x2816 .bf16) (x11 : FVec Ideal S2816x1024 .bf16)

theorem pay39_at (p : Fin 128) (j : Fin 1024) :
    k0_pay41 (F := Ideal) x0 x1 x2 x3 x4 x5 x6 x7 x8 x9 x10 x11 (ix2 p j)
      = normed (fun k => x1 (ix2 (lane (hd j) k) p)) (plc j) * x6 (ix2 0 j) + x6 (ix2 1 j) := by
  unfold k0_pay41 k0_pay40 k0_pay39 k0_pay38 k0_pay37 k0_pay36
  refine (pay11_at _ _ _ p j).trans ?_
  pointwise

theorem pay40_at (p : Fin 128) (j : Fin 1024) :
    k0_pay42 (F := Ideal) x0 x1 x2 x3 x4 x5 x6 x7 x8 x9 x10 x11 (ix2 p j)
      = ∑ l : Fin 64, x2 (ix2 p (lane (hd j) l)) * x3 (ix2 p (lane (hd j) l)) * x6 (ix2 2 (lane (hd j) l)) := by
  unfold k0_pay42 k0_pay40 k0_pay39 k0_pay38 k0_pay37 k0_pay36
  refine (pay12_at _ _ _ p j).trans ?_
  pointwise

/-- Row `p` of the projected recurrence of a block. -/
def vRow (p : Fin 128) : Fin 1024 → EReal :=
  projected (fun h k => x1 (ix2 (lane h k) p)) (fun n => x2 (ix2 p n)) (fun n => x3 (ix2 p n)) (fun n => x4 (ix2 p n)) (fun n => x5 (ix2 p n))
    (fun n => x6 (ix2 0 n)) (fun n => x6 (ix2 1 n)) (fun h k => x6 (ix2 2 (lane h k))) (fun k n => x7 (ix2 k n))

/-- Row `p` of a block after the first residual sum. -/
def xRow (p : Fin 128) (j : Fin 1024) : EReal :=
  x0 (ix2 p j) + rms (vRow x1 x2 x3 x4 x5 x6 x7 p) (fun k => x8 (ix2 0 k)) j

theorem pay13_at (p : Fin 128) (j : Fin 1024) :
    k0_pay13 (F := Ideal) (k0_pay41 x0 x1 x2 x3 x4 x5 x6 x7 x8 x9 x10 x11) (k0_pay42 x0 x1 x2 x3 x4 x5 x6 x7 x8 x9 x10 x11) (View.ld x4 r0_3) (View.ld x5 r0_3) (View.ld x7 r0_5) (View.ld x0 r0_3) (View.ld x8 r0_6) (ix2 p j)
      = xRow x0 x1 x2 x3 x4 x5 x6 x7 x8 p j := by
  pointwise [k0_pay13, pay39_at, pay40_at, xRow, rms, vRow, projected, gated]

theorem pay13'_at (p : Fin 128) (j : Fin 1024) :
    k0_pay43 (F := Ideal) x0 x1 x2 x3 x4 x5 x6 x7 x8 x9 x10 x11 (ix2 p j) = xRow x0 x1 x2 x3 x4 x5 x6 x7 x8 p j :=
  pay13_at x0 x1 x2 x3 x4 x5 x6 x7 x8 x9 x10 x11 p j

/-- The scale of row `p` of the normalisation before the feed-forward part. -/
theorem pay42_at (p : Fin 128) (j : Fin 1024) :
    xRow x0 x1 x2 x3 x4 x5 x6 x7 x8 p j * k0_pay45 (F := Ideal) x0 x1 x2 x3 x4 x5 x6 x7 x8 x9 x10 x11 (ix2 p j) * x8 (ix2 1 j)
      = rms (xRow x0 x1 x2 x3 x4 x5 x6 x7 x8 p) (fun k => x8 (ix2 1 k)) j := by
  unfold k0_pay45 rms
  pointwise [k0_pay15, pay13_at]

theorem pay43_at (p : Fin 128) (j : Fin 1024) :
    k0_pay46 (F := Ideal) x0 x1 x2 x3 x4 x5 x6 x7 x8 x9 x10 x11 (ix2 p j)
      = rms (xRow x0 x1 x2 x3 x4 x5 x6 x7 x8 p) (fun k => x8 (ix2 1 k)) j := by
  refine Eq.trans ?_ (pay42_at x0 x1 x2 x3 x4 x5 x6 x7 x8 x9 x10 x11 p j)
  pointwise [k0_pay46, k0_pay16, k0_pay44, k0_pay14, pay13'_at]

theorem pay16_at (p : Fin 128) (j : Fin 1024) :
    k0_pay16 (F := Ideal) (k0_pay43 x0 x1 x2 x3 x4 x5 x6 x7 x8 x9 x10 x11) (k0_pay44 x0 x1 x2 x3 x4 x5 x6 x7 x8 x9 x10 x11) (k0_pay45 x0 x1 x2 x3 x4 x5 x6 x7 x8 x9 x10 x11) (ix2 p j)
      = rms (xRow x0 x1 x2 x3 x4 x5 x6 x7 x8 p) (fun k => x8 (ix2 1 k)) j :=
  pay43_at x0 x1 x2 x3 x4 x5 x6 x7 x8 x9 x10 x11 p j

/-- A block of the result, row by row. -/
theorem block_at (p : Fin 128) (j : Fin 1024) :
    out0_12 (F := Ideal) x0 x1 x2 x3 x4 x5 x6 x7 x8 x9 x10 x11 (ix2 p j)
      = twoBlocks (fun k => x0 (ix2 p k)) (vRow x1 x2 x3 x4 x5 x6 x7 p) (fun k => x8 (ix2 0 k)) (fun k => x8 (ix2 1 k)) (fun k => x8 (ix2 2 k))
          (fun k n => x9 (ix2 k n)) (fun k n => x10 (ix2 k n)) (fun n k => x11 (ix2 n k)) j := by
  unfold out0_12
  rw [View.canon_unit_zero (by funext a; fin_cases a <;> rfl)]
  generalize hY : k0_pay35 (F := Ideal) _ _ _ _ _ _ _ _ = Y
  have hr : ∀ i : Fin 1024, Y (ix2 p i) = ffn (rms (xRow x0 x1 x2 x3 x4 x5 x6 x7 x8 p) (fun k => x8 (ix2 1 k))) (fun k n => x9 (ix2 k n)) (fun k n => x10 (ix2 k n)) (fun n k => x11 (ix2 n k)) i := by
    intro i
    rw [ffn_tiles, ← hY]
    pointwise [k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, pay16_at, pay43_at, tile, unit]
    simp only [zero_sub, zero_add]
  pointwise [k0_pay1, hr, pay13'_at, twoBlocks, xRow, rms]
  rfl

end Cert.Kernel4Ideal.RefValue

end
-- ==== Proof.RwkvStepValue.lean ====
module

public import proofs.«01_k».proof.Proof.RwkvStepBlock
public import proofs.«01_k».proof.Proof.Gen.Reference4Ideal.Run
public import Idealize.ShloMosaic.Lib.Claim

@[expose] public section

set_option maxRecDepth 16384

noncomputable section

namespace Cert.Kernel4Ideal.RefValue

open Cert.Kernel4Ideal Cert.Kernel4Ideal.Gen Cert.Rows
open Idealize.ShloMosaic Idealize.ShloMosaic.TcCoe Idealize.SL.Sem
open Idealize.ShloMosaic.Pipeline (Dat)

/-- One entry of the odd layer's output: token `t` of sequence `s`. -/
def outAt (x : FVec Ideal S128x1x1024 .f32) (y : FVec Ideal S128x1x16x64 .f32) (r k v g : FVec Ideal S128x1x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32)
    (s : Fin 128) (t : Fin 1) (j : Fin 1024) : EReal :=
  twoBlocks (fun n => x (ix3 s t n))
    (projected (fun h l => y (ix4 s t h l)) (fun n => r (ix3 s t n)) (fun n => k (ix3 s t n)) (fun n => v (ix3 s t n)) (fun n => g (ix3 s t n))
      (fun n => w (ix2 0 n)) (fun n => b (ix2 0 n)) (fun h l => rk (ix3 0 h l)) (fun i n => wo (ix3 0 i n)))
    (fun n => ng (ix3 1 1 n)) (fun n => ng (ix3 1 2 n)) (fun n => ng (ix3 1 3 n))
    (fun i n => wg (ix3 1 i n)) (fun i n => wu (ix3 1 i n)) (fun i n => wd (ix3 1 i n)) j

/-- The sequence and the token of row `r` of the flattened activations. -/
def rowSeq (r : Fin 128) : Fin 128 := r
def rowTok (_ : Fin 128) : Fin 1 := 0

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0]
    ∧ t.val < 1 :=
  (by decide +kernel : ∀ t : Fin grid0.N, _)

theorem point_lt (t : Fin cfg0.N) : t.val < 1 := (idx t).2.2.2.2.2.2.2.2.2.2.2.2.2

/-- The sequence and the token of row `p` of the one grid point's blocks. -/
def seqOf (_ : Fin cfg0.N) (p : Fin 128) : Fin 128 := p
def tokOf (_ : Fin cfg0.N) (_ : Fin 128) : Fin 1 := 0

theorem blk0 (c : Dev nD) (t : Fin cfg0.N) (p : Fin 128) (n : Fin 1024) :
    (iblk m c 0 t : FVec Ideal S128x1024 .f32) (ix2 p n)
      = (m ((c : Thread nD τ).loc main_arg0) : FVec Ideal S128x1x1024 .f32) (ix3 (seqOf t p) (tokOf t p) n) := by
  blk_simp [iblk]
  entry_read
  pointwise
  blk_ext [seqOf, tokOf, idx t]

theorem blk1 (c : Dev nD) (t : Fin cfg0.N) (p : Fin 128) (h : Fin 16) (l : Fin 64) :
    (iblk m c 1 t : FVec Ideal S1024x128 .f32) (ix2 (lane h l) p)
      = (m ((c : Thread nD τ).loc main_arg1) : FVec Ideal S128x1x16x64 .f32) (ix4 (seqOf t p) (tokOf t p) h l) := by
  blk_simp [iblk]
  entry_read
  pointwise
  blk_ext [seqOf, tokOf, lane, idx t]

theorem blk2 (c : Dev nD) (t : Fin cfg0.N) (p : Fin 128) (n : Fin 1024) :
    (iblk m c 2 t : FVec Ideal S128x1024 .bf16) (ix2 p n)
      = (m ((c : Thread nD τ).loc main_arg2) : FVec Ideal S128x1x1024 .bf16) (ix3 (seqOf t p) (tokOf t p) n) := by
  blk_simp [iblk]
  entry_read
  pointwise
  blk_ext [seqOf, tokOf, idx t]

theorem blk3 (c : Dev nD) (t : Fin cfg0.N) (p : Fin 128) (n : Fin 1024) :
    (iblk m c 3 t : FVec Ideal S128x1024 .bf16) (ix2 p n)
      = (m ((c : Thread nD τ).loc main_arg3) : FVec Ideal S128x1x1024 .bf16) (ix3 (seqOf t p) (tokOf t p) n) := by
  blk_simp [iblk]
  entry_read
  pointwise
  blk_ext [seqOf, tokOf, idx t]

theorem blk4 (c : Dev nD) (t : Fin cfg0.N) (p : Fin 128) (n : Fin 1024) :
    (iblk m c 4 t : FVec Ideal S128x1024 .bf16) (ix2 p n)
      = (m ((c : Thread nD τ).loc main_arg4) : FVec Ideal S128x1x1024 .bf16) (ix3 (seqOf t p) (tokOf t p) n) := by
  blk_simp [iblk]
  entry_read
  pointwise
  blk_ext [seqOf, tokOf, idx t]

theorem blk5 (c : Dev nD) (t : Fin cfg0.N) (p : Fin 128) (n : Fin 1024) :
    (iblk m c 5 t : FVec Ideal S128x1024 .bf16) (ix2 p n)
      = (m ((c : Thread nD τ).loc main_arg5) : FVec Ideal S128x1x1024 .bf16) (ix3 (seqOf t p) (tokOf t p) n) := by
  blk_simp [iblk]
  entry_read
  pointwise
  blk_ext [seqOf, tokOf, idx t]

/-- The three vectors the kernel reads, stacked by the host code. -/
theorem vecs (c : Dev nD) : (V m c main_v9 : FVec Ideal S8x1024 .f32) = concatenate S8x1024 0 [⟨S1x1024, (m ((c : Thread nD τ).loc main_arg6) : FVec Ideal S1x1024 .f32)⟩, ⟨S1x1024, (m ((c : Thread nD τ).loc main_arg7) : FVec Ideal S1x1024 .f32)⟩, ⟨S1x1024, shapeCast S1x1024 (m ((c : Thread nD τ).loc main_arg8) : FVec Ideal S1x16x64 .f32) shapeCasts_S1x16x64_S1x1024⟩, ⟨S5x1024, (broadcastInDim S5x1024 ![] bcast_S_S5x1024 (constant S_ .f32 0x00000000#32) : FVec Ideal S5x1024 .f32)⟩] concatenates_S1x1024_S1x1024_S1x1024_S5x1024_S8x1024_d0 := by
  unfold V
  after_results
  rfl

theorem blk6 (c : Dev nD) (t : Fin cfg0.N) (a : Fin 8) (n : Fin 1024) :
    (iblk m c 6 t : FVec Ideal S8x1024 .f32) (ix2 a n) = (V m c main_v9 : FVec Ideal S8x1024 .f32) (ix2 a n) := by
  blk_simp [iblk]
  blk_ext [idx t]

theorem blk6a (c : Dev nD) (t : Fin cfg0.N) (n : Fin 1024) :
    (iblk m c 6 t : FVec Ideal S8x1024 .f32) (ix2 0 n)
      = (m ((c : Thread nD τ).loc main_arg6) : FVec Ideal S1x1024 .f32) (ix2 0 n) := by
  rw [blk6, vecs]
  pointwise

theorem blk6b (c : Dev nD) (t : Fin cfg0.N) (n : Fin 1024) :
    (iblk m c 6 t : FVec Ideal S8x1024 .f32) (ix2 1 n)
      = (m ((c : Thread nD τ).loc main_arg7) : FVec Ideal S1x1024 .f32) (ix2 0 n) := by
  rw [blk6, vecs]
  pointwise

theorem blk6c (c : Dev nD) (t : Fin cfg0.N) (h : Fin 16) (l : Fin 64) :
    (iblk m c 6 t : FVec Ideal S8x1024 .f32) (ix2 2 (lane h l))
      = (m ((c : Thread nD τ).loc main_arg8) : FVec Ideal S1x16x64 .f32) (ix3 0 h l) := by
  rw [blk6, vecs]
  pointwise [lane]

theorem blk7 (c : Dev nD) (t : Fin cfg0.N) (k n : Fin 1024) :
    (iblk m c 7 t : FVec Ideal S1024x1024 .bf16) (ix2 k n)
      = (m ((c : Thread nD τ).loc main_arg9) : FVec Ideal S1x1024x1024 .f32) (ix3 0 k n) := by
  blk_simp [iblk]
  entry_read
  pointwise
  blk_ext [idx t]

theorem blk8 (c : Dev nD) (t : Fin cfg0.N) (k : Fin 3) (n : Fin 1024) :
    (iblk m c 8 t : FVec Ideal S3x1024 .f32) (ix2 k n)
      = (m ((c : Thread nD τ).loc main_arg10) : FVec Ideal S2x4x1024 .f32) (ix3 1 ⟨1 + k.val, by omega⟩ n) := by
  blk_simp [iblk]
  entry_read
  pointwise
  blk_ext [idx t]

theorem blk9 (c : Dev nD) (t : Fin cfg0.N) (k : Fin 1024) (n : Fin 2816) :
    (iblk m c 9 t : FVec Ideal S1024x2816 .bf16) (ix2 k n)
      = (m ((c : Thread nD τ).loc main_arg11) : FVec Ideal S2x1024x2816 .f32) (ix3 1 k n) := by
  blk_simp [iblk]
  entry_read
  pointwise
  blk_ext [idx t]

theorem blk10 (c : Dev nD) (t : Fin cfg0.N) (k : Fin 1024) (n : Fin 2816) :
    (iblk m c 10 t : FVec Ideal S1024x2816 .bf16) (ix2 k n)
      = (m ((c : Thread nD τ).loc main_arg12) : FVec Ideal S2x1024x2816 .f32) (ix3 1 k n) := by
  blk_simp [iblk]
  entry_read
  pointwise
  blk_ext [idx t]

theorem blk11 (c : Dev nD) (t : Fin cfg0.N) (k : Fin 2816) (n : Fin 1024) :
    (iblk m c 11 t : FVec Ideal S2816x1024 .bf16) (ix2 k n)
      = (m ((c : Thread nD τ).loc main_arg13) : FVec Ideal S2x2816x1024 .f32) (ix3 1 k n) := by
  blk_simp [iblk]
  entry_read
  pointwise
  blk_ext [idx t]

theorem block_out (c : Dev nD) (t : Fin cfg0.N) (p : Fin 128) (j : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (seqOf t p) (tokOf t p) j := by
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p j).trans ?_
  unfold vRow outAt
  simp only [blk0, blk1, blk2, blk3, blk4, blk5, blk6a, blk6b, blk6c, blk7, blk8, blk9, blk10, blk11]
  rfl

theorem final_out (c : Dev nD) : (dats m 0 c).arrAt 12 (cfgs 0).N
    = fun i : S128x1024.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowSeq (i 0)) (rowTok (i 0)) (i 1) := by
  refine (dats m 0 c).arrAt_eq_of_covers 12 _ (by decide +kernel) fun t _ y => ?_
  blk_simp
  rw [after0_12]
  idx_vars y
  refine (block_out m c t y0 y1).trans ?_
  have e : ((View.whole main_v23).slice (win0_12.rect t)).emb (ix2 y0 y1) = (ix2 y0 y1 : S128x1024.Idx) := by
    blk_ext [idx t]
  simp only [e]
  rfl

end Cert.Kernel4Ideal.RefValue

namespace Cert.Reference4Ideal.RefValue

open Cert.Reference4Ideal Cert.Reference4Ideal.Gen Cert.Reference4Ideal.Value Cert.Rows
open Idealize.ShloMosaic Idealize.ShloMosaic.TcCoe Idealize.SL.Sem

/-- The reference's normalisation of an array with gains `g`, operation by operation. -/
def normT (y : FVec Ideal S128x1x1024 .f32) (g : FVec Ideal S1024 .f32) : FVec Ideal S128x1x1024 .f32 :=
  mulf (mulf y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf y y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 g))

theorem normT_at (y : FVec Ideal S128x1x1024 .f32) (g : FVec Ideal S1024 .f32) (b : Fin 128) (t : Fin 1) (j : Fin 1024) :
    normT y g (ix3 b t j) = rms (fun k => y (ix3 b t k)) (fun k => g (ix1 k)) j := by
  obtain rfl : t = 0 := Subsingleton.elim _ _
  pointwise [normT, rms]

/-- The reference's mean over each head, and its arrays less that mean. -/
def meanT (y : FVec Ideal S128x1x16x64 .f32) : FVec Ideal S128x1x16x1 .f32 :=
  Host.divf (broadcastInDim S128x1x16x1 ![0, 1, 2] bcast_S128x1x16_S128x1x16x1_0_1_2 (Host.reduceAdd y (constant S_ .f32 0x00000000#32) reducesTo_S128x1x16x64_S128x1x16_d3 h_S_)) (broadcastInDim S128x1x16x1 ![] bcast_S_S128x1x16x1 (constant S_ .f32 0x42800000#32))
def spreadT (y : FVec Ideal S128x1x16x64 .f32) : FVec Ideal S128x1x16x64 .f32 :=
  subf y (broadcastInDim S128x1x16x64 ![0, 1, 2, 3] bcast_S128x1x16x1_S128x1x16x64_0_1_2_3 (meanT y))

theorem spreadT_at (y : FVec Ideal S128x1x16x64 .f32) (b : Fin 128) (t : Fin 1) (h : Fin 16) (l : Fin 64) :
    spreadT y (ix4 b t h l) = spread (fun k => y (ix4 b t h k)) l := by
  obtain rfl : t = 0 := Subsingleton.elim _ _
  pointwise [spreadT, meanT, spread]

/-- The reference's normalisation of each head. -/
def headT (y : FVec Ideal S128x1x16x64 .f32) : FVec Ideal S128x1x16x64 .f32 :=
  mulf (spreadT y) (broadcastInDim S128x1x16x64 ![0, 1, 2, 3] bcast_S128x1x16x1_S128x1x16x64_0_1_2_3 (Host.rsqrt (addf (meanT (mulf (spreadT y) (spreadT y))) (broadcastInDim S128x1x16x1 ![] bcast_S_S128x1x16x1 (constant S_ .f32 0x3A27C5AC#32)))))

theorem headT_at (y : FVec Ideal S128x1x16x64 .f32) (b : Fin 128) (t : Fin 1) (h : Fin 16) (l : Fin 64) :
    headT y (ix4 b t h l) = normed (fun k => y (ix4 b t h k)) l := by
  obtain rfl : t = 0 := Subsingleton.elim _ _
  pointwise [headT, meanT, normed, spreadT_at]

/-- The reference's bonus: the product of `r`, `k` and the head's weights, summed over the head, times `v`. -/
def bonusT (r k v : FVec Ideal S128x1x1024 .bf16) (rk : FVec Ideal S1x16x64 .f32) : FVec Ideal S128x1x16x64 .f32 :=
  mulf (broadcastInDim S128x1x16x64 ![0, 1, 2, 3] bcast_S128x1x16x1_S128x1x16x64_0_1_2_3 (broadcastInDim S128x1x16x1 ![0, 1, 2] bcast_S128x1x16_S128x1x16x1_0_1_2 (Host.reduceAdd (mulf (mulf (shapeCast _ (extf .f32 r bitsLt_bf16_f32) shapeCasts_S128x1x1024_S128x1x16x64) (shapeCast _ (extf .f32 k bitsLt_bf16_f32) shapeCasts_S128x1x1024_S128x1x16x64)) (broadcastInDim S128x1x16x64 ![0, 1, 2, 3] bcast_S1x1x16x64_S128x1x16x64_0_1_2_3 (broadcastInDim S1x1x16x64 ![2, 3] bcast_S16x64_S1x1x16x64_2_3 (shapeCast _ rk shapeCasts_S1x16x64_S16x64)))) (constant S_ .f32 0x00000000#32) reducesTo_S128x1x16x64_S128x1x16_d3 h_S_))) (shapeCast _ (extf .f32 v bitsLt_bf16_f32) shapeCasts_S128x1x1024_S128x1x16x64)

theorem bonusT_at (r k v : FVec Ideal S128x1x1024 .bf16) (rk : FVec Ideal S1x16x64 .f32) (b : Fin 128) (t : Fin 1) (h : Fin 16) (l : Fin 64) :
    bonusT r k v rk (ix4 b t h l)
      = (∑ i : Fin 64, r (ix3 b t (lane h i)) * k (ix3 b t (lane h i)) * rk (ix3 0 h i)) * v (ix3 b t (lane h l)) := by
  obtain rfl : t = 0 := Subsingleton.elim _ _
  pointwise [bonusT, lane]

/-- The reference's recurrence output after the group normalisation, the bonus, the gate and the output projection. -/
def mixT (y : FVec Ideal S128x1x16x64 .f32) (r k v g : FVec Ideal S128x1x1024 .bf16)
    (w b : FVec Ideal S1x1024 .f32) (rk : FVec Ideal S1x16x64 .f32) (wo : FVec Ideal S1x1024x1024 .f32) : FVec Ideal S128x1x1024 .f32 :=
  Host.dotGeneral dot_S128x1x1024_S1024x1024_S128x1x1024_2_0_01_1_n_n none
    (mulf (addf (addf (mulf (shapeCast _ (headT y) shapeCasts_S128x1x16x64_S128x1x1024) (broadcastInDim S128x1x1024 ![0, 1, 2] bcast_S1x1x1024_S128x1x1024_0_1_2 (broadcastInDim S1x1x1024 ![2] bcast_S1024_S1x1x1024_2 (shapeCast _ w shapeCasts_S1x1024_S1024)))) (broadcastInDim S128x1x1024 ![0, 1, 2] bcast_S1x1x1024_S128x1x1024_0_1_2 (broadcastInDim S1x1x1024 ![2] bcast_S1024_S1x1x1024_2 (shapeCast _ b shapeCasts_S1x1024_S1024)))) (shapeCast _ (bonusT r k v rk) shapeCasts_S128x1x16x64_S128x1x1024)) (extf .f32 g bitsLt_bf16_f32))
    (shapeCast _ wo shapeCasts_S1x1024x1024_S1024x1024)

theorem mixT_at (y : FVec Ideal S128x1x16x64 .f32) (r k v g : FVec Ideal S128x1x1024 .bf16)
    (w b : FVec Ideal S1x1024 .f32) (rk : FVec Ideal S1x16x64 .f32) (wo : FVec Ideal S1x1024x1024 .f32) (s : Fin 128) (t : Fin 1) (j : Fin 1024) :
    mixT y r k v g w b rk wo (ix3 s t j)
      = projected (fun h l => y (ix4 s t h l)) (fun n => r (ix3 s t n)) (fun n => k (ix3 s t n)) (fun n => v (ix3 s t n)) (fun n => g (ix3 s t n))
      (fun n => w (ix2 0 n)) (fun n => b (ix2 0 n)) (fun h l => rk (ix3 0 h l)) (fun i n => wo (ix3 0 i n)) j := by
  obtain rfl : t = 0 := Subsingleton.elim _ _
  unfold projected
  pointwise [mixT, headT_at, bonusT_at, gated, hd, plc, lane]
  simp only [Nat.div_add_mod']

/-- The reference's feed-forward part. -/
def ffnT (h : FVec Ideal S128x1x1024 .f32) (wg wu : FVec Ideal S1024x2816 .f32) (wd : FVec Ideal S2816x1024 .f32) : FVec Ideal S128x1x1024 .f32 :=
  Host.dotGeneral dot_S128x1x2816_S2816x1024_S128x1x1024_2_0_01_1_n_n none
    (mulf (mulf (Host.dotGeneral dot_S128x1x1024_S1024x2816_S128x1x2816_2_0_01_1_n_n none h wg)
      (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (Host.dotGeneral dot_S128x1x1024_S1024x2816_S128x1x2816_2_0_01_1_n_n none h wg))))))
      (Host.dotGeneral dot_S128x1x1024_S1024x2816_S128x1x2816_2_0_01_1_n_n none h wu)) wd

theorem ffnT_at (h : FVec Ideal S128x1x1024 .f32) (wg wu : FVec Ideal S1024x2816 .f32) (wd : FVec Ideal S2816x1024 .f32) (b : Fin 128) (t : Fin 1) (j : Fin 1024) :
    ffnT h wg wu wd (ix3 b t j) = ffn (fun k => h (ix3 b t k)) (fun k n => wg (ix2 k n)) (fun k n => wu (ix2 k n)) (fun n k => wd (ix2 n k)) j := by
  obtain rfl : t = 0 := Subsingleton.elim _ _
  pointwise [ffnT, ffn, unit]

/-- The odd layer's gains. -/
def gain1 (g : FVec Ideal S2x4x1024 .f32) : FVec Ideal S1024 .f32 :=
  shapeCast _ (extractStridedSlice S1x1x1024 ![1, 1, 0] g slices_S2x4x1024_S1x1x1024_1_1_0) shapeCasts_S1x1x1024_S1024
def gain2 (g : FVec Ideal S2x4x1024 .f32) : FVec Ideal S1024 .f32 :=
  shapeCast _ (extractStridedSlice S1x1x1024 ![1, 2, 0] g slices_S2x4x1024_S1x1x1024_1_2_0) shapeCasts_S1x1x1024_S1024
def gain3 (g : FVec Ideal S2x4x1024 .f32) : FVec Ideal S1024 .f32 :=
  shapeCast _ (extractStridedSlice S1x1x1024 ![1, 3, 0] g slices_S2x4x1024_S1x1x1024_1_3_0) shapeCasts_S1x1x1024_S1024

/-- The odd layer's matrices. -/
def up1 (w : FVec Ideal S2x1024x2816 .f32) : FVec Ideal S1024x2816 .f32 :=
  shapeCast _ (extractStridedSlice S1x1024x2816 ![1, 0, 0] w slices_S2x1024x2816_S1x1024x2816_1_0_0) shapeCasts_S1x1024x2816_S1024x2816
def down1 (w : FVec Ideal S2x2816x1024 .f32) : FVec Ideal S2816x1024 .f32 :=
  shapeCast _ (extractStridedSlice S1x2816x1024 ![1, 0, 0] w slices_S2x2816x1024_S1x2816x1024_1_0_0) shapeCasts_S1x2816x1024_S2816x1024

/-- The residual sum after the recurrence's block. -/
def midT (x : FVec Ideal S128x1x1024 .f32) (y : FVec Ideal S128x1x16x64 .f32) (r k v g : FVec Ideal S128x1x1024 .bf16)
    (w b : FVec Ideal S1x1024 .f32) (rk : FVec Ideal S1x16x64 .f32) (wo : FVec Ideal S1x1024x1024 .f32) (ng : FVec Ideal S2x4x1024 .f32) : FVec Ideal S128x1x1024 .f32 :=
  addf x (normT (mixT y r k v g w b rk wo) (gain1 ng))

/-- The whole result as the reference composes it. -/
def outT (x : FVec Ideal S128x1x1024 .f32) (y : FVec Ideal S128x1x16x64 .f32) (r k v g : FVec Ideal S128x1x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32) : FVec Ideal S128x1024 .f32 :=
  shapeCast _ (addf (midT x y r k v g w b rk wo ng) (normT (ffnT (normT (midT x y r k v g w b rk wo ng) (gain2 ng)) (up1 wg) (up1 wu) (down1 wd)) (gain3 ng))) shapeCasts_S128x1x1024_S128x1024

theorem outT_eq (x : FVec Ideal S128x1x1024 .f32) (y : FVec Ideal S128x1x16x64 .f32) (r k v g : FVec Ideal S128x1x1024 .bf16)
    (w b : FVec Ideal S1x1024 .f32) (rk : FVec Ideal S1x16x64 .f32) (wo : FVec Ideal S1x1024x1024 .f32) (ng : FVec Ideal S2x4x1024 .f32)
    (wg wu : FVec Ideal S2x1024x2816 .f32) (wd : FVec Ideal S2x2816x1024 .f32) :
    outT x y r k v g w b rk wo ng wg wu wd = fun i : S128x1024.Idx => Cert.Kernel4Ideal.RefValue.outAt x y r k v g w b rk wo ng wg wu wd
      (Cert.Kernel4Ideal.RefValue.rowSeq (i 0)) (Cert.Kernel4Ideal.RefValue.rowTok (i 0)) (i 1) := by
  funext i
  idx_vars i
  pointwise [outT, midT, normT_at, ffnT_at, mixT_at, gain1, gain2, gain3, up1, down1, Cert.Kernel4Ideal.RefValue.outAt, Cert.Kernel4Ideal.RefValue.rowSeq, Cert.Kernel4Ideal.RefValue.rowTok, twoBlocks]

end Cert.Reference4Ideal.RefValue

end
-- ==== Proof.RwkvStepClaim.lean ====
module

public import proofs.«01_k».proof.Defs
public import proofs.«01_k».proof.Proof.RwkvStepValue
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.Value
public import Idealize.ShloMosaic.Lib.Quiescent

@[expose] public section

set_option maxRecDepth 16384

noncomputable section

namespace Cert.Proof.RwkvStepClaim

open Idealize.ShloMosaic Idealize.ShloMosaic.TcCoe Idealize.SL.Sem

/-- Result 0 of the call as a function of the argument arrays. -/
def value0 (m : (ℓ : Loc Cert.Kernel4Ideal.nD Cert.Kernel4Ideal.τ Cert.Kernel4Ideal.sig) → Buf (Elt Ideal) ℓ) (c : Dev Cert.Kernel4Ideal.nD) : FVec Ideal Cert.Kernel4Ideal.S128x1024 .f32 :=
  fun i => Cert.Kernel4Ideal.RefValue.outAt (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (Cert.Kernel4Ideal.RefValue.rowSeq (i 0)) (Cert.Kernel4Ideal.RefValue.rowTok (i 0)) (i 1)

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves : Cert.preserves_Kernel4_Kernel4Ideal := trivial

/-- The kernel's result arrays and the reference's are the same functions of the same arguments. -/
theorem algebraic : Cert.algebraic_Kernel4Ideal_Reference4Ideal := by
  intro m ρ m' ρ' _ hagree
  refine ⟨fun c => value0 m c, ?_, ?_⟩
  · refine (θ_run Cert.Kernel4Ideal.defs _ _).mono (fun _ h c => ⟨(h c).1.trans (Cert.Kernel4Ideal.RefValue.final_out m c), (h c).2⟩)
      (Cert.Kernel4Ideal.Value.run_blocks (F := Ideal) m ρ)
  · refine (θ_run Cert.Reference4Ideal.defs _ _).mono (fun _ h c => ⟨(h c).1.trans ((Cert.Reference4Ideal.RefValue.outT_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11)) (m' ((c.tc : Thread Cert.Reference4Ideal.nD Cert.Reference4Ideal.τ).loc Cert.Reference4Ideal.main_arg12)) (m' ((c.tc : Thread Cert.Reference4Ideal.nD Cert.Reference4Ideal.τ).loc Cert.Reference4Ideal.main_arg13))).trans ?_), (h c).2⟩)
      (Cert.Reference4Ideal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      rfl

end Cert.Proof.RwkvStepClaim

end
-- ==== Proof.GateRows.lean ====
module

public import proofs.«01_k».proof.Proof.Rows
public import Idealize.ShloMosaic.Lib.Pointwise
public import Idealize.ShloMosaic.Lib.Claim

@[expose] public section

set_option maxRecDepth 16384

noncomputable section

/-! The even layer's projections of a row, and the logarithm of the logistic function, which the kernel and the reference write
in two ways that agree for every extended real. -/

namespace Cert.Rows

open Idealize.ShloMosaic

/-- One entry of the wide projection of a row. -/
def wide (h : Fin 1024 → EReal) (w : Fin 1024 → Fin 3088 → EReal) (n : Fin 3088) : EReal := ∑ k : Fin 1024, h k * w k n

/-- The logarithm of `1 + exp (-|v|)`. -/
def tailLog (v : EReal) : EReal := Ideal.log1p (Ideal.exp (0 - max v (-v)))

theorem tailLog_real (v : EReal) : ∃ r : ℝ, tailLog v = (r : EReal) := by
  have log_one_add : ∀ r : ℝ, 0 ≤ r → Ideal.log1p (r : EReal) = (Real.log (1 + r) : EReal) := by
    intro r hr
    have e : (1 : EReal) + (r : EReal) = ((1 + r : ℝ) : EReal) := by push_cast; rfl
    unfold Ideal.log1p
    rw [e]
    show (if (1 + r : ℝ) ≤ 0 then (⊥ : EReal) else (Real.log (1 + r) : EReal)) = _
    rw [if_neg (by linarith)]
  have at_bot : Ideal.log1p (Ideal.exp ⊥) = ((Real.log (1 + 0) : ℝ) : EReal) := log_one_add 0 le_rfl
  induction v with
  | bot => exact ⟨Real.log (1 + 0), by rw [← at_bot]; unfold tailLog; simp⟩
  | top => exact ⟨Real.log (1 + 0), by rw [← at_bot]; unfold tailLog; simp⟩
  | coe x =>
    refine ⟨Real.log (1 + Real.exp (-(max x (-x)))), ?_⟩
    have e : (0 : EReal) - max (x : EReal) (-(x : EReal)) = ((-(max x (-x)) : ℝ) : EReal) := by
      rw [zero_sub, ← EReal.coe_neg, ← EReal.coe_strictMono.monotone.map_max, ← EReal.coe_neg]
    unfold tailLog
    rw [e]
    exact log_one_add _ (Real.exp_pos _).le

/-- The logarithm of the logistic function as the kernel writes it. -/
def lsig (v : EReal) : EReal := min v 0 - tailLog v

/-- The same as the reference writes it. -/
theorem lsig_host (v : EReal) : -(max (-v) 0 + tailLog (-v)) = lsig v := by
  have s : tailLog (-v) = tailLog v := by
    unfold tailLog
    rw [neg_neg, max_comm]
  obtain ⟨r, hr⟩ := tailLog_real v
  have n : -(max (-v) 0) = min v 0 := by
    rcases le_total v 0 with h | h
    · rw [max_eq_left (by rw [EReal.le_neg]; simpa using h), min_eq_left h, neg_neg]
    · rw [max_eq_right (by rw [EReal.neg_le]; simpa using h), min_eq_right h, neg_zero]
  unfold lsig
  rw [s, hr, EReal.neg_add (Or.inr (EReal.coe_ne_top r)) (Or.inr (EReal.coe_ne_bot r)), n]

/-- One of the sixteen gates of a row and the lanes past them: the first four plain, the rest through `lsig`. -/
def gate (h : Fin 1024 → EReal) (w : Fin 1024 → Fin 3088 → EReal) (ib fb : Fin 4 → EReal) (xb : Fin 8 → EReal) (n : Fin 128) : EReal :=
  if h4 : n.val < 4 then wide h w ⟨1536 + n.val, by omega⟩ + ib ⟨n.val, h4⟩
  else if h8 : n.val < 8 then lsig (wide h w ⟨1536 + n.val, by omega⟩ + fb ⟨n.val - 4, by omega⟩)
  else if h16 : n.val < 16 then lsig (wide h w ⟨3072 + n.val, by omega⟩ + xb ⟨n.val - 8, by omega⟩)
  else lsig 0

end Cert.Rows

end
-- ==== Proof.InBlock.lean ====
module

public import proofs.«01_k».proof.Proof.GateRows
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Kernel5Ideal.RefValue

open Cert.Kernel5Ideal Cert.Kernel5Ideal.Gen Cert.Rows
open Idealize.ShloMosaic Idealize.ShloMosaic.TcCoe Idealize.SL.Sem
open Idealize.ShloMosaic.Pipeline (Dat)

variable (x0 : FVec Ideal S512x1024 .f32) (x1 : FVec Ideal S1x1024 .f32) (x2 : FVec Ideal S1024x3072 .bf16)
  (x3 : FVec Ideal S1024x128 .bf16) (x4 : FVec Ideal S1x128 .f32)

/-- Row `p` of a block after the normalisation. -/
def nRow (p : Fin 512) : Fin 1024 → EReal := rms (fun k => x0 (ix2 p k)) (fun k => x1 (ix2 0 k))

theorem norm_at (p : Fin 512) (k : Fin 1024) : k0_pay4 (F := Ideal) x0 x1 (ix2 p k) = nRow x0 x1 p k := by
  pointwise [k0_pay4, nRow, rms]

theorem wrap_at (p : Fin 512) (k : Fin 1024) : k0_pay16 (F := Ideal) x0 x1 x2 x3 x4 (ix2 p k) = nRow x0 x1 p k := by
  unfold k0_pay16
  refine (norm_at _ _ p k).trans ?_
  pointwise [nRow, rms]

/-- One entry of a block's product with the main weights. -/
def seg (p : Fin 512) (n : Fin 3072) : EReal := ∑ k : Fin 1024, nRow x0 x1 p k * x2 (ix2 k n)

/-- A gate before its nonlinearity, and after. -/
def preGate (p : Fin 512) (n : Fin 128) : EReal := (∑ k : Fin 1024, nRow x0 x1 p k * x3 (ix2 k n)) + x4 (ix2 0 n)
def blockGate (p : Fin 512) (n : Fin 128) : EReal :=
  if n.val < 4 then preGate x0 x1 x3 x4 p n else lsig (preGate x0 x1 x3 x4 p n)

theorem low_lane : ∀ n : Fin 128, IntOp.cmpi CmpIPredicate.slt (BitVec.ofNat 32 n.val) 4#32 = if n.val < 4 then 1#1 else 0#1 := by
  decide

theorem pick_lane (n : Fin 128) (a b : Ideal .f32) :
    Scalar.select (IntOp.cmpi CmpIPredicate.slt (BitVec.ofNat 32 n.val) 4#32) a b = if n.val < 4 then a else b := by
  rw [low_lane]
  by_cases h : n.val < 4
  · rw [if_pos h, if_pos h]; rfl
  · rw [if_neg h, if_neg h]; rfl

theorem mq_at (p : Fin 512) (j : Fin 256) :
    out0_5 (F := Ideal) x0 x1 x2 x3 x4 (ix2 p j) = seg x0 x1 x2 p ⟨0 + j.val, by omega⟩ := by
  unfold out0_5
  rw [View.canon_unit_zero (by funext a; fin_cases a <;> rfl)]
  pointwise [k0_pay5, norm_at, seg, nRow, rms]

theorem mk_at (p : Fin 512) (j : Fin 256) :
    out0_6 (F := Ideal) x0 x1 x2 x3 x4 (ix2 p j) = seg x0 x1 x2 p ⟨256 + j.val, by omega⟩ * Ideal.ofBits .f32 0x3E000000#32 := by
  unfold out0_6
  rw [View.canon_unit_zero (by funext a; fin_cases a <;> rfl)]
  pointwise [k0_pay6, norm_at, seg, nRow, rms]

theorem mv_at (p : Fin 512) (j : Fin 512) :
    out0_7 (F := Ideal) x0 x1 x2 x3 x4 (ix2 p j) = seg x0 x1 x2 p ⟨512 + j.val, by omega⟩ := by
  unfold out0_7
  rw [View.canon_unit_zero (by funext a; fin_cases a <;> rfl)]
  pointwise [k0_pay7, norm_at, seg, nRow, rms]

theorem mo_at (p : Fin 512) (j : Fin 512) :
    out0_8 (F := Ideal) x0 x1 x2 x3 x4 (ix2 p j) = seg x0 x1 x2 p ⟨1024 + j.val, by omega⟩ := by
  unfold out0_8
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay8, hW, seg]

theorem fq_at (p : Fin 512) (j : Fin 512) :
    out0_9 (F := Ideal) x0 x1 x2 x3 x4 (ix2 p j) = seg x0 x1 x2 p ⟨1536 + j.val, by omega⟩ * Ideal.ofBits .f32 0x3E38AA3B#32 := by
  unfold out0_9
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay9, hW, seg]

theorem fk_at (p : Fin 512) (j : Fin 512) :
    out0_10 (F := Ideal) x0 x1 x2 x3 x4 (ix3 0 j p) = seg x0 x1 x2 p ⟨2048 + j.val, by omega⟩ := by
  unfold out0_10
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay12, k0_pay10, hW, seg]

theorem fv_at (p : Fin 512) (j : Fin 512) :
    out0_11 (F := Ideal) x0 x1 x2 x3 x4 (ix3 0 j p) = seg x0 x1 x2 p ⟨2560 + j.val, by omega⟩ := by
  unfold out0_11
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay13, k0_pay11, hW, seg]

theorem fk16_at (p : Fin 512) (j : Fin 512) :
    out0_12 (F := Ideal) x0 x1 x2 x3 x4 (ix2 p j) = seg x0 x1 x2 p ⟨2048 + j.val, by omega⟩ := by
  unfold out0_12
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay14, k0_pay10, hW, seg]

theorem fv16_at (p : Fin 512) (j : Fin 512) :
    out0_13 (F := Ideal) x0 x1 x2 x3 x4 (ix3 0 j p) = seg x0 x1 x2 p ⟨2560 + j.val, by omega⟩ := by
  unfold out0_13
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay1, k0_pay15, k0_pay11, hW, seg]

theorem g_at (p : Fin 512) (n : Fin 128) :
    out0_14 (F := Ideal) x0 x1 x2 x3 x4 (ix2 p n) = blockGate x0 x1 x3 x4 p n := by
  unfold out0_14
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay2, hW, blockGate, preGate, lsig, tailLog]
  exact pick_lane n _ _

theorem gT_at (p : Fin 512) (n : Fin 128) :
    out0_15 (F := Ideal) x0 x1 x2 x3 x4 (ix2 n p) = blockGate x0 x1 x3 x4 p n := by
  unfold out0_15
  rw [View.canon_unit_zero (by funext a; fin_cases a <;> rfl)]
  generalize hY : k0_pay16 (F := Ideal) x0 x1 x2 x3 x4 = Y
  have hW : ∀ k : Fin 1024, Y (ix2 p k) = nRow x0 x1 p k := fun k => by rw [← hY]; exact wrap_at x0 x1 x2 x3 x4 p k
  pointwise [k0_pay3, k0_pay2, hW, blockGate, preGate, lsig, tailLog]
  exact pick_lane n _ _

end Cert.Kernel5Ideal.RefValue

end
-- ==== Proof.InValue.lean ====
module

public import proofs.«01_k».proof.Proof.InBlock
public import proofs.«01_k».proof.Proof.Gen.Reference5Ideal.Run
public import Idealize.ShloMosaic.Lib.Claim

@[expose] public section

set_option maxRecDepth 16384

noncomputable section

namespace Cert.Kernel5Ideal.RefValue

open Cert.Kernel5Ideal Cert.Kernel5Ideal.Gen Cert.Rows
open Idealize.ShloMosaic Idealize.ShloMosaic.TcCoe Idealize.SL.Sem
open Idealize.ShloMosaic.Pipeline (Dat)

/-- The normalised activations of token `t` of sequence `s`. -/
def hRow (x : FVec Ideal S2x8192x1024 .f32) (ng : FVec Ideal S2x4x1024 .f32) (s : Fin 2) (t : Fin 8192) : Fin 1024 → EReal :=
  rms (fun k => x (ix3 s t k)) (fun k => ng (ix3 0 0 k))

/-- One entry of their product with the wide matrix, and one gate. -/
def wideAt (x : FVec Ideal S2x8192x1024 .f32) (ng : FVec Ideal S2x4x1024 .f32) (w : FVec Ideal S1x1024x3088 .f32) (s : Fin 2) (t : Fin 8192) (n : Fin 3088) : EReal :=
  wide (hRow x ng s t) (fun k n => w (ix3 0 k n)) n
def gateAt (x : FVec Ideal S2x8192x1024 .f32) (ng : FVec Ideal S2x4x1024 .f32) (w : FVec Ideal S1x1024x3088 .f32) (ib fb : FVec Ideal S1x4 .f32) (xb : FVec Ideal S1x8 .f32) (s : Fin 2) (t : Fin 8192) (n : Fin 128) : EReal :=
  gate (hRow x ng s t) (fun k n => w (ix3 0 k n)) (fun h => ib (ix2 0 h)) (fun h => fb (ix2 0 h)) (fun h => xb (ix2 0 h)) n

/-- The sequence and the token of row `r` of the flattened activations. -/
def rowSeq (r : Fin 16384) : Fin 2 := ⟨r.val / 8192, by omega⟩
def rowTok (r : Fin 16384) : Fin 8192 := ⟨r.val % 8192, by omega⟩

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val / 16, 0, t.val % 16] ∧ win0_11.index t = ![t.val / 16, 0, t.val % 16] ∧ win0_12.index t = ![t.val, 0] ∧ win0_13.index t = ![t.val / 16, 0, t.val % 16] ∧ win0_14.index t = ![t.val, 0] ∧ win0_15.index t = ![0, t.val]
    ∧ t.val < 32 :=
  (by decide +kernel : ∀ t : Fin grid0.N, _)

theorem point_lt (t : Fin cfg0.N) : t.val < 32 := (idx t).2.2.2.2.2.2.2.2.2.2.2.2.2.2.2.2

/-- The sequence and the token of row `p` of a grid point's blocks. -/
def seqOf (t : Fin cfg0.N) (p : Fin 512) : Fin 2 := ⟨(t.val * 512 + p.val) / 8192, by have := point_lt t; omega⟩
def tokOf (t : Fin cfg0.N) (p : Fin 512) : Fin 8192 := ⟨(t.val * 512 + p.val) % 8192, by omega⟩

/-- The arrays the host hands the kernel, as functions of the weights. -/
def mainsOf (w : FVec Ideal S1x1024x3088 .f32) : FVec Ideal S1024x3072 .bf16 := truncf .bf16 (concatenate S1024x3072 1
    [⟨S1024x1536, (extractStridedSlice S1024x1536 ![0, 0] (shapeCast S1024x3088 w shapeCasts_S1x1024x3088_S1024x3088) slices_S1024x3088_S1024x1536_0_0 : FVec Ideal S1024x1536 .f32)⟩,
     ⟨S1024x1536, (extractStridedSlice S1024x1536 ![0, 1544] (shapeCast S1024x3088 w shapeCasts_S1x1024x3088_S1024x3088) slices_S1024x3088_S1024x1536_0_1544 : FVec Ideal S1024x1536 .f32)⟩]
    concatenates_S1024x1536_S1024x1536_S1024x3072_d1 : FVec Ideal S1024x3072 .f32) bitsLt_bf16_f32
def gateColsOf (w : FVec Ideal S1x1024x3088 .f32) : FVec Ideal S1024x16 .f32 := concatenate S1024x16 1
    [⟨S1024x8, (extractStridedSlice S1024x8 ![0, 1536] (shapeCast S1024x3088 w shapeCasts_S1x1024x3088_S1024x3088) slices_S1024x3088_S1024x8_0_1536 : FVec Ideal S1024x8 .f32)⟩,
     ⟨S1024x8, (extractStridedSlice S1024x8 ![0, 3080] (shapeCast S1024x3088 w shapeCasts_S1x1024x3088_S1024x3088) slices_S1024x3088_S1024x8_0_3080 : FVec Ideal S1024x8 .f32)⟩]
    concatenates_S1024x8_S1024x8_S1024x16_d1
def gateWeightsOf (w : FVec Ideal S1x1024x3088 .f32) : FVec Ideal S1024x128 .bf16 := truncf .bf16 (pad S1024x128 ![0, 0] ![0, 112] ![0, 0] (gateColsOf w) (sitofp .f32 (constantI S_ 32 0#32)) pads_S1024x16_S1024x128_000_01120 h_S_ : FVec Ideal S1024x128 .f32) bitsLt_bf16_f32

/-- The padding's value. -/
theorem fill_zero : (FloatOps.sitofp FTy.f32 0#32 : Ideal .f32) = (0 : EReal) := by
  show (((0#32 : BitVec 32).toInt : ℝ) : EReal) = 0
  simp

theorem tokens_at (x : FVec Ideal S2x8192x1024 .f32) (r : Fin 16384) (n : Fin 1024) :
    (shapeCast S16384x1024 x shapeCasts_S2x8192x1024_S16384x1024 : FVec Ideal S16384x1024 .f32) (ix2 r n) = x (ix3 (rowSeq r) (rowTok r) n) := by
  pointwise [rowSeq, rowTok]

theorem gains_at (g : FVec Ideal S2x4x1024 .f32) (n : Fin 1024) :
    (broadcastInDim S1x1024 ![1] bcast_S1024_S1x1024_1 (shapeCast S1024 (extractStridedSlice S1x1x1024 ![0, 0, 0] g slices_S2x4x1024_S1x1x1024_0_0_0) shapeCasts_S1x1x1024_S1024) : FVec Ideal S1x1024 .f32) (ix2 0 n) = g (ix3 0 0 n) := by
  pointwise

theorem flat_at (w : FVec Ideal S1x1024x3088 .f32) (k : Fin 1024) (n : Fin 3088) :
    ((shapeCast S1024x3088 w shapeCasts_S1x1024x3088_S1024x3088) : FVec Ideal S1024x3088 .f32) (ix2 k n) = w (ix3 0 k n) := by
  pointwise

theorem mainsOf_lo (w : FVec Ideal S1x1024x3088 .f32) (k : Fin 1024) (n : Fin 3072) (h : n.val < 1536) (e : Fin 3088) (he : e.val = n.val) :
    mainsOf w (ix2 k n) = w (ix3 0 k e) := by
  have he' : e = (⟨n.val, by have := n.isLt; omega⟩ : Fin 3088) := Fin.ext he
  rw [he', ← flat_at w k]
  unfold mainsOf
  generalize (shapeCast S1024x3088 w shapeCasts_S1x1024x3088_S1024x3088) = f
  pointwise [h]

theorem mainsOf_hi (w : FVec Ideal S1x1024x3088 .f32) (k : Fin 1024) (n : Fin 3072) (h : ¬ n.val < 1536) (e : Fin 3088) (he : e.val = n.val + 8) :
    mainsOf w (ix2 k n) = w (ix3 0 k e) := by
  have he' : e = (⟨1544 + (n.val - 1536), by have := n.isLt; omega⟩ : Fin 3088) := Fin.ext (by show e.val = 1544 + (n.val - 1536); omega)
  rw [he', ← flat_at w k]
  unfold mainsOf
  generalize (shapeCast S1024x3088 w shapeCasts_S1x1024x3088_S1024x3088) = f
  pointwise [h]

theorem gateColsOf_at (w : FVec Ideal S1x1024x3088 .f32) (k : Fin 1024) (n : Fin 16) :
    gateColsOf w (ix2 k n) = if n.val < 8 then (w (ix3 0 k ⟨1536 + n.val, by omega⟩) : EReal) else w (ix3 0 k ⟨3072 + n.val, by omega⟩) := by
  rw [← flat_at w k ⟨1536 + n.val, by omega⟩, ← flat_at w k ⟨3072 + n.val, by omega⟩]
  unfold gateColsOf
  generalize (shapeCast S1024x3088 w shapeCasts_S1x1024x3088_S1024x3088) = f
  by_cases h8 : n.val < 8
  · rw [if_pos h8]
    pointwise [h8]
  · have e : 3072 + n.val = 3080 + (n.val - 8) := by omega
    rw [if_neg h8]
    simp only [e]
    pointwise [h8]

theorem gateWeightsOf_at (w : FVec Ideal S1x1024x3088 .f32) (k : Fin 1024) (n : Fin 128) :
    gateWeightsOf w (ix2 k n)
      = if h8 : n.val < 8 then (w (ix3 0 k ⟨1536 + n.val, by omega⟩) : EReal)
        else if h16 : n.val < 16 then w (ix3 0 k ⟨3072 + n.val, by omega⟩)
        else (0 : EReal) := by
  have cols := fun j => gateColsOf_at w k j
  unfold gateWeightsOf
  generalize gateColsOf w = g at cols ⊢
  by_cases h16 : n.val < 16
  · have pick : (truncf .bf16 (pad S1024x128 ![0, 0] ![0, 112] ![0, 0] g (sitofp .f32 (constantI S_ 32 0#32)) pads_S1024x16_S1024x128_000_01120 h_S_ : FVec Ideal S1024x128 .f32) bitsLt_bf16_f32 : FVec Ideal S1024x128 .bf16) (ix2 k n) = g (ix2 k ⟨n.val, h16⟩) := by
      pointwise [h16]
    rw [pick, cols]
    by_cases h8 : n.val < 8
    · rw [if_pos h8, dif_pos h8]
    · rw [if_neg h8, dif_neg h8, dif_pos h16]
  · rw [dif_neg (fun h => h16 (by omega)), dif_neg h16]
    pointwise [h16]
    exact fill_zero

def biasesOf (ib fb : FVec Ideal S1x4 .f32) (xb : FVec Ideal S1x8 .f32) : FVec Ideal S16 .f32 := concatenate S16 0
    [⟨S4, (shapeCast S4 ib shapeCasts_S1x4_S4 : FVec Ideal S4 .f32)⟩,
     ⟨S4, (shapeCast S4 fb shapeCasts_S1x4_S4 : FVec Ideal S4 .f32)⟩,
     ⟨S8, (shapeCast S8 xb shapeCasts_S1x8_S8 : FVec Ideal S8 .f32)⟩]
    concatenates_S4_S4_S8_S16_d0
def gateBiasOf (ib fb : FVec Ideal S1x4 .f32) (xb : FVec Ideal S1x8 .f32) : FVec Ideal S1x128 .f32 := broadcastInDim S1x128 ![1] bcast_S128_S1x128_1 (pad S128 ![0] ![112] ![0] (biasesOf ib fb xb) (sitofp .f32 (constantI S_ 32 0#32)) pads_S16_S128_01120 h_S_ : FVec Ideal S128 .f32)

theorem gateBiasOf_at (ib fb : FVec Ideal S1x4 .f32) (xb : FVec Ideal S1x8 .f32) (n : Fin 128) :
    gateBiasOf ib fb xb (ix2 0 n)
      = if h4 : n.val < 4 then (ib (ix2 0 ⟨n.val, h4⟩) : EReal)
        else if h8 : n.val < 8 then fb (ix2 0 ⟨n.val - 4, by omega⟩)
        else if h16 : n.val < 16 then xb (ix2 0 ⟨n.val - 8, by omega⟩)
        else (0 : EReal) := by
  by_cases h4 : n.val < 4
  · have h16 : n.val < 16 := by omega
    pointwise [gateBiasOf, biasesOf, h4, h16]
  · by_cases h8 : n.val < 8
    · have h16 : n.val < 16 := by omega
      have h44 : n.val - 4 < 4 := by omega
      pointwise [gateBiasOf, biasesOf, h4, h8, h16, h44]
    · have h44 : ¬ n.val - 4 < 4 := by omega
      have e : n.val - 4 - 4 = n.val - 8 := by omega
      by_cases h16 : n.val < 16
      · pointwise [gateBiasOf, biasesOf, h4, h8, h16, h44, e]
      · pointwise [gateBiasOf, biasesOf, h4, h8, h16]
        exact fill_zero

theorem tokens (c : Dev nD) : (V m c main_v16 : FVec Ideal S16384x1024 .f32) = shapeCast S16384x1024 (m ((c : Thread nD τ).loc main_arg0) : FVec Ideal S2x8192x1024 .f32) shapeCasts_S2x8192x1024_S16384x1024 := by
  unfold V
  simp only [hostOps0, hostOps0_1, hostOps0_2, hostOps0_3, hostOps0_4, List.flatten_cons, List.flatten_nil, List.append_nil, List.cons_append, List.nil_append]
  after_results
  rfl

theorem gains (c : Dev nD) : (V m c main_v19 : FVec Ideal S1x1024 .f32) = broadcastInDim S1x1024 ![1] bcast_S1024_S1x1024_1 (shapeCast S1024 (extractStridedSlice S1x1x1024 ![0, 0, 0] (m ((c : Thread nD τ).loc main_arg1) : FVec Ideal S2x4x1024 .f32) slices_S2x4x1024_S1x1x1024_0_0_0) shapeCasts_S1x1x1024_S1024) := by
  unfold V
  simp only [hostOps0, hostOps0_1, hostOps0_2, hostOps0_3, hostOps0_4, List.flatten_cons, List.flatten_nil, List.append_nil, List.cons_append, List.nil_append]
  after_results
  rfl

theorem blk0 (c : Dev nD) (t : Fin cfg0.N) (p : Fin 512) (n : Fin 1024) :
    (iblk m c 0 t : FVec Ideal S512x1024 .f32) (ix2 p n)
      = (m ((c : Thread nD τ).loc main_arg0) : FVec Ideal S2x8192x1024 .f32) (ix3 (seqOf t p) (tokOf t p) n) := by
  have b : (iblk m c 0 t : FVec Ideal S512x1024 .f32) (ix2 p n) = (V m c main_v16 : FVec Ideal S16384x1024 .f32) (ix2 (⟨t.val * 512 + p.val, by have := point_lt t; omega⟩) n) := by
    blk_simp [iblk]
    blk_ext [idx t]
  rw [b, tokens]
  exact tokens_at _ _ n

theorem blk1 (c : Dev nD) (t : Fin cfg0.N) (n : Fin 1024) :
    (iblk m c 1 t : FVec Ideal S1x1024 .f32) (ix2 0 n)
      = (m ((c : Thread nD τ).loc main_arg1) : FVec Ideal S2x4x1024 .f32) (ix3 0 0 n) := by
  have b : (iblk m c 1 t : FVec Ideal S1x1024 .f32) (ix2 0 n) = (V m c main_v19 : FVec Ideal S1x1024 .f32) (ix2 0 n) := by
    blk_simp [iblk]
    blk_ext [idx t]
  rw [b, gains]
  exact gains_at _ n

/-- The main weights: the columns of the wide matrix but the eight at column 1536 and the last eight. -/
theorem mains (c : Dev nD) : (V m c main_v4 : FVec Ideal S1024x3072 .bf16) = mainsOf (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

theorem blk2 (c : Dev nD) (t : Fin cfg0.N) (k : Fin 1024) (n : Fin 3072) :
    (iblk m c 2 t : FVec Ideal S1024x3072 .bf16) (ix2 k n) = (V m c main_v4 : FVec Ideal S1024x3072 .bf16) (ix2 k n) := by
  blk_simp [iblk]
  blk_ext [idx t]

theorem blk2lo (c : Dev nD) (t : Fin cfg0.N) (k : Fin 1024) (n : Fin 3072) (h : n.val < 1536) (e : Fin 3088) (he : e.val = n.val) :
    (iblk m c 2 t : FVec Ideal S1024x3072 .bf16) (ix2 k n)
      = (m ((c : Thread nD τ).loc main_arg2) : FVec Ideal S1x1024x3088 .f32) (ix3 0 k e) := by
  rw [blk2, mains]
  exact mainsOf_lo _ k n h e he

theorem blk2hi (c : Dev nD) (t : Fin cfg0.N) (k : Fin 1024) (n : Fin 3072) (h : ¬ n.val < 1536) (e : Fin 3088) (he : e.val = n.val + 8) :
    (iblk m c 2 t : FVec Ideal S1024x3072 .bf16) (ix2 k n)
      = (m ((c : Thread nD τ).loc main_arg2) : FVec Ideal S1x1024x3088 .f32) (ix3 0 k e) := by
  rw [blk2, mains]
  exact mainsOf_hi _ k n h e he

/-- The gates' weights and biases, padded with zeros to 128 lanes. -/
theorem gateWeights (c : Dev nD) : (V m c main_v9 : FVec Ideal S1024x128 .bf16) = gateWeightsOf (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

theorem gateBias (c : Dev nD) : (V m c main_v15 : FVec Ideal S1x128 .f32) = gateBiasOf (m ((c : Thread nD τ).loc main_arg3)) (m ((c : Thread nD τ).loc main_arg4)) (m ((c : Thread nD τ).loc main_arg5)) := by
  unfold V
  simp only [hostOps0, hostOps0_1, hostOps0_2, hostOps0_3, hostOps0_4, List.flatten_cons, List.flatten_nil, List.append_nil, List.cons_append, List.nil_append]
  after_results
  rfl

theorem blk3 (c : Dev nD) (t : Fin cfg0.N) (k : Fin 1024) (n : Fin 128) :
    (iblk m c 3 t : FVec Ideal S1024x128 .bf16) (ix2 k n)
      = if h8 : n.val < 8 then ((m ((c : Thread nD τ).loc main_arg2) : FVec Ideal S1x1024x3088 .f32) (ix3 0 k ⟨1536 + n.val, by omega⟩) : EReal)
        else if h16 : n.val < 16 then (m ((c : Thread nD τ).loc main_arg2) : FVec Ideal S1x1024x3088 .f32) (ix3 0 k ⟨3072 + n.val, by omega⟩)
        else (0 : EReal) := by
  have b : (iblk m c 3 t : FVec Ideal S1024x128 .bf16) (ix2 k n) = (V m c main_v9 : FVec Ideal S1024x128 .bf16) (ix2 k n) := by
    blk_simp [iblk]
    blk_ext [idx t]
  rw [b, gateWeights]
  exact gateWeightsOf_at _ k n

theorem blk4 (c : Dev nD) (t : Fin cfg0.N) (n : Fin 128) :
    (iblk m c 4 t : FVec Ideal S1x128 .f32) (ix2 0 n)
      = if h4 : n.val < 4 then ((m ((c : Thread nD τ).loc main_arg3) : FVec Ideal S1x4 .f32) (ix2 0 ⟨n.val, h4⟩) : EReal)
        else if h8 : n.val < 8 then (m ((c : Thread nD τ).loc main_arg4) : FVec Ideal S1x4 .f32) (ix2 0 ⟨n.val - 4, by omega⟩)
        else if h16 : n.val < 16 then (m ((c : Thread nD τ).loc main_arg5) : FVec Ideal S1x8 .f32) (ix2 0 ⟨n.val - 8, by omega⟩)
        else (0 : EReal) := by
  have b : (iblk m c 4 t : FVec Ideal S1x128 .f32) (ix2 0 n) = (V m c main_v15 : FVec Ideal S1x128 .f32) (ix2 0 n) := by
    blk_simp [iblk]
    blk_ext [idx t]
  rw [b, gateBias]
  exact gateBiasOf_at _ _ _ n

theorem nRow_eq (c : Dev nD) (t : Fin cfg0.N) (p : Fin 512) :
    nRow (iblk m c 0 t) (iblk m c 1 t) p = hRow (m ((c : Thread nD τ).loc main_arg0)) (m ((c : Thread nD τ).loc main_arg1)) (seqOf t p) (tokOf t p) := by
  unfold nRow hRow
  simp only [blk0, blk1]

theorem seg_lo (c : Dev nD) (t : Fin cfg0.N) (p : Fin 512) (n : Fin 3072) (h : n.val < 1536) (e : Fin 3088) (he : e.val = n.val) :
    seg (iblk m c 0 t) (iblk m c 1 t) (iblk m c 2 t) p n = wideAt (m ((c : Thread nD τ).loc main_arg0)) (m ((c : Thread nD τ).loc main_arg1)) (m ((c : Thread nD τ).loc main_arg2)) (seqOf t p) (tokOf t p) e := by
  unfold seg wideAt wide
  rw [nRow_eq]
  exact Finset.sum_congr rfl fun k _ => congrArg _ (blk2lo m c t k n h e he)

theorem seg_hi (c : Dev nD) (t : Fin cfg0.N) (p : Fin 512) (n : Fin 3072) (h : ¬ n.val < 1536) (e : Fin 3088) (he : e.val = n.val + 8) :
    seg (iblk m c 0 t) (iblk m c 1 t) (iblk m c 2 t) p n = wideAt (m ((c : Thread nD τ).loc main_arg0)) (m ((c : Thread nD τ).loc main_arg1)) (m ((c : Thread nD τ).loc main_arg2)) (seqOf t p) (tokOf t p) e := by
  unfold seg wideAt wide
  rw [nRow_eq]
  exact Finset.sum_congr rfl fun k _ => congrArg _ (blk2hi m c t k n h e he)

theorem blockGate_eq (c : Dev nD) (t : Fin cfg0.N) (p : Fin 512) (n : Fin 128) :
    blockGate (iblk m c 0 t) (iblk m c 1 t) (iblk m c 3 t) (iblk m c 4 t) p n
      = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t p) (tokOf t p) n := by
  unfold blockGate preGate gateAt gate wide
  rw [nRow_eq]
  simp only [blk3, blk4]
  by_cases h4 : n.val < 4
  · have h8 : n.val < 8 := by omega
    simp only [h4, h8, if_true, dif_pos]
  · by_cases h8 : n.val < 8
    · simp only [h4, h8, if_false, dif_pos, dif_neg, not_false_eq_true]
    · by_cases h16 : n.val < 16
      · simp only [h4, h8, h16, if_false, dif_pos, dif_neg, not_false_eq_true]
      · simp only [h4, h8, h16, if_false, dif_neg, not_false_eq_true, mul_zero, Finset.sum_const_zero, add_zero]

/-- Column `j` of the columns from `r` on. -/
def colAt (r : ℕ) {wd : ℕ} (h : r + wd ≤ 3088) (j : Fin wd) : Fin 3088 := ⟨r + j.val, by omega⟩

theorem block_mq (c : Dev nD) (t : Fin cfg0.N) (p : Fin 512) (j : Fin 256) :
    out0_5 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 0 (by decide) j) := by
  rw [mq_at, seg_lo m c t p ⟨0 + j.val, by omega⟩ (by show 0 + j.val < 1536; omega) (colAt 0 (by decide) j) (by show 0 + j.val = 0 + j.val; omega)]

def mqOut (x : FVec Ideal S2x8192x1024 .f32) (ng : FVec Ideal S2x4x1024 .f32) (w : FVec Ideal S1x1024x3088 .f32) : FVec Ideal S16384x256 .bf16 :=
  fun i => wideAt x ng w (rowSeq (i 0)) (rowTok (i 0)) (colAt 0 (by decide : 0 + 256 ≤ 3088) (i 1))

theorem final_mq (c : Dev nD) : (dats m 0 c).arrAt 5 (cfgs 0).N = mqOut (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine (block_mq m c t y0 y1).trans ?_
  have ee : ((View.whole main_v20_0).slice (win0_5.rect t)).emb (ix2 y0 y1) = (ix2 ⟨t.val * 512 + y0.val, by have := point_lt t; omega⟩ y1 : S16384x256.Idx) := by
    blk_ext [idx t]
  exact (show _ = mqOut (m ((c : Thread nD τ).loc main_arg0)) (m ((c : Thread nD τ).loc main_arg1)) (m ((c : Thread nD τ).loc main_arg2)) (ix2 ⟨t.val * 512 + y0.val, by have := point_lt t; omega⟩ y1 : S16384x256.Idx) from rfl).trans (congrArg (mqOut (m ((c : Thread nD τ).loc main_arg0)) (m ((c : Thread nD τ).loc main_arg1)) (m ((c : Thread nD τ).loc main_arg2))) ee.symm)

theorem block_mk (c : Dev nD) (t : Fin cfg0.N) (p : Fin 512) (j : Fin 256) :
    out0_6 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 256 (by decide) j) * Ideal.ofBits .f32 0x3E000000#32 := by
  rw [mk_at, seg_lo m c t p ⟨256 + j.val, by omega⟩ (by show 256 + j.val < 1536; omega) (colAt 256 (by decide) j) (by show 256 + j.val = 256 + j.val; omega)]

def mkOut (x : FVec Ideal S2x8192x1024 .f32) (ng : FVec Ideal S2x4x1024 .f32) (w : FVec Ideal S1x1024x3088 .f32) : FVec Ideal S16384x256 .bf16 :=
  fun i => wideAt x ng w (rowSeq (i 0)) (rowTok (i 0)) (colAt 256 (by decide : 256 + 256 ≤ 3088) (i 1)) * Ideal.ofBits .f32 0x3E000000#32

theorem final_mk (c : Dev nD) : (dats m 0 c).arrAt 6 (cfgs 0).N = mkOut (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  refine (block_mk m c t y0 y1).trans ?_
  have ee : ((View.whole main_v20_1).slice (win0_6.rect t)).emb (ix2 y0 y1) = (ix2 ⟨t.val * 512 + y0.val, by have := point_lt t; omega⟩ y1 : S16384x256.Idx) := by
    blk_ext [idx t]
  exact (show _ = mkOut (m ((c : Thread nD τ).loc main_arg0)) (m ((c : Thread nD τ).loc main_arg1)) (m ((c : Thread nD τ).loc main_arg2)) (ix2 ⟨t.val * 512 + y0.val, by have := point_lt t; omega⟩ y1 : S16384x256.Idx) from rfl).trans (congrArg (mkOut (m ((c : Thread nD τ).loc main_arg0)) (m ((c : Thread nD τ).loc main_arg1)) (m ((c : Thread nD τ).loc main_arg2))) ee.symm)

theorem block_mv (c : Dev nD) (t : Fin cfg0.N) (p : Fin 512) (j : Fin 512) :
    out0_7 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 512 (by decide) j) := by
  rw [mv_at, seg_lo m c t p ⟨512 + j.val, by omega⟩ (by show 512 + j.val < 1536; omega) (colAt 512 (by decide) j) (by show 512 + j.val = 512 + j.val; omega)]

def mvOut (x : FVec Ideal S2x8192x1024 .f32) (ng : FVec Ideal S2x4x1024 .f32) (w : FVec Ideal S1x1024x3088 .f32) : FVec Ideal S16384x512 .bf16 :=
  fun i => wideAt x ng w (rowSeq (i 0)) (rowTok (i 0)) (colAt 512 (by decide : 512 + 512 ≤ 3088) (i 1))

theorem final_mv (c : Dev nD) : (dats m 0 c).arrAt 7 (cfgs 0).N = mvOut (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  refine (block_mv m c t y0 y1).trans ?_
  have ee : ((View.whole main_v20_2).slice (win0_7.rect t)).emb (ix2 y0 y1) = (ix2 ⟨t.val * 512 + y0.val, by have := point_lt t; omega⟩ y1 : S16384x512.Idx) := by
    blk_ext [idx t]
  exact (show _ = mvOut (m ((c : Thread nD τ).loc main_arg0)) (m ((c : Thread nD τ).loc main_arg1)) (m ((c : Thread nD τ).loc main_arg2)) (ix2 ⟨t.val * 512 + y0.val, by have := point_lt t; omega⟩ y1 : S16384x512.Idx) from rfl).trans (congrArg (mvOut (m ((c : Thread nD τ).loc main_arg0)) (m ((c : Thread nD τ).loc main_arg1)) (m ((c : Thread nD τ).loc main_arg2))) ee.symm)

theorem block_mo (c : Dev nD) (t : Fin cfg0.N) (p : Fin 512) (j : Fin 512) :
    out0_8 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 1024 (by decide) j) := by
  rw [mo_at, seg_lo m c t p ⟨1024 + j.val, by omega⟩ (by show 1024 + j.val < 1536; omega) (colAt 1024 (by decide) j) (by show 1024 + j.val = 1024 + j.val; omega)]

def moOut (x : FVec Ideal S2x8192x1024 .f32) (ng : FVec Ideal S2x4x1024 .f32) (w : FVec Ideal S1x1024x3088 .f32) : FVec Ideal S16384x512 .f32 :=
  fun i => wideAt x ng w (rowSeq (i 0)) (rowTok (i 0)) (colAt 1024 (by decide : 1024 + 512 ≤ 3088) (i 1))

theorem final_mo (c : Dev nD) : (dats m 0 c).arrAt 8 (cfgs 0).N = moOut (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  refine (block_mo m c t y0 y1).trans ?_
  have ee : ((View.whole main_v20_3).slice (win0_8.rect t)).emb (ix2 y0 y1) = (ix2 ⟨t.val * 512 + y0.val, by have := point_lt t; omega⟩ y1 : S16384x512.Idx) := by
    blk_ext [idx t]
  exact (show _ = moOut (m ((c : Thread nD τ).loc main_arg0)) (m ((c : Thread nD τ).loc main_arg1)) (m ((c : Thread nD τ).loc main_arg2)) (ix2 ⟨t.val * 512 + y0.val, by have := point_lt t; omega⟩ y1 : S16384x512.Idx) from rfl).trans (congrArg (moOut (m ((c : Thread nD τ).loc main_arg0)) (m ((c : Thread nD τ).loc main_arg1)) (m ((c : Thread nD τ).loc main_arg2))) ee.symm)

theorem block_fq (c : Dev nD) (t : Fin cfg0.N) (p : Fin 512) (j : Fin 512) :
    out0_9 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 1544 (by decide) j) * Ideal.ofBits .f32 0x3E38AA3B#32 := by
  rw [fq_at, seg_hi m c t p ⟨1536 + j.val, by omega⟩ (by show ¬ 1536 + j.val < 1536; omega) (colAt 1544 (by decide) j) (by show 1544 + j.val = 1536 + j.val + 8; omega)]

def fqOut (x : FVec Ideal S2x8192x1024 .f32) (ng : FVec Ideal S2x4x1024 .f32) (w : FVec Ideal S1x1024x3088 .f32) : FVec Ideal S16384x512 .bf16 :=
  fun i => wideAt x ng w (rowSeq (i 0)) (rowTok (i 0)) (colAt 1544 (by decide : 1544 + 512 ≤ 3088) (i 1)) * Ideal.ofBits .f32 0x3E38AA3B#32

theorem final_fq (c : Dev nD) : (dats m 0 c).arrAt 9 (cfgs 0).N = fqOut (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  refine (block_fq m c t y0 y1).trans ?_
  have ee : ((View.whole main_v20_4).slice (win0_9.rect t)).emb (ix2 y0 y1) = (ix2 ⟨t.val * 512 + y0.val, by have := point_lt t; omega⟩ y1 : S16384x512.Idx) := by
    blk_ext [idx t]
  exact (show _ = fqOut (m ((c : Thread nD τ).loc main_arg0)) (m ((c : Thread nD τ).loc main_arg1)) (m ((c : Thread nD τ).loc main_arg2)) (ix2 ⟨t.val * 512 + y0.val, by have := point_lt t; omega⟩ y1 : S16384x512.Idx) from rfl).trans (congrArg (fqOut (m ((c : Thread nD τ).loc main_arg0)) (m ((c : Thread nD τ).loc main_arg1)) (m ((c : Thread nD τ).loc main_arg2))) ee.symm)

theorem block_fk (c : Dev nD) (t : Fin cfg0.N) (p : Fin 512) (j : Fin 512) :
    out0_10 (F := Ideal) (iblk m c 0 t) (iblk m c 1 t) (iblk m c 2 t) (iblk m c 3 t) (iblk m c 4 t) (ix3 0 j p)
      = wideAt (m ((c : Thread nD τ).loc main_arg0)) (m ((c : Thread nD τ).loc main_arg1)) (m ((c : Thread nD τ).loc main_arg2)) (seqOf t p) (tokOf t p) (colAt 2056 (by decide) j) := by
  rw [fk_at, seg_hi m c t p ⟨2048 + j.val, by omega⟩ (by show ¬ 2048 + j.val < 1536; omega) (colAt 2056 (by decide) j) (by show 2056 + j.val = 2048 + j.val + 8; omega)]

def fkOut (x : FVec Ideal S2x8192x1024 .f32) (ng : FVec Ideal S2x4x1024 .f32) (w : FVec Ideal S1x1024x3088 .f32) : FVec Ideal S2x512x8192 .f32 :=
  fun i => wideAt x ng w (i 0) (i 2) (colAt 2056 (by decide : 2056 + 512 ≤ 3088) (i 1))

theorem final_fk (c : Dev nD) : (dats m 0 c).arrAt 10 (cfgs 0).N = fkOut (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  idx_vars y
  obtain rfl : y0 = 0 := Subsingleton.elim _ _
  refine (block_fk m c t y2 y1).trans ?_
  have ee : ((View.whole main_v20_5).slice (win0_10.rect t)).emb (ix3 0 y1 y2) = (ix3 (seqOf t y2) y1 (tokOf t y2) : S2x512x8192.Idx) := by
    blk_ext [idx t, seqOf, tokOf]
  exact (show _ = fkOut (m ((c : Thread nD τ).loc main_arg0)) (m ((c : Thread nD τ).loc main_arg1)) (m ((c : Thread nD τ).loc main_arg2)) (ix3 (seqOf t y2) y1 (tokOf t y2) : S2x512x8192.Idx) from rfl).trans (congrArg (fkOut (m ((c : Thread nD τ).loc main_arg0)) (m ((c : Thread nD τ).loc main_arg1)) (m ((c : Thread nD τ).loc main_arg2))) ee.symm)

theorem block_fv (c : Dev nD) (t : Fin cfg0.N) (p : Fin 512) (j : Fin 512) :
    out0_11 (F := Ideal) (iblk m c 0 t) (iblk m c 1 t) (iblk m c 2 t) (iblk m c 3 t) (iblk m c 4 t) (ix3 0 j p)
      = wideAt (m ((c : Thread nD τ).loc main_arg0)) (m ((c : Thread nD τ).loc main_arg1)) (m ((c : Thread nD τ).loc main_arg2)) (seqOf t p) (tokOf t p) (colAt 2568 (by decide) j) := by
  rw [fv_at, seg_hi m c t p ⟨2560 + j.val, by omega⟩ (by show ¬ 2560 + j.val < 1536; omega) (colAt 2568 (by decide) j) (by show 2568 + j.val = 2560 + j.val + 8; omega)]

def fvOut (x : FVec Ideal S2x8192x1024 .f32) (ng : FVec Ideal S2x4x1024 .f32) (w : FVec Ideal S1x1024x3088 .f32) : FVec Ideal S2x512x8192 .f32 :=
  fun i => wideAt x ng w (i 0) (i 2) (colAt 2568 (by decide : 2568 + 512 ≤ 3088) (i 1))

theorem final_fv (c : Dev nD) : (dats m 0 c).arrAt 11 (cfgs 0).N = fvOut (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  idx_vars y
  obtain rfl : y0 = 0 := Subsingleton.elim _ _
  refine (block_fv m c t y2 y1).trans ?_
  have ee : ((View.whole main_v20_6).slice (win0_11.rect t)).emb (ix3 0 y1 y2) = (ix3 (seqOf t y2) y1 (tokOf t y2) : S2x512x8192.Idx) := by
    blk_ext [idx t, seqOf, tokOf]
  exact (show _ = fvOut (m ((c : Thread nD τ).loc main_arg0)) (m ((c : Thread nD τ).loc main_arg1)) (m ((c : Thread nD τ).loc main_arg2)) (ix3 (seqOf t y2) y1 (tokOf t y2) : S2x512x8192.Idx) from rfl).trans (congrArg (fvOut (m ((c : Thread nD τ).loc main_arg0)) (m ((c : Thread nD τ).loc main_arg1)) (m ((c : Thread nD τ).loc main_arg2))) ee.symm)

theorem block_fk16 (c : Dev nD) (t : Fin cfg0.N) (p : Fin 512) (j : Fin 512) :
    out0_12 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 2056 (by decide) j) := by
  rw [fk16_at, seg_hi m c t p ⟨2048 + j.val, by omega⟩ (by show ¬ 2048 + j.val < 1536; omega) (colAt 2056 (by decide) j) (by show 2056 + j.val = 2048 + j.val + 8; omega)]

def fk16Out (x : FVec Ideal S2x8192x1024 .f32) (ng : FVec Ideal S2x4x1024 .f32) (w : FVec Ideal S1x1024x3088 .f32) : FVec Ideal S16384x512 .bf16 :=
  fun i => wideAt x ng w (rowSeq (i 0)) (rowTok (i 0)) (colAt 2056 (by decide : 2056 + 512 ≤ 3088) (i 1))

theorem final_fk16 (c : Dev nD) : (dats m 0 c).arrAt 12 (cfgs 0).N = fk16Out (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  idx_vars y
  refine (block_fk16 m c t y0 y1).trans ?_
  have ee : ((View.whole main_v20_7).slice (win0_12.rect t)).emb (ix2 y0 y1) = (ix2 ⟨t.val * 512 + y0.val, by have := point_lt t; omega⟩ y1 : S16384x512.Idx) := by
    blk_ext [idx t]
  exact (show _ = fk16Out (m ((c : Thread nD τ).loc main_arg0)) (m ((c : Thread nD τ).loc main_arg1)) (m ((c : Thread nD τ).loc main_arg2)) (ix2 ⟨t.val * 512 + y0.val, by have := point_lt t; omega⟩ y1 : S16384x512.Idx) from rfl).trans (congrArg (fk16Out (m ((c : Thread nD τ).loc main_arg0)) (m ((c : Thread nD τ).loc main_arg1)) (m ((c : Thread nD τ).loc main_arg2))) ee.symm)

theorem block_fv16 (c : Dev nD) (t : Fin cfg0.N) (p : Fin 512) (j : Fin 512) :
    out0_13 (F := Ideal) (iblk m c 0 t) (iblk m c 1 t) (iblk m c 2 t) (iblk m c 3 t) (iblk m c 4 t) (ix3 0 j p)
      = wideAt (m ((c : Thread nD τ).loc main_arg0)) (m ((c : Thread nD τ).loc main_arg1)) (m ((c : Thread nD τ).loc main_arg2)) (seqOf t p) (tokOf t p) (colAt 2568 (by decide) j) := by
  rw [fv16_at, seg_hi m c t p ⟨2560 + j.val, by omega⟩ (by show ¬ 2560 + j.val < 1536; omega) (colAt 2568 (by decide) j) (by show 2568 + j.val = 2560 + j.val + 8; omega)]

def fv16Out (x : FVec Ideal S2x8192x1024 .f32) (ng : FVec Ideal S2x4x1024 .f32) (w : FVec Ideal S1x1024x3088 .f32) : FVec Ideal S2x512x8192 .bf16 :=
  fun i => wideAt x ng w (i 0) (i 2) (colAt 2568 (by decide : 2568 + 512 ≤ 3088) (i 1))

theorem final_fv16 (c : Dev nD) : (dats m 0 c).arrAt 13 (cfgs 0).N = fv16Out (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  idx_vars y
  obtain rfl : y0 = 0 := Subsingleton.elim _ _
  refine (block_fv16 m c t y2 y1).trans ?_
  have ee : ((View.whole main_v20_8).slice (win0_13.rect t)).emb (ix3 0 y1 y2) = (ix3 (seqOf t y2) y1 (tokOf t y2) : S2x512x8192.Idx) := by
    blk_ext [idx t, seqOf, tokOf]
  exact (show _ = fv16Out (m ((c : Thread nD τ).loc main_arg0)) (m ((c : Thread nD τ).loc main_arg1)) (m ((c : Thread nD τ).loc main_arg2)) (ix3 (seqOf t y2) y1 (tokOf t y2) : S2x512x8192.Idx) from rfl).trans (congrArg (fv16Out (m ((c : Thread nD τ).loc main_arg0)) (m ((c : Thread nD τ).loc main_arg1)) (m ((c : Thread nD τ).loc main_arg2))) ee.symm)

theorem block_g (c : Dev nD) (t : Fin cfg0.N) (p : Fin 512) (n : Fin 128) :
    out0_14 (F := Ideal) (iblk m c 0 t) (iblk m c 1 t) (iblk m c 2 t) (iblk m c 3 t) (iblk m c 4 t) (ix2 p n) = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t p) (tokOf t p) n := by
  rw [g_at, blockGate_eq]

def gOut (x : FVec Ideal S2x8192x1024 .f32) (ng : FVec Ideal S2x4x1024 .f32) (w : FVec Ideal S1x1024x3088 .f32) (ib fb : FVec Ideal S1x4 .f32) (xb : FVec Ideal S1x8 .f32) : FVec Ideal S16384x128 .f32 :=
  fun i => gateAt x ng w ib fb xb (rowSeq (i 0)) (rowTok (i 0)) (i 1)

theorem final_g (c : Dev nD) : (dats m 0 c).arrAt 14 (cfgs 0).N = gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  idx_vars y
  refine (block_g m c t y0 y1).trans ?_
  have ee : ((View.whole main_v20_9).slice (win0_14.rect t)).emb (ix2 y0 y1) = (ix2 ⟨t.val * 512 + y0.val, by have := point_lt t; omega⟩ y1 : S16384x128.Idx) := by
    blk_ext [idx t]
  exact (show _ = gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + y0.val, by have := point_lt t; omega⟩ y1 : S16384x128.Idx) from rfl).trans (congrArg (gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ee.symm)

theorem block_gT (c : Dev nD) (t : Fin cfg0.N) (p : Fin 512) (n : Fin 128) :
    out0_15 (F := Ideal) (iblk m c 0 t) (iblk m c 1 t) (iblk m c 2 t) (iblk m c 3 t) (iblk m c 4 t) (ix2 n p) = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t p) (tokOf t p) n := by
  rw [gT_at, blockGate_eq]

def gTOut (x : FVec Ideal S2x8192x1024 .f32) (ng : FVec Ideal S2x4x1024 .f32) (w : FVec Ideal S1x1024x3088 .f32) (ib fb : FVec Ideal S1x4 .f32) (xb : FVec Ideal S1x8 .f32) : FVec Ideal S128x16384 .f32 :=
  fun i => gateAt x ng w ib fb xb (rowSeq (i 1)) (rowTok (i 1)) (i 0)

theorem final_gT (c : Dev nD) : (dats m 0 c).arrAt 15 (cfgs 0).N = gTOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 15 _ (by decide +kernel) fun t _ y => ?_
  blk_simp
  rw [after0_15]
  idx_vars y
  refine (block_gT m c t y1 y0).trans ?_
  have ee : ((View.whole main_v20_10).slice (win0_15.rect t)).emb (ix2 y0 y1) = (ix2 y0 ⟨t.val * 512 + y1.val, by have := point_lt t; omega⟩ : S128x16384.Idx) := by
    blk_ext [idx t]
  exact (show _ = gTOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 y0 ⟨t.val * 512 + y1.val, by have := point_lt t; omega⟩ : S128x16384.Idx) from rfl).trans (congrArg (gTOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ee.symm)

end Cert.Kernel5Ideal.RefValue

namespace Cert.Reference5Ideal.RefValue

open Cert.Reference5Ideal Cert.Reference5Ideal.Gen Cert.Reference5Ideal.Value Cert.Rows
open Idealize.ShloMosaic Idealize.ShloMosaic.TcCoe Idealize.SL.Sem

/-- The reference's normalised activations, and their product with the wide matrix. -/
def normT (x : FVec Ideal S2x8192x1024 .f32) (ng : FVec Ideal S2x4x1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ (extractStridedSlice S1x1x1024 ![0, 0, 0] ng slices_S2x4x1024_S1x1x1024_0_0_0) shapeCasts_S1x1x1024_S1024)))

def projT (x : FVec Ideal S2x8192x1024 .f32) (ng : FVec Ideal S2x4x1024 .f32) (w : FVec Ideal S1x1024x3088 .f32) : FVec Ideal S2x8192x3088 .f32 :=
  Host.dotGeneral dot_S2x8192x1024_S1024x3088_S2x8192x3088_2_0_01_1_n_n none (normT x ng) (shapeCast _ w shapeCasts_S1x1024x3088_S1024x3088)

theorem normT_at (x : FVec Ideal S2x8192x1024 .f32) (ng : FVec Ideal S2x4x1024 .f32) (s : Fin 2) (t : Fin 8192) (k : Fin 1024) :
    normT x ng (ix3 s t k) = Cert.Kernel5Ideal.RefValue.hRow x ng s t k := by
  pointwise [normT, Cert.Kernel5Ideal.RefValue.hRow, rms]

theorem projT_at (x : FVec Ideal S2x8192x1024 .f32) (ng : FVec Ideal S2x4x1024 .f32) (w : FVec Ideal S1x1024x3088 .f32) (s : Fin 2) (t : Fin 8192) (n : Fin 3088) :
    projT x ng w (ix3 s t n) = Cert.Kernel5Ideal.RefValue.wideAt x ng w s t n := by
  pointwise [projT, normT_at, Cert.Kernel5Ideal.RefValue.wideAt, wide]

/-- The logarithm of the logistic function over 4 columns, operation by operation. -/
def lsig4T (v : FVec Ideal S2x8192x4 .f32) : FVec Ideal S2x8192x4 .f32 :=
  Host.negf (select (cmpf .une (subf (Host.negf v) (broadcastInDim S2x8192x4 ![] bcast_S_S2x8192x4 (constant S_ .f32 0x00000000#32))) (subf (Host.negf v) (broadcastInDim S2x8192x4 ![] bcast_S_S2x8192x4 (constant S_ .f32 0x00000000#32)))) (addf (Host.negf v) (broadcastInDim S2x8192x4 ![] bcast_S_S2x8192x4 (constant S_ .f32 0x00000000#32)))
    (addf (maximumf (Host.negf v) (broadcastInDim S2x8192x4 ![] bcast_S_S2x8192x4 (constant S_ .f32 0x00000000#32))) (Host.log1p (Host.exp (Host.negf (Host.absf (subf (Host.negf v) (broadcastInDim S2x8192x4 ![] bcast_S_S2x8192x4 (constant S_ .f32 0x00000000#32)))))))))

theorem lsig4T_at (v : FVec Ideal S2x8192x4 .f32) (s : Fin 2) (t : Fin 8192) (j : Fin 4) :
    lsig4T v (ix3 s t j) = lsig (v (ix3 s t j)) := by
  rw [← lsig_host]
  pointwise [lsig4T, tailLog]
  simp only [ne_eq, not_true_eq_false, if_false, zero_sub]
  rfl

/-- The logarithm of the logistic function over 8 columns, operation by operation. -/
def lsig8T (v : FVec Ideal S2x8192x8 .f32) : FVec Ideal S2x8192x8 .f32 :=
  Host.negf (select (cmpf .une (subf (Host.negf v) (broadcastInDim S2x8192x8 ![] bcast_S_S2x8192x8 (constant S_ .f32 0x00000000#32))) (subf (Host.negf v) (broadcastInDim S2x8192x8 ![] bcast_S_S2x8192x8 (constant S_ .f32 0x00000000#32)))) (addf (Host.negf v) (broadcastInDim S2x8192x8 ![] bcast_S_S2x8192x8 (constant S_ .f32 0x00000000#32)))
    (addf (maximumf (Host.negf v) (broadcastInDim S2x8192x8 ![] bcast_S_S2x8192x8 (constant S_ .f32 0x00000000#32))) (Host.log1p (Host.exp (Host.negf (Host.absf (subf (Host.negf v) (broadcastInDim S2x8192x8 ![] bcast_S_S2x8192x8 (constant S_ .f32 0x00000000#32)))))))))

theorem lsig8T_at (v : FVec Ideal S2x8192x8 .f32) (s : Fin 2) (t : Fin 8192) (j : Fin 8) :
    lsig8T v (ix3 s t j) = lsig (v (ix3 s t j)) := by
  rw [← lsig_host]
  pointwise [lsig8T, tailLog]
  simp only [ne_eq, not_true_eq_false, if_false, zero_sub]
  rfl

/-- The logarithm of the logistic function over 112 columns, operation by operation. -/
def lsig112T (v : FVec Ideal S2x8192x112 .f32) : FVec Ideal S2x8192x112 .f32 :=
  Host.negf (select (cmpf .une (subf (Host.negf v) (broadcastInDim S2x8192x112 ![] bcast_S_S2x8192x112 (constant S_ .f32 0x00000000#32))) (subf (Host.negf v) (broadcastInDim S2x8192x112 ![] bcast_S_S2x8192x112 (constant S_ .f32 0x00000000#32)))) (addf (Host.negf v) (broadcastInDim S2x8192x112 ![] bcast_S_S2x8192x112 (constant S_ .f32 0x00000000#32)))
    (addf (maximumf (Host.negf v) (broadcastInDim S2x8192x112 ![] bcast_S_S2x8192x112 (constant S_ .f32 0x00000000#32))) (Host.log1p (Host.exp (Host.negf (Host.absf (subf (Host.negf v) (broadcastInDim S2x8192x112 ![] bcast_S_S2x8192x112 (constant S_ .f32 0x00000000#32)))))))))

theorem lsig112T_at (v : FVec Ideal S2x8192x112 .f32) (s : Fin 2) (t : Fin 8192) (j : Fin 112) :
    lsig112T v (ix3 s t j) = lsig (v (ix3 s t j)) := by
  rw [← lsig_host]
  pointwise [lsig112T, tailLog]
  simp only [ne_eq, not_true_eq_false, if_false, zero_sub]
  rfl

/-- The sixteen gates and the lanes past them. -/
def gatesT (x : FVec Ideal S2x8192x1024 .f32) (ng : FVec Ideal S2x4x1024 .f32) (w : FVec Ideal S1x1024x3088 .f32) (ib fb : FVec Ideal S1x4 .f32) (xb : FVec Ideal S1x8 .f32) : FVec Ideal S2x8192x128 .f32 :=
  concatenate S2x8192x128 2 [⟨S2x8192x4, (addf (extractStridedSlice S2x8192x4 ![0, 0, 1536] (projT x ng w) slices_S2x8192x3088_S2x8192x4_0_0_1536) (broadcastInDim S2x8192x4 ![0, 1, 2] bcast_S1x1x4_S2x8192x4_0_1_2 (broadcastInDim S1x1x4 ![2] bcast_S4_S1x1x4_2 (shapeCast _ ib shapeCasts_S1x4_S4))) : FVec Ideal S2x8192x4 .f32)⟩,
    ⟨S2x8192x4, lsig4T (addf (extractStridedSlice S2x8192x4 ![0, 0, 1540] (projT x ng w) slices_S2x8192x3088_S2x8192x4_0_0_1540) (broadcastInDim S2x8192x4 ![0, 1, 2] bcast_S1x1x4_S2x8192x4_0_1_2 (broadcastInDim S1x1x4 ![2] bcast_S4_S1x1x4_2 (shapeCast _ fb shapeCasts_S1x4_S4))))⟩,
    ⟨S2x8192x8, lsig8T (addf (extractStridedSlice S2x8192x8 ![0, 0, 3080] (projT x ng w) slices_S2x8192x3088_S2x8192x8_0_0_3080) (broadcastInDim S2x8192x8 ![0, 1, 2] bcast_S1x1x8_S2x8192x8_0_1_2 (broadcastInDim S1x1x8 ![2] bcast_S8_S1x1x8_2 (shapeCast _ xb shapeCasts_S1x8_S8))))⟩,
    ⟨S2x8192x112, lsig112T (broadcastInDim S2x8192x112 ![] bcast_S_S2x8192x112 (constant S_ .f32 0x00000000#32))⟩]
    concatenates_S2x8192x4_S2x8192x4_S2x8192x8_S2x8192x112_S2x8192x128_d2

theorem gatesT_at (x : FVec Ideal S2x8192x1024 .f32) (ng : FVec Ideal S2x4x1024 .f32) (w : FVec Ideal S1x1024x3088 .f32) (ib fb : FVec Ideal S1x4 .f32) (xb : FVec Ideal S1x8 .f32) (s : Fin 2) (t : Fin 8192) (n : Fin 128) :
    gatesT x ng w ib fb xb (ix3 s t n) = Cert.Kernel5Ideal.RefValue.gateAt x ng w ib fb xb s t n := by
  unfold Cert.Kernel5Ideal.RefValue.gateAt gate
  by_cases h4 : n.val < 4
  · pointwise [gatesT, projT_at, Cert.Kernel5Ideal.RefValue.wideAt, h4]
  · by_cases h8 : n.val < 8
    · have q : n.val - 4 < 4 := by omega
      have e : 1540 + (n.val - 4) = 1536 + n.val := by omega
      pointwise [gatesT, lsig4T_at, projT_at, Cert.Kernel5Ideal.RefValue.wideAt, h4, h8, q, e]
    · by_cases h16 : n.val < 16
      · have q : ¬ n.val - 4 < 4 := by omega
        have r : n.val - 4 - 4 < 8 := by omega
        have e : 3080 + (n.val - 4 - 4) = 3072 + n.val := by omega
        have e' : n.val - 4 - 4 = n.val - 8 := by omega
        have r' : n.val - 8 < 8 := by omega
        have e2 : 3080 + (n.val - 8) = 3072 + n.val := by omega
        pointwise [gatesT, lsig8T_at, projT_at, Cert.Kernel5Ideal.RefValue.wideAt, h4, h8, h16, q, r, e, e', r', e2]
      · have q : ¬ n.val - 4 < 4 := by omega
        have r : ¬ n.val - 4 - 4 < 8 := by omega
        pointwise [gatesT, lsig112T_at, h4, h8, h16, q, r]

def mqT (x : FVec Ideal S2x8192x1024 .f32) (ng : FVec Ideal S2x4x1024 .f32) (w : FVec Ideal S1x1024x3088 .f32) : FVec Ideal S16384x256 .bf16 :=
  truncf .bf16 (shapeCast _ (extractStridedSlice S2x8192x256 ![0, 0, 0] (projT x ng w) slices_S2x8192x3088_S2x8192x256_0_0_0) shapeCasts_S2x8192x256_S16384x256) bitsLt_bf16_f32

theorem mqT_eq (x : FVec Ideal S2x8192x1024 .f32) (ng : FVec Ideal S2x4x1024 .f32) (w : FVec Ideal S1x1024x3088 .f32) :
    mqT x ng w = Cert.Kernel5Ideal.RefValue.mqOut x ng w := by
  funext i
  idx_vars i
  pointwise [mqT, projT_at, Cert.Kernel5Ideal.RefValue.mqOut, Cert.Kernel5Ideal.RefValue.rowSeq, Cert.Kernel5Ideal.RefValue.rowTok, Cert.Kernel5Ideal.RefValue.colAt]

def mkT (x : FVec Ideal S2x8192x1024 .f32) (ng : FVec Ideal S2x4x1024 .f32) (w : FVec Ideal S1x1024x3088 .f32) : FVec Ideal S16384x256 .bf16 :=
  truncf .bf16 (shapeCast _ (mulf (extractStridedSlice S2x8192x256 ![0, 0, 256] (projT x ng w) slices_S2x8192x3088_S2x8192x256_0_0_256) (broadcastInDim S2x8192x256 ![] bcast_S_S2x8192x256 (constant S_ .f32 0x3E000000#32))) shapeCasts_S2x8192x256_S16384x256) bitsLt_bf16_f32

theorem mkT_eq (x : FVec Ideal S2x8192x1024 .f32) (ng : FVec Ideal S2x4x1024 .f32) (w : FVec Ideal S1x1024x3088 .f32) :
    mkT x ng w = Cert.Kernel5Ideal.RefValue.mkOut x ng w := by
  funext i
  idx_vars i
  pointwise [mkT, projT_at, Cert.Kernel5Ideal.RefValue.mkOut, Cert.Kernel5Ideal.RefValue.rowSeq, Cert.Kernel5Ideal.RefValue.rowTok, Cert.Kernel5Ideal.RefValue.colAt]

def mvT (x : FVec Ideal S2x8192x1024 .f32) (ng : FVec Ideal S2x4x1024 .f32) (w : FVec Ideal S1x1024x3088 .f32) : FVec Ideal S16384x512 .bf16 :=
  truncf .bf16 (shapeCast _ (extractStridedSlice S2x8192x512 ![0, 0, 512] (projT x ng w) slices_S2x8192x3088_S2x8192x512_0_0_512) shapeCasts_S2x8192x512_S16384x512) bitsLt_bf16_f32

theorem mvT_eq (x : FVec Ideal S2x8192x1024 .f32) (ng : FVec Ideal S2x4x1024 .f32) (w : FVec Ideal S1x1024x3088 .f32) :
    mvT x ng w = Cert.Kernel5Ideal.RefValue.mvOut x ng w := by
  funext i
  idx_vars i
  pointwise [mvT, projT_at, Cert.Kernel5Ideal.RefValue.mvOut, Cert.Kernel5Ideal.RefValue.rowSeq, Cert.Kernel5Ideal.RefValue.rowTok, Cert.Kernel5Ideal.RefValue.colAt]

def moT (x : FVec Ideal S2x8192x1024 .f32) (ng : FVec Ideal S2x4x1024 .f32) (w : FVec Ideal S1x1024x3088 .f32) : FVec Ideal S16384x512 .f32 :=
  shapeCast _ (extractStridedSlice S2x8192x512 ![0, 0, 1024] (projT x ng w) slices_S2x8192x3088_S2x8192x512_0_0_1024) shapeCasts_S2x8192x512_S16384x512

theorem moT_eq (x : FVec Ideal S2x8192x1024 .f32) (ng : FVec Ideal S2x4x1024 .f32) (w : FVec Ideal S1x1024x3088 .f32) :
    moT x ng w = Cert.Kernel5Ideal.RefValue.moOut x ng w := by
  funext i
  idx_vars i
  pointwise [moT, projT_at, Cert.Kernel5Ideal.RefValue.moOut, Cert.Kernel5Ideal.RefValue.rowSeq, Cert.Kernel5Ideal.RefValue.rowTok, Cert.Kernel5Ideal.RefValue.colAt]

def fqT (x : FVec Ideal S2x8192x1024 .f32) (ng : FVec Ideal S2x4x1024 .f32) (w : FVec Ideal S1x1024x3088 .f32) : FVec Ideal S16384x512 .bf16 :=
  truncf .bf16 (shapeCast _ (mulf (extractStridedSlice S2x8192x512 ![0, 0, 1544] (projT x ng w) slices_S2x8192x3088_S2x8192x512_0_0_1544) (broadcastInDim S2x8192x512 ![] bcast_S_S2x8192x512 (constant S_ .f32 0x3E38AA3B#32))) shapeCasts_S2x8192x512_S16384x512) bitsLt_bf16_f32

theorem fqT_eq (x : FVec Ideal S2x8192x1024 .f32) (ng : FVec Ideal S2x4x1024 .f32) (w : FVec Ideal S1x1024x3088 .f32) :
    fqT x ng w = Cert.Kernel5Ideal.RefValue.fqOut x ng w := by
  funext i
  idx_vars i
  pointwise [fqT, projT_at, Cert.Kernel5Ideal.RefValue.fqOut, Cert.Kernel5Ideal.RefValue.rowSeq, Cert.Kernel5Ideal.RefValue.rowTok, Cert.Kernel5Ideal.RefValue.colAt]

def fkT (x : FVec Ideal S2x8192x1024 .f32) (ng : FVec Ideal S2x4x1024 .f32) (w : FVec Ideal S1x1024x3088 .f32) : FVec Ideal S2x512x8192 .f32 :=
  transpose S2x512x8192 [0, 2, 1] (extractStridedSlice S2x8192x512 ![0, 0, 2056] (projT x ng w) slices_S2x8192x3088_S2x8192x512_0_0_2056) transposes_S2x8192x512_S2x512x8192_0_2_1

theorem fkT_eq (x : FVec Ideal S2x8192x1024 .f32) (ng : FVec Ideal S2x4x1024 .f32) (w : FVec Ideal S1x1024x3088 .f32) :
    fkT x ng w = Cert.Kernel5Ideal.RefValue.fkOut x ng w := by
  funext i
  idx_vars i
  pointwise [fkT, projT_at, Cert.Kernel5Ideal.RefValue.fkOut, Cert.Kernel5Ideal.RefValue.rowSeq, Cert.Kernel5Ideal.RefValue.rowTok, Cert.Kernel5Ideal.RefValue.colAt]

def fvT (x : FVec Ideal S2x8192x1024 .f32) (ng : FVec Ideal S2x4x1024 .f32) (w : FVec Ideal S1x1024x3088 .f32) : FVec Ideal S2x512x8192 .f32 :=
  transpose S2x512x8192 [0, 2, 1] (extractStridedSlice S2x8192x512 ![0, 0, 2568] (projT x ng w) slices_S2x8192x3088_S2x8192x512_0_0_2568) transposes_S2x8192x512_S2x512x8192_0_2_1

theorem fvT_eq (x : FVec Ideal S2x8192x1024 .f32) (ng : FVec Ideal S2x4x1024 .f32) (w : FVec Ideal S1x1024x3088 .f32) :
    fvT x ng w = Cert.Kernel5Ideal.RefValue.fvOut x ng w := by
  funext i
  idx_vars i
  pointwise [fvT, projT_at, Cert.Kernel5Ideal.RefValue.fvOut, Cert.Kernel5Ideal.RefValue.rowSeq, Cert.Kernel5Ideal.RefValue.rowTok, Cert.Kernel5Ideal.RefValue.colAt]

def fk16T (x : FVec Ideal S2x8192x1024 .f32) (ng : FVec Ideal S2x4x1024 .f32) (w : FVec Ideal S1x1024x3088 .f32) : FVec Ideal S16384x512 .bf16 :=
  truncf .bf16 (shapeCast _ (extractStridedSlice S2x8192x512 ![0, 0, 2056] (projT x ng w) slices_S2x8192x3088_S2x8192x512_0_0_2056) shapeCasts_S2x8192x512_S16384x512) bitsLt_bf16_f32

theorem fk16T_eq (x : FVec Ideal S2x8192x1024 .f32) (ng : FVec Ideal S2x4x1024 .f32) (w : FVec Ideal S1x1024x3088 .f32) :
    fk16T x ng w = Cert.Kernel5Ideal.RefValue.fk16Out x ng w := by
  funext i
  idx_vars i
  pointwise [fk16T, projT_at, Cert.Kernel5Ideal.RefValue.fk16Out, Cert.Kernel5Ideal.RefValue.rowSeq, Cert.Kernel5Ideal.RefValue.rowTok, Cert.Kernel5Ideal.RefValue.colAt]

def fv16T (x : FVec Ideal S2x8192x1024 .f32) (ng : FVec Ideal S2x4x1024 .f32) (w : FVec Ideal S1x1024x3088 .f32) : FVec Ideal S2x512x8192 .bf16 :=
  truncf .bf16 (transpose S2x512x8192 [0, 2, 1] (extractStridedSlice S2x8192x512 ![0, 0, 2568] (projT x ng w) slices_S2x8192x3088_S2x8192x512_0_0_2568) transposes_S2x8192x512_S2x512x8192_0_2_1) bitsLt_bf16_f32

theorem fv16T_eq (x : FVec Ideal S2x8192x1024 .f32) (ng : FVec Ideal S2x4x1024 .f32) (w : FVec Ideal S1x1024x3088 .f32) :
    fv16T x ng w = Cert.Kernel5Ideal.RefValue.fv16Out x ng w := by
  funext i
  idx_vars i
  pointwise [fv16T, projT_at, Cert.Kernel5Ideal.RefValue.fv16Out, Cert.Kernel5Ideal.RefValue.rowSeq, Cert.Kernel5Ideal.RefValue.rowTok, Cert.Kernel5Ideal.RefValue.colAt]

def gT (x : FVec Ideal S2x8192x1024 .f32) (ng : FVec Ideal S2x4x1024 .f32) (w : FVec Ideal S1x1024x3088 .f32) (ib fb : FVec Ideal S1x4 .f32) (xb : FVec Ideal S1x8 .f32) : FVec Ideal S16384x128 .f32 :=
  shapeCast _ (gatesT x ng w ib fb xb) shapeCasts_S2x8192x128_S16384x128

theorem gT_eq (x : FVec Ideal S2x8192x1024 .f32) (ng : FVec Ideal S2x4x1024 .f32) (w : FVec Ideal S1x1024x3088 .f32) (ib fb : FVec Ideal S1x4 .f32) (xb : FVec Ideal S1x8 .f32) :
    gT x ng w ib fb xb = Cert.Kernel5Ideal.RefValue.gOut x ng w ib fb xb := by
  funext i
  idx_vars i
  pointwise [gT, gatesT_at, Cert.Kernel5Ideal.RefValue.gOut, Cert.Kernel5Ideal.RefValue.rowSeq, Cert.Kernel5Ideal.RefValue.rowTok, Cert.Kernel5Ideal.RefValue.colAt]

def gTT (x : FVec Ideal S2x8192x1024 .f32) (ng : FVec Ideal S2x4x1024 .f32) (w : FVec Ideal S1x1024x3088 .f32) (ib fb : FVec Ideal S1x4 .f32) (xb : FVec Ideal S1x8 .f32) : FVec Ideal S128x16384 .f32 :=
  transpose S128x16384 [1, 0] (shapeCast _ (gatesT x ng w ib fb xb) shapeCasts_S2x8192x128_S16384x128) transposes_S16384x128_S128x16384_1_0

theorem gTT_eq (x : FVec Ideal S2x8192x1024 .f32) (ng : FVec Ideal S2x4x1024 .f32) (w : FVec Ideal S1x1024x3088 .f32) (ib fb : FVec Ideal S1x4 .f32) (xb : FVec Ideal S1x8 .f32) :
    gTT x ng w ib fb xb = Cert.Kernel5Ideal.RefValue.gTOut x ng w ib fb xb := by
  funext i
  idx_vars i
  pointwise [gTT, gatesT_at, Cert.Kernel5Ideal.RefValue.gTOut, Cert.Kernel5Ideal.RefValue.rowSeq, Cert.Kernel5Ideal.RefValue.rowTok, Cert.Kernel5Ideal.RefValue.colAt]

end Cert.Reference5Ideal.RefValue

end
-- ==== Proof.InClaim.lean ====
module

public import proofs.«01_k».proof.Defs
public import proofs.«01_k».proof.Proof.InValue
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.Value
public import Idealize.ShloMosaic.Lib.Quiescent

@[expose] public section

set_option maxRecDepth 16384

noncomputable section

namespace Cert.Proof.InClaim

open Idealize.ShloMosaic Idealize.ShloMosaic.TcCoe Idealize.SL.Sem

/-- Result 0 of the call as a function of the argument arrays. -/
def value0 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x256 .bf16 :=
  Cert.Kernel5Ideal.RefValue.mqOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 1 of the call as a function of the argument arrays. -/
def value1 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x256 .bf16 :=
  Cert.Kernel5Ideal.RefValue.mkOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 2 of the call as a function of the argument arrays. -/
def value2 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x512 .bf16 :=
  Cert.Kernel5Ideal.RefValue.mvOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 3 of the call as a function of the argument arrays. -/
def value3 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x512 .f32 :=
  Cert.Kernel5Ideal.RefValue.moOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 4 of the call as a function of the argument arrays. -/
def value4 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x512 .bf16 :=
  Cert.Kernel5Ideal.RefValue.fqOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 5 of the call as a function of the argument arrays. -/
def value5 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S2x512x8192 .f32 :=
  Cert.Kernel5Ideal.RefValue.fkOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 6 of the call as a function of the argument arrays. -/
def value6 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S2x512x8192 .f32 :=
  Cert.Kernel5Ideal.RefValue.fvOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 7 of the call as a function of the argument arrays. -/
def value7 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x512 .bf16 :=
  Cert.Kernel5Ideal.RefValue.fk16Out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 8 of the call as a function of the argument arrays. -/
def value8 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S2x512x8192 .bf16 :=
  Cert.Kernel5Ideal.RefValue.fv16Out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))

/-- Result 9 of the call as a function of the argument arrays. -/
def value9 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S16384x128 .f32 :=
  Cert.Kernel5Ideal.RefValue.gOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))

/-- Result 10 of the call as a function of the argument arrays. -/
def value10 (m : (ℓ : Loc Cert.Kernel5Ideal.nD Cert.Kernel5Ideal.τ Cert.Kernel5Ideal.sig) → Buf (Elt Ideal) ℓ) (c : Dev Cert.Kernel5Ideal.nD) : FVec Ideal Cert.Kernel5Ideal.S128x16384 .f32 :=
  Cert.Kernel5Ideal.RefValue.gTOut (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2.2.2.2.2.2.2.2.2.2, Idealize.ShloMosaic.sem_eq_zero_of_no_sems (by decide) r.2⟩)
    (Cert.Reference5Ideal.Value.run (F := Ideal) m ρ)

theorem preserves : Cert.preserves_Kernel5_Kernel5Ideal := trivial

/-- The kernel's result arrays and the reference's are the same functions of the same arguments. -/
theorem algebraic : Cert.algebraic_Kernel5Ideal_Reference5Ideal := by
  intro m ρ m' ρ' _ hagree
  refine ⟨fun c => value0 m c, fun c => value1 m c, fun c => value2 m c, fun c => value3 m c, fun c => value4 m c, fun c => value5 m c, fun c => value6 m c, fun c => value7 m c, fun c => value8 m c, fun c => value9 m c, fun c => value10 m c, ?_, ?_⟩
  · refine (θ_run Cert.Kernel5Ideal.defs _ _).mono (fun _ h c => ⟨(h c).1.trans (Cert.Kernel5Ideal.RefValue.final_mq m c), (h c).2.1.trans (Cert.Kernel5Ideal.RefValue.final_mk m c), (h c).2.2.1.trans (Cert.Kernel5Ideal.RefValue.final_mv m c), (h c).2.2.2.1.trans (Cert.Kernel5Ideal.RefValue.final_mo m c), (h c).2.2.2.2.1.trans (Cert.Kernel5Ideal.RefValue.final_fq m c), (h c).2.2.2.2.2.1.trans (Cert.Kernel5Ideal.RefValue.final_fk m c), (h c).2.2.2.2.2.2.1.trans (Cert.Kernel5Ideal.RefValue.final_fv m c), (h c).2.2.2.2.2.2.2.1.trans (Cert.Kernel5Ideal.RefValue.final_fk16 m c), (h c).2.2.2.2.2.2.2.2.1.trans (Cert.Kernel5Ideal.RefValue.final_fv16 m c), (h c).2.2.2.2.2.2.2.2.2.1.trans (Cert.Kernel5Ideal.RefValue.final_g m c), (h c).2.2.2.2.2.2.2.2.2.2.1.trans (Cert.Kernel5Ideal.RefValue.final_gT m c), (h c).2.2.2.2.2.2.2.2.2.2.2⟩)
      (Cert.Kernel5Ideal.Value.run_blocks (F := Ideal) m ρ)
  · refine (θ_run Cert.Reference5Ideal.defs _ _).mono (fun _ h c => ⟨(h c).1.trans ((Cert.Reference5Ideal.RefValue.mqT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.1.trans ((Cert.Reference5Ideal.RefValue.mkT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.1.trans ((Cert.Reference5Ideal.RefValue.mvT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.1.trans ((Cert.Reference5Ideal.RefValue.moT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.1.trans ((Cert.Reference5Ideal.RefValue.fqT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.2.1.trans ((Cert.Reference5Ideal.RefValue.fkT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.2.2.1.trans ((Cert.Reference5Ideal.RefValue.fvT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.2.2.2.1.trans ((Cert.Reference5Ideal.RefValue.fk16T_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.2.2.2.2.1.trans ((Cert.Reference5Ideal.RefValue.fv16T_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_), (h c).2.2.2.2.2.2.2.2.2.1.trans ((Cert.Reference5Ideal.RefValue.gT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))).trans ?_), (h c).2.2.2.2.2.2.2.2.2.2.1.trans ((Cert.Reference5Ideal.RefValue.gTT_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))).trans ?_), (h c).2.2.2.2.2.2.2.2.2.2.2⟩)
      (Cert.Reference5Ideal.Value.run (F := Ideal) m' ρ')
    all_goals
      simp only [(hagree c).1, (hagree c).2.1, (hagree c).2.2.1, (hagree c).2.2.2.1, (hagree c).2.2.2.2.1, (hagree c).2.2.2.2.2]
      rfl

end Cert.Proof.InClaim

end
-- ==== Proof.InStepBlock.lean ====
module

public import proofs.«01_k».proof.Proof.GateRows
public import proofs.«01_k».proof.Proof.Gen.Kernel6Ideal.Value
public import Idealize.ShloMosaic.Lib.Pipeline.ValueKit
public import Idealize.ShloMosaic.Lib.Claim

@[expose] public section

set_option maxRecDepth 16384

noncomputable section

namespace Cert.Kernel6Ideal.RefValue

open Cert.Kernel6Ideal Cert.Kernel6Ideal.Gen Cert.Rows
open Idealize.ShloMosaic Idealize.ShloMosaic.TcCoe Idealize.SL.Sem
open Idealize.ShloMosaic.Pipeline (Dat)

variable (x0 : FVec Ideal S128x1024 .f32) (x1 : FVec Ideal S1x1024 .f32) (x2 : FVec Ideal S1024x3072 .bf16)
  (x3 : FVec Ideal S1024x128 .bf16) (x4 : FVec Ideal S1x128 .f32)

/-- Row `p` of a block after the normalisation. -/
def nRow (p : Fin 128) : Fin 1024 → EReal := rms (fun k => x0 (ix2 p k)) (fun k => x1 (ix2 0 k))

theorem norm_at (p : Fin 128) (k : Fin 1024) : k0_pay2 (F := Ideal) x0 x1 (ix2 p k) = nRow x0 x1 p k := by
  pointwise [k0_pay2, nRow, rms]

theorem wrap_at (p : Fin 128) (k : Fin 1024) : k0_pay13 (F := Ideal) x0 x1 x2 x3 x4 (ix2 p k) = nRow x0 x1 p k := by
  unfold k0_pay13
  refine (norm_at _ _ p k).trans ?_
  pointwise [nRow, rms]

/-- One entry of a block's product with the main weights. -/
def seg (p : Fin 128) (n : Fin 3072) : EReal := ∑ k : Fin 1024, nRow x0 x1 p k * x2 (ix2 k n)

/-- A gate before its nonlinearity, and after. -/
def preGate (p : Fin 128) (n : Fin 128) : EReal := (∑ k : Fin 1024, nRow x0 x1 p k * x3 (ix2 k n)) + x4 (ix2 0 n)
def blockGate (p : Fin 128) (n : Fin 128) : EReal :=
  if n.val < 4 then preGate x0 x1 x3 x4 p n else lsig (preGate x0 x1 x3 x4 p n)

theorem low_lane : ∀ n : Fin 128, IntOp.cmpi CmpIPredicate.slt (BitVec.ofNat 32 n.val) 4#32 = if n.val < 4 then 1#1 else 0#1 := by
  decide

theorem pick_lane (n : Fin 128) (a b : Ideal .f32) :
    Scalar.select (IntOp.cmpi CmpIPredicate.slt (BitVec.ofNat 32 n.val) 4#32) a b = if n.val < 4 then a else b := by
  rw [low_lane]
  by_cases h : n.val < 4
  · rw [if_pos h, if_pos h]; rfl
  · rw [if_neg h, if_neg h]; rfl

theorem mq_at (p : Fin 128) (j : Fin 256) :
    out0_5 (F := Ideal) x0 x1 x2 x3 x4 (ix2 p j) = seg x0 x1 x2 p ⟨0 + j.val, by omega⟩ := by
  unfold out0_5
  rw [View.canon_unit_zero (by funext a; fin_cases a <;> rfl)]
  pointwise [k0_pay3, norm_at, seg, nRow, rms]

theorem mk_at (p : Fin 128) (j : Fin 256) :
    out0_6 (F := Ideal) x0 x1 x2 x3 x4 (ix2 p j) = seg x0 x1 x2 p ⟨256 + j.val, by omega⟩ * Ideal.ofBits .f32 0x3E000000#32 := by
  unfold out0_6
  rw [View.canon_unit_zero (by funext a; fin_cases a <;> rfl)]
  pointwise [k0_pay4, norm_at, seg, nRow, rms]

theorem mv_at (p : Fin 128) (j : Fin 512) :
    out0_7 (F := Ideal) x0 x1 x2 x3 x4 (ix2 p j) = seg x0 x1 x2 p ⟨512 + j.val, by omega⟩ := by
  unfold out0_7
  rw [View.canon_unit_zero (by funext a; fin_cases a <;> rfl)]
  pointwise [k0_pay5, norm_at, seg, nRow, rms]

theorem mo_at (p : Fin 128) (j : Fin 512) :
    out0_8 (F := Ideal) x0 x1 x2 x3 x4 (ix2 p j) = seg x0 x1 x2 p ⟨1024 + j.val, by omega⟩ := by
  unfold out0_8
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay6, hW, seg]

theorem fq_at (p : Fin 128) (j : Fin 512) :
    out0_9 (F := Ideal) x0 x1 x2 x3 x4 (ix2 p j) = seg x0 x1 x2 p ⟨1536 + j.val, by omega⟩ * Ideal.ofBits .f32 0x3E000000#32 := by
  unfold out0_9
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay7, hW, seg]

theorem fk_at (p : Fin 128) (j : Fin 512) :
    out0_10 (F := Ideal) x0 x1 x2 x3 x4 (ix2 p j) = seg x0 x1 x2 p ⟨2048 + j.val, by omega⟩ := by
  unfold out0_10
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay8, hW, seg]

theorem fv_at (p : Fin 128) (j : Fin 512) :
    out0_11 (F := Ideal) x0 x1 x2 x3 x4 (ix2 p j) = seg x0 x1 x2 p ⟨2560 + j.val, by omega⟩ := by
  unfold out0_11
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay9, hW, seg]

theorem fk16_at (p : Fin 128) (j : Fin 512) :
    out0_12 (F := Ideal) x0 x1 x2 x3 x4 (ix2 p j) = seg x0 x1 x2 p ⟨2048 + j.val, by omega⟩ := by
  unfold out0_12
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay10, k0_pay8, hW, seg]

theorem fv16_at (p : Fin 128) (j : Fin 512) :
    out0_13 (F := Ideal) x0 x1 x2 x3 x4 (ix2 p j) = seg x0 x1 x2 p ⟨2560 + j.val, by omega⟩ := by
  unfold out0_13
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay11, k0_pay9, hW, seg]

theorem g_at (p : Fin 128) (n : Fin 128) :
    out0_14 (F := Ideal) x0 x1 x2 x3 x4 (ix2 p n) = blockGate x0 x1 x3 x4 p n := by
  unfold out0_14
  rw [View.canon_unit_zero (by funext a; fin_cases a <;> rfl)]
  generalize hY : k0_pay13 (F := Ideal) x0 x1 x2 x3 x4 = Y
  have hW : ∀ k : Fin 1024, Y (ix2 p k) = nRow x0 x1 p k := fun k => by rw [← hY]; exact wrap_at x0 x1 x2 x3 x4 p k
  pointwise [k0_pay1, k0_pay12, hW, blockGate, preGate, lsig, tailLog]
  exact pick_lane n _ _

end Cert.Kernel6Ideal.RefValue

end
-- ==== Proof.InStepValue.lean ====
module

public import proofs.«01_k».proof.Proof.InStepBlock
public import proofs.«01_k».proof.Proof.Gen.Reference6Ideal.Run
public import Idealize.ShloMosaic.Lib.Claim

@[expose] public section

set_option maxRecDepth 16384

noncomputable section

namespace Cert.Kernel6Ideal.RefValue

open Cert.Kernel6Ideal Cert.Kernel6Ideal.Gen Cert.Rows
open Idealize.ShloMosaic Idealize.ShloMosaic.TcCoe Idealize.SL.Sem
open Idealize.ShloMosaic.Pipeline (Dat)

/-- The normalised activations of token `t` of sequence `s`. -/
def hRow (x : FVec Ideal S128x1x1024 .f32) (ng : FVec Ideal S2x4x1024 .f32) (s : Fin 128) (t : Fin 1) : Fin 1024 → EReal :=
  rms (fun k => x (ix3 s t k)) (fun k => ng (ix3 0 0 k))

/-- One entry of their product with the wide matrix, and one gate. -/
def wideAt (x : FVec Ideal S128x1x1024 .f32) (ng : FVec Ideal S2x4x1024 .f32) (w : FVec Ideal S1x1024x3088 .f32) (s : Fin 128) (t : Fin 1) (n : Fin 3088) : EReal :=
  wide (hRow x ng s t) (fun k n => w (ix3 0 k n)) n
def gateAt (x : FVec Ideal S128x1x1024 .f32) (ng : FVec Ideal S2x4x1024 .f32) (w : FVec Ideal S1x1024x3088 .f32) (ib fb : FVec Ideal S1x4 .f32) (xb : FVec Ideal S1x8 .f32) (s : Fin 128) (t : Fin 1) (n : Fin 128) : EReal :=
  gate (hRow x ng s t) (fun k n => w (ix3 0 k n)) (fun h => ib (ix2 0 h)) (fun h => fb (ix2 0 h)) (fun h => xb (ix2 0 h)) n

/-- The sequence and the token of row `r` of the flattened activations. -/
def rowSeq (r : Fin 128) : Fin 128 := r
def rowTok (_ : Fin 128) : Fin 1 := 0

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0]
    ∧ t.val < 1 :=
  (by decide +kernel : ∀ t : Fin grid0.N, _)

theorem point_lt (t : Fin cfg0.N) : t.val < 1 := (idx t).2.2.2.2.2.2.2.2.2.2.2.2.2.2.2

/-- The sequence and the token of row `p` of a grid point's blocks. -/
def seqOf (_ : Fin cfg0.N) (p : Fin 128) : Fin 128 := p
def tokOf (_ : Fin cfg0.N) (_ : Fin 128) : Fin 1 := 0

/-- The arrays the host hands the kernel, as functions of the weights. -/
def mainsOf (w : FVec Ideal S1x1024x3088 .f32) : FVec Ideal S1024x3072 .bf16 := truncf .bf16 (concatenate S1024x3072 1
    [⟨S1024x1536, (extractStridedSlice S1024x1536 ![0, 0] (shapeCast S1024x3088 w shapeCasts_S1x1024x3088_S1024x3088) slices_S1024x3088_S1024x1536_0_0 : FVec Ideal S1024x1536 .f32)⟩,
     ⟨S1024x1536, (extractStridedSlice S1024x1536 ![0, 1544] (shapeCast S1024x3088 w shapeCasts_S1x1024x3088_S1024x3088) slices_S1024x3088_S1024x1536_0_1544 : FVec Ideal S1024x1536 .f32)⟩]
    concatenates_S1024x1536_S1024x1536_S1024x3072_d1 : FVec Ideal S1024x3072 .f32) bitsLt_bf16_f32
def gateColsOf (w : FVec Ideal S1x1024x3088 .f32) : FVec Ideal S1024x16 .f32 := concatenate S1024x16 1
    [⟨S1024x8, (extractStridedSlice S1024x8 ![0, 1536] (shapeCast S1024x3088 w shapeCasts_S1x1024x3088_S1024x3088) slices_S1024x3088_S1024x8_0_1536 : FVec Ideal S1024x8 .f32)⟩,
     ⟨S1024x8, (extractStridedSlice S1024x8 ![0, 3080] (shapeCast S1024x3088 w shapeCasts_S1x1024x3088_S1024x3088) slices_S1024x3088_S1024x8_0_3080 : FVec Ideal S1024x8 .f32)⟩]
    concatenates_S1024x8_S1024x8_S1024x16_d1
def gateWeightsOf (w : FVec Ideal S1x1024x3088 .f32) : FVec Ideal S1024x128 .bf16 := truncf .bf16 (pad S1024x128 ![0, 0] ![0, 112] ![0, 0] (gateColsOf w) (sitofp .f32 (constantI S_ 32 0#32)) pads_S1024x16_S1024x128_000_01120 h_S_ : FVec Ideal S1024x128 .f32) bitsLt_bf16_f32

/-- The padding's value. -/
theorem fill_zero : (FloatOps.sitofp FTy.f32 0#32 : Ideal .f32) = (0 : EReal) := by
  show (((0#32 : BitVec 32).toInt : ℝ) : EReal) = 0
  simp

theorem tokens_at (x : FVec Ideal S128x1x1024 .f32) (r : Fin 128) (n : Fin 1024) :
    (shapeCast S128x1024 x shapeCasts_S128x1x1024_S128x1024 : FVec Ideal S128x1024 .f32) (ix2 r n) = x (ix3 (rowSeq r) (rowTok r) n) := by
  pointwise [rowSeq, rowTok]

theorem gains_at (g : FVec Ideal S2x4x1024 .f32) (n : Fin 1024) :
    (broadcastInDim S1x1024 ![1] bcast_S1024_S1x1024_1 (shapeCast S1024 (extractStridedSlice S1x1x1024 ![0, 0, 0] g slices_S2x4x1024_S1x1x1024_0_0_0) shapeCasts_S1x1x1024_S1024) : FVec Ideal S1x1024 .f32) (ix2 0 n) = g (ix3 0 0 n) := by
  pointwise

theorem flat_at (w : FVec Ideal S1x1024x3088 .f32) (k : Fin 1024) (n : Fin 3088) :
    ((shapeCast S1024x3088 w shapeCasts_S1x1024x3088_S1024x3088) : FVec Ideal S1024x3088 .f32) (ix2 k n) = w (ix3 0 k n) := by
  pointwise

theorem mainsOf_lo (w : FVec Ideal S1x1024x3088 .f32) (k : Fin 1024) (n : Fin 3072) (h : n.val < 1536) (e : Fin 3088) (he : e.val = n.val) :
    mainsOf w (ix2 k n) = w (ix3 0 k e) := by
  have he' : e = (⟨n.val, by have := n.isLt; omega⟩ : Fin 3088) := Fin.ext he
  rw [he', ← flat_at w k]
  unfold mainsOf
  generalize (shapeCast S1024x3088 w shapeCasts_S1x1024x3088_S1024x3088) = f
  pointwise [h]

theorem mainsOf_hi (w : FVec Ideal S1x1024x3088 .f32) (k : Fin 1024) (n : Fin 3072) (h : ¬ n.val < 1536) (e : Fin 3088) (he : e.val = n.val + 8) :
    mainsOf w (ix2 k n) = w (ix3 0 k e) := by
  have he' : e = (⟨1544 + (n.val - 1536), by have := n.isLt; omega⟩ : Fin 3088) := Fin.ext (by show e.val = 1544 + (n.val - 1536); omega)
  rw [he', ← flat_at w k]
  unfold mainsOf
  generalize (shapeCast S1024x3088 w shapeCasts_S1x1024x3088_S1024x3088) = f
  pointwise [h]

theorem gateColsOf_at (w : FVec Ideal S1x1024x3088 .f32) (k : Fin 1024) (n : Fin 16) :
    gateColsOf w (ix2 k n) = if n.val < 8 then (w (ix3 0 k ⟨1536 + n.val, by omega⟩) : EReal) else w (ix3 0 k ⟨3072 + n.val, by omega⟩) := by
  rw [← flat_at w k ⟨1536 + n.val, by omega⟩, ← flat_at w k ⟨3072 + n.val, by omega⟩]
  unfold gateColsOf
  generalize (shapeCast S1024x3088 w shapeCasts_S1x1024x3088_S1024x3088) = f
  by_cases h8 : n.val < 8
  · rw [if_pos h8]
    pointwise [h8]
  · have e : 3072 + n.val = 3080 + (n.val - 8) := by omega
    rw [if_neg h8]
    simp only [e]
    pointwise [h8]

theorem gateWeightsOf_at (w : FVec Ideal S1x1024x3088 .f32) (k : Fin 1024) (n : Fin 128) :
    gateWeightsOf w (ix2 k n)
      = if h8 : n.val < 8 then (w (ix3 0 k ⟨1536 + n.val, by omega⟩) : EReal)
        else if h16 : n.val < 16 then w (ix3 0 k ⟨3072 + n.val, by omega⟩)
        else (0 : EReal) := by
  have cols := fun j => gateColsOf_at w k j
  unfold gateWeightsOf
  generalize gateColsOf w = g at cols ⊢
  by_cases h16 : n.val < 16
  · have pick : (truncf .bf16 (pad S1024x128 ![0, 0] ![0, 112] ![0, 0] g (sitofp .f32 (constantI S_ 32 0#32)) pads_S1024x16_S1024x128_000_01120 h_S_ : FVec Ideal S1024x128 .f32) bitsLt_bf16_f32 : FVec Ideal S1024x128 .bf16) (ix2 k n) = g (ix2 k ⟨n.val, h16⟩) := by
      pointwise [h16]
    rw [pick, cols]
    by_cases h8 : n.val < 8
    · rw [if_pos h8, dif_pos h8]
    · rw [if_neg h8, dif_neg h8, dif_pos h16]
  · rw [dif_neg (fun h => h16 (by omega)), dif_neg h16]
    pointwise [h16]
    exact fill_zero

def biasesOf (ib fb : FVec Ideal S1x4 .f32) (xb : FVec Ideal S1x8 .f32) : FVec Ideal S16 .f32 := concatenate S16 0
    [⟨S4, (shapeCast S4 ib shapeCasts_S1x4_S4 : FVec Ideal S4 .f32)⟩,
     ⟨S4, (shapeCast S4 fb shapeCasts_S1x4_S4 : FVec Ideal S4 .f32)⟩,
     ⟨S8, (shapeCast S8 xb shapeCasts_S1x8_S8 : FVec Ideal S8 .f32)⟩]
    concatenates_S4_S4_S8_S16_d0
def gateBiasOf (ib fb : FVec Ideal S1x4 .f32) (xb : FVec Ideal S1x8 .f32) : FVec Ideal S1x128 .f32 := broadcastInDim S1x128 ![1] bcast_S128_S1x128_1 (pad S128 ![0] ![112] ![0] (biasesOf ib fb xb) (sitofp .f32 (constantI S_ 32 0#32)) pads_S16_S128_01120 h_S_ : FVec Ideal S128 .f32)

theorem gateBiasOf_at (ib fb : FVec Ideal S1x4 .f32) (xb : FVec Ideal S1x8 .f32) (n : Fin 128) :
    gateBiasOf ib fb xb (ix2 0 n)
      = if h4 : n.val < 4 then (ib (ix2 0 ⟨n.val, h4⟩) : EReal)
        else if h8 : n.val < 8 then fb (ix2 0 ⟨n.val - 4, by omega⟩)
        else if h16 : n.val < 16 then xb (ix2 0 ⟨n.val - 8, by omega⟩)
        else (0 : EReal) := by
  by_cases h4 : n.val < 4
  · have h16 : n.val < 16 := by omega
    pointwise [gateBiasOf, biasesOf, h4, h16]
  · by_cases h8 : n.val < 8
    · have h16 : n.val < 16 := by omega
      have h44 : n.val - 4 < 4 := by omega
      pointwise [gateBiasOf, biasesOf, h4, h8, h16, h44]
    · have h44 : ¬ n.val - 4 < 4 := by omega
      have e : n.val - 4 - 4 = n.val - 8 := by omega
      by_cases h16 : n.val < 16
      · pointwise [gateBiasOf, biasesOf, h4, h8, h16, h44, e]
      · pointwise [gateBiasOf, biasesOf, h4, h8, h16]
        exact fill_zero

theorem tokens (c : Dev nD) : (V m c main_v16 : FVec Ideal S128x1024 .f32) = shapeCast S128x1024 (m ((c : Thread nD τ).loc main_arg0) : FVec Ideal S128x1x1024 .f32) shapeCasts_S128x1x1024_S128x1024 := by
  unfold V
  simp only [hostOps0, hostOps0_1, hostOps0_2, hostOps0_3, hostOps0_4, List.flatten_cons, List.flatten_nil, List.append_nil, List.cons_append, List.nil_append]
  after_results
  rfl

theorem gains (c : Dev nD) : (V m c main_v19 : FVec Ideal S1x1024 .f32) = broadcastInDim S1x1024 ![1] bcast_S1024_S1x1024_1 (shapeCast S1024 (extractStridedSlice S1x1x1024 ![0, 0, 0] (m ((c : Thread nD τ).loc main_arg1) : FVec Ideal S2x4x1024 .f32) slices_S2x4x1024_S1x1x1024_0_0_0) shapeCasts_S1x1x1024_S1024) := by
  unfold V
  simp only [hostOps0, hostOps0_1, hostOps0_2, hostOps0_3, hostOps0_4, List.flatten_cons, List.flatten_nil, List.append_nil, List.cons_append, List.nil_append]
  after_results
  rfl

theorem blk0 (c : Dev nD) (t : Fin cfg0.N) (p : Fin 128) (n : Fin 1024) :
    (iblk m c 0 t : FVec Ideal S128x1024 .f32) (ix2 p n)
      = (m ((c : Thread nD τ).loc main_arg0) : FVec Ideal S128x1x1024 .f32) (ix3 (seqOf t p) (tokOf t p) n) := by
  have b : (iblk m c 0 t : FVec Ideal S128x1024 .f32) (ix2 p n) = (V m c main_v16 : FVec Ideal S128x1024 .f32) (ix2 (p) n) := by
    blk_simp [iblk]
    blk_ext [idx t]
  rw [b, tokens]
  exact tokens_at _ _ n

theorem blk1 (c : Dev nD) (t : Fin cfg0.N) (n : Fin 1024) :
    (iblk m c 1 t : FVec Ideal S1x1024 .f32) (ix2 0 n)
      = (m ((c : Thread nD τ).loc main_arg1) : FVec Ideal S2x4x1024 .f32) (ix3 0 0 n) := by
  have b : (iblk m c 1 t : FVec Ideal S1x1024 .f32) (ix2 0 n) = (V m c main_v19 : FVec Ideal S1x1024 .f32) (ix2 0 n) := by
    blk_simp [iblk]
    blk_ext [idx t]
  rw [b, gains]
  exact gains_at _ n

/-- The main weights: the columns of the wide matrix but the eight at column 1536 and the last eight. -/
theorem mains (c : Dev nD) : (V m c main_v4 : FVec Ideal S1024x3072 .bf16) = mainsOf (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

theorem blk2 (c : Dev nD) (t : Fin cfg0.N) (k : Fin 1024) (n : Fin 3072) :
    (iblk m c 2 t : FVec Ideal S1024x3072 .bf16) (ix2 k n) = (V m c main_v4 : FVec Ideal S1024x3072 .bf16) (ix2 k n) := by
  blk_simp [iblk]
  blk_ext [idx t]

theorem blk2lo (c : Dev nD) (t : Fin cfg0.N) (k : Fin 1024) (n : Fin 3072) (h : n.val < 1536) (e : Fin 3088) (he : e.val = n.val) :
    (iblk m c 2 t : FVec Ideal S1024x3072 .bf16) (ix2 k n)
      = (m ((c : Thread nD τ).loc main_arg2) : FVec Ideal S1x1024x3088 .f32) (ix3 0 k e) := by
  rw [blk2, mains]
  exact mainsOf_lo _ k n h e he

theorem blk2hi (c : Dev nD) (t : Fin cfg0.N) (k : Fin 1024) (n : Fin 3072) (h : ¬ n.val < 1536) (e : Fin 3088) (he : e.val = n.val + 8) :
    (iblk m c 2 t : FVec Ideal S1024x3072 .bf16) (ix2 k n)
      = (m ((c : Thread nD τ).loc main_arg2) : FVec Ideal S1x1024x3088 .f32) (ix3 0 k e) := by
  rw [blk2, mains]
  exact mainsOf_hi _ k n h e he

/-- The gates' weights and biases, padded with zeros to 128 lanes. -/
theorem gateWeights (c : Dev nD) : (V m c main_v9 : FVec Ideal S1024x128 .bf16) = gateWeightsOf (m ((c : Thread nD τ).loc main_arg2)) := by
  unfold V
  simp only [hostOps0, hostOps0_1, hostOps0_2, hostOps0_3, hostOps0_4, List.flatten_cons, List.flatten_nil, List.append_nil, List.cons_append, List.nil_append]
  after_results
  rfl

theorem gateBias (c : Dev nD) : (V m c main_v15 : FVec Ideal S1x128 .f32) = gateBiasOf (m ((c : Thread nD τ).loc main_arg3)) (m ((c : Thread nD τ).loc main_arg4)) (m ((c : Thread nD τ).loc main_arg5)) := by
  unfold V
  simp only [hostOps0, hostOps0_1, hostOps0_2, hostOps0_3, hostOps0_4, List.flatten_cons, List.flatten_nil, List.append_nil, List.cons_append, List.nil_append]
  after_results
  rfl

theorem blk3 (c : Dev nD) (t : Fin cfg0.N) (k : Fin 1024) (n : Fin 128) :
    (iblk m c 3 t : FVec Ideal S1024x128 .bf16) (ix2 k n)
      = if h8 : n.val < 8 then ((m ((c : Thread nD τ).loc main_arg2) : FVec Ideal S1x1024x3088 .f32) (ix3 0 k ⟨1536 + n.val, by omega⟩) : EReal)
        else if h16 : n.val < 16 then (m ((c : Thread nD τ).loc main_arg2) : FVec Ideal S1x1024x3088 .f32) (ix3 0 k ⟨3072 + n.val, by omega⟩)
        else (0 : EReal) := by
  have b : (iblk m c 3 t : FVec Ideal S1024x128 .bf16) (ix2 k n) = (V m c main_v9 : FVec Ideal S1024x128 .bf16) (ix2 k n) := by
    blk_simp [iblk]
    blk_ext [idx t]
  rw [b, gateWeights]
  exact gateWeightsOf_at _ k n

theorem blk4 (c : Dev nD) (t : Fin cfg0.N) (n : Fin 128) :
    (iblk m c 4 t : FVec Ideal S1x128 .f32) (ix2 0 n)
      = if h4 : n.val < 4 then ((m ((c : Thread nD τ).loc main_arg3) : FVec Ideal S1x4 .f32) (ix2 0 ⟨n.val, h4⟩) : EReal)
        else if h8 : n.val < 8 then (m ((c : Thread nD τ).loc main_arg4) : FVec Ideal S1x4 .f32) (ix2 0 ⟨n.val - 4, by omega⟩)
        else if h16 : n.val < 16 then (m ((c : Thread nD τ).loc main_arg5) : FVec Ideal S1x8 .f32) (ix2 0 ⟨n.val - 8, by omega⟩)
        else (0 : EReal) := by
  have b : (iblk m c 4 t : FVec Ideal S1x128 .f32) (ix2 0 n) = (V m c main_v15 : FVec Ideal S1x128 .f32) (ix2 0 n) := by
    blk_simp [iblk]
    blk_ext [idx t]
  rw [b, gateBias]
  exact gateBiasOf_at _ _ _ n

theorem nRow_eq (c : Dev nD) (t : Fin cfg0.N) (p : Fin 128) :
    nRow (iblk m c 0 t) (iblk m c 1 t) p = hRow (m ((c : Thread nD τ).loc main_arg0)) (m ((c : Thread nD τ).loc main_arg1)) (seqOf t p) (tokOf t p) := by
  unfold nRow hRow
  simp only [blk0, blk1]

theorem seg_lo (c : Dev nD) (t : Fin cfg0.N) (p : Fin 128) (n : Fin 3072) (h : n.val < 1536) (e : Fin 3088) (he : e.val = n.val) :
    seg (iblk m c 0 t) (iblk m c 1 t) (iblk m c 2 t) p n = wideAt (m ((c : Thread nD τ).loc main_arg0)) (m ((c : Thread nD τ).loc main_arg1)) (m ((c : Thread nD τ).loc main_arg2)) (seqOf t p) (tokOf t p) e := by
  unfold seg wideAt wide
  rw [nRow_eq]
  exact Finset.sum_congr rfl fun k _ => congrArg _ (blk2lo m c t k n h e he)

theorem seg_hi (c : Dev nD) (t : Fin cfg0.N) (p : Fin 128) (n : Fin 3072) (h : ¬ n.val < 1536) (e : Fin 3088) (he : e.val = n.val + 8) :
    seg (iblk m c 0 t) (iblk m c 1 t) (iblk m c 2 t) p n = wideAt (m ((c : Thread nD τ).loc main_arg0)) (m ((c : Thread nD τ).loc main_arg1)) (m ((c : Thread nD τ).loc main_arg2)) (seqOf t p) (tokOf t p) e := by
  unfold seg wideAt wide
  rw [nRow_eq]
  exact Finset.sum_congr rfl fun k _ => congrArg _ (blk2hi m c t k n h e he)

theorem blockGate_eq (c : Dev nD) (t : Fin cfg0.N) (p : Fin 128) (n : Fin 128) :
    blockGate (iblk m c 0 t) (iblk m c 1 t) (iblk m c 3 t) (iblk m c 4 t) p n
      = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t p) (tokOf t p) n := by
  unfold blockGate preGate gateAt gate wide
  rw [nRow_eq]
  simp only [blk3, blk4]
  by_cases h4 : n.val < 4
  · have h8 : n.val < 8 := by omega
    simp only [h4, h8, if_true, dif_pos]
  · by_cases h8 : n.val < 8
    · simp only [h4, h8, if_false, dif_pos, dif_neg, not_false_eq_true]
    · by_cases h16 : n.val < 16
      · simp only [h4, h8, h16, if_false, dif_pos, dif_neg, not_false_eq_true]
      · simp only [h4, h8, h16, if_false, dif_neg, not_false_eq_true, mul_zero, Finset.sum_const_zero, add_zero]

/-- Column `j` of the columns from `r` on. -/
def colAt (r : ℕ) {wd : ℕ} (h : r + wd ≤ 3088) (j : Fin wd) : Fin 3088 := ⟨r + j.val, by omega⟩

theorem block_mq (c : Dev nD) (t : Fin cfg0.N) (p : Fin 128) (j : Fin 256) :
    out0_5 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 0 (by decide) j) := by
  rw [mq_at, seg_lo m c t p ⟨0 + j.val, by omega⟩ (by show 0 + j.val < 1536; omega) (colAt 0 (by decide) j) (by show 0 + j.val = 0 + j.val; omega)]

def mqOut (x : FVec Ideal S128x1x1024 .f32) (ng : FVec Ideal S2x4x1024 .f32) (w : FVec Ideal S1x1024x3088 .f32) : FVec Ideal S128x256 .bf16 :=
  fun i => wideAt x ng w (rowSeq (i 0)) (rowTok (i 0)) (colAt 0 (by decide : 0 + 256 ≤ 3088) (i 1))

theorem final_mq (c : Dev nD) : (dats m 0 c).arrAt 5 (cfgs 0).N = mqOut (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine (block_mq m c t y0 y1).trans ?_
  have ee : ((View.whole main_v20_0).slice (win0_5.rect t)).emb (ix2 y0 y1) = (ix2 y0 y1 : S128x256.Idx) := by
    blk_ext [idx t]
  exact (show _ = mqOut (m ((c : Thread nD τ).loc main_arg0)) (m ((c : Thread nD τ).loc main_arg1)) (m ((c : Thread nD τ).loc main_arg2)) (ix2 y0 y1 : S128x256.Idx) from rfl).trans (congrArg (mqOut (m ((c : Thread nD τ).loc main_arg0)) (m ((c : Thread nD τ).loc main_arg1)) (m ((c : Thread nD τ).loc main_arg2))) ee.symm)

theorem block_mk (c : Dev nD) (t : Fin cfg0.N) (p : Fin 128) (j : Fin 256) :
    out0_6 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 256 (by decide) j) * Ideal.ofBits .f32 0x3E000000#32 := by
  rw [mk_at, seg_lo m c t p ⟨256 + j.val, by omega⟩ (by show 256 + j.val < 1536; omega) (colAt 256 (by decide) j) (by show 256 + j.val = 256 + j.val; omega)]

def mkOut (x : FVec Ideal S128x1x1024 .f32) (ng : FVec Ideal S2x4x1024 .f32) (w : FVec Ideal S1x1024x3088 .f32) : FVec Ideal S128x256 .bf16 :=
  fun i => wideAt x ng w (rowSeq (i 0)) (rowTok (i 0)) (colAt 256 (by decide : 256 + 256 ≤ 3088) (i 1)) * Ideal.ofBits .f32 0x3E000000#32

theorem final_mk (c : Dev nD) : (dats m 0 c).arrAt 6 (cfgs 0).N = mkOut (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  idx_vars y
  refine (block_mk m c t y0 y1).trans ?_
  have ee : ((View.whole main_v20_1).slice (win0_6.rect t)).emb (ix2 y0 y1) = (ix2 y0 y1 : S128x256.Idx) := by
    blk_ext [idx t]
  exact (show _ = mkOut (m ((c : Thread nD τ).loc main_arg0)) (m ((c : Thread nD τ).loc main_arg1)) (m ((c : Thread nD τ).loc main_arg2)) (ix2 y0 y1 : S128x256.Idx) from rfl).trans (congrArg (mkOut (m ((c : Thread nD τ).loc main_arg0)) (m ((c : Thread nD τ).loc main_arg1)) (m ((c : Thread nD τ).loc main_arg2))) ee.symm)

theorem block_mv (c : Dev nD) (t : Fin cfg0.N) (p : Fin 128) (j : Fin 512) :
    out0_7 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 512 (by decide) j) := by
  rw [mv_at, seg_lo m c t p ⟨512 + j.val, by omega⟩ (by show 512 + j.val < 1536; omega) (colAt 512 (by decide) j) (by show 512 + j.val = 512 + j.val; omega)]

def mvOut (x : FVec Ideal S128x1x1024 .f32) (ng : FVec Ideal S2x4x1024 .f32) (w : FVec Ideal S1x1024x3088 .f32) : FVec Ideal S128x512 .bf16 :=
  fun i => wideAt x ng w (rowSeq (i 0)) (rowTok (i 0)) (colAt 512 (by decide : 512 + 512 ≤ 3088) (i 1))

theorem final_mv (c : Dev nD) : (dats m 0 c).arrAt 7 (cfgs 0).N = mvOut (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  refine (block_mv m c t y0 y1).trans ?_
  have ee : ((View.whole main_v20_2).slice (win0_7.rect t)).emb (ix2 y0 y1) = (ix2 y0 y1 : S128x512.Idx) := by
    blk_ext [idx t]
  exact (show _ = mvOut (m ((c : Thread nD τ).loc main_arg0)) (m ((c : Thread nD τ).loc main_arg1)) (m ((c : Thread nD τ).loc main_arg2)) (ix2 y0 y1 : S128x512.Idx) from rfl).trans (congrArg (mvOut (m ((c : Thread nD τ).loc main_arg0)) (m ((c : Thread nD τ).loc main_arg1)) (m ((c : Thread nD τ).loc main_arg2))) ee.symm)

theorem block_mo (c : Dev nD) (t : Fin cfg0.N) (p : Fin 128) (j : Fin 512) :
    out0_8 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 1024 (by decide) j) := by
  rw [mo_at, seg_lo m c t p ⟨1024 + j.val, by omega⟩ (by show 1024 + j.val < 1536; omega) (colAt 1024 (by decide) j) (by show 1024 + j.val = 1024 + j.val; omega)]

def moOut (x : FVec Ideal S128x1x1024 .f32) (ng : FVec Ideal S2x4x1024 .f32) (w : FVec Ideal S1x1024x3088 .f32) : FVec Ideal S128x512 .f32 :=
  fun i => wideAt x ng w (rowSeq (i 0)) (rowTok (i 0)) (colAt 1024 (by decide : 1024 + 512 ≤ 3088) (i 1))

theorem final_mo (c : Dev nD) : (dats m 0 c).arrAt 8 (cfgs 0).N = moOut (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  refine (block_mo m c t y0 y1).trans ?_
  have ee : ((View.whole main_v20_3).slice (win0_8.rect t)).emb (ix2 y0 y1) = (ix2 y0 y1 : S128x512.Idx) := by
    blk_ext [idx t]
  exact (show _ = moOut (m ((c : Thread nD τ).loc main_arg0)) (m ((c : Thread nD τ).loc main_arg1)) (m ((c : Thread nD τ).loc main_arg2)) (ix2 y0 y1 : S128x512.Idx) from rfl).trans (congrArg (moOut (m ((c : Thread nD τ).loc main_arg0)) (m ((c : Thread nD τ).loc main_arg1)) (m ((c : Thread nD τ).loc main_arg2))) ee.symm)

theorem block_fq (c : Dev nD) (t : Fin cfg0.N) (p : Fin 128) (j : Fin 512) :
    out0_9 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 1544 (by decide) j) * Ideal.ofBits .f32 0x3E000000#32 := by
  rw [fq_at, seg_hi m c t p ⟨1536 + j.val, by omega⟩ (by show ¬ 1536 + j.val < 1536; omega) (colAt 1544 (by decide) j) (by show 1544 + j.val = 1536 + j.val + 8; omega)]

def fqOut (x : FVec Ideal S128x1x1024 .f32) (ng : FVec Ideal S2x4x1024 .f32) (w : FVec Ideal S1x1024x3088 .f32) : FVec Ideal S128x512 .bf16 :=
  fun i => wideAt x ng w (rowSeq (i 0)) (rowTok (i 0)) (colAt 1544 (by decide : 1544 + 512 ≤ 3088) (i 1)) * Ideal.ofBits .f32 0x3E000000#32

theorem final_fq (c : Dev nD) : (dats m 0 c).arrAt 9 (cfgs 0).N = fqOut (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  refine (block_fq m c t y0 y1).trans ?_
  have ee : ((View.whole main_v20_4).slice (win0_9.rect t)).emb (ix2 y0 y1) = (ix2 y0 y1 : S128x512.Idx) := by
    blk_ext [idx t]
  exact (show _ = fqOut (m ((c : Thread nD τ).loc main_arg0)) (m ((c : Thread nD τ).loc main_arg1)) (m ((c : Thread nD τ).loc main_arg2)) (ix2 y0 y1 : S128x512.Idx) from rfl).trans (congrArg (fqOut (m ((c : Thread nD τ).loc main_arg0)) (m ((c : Thread nD τ).loc main_arg1)) (m ((c : Thread nD τ).loc main_arg2))) ee.symm)

theorem block_fk (c : Dev nD) (t : Fin cfg0.N) (p : Fin 128) (j : Fin 512) :
    out0_10 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 2056 (by decide) j) := by
  rw [fk_at, seg_hi m c t p ⟨2048 + j.val, by omega⟩ (by show ¬ 2048 + j.val < 1536; omega) (colAt 2056 (by decide) j) (by show 2056 + j.val = 2048 + j.val + 8; omega)]

def fkOut (x : FVec Ideal S128x1x1024 .f32) (ng : FVec Ideal S2x4x1024 .f32) (w : FVec Ideal S1x1024x3088 .f32) : FVec Ideal S128x512 .f32 :=
  fun i => wideAt x ng w (rowSeq (i 0)) (rowTok (i 0)) (colAt 2056 (by decide : 2056 + 512 ≤ 3088) (i 1))

theorem final_fk (c : Dev nD) : (dats m 0 c).arrAt 10 (cfgs 0).N = fkOut (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  idx_vars y
  refine (block_fk m c t y0 y1).trans ?_
  have ee : ((View.whole main_v20_5).slice (win0_10.rect t)).emb (ix2 y0 y1) = (ix2 y0 y1 : S128x512.Idx) := by
    blk_ext [idx t]
  exact (show _ = fkOut (m ((c : Thread nD τ).loc main_arg0)) (m ((c : Thread nD τ).loc main_arg1)) (m ((c : Thread nD τ).loc main_arg2)) (ix2 y0 y1 : S128x512.Idx) from rfl).trans (congrArg (fkOut (m ((c : Thread nD τ).loc main_arg0)) (m ((c : Thread nD τ).loc main_arg1)) (m ((c : Thread nD τ).loc main_arg2))) ee.symm)

theorem block_fv (c : Dev nD) (t : Fin cfg0.N) (p : Fin 128) (j : Fin 512) :
    out0_11 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 2568 (by decide) j) := by
  rw [fv_at, seg_hi m c t p ⟨2560 + j.val, by omega⟩ (by show ¬ 2560 + j.val < 1536; omega) (colAt 2568 (by decide) j) (by show 2568 + j.val = 2560 + j.val + 8; omega)]

def fvOut (x : FVec Ideal S128x1x1024 .f32) (ng : FVec Ideal S2x4x1024 .f32) (w : FVec Ideal S1x1024x3088 .f32) : FVec Ideal S128x512 .f32 :=
  fun i => wideAt x ng w (rowSeq (i 0)) (rowTok (i 0)) (colAt 2568 (by decide : 2568 + 512 ≤ 3088) (i 1))

theorem final_fv (c : Dev nD) : (dats m 0 c).arrAt 11 (cfgs 0).N = fvOut (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  idx_vars y
  refine (block_fv m c t y0 y1).trans ?_
  have ee : ((View.whole main_v20_6).slice (win0_11.rect t)).emb (ix2 y0 y1) = (ix2 y0 y1 : S128x512.Idx) := by
    blk_ext [idx t]
  exact (show _ = fvOut (m ((c : Thread nD τ).loc main_arg0)) (m ((c : Thread nD τ).loc main_arg1)) (m ((c : Thread nD τ).loc main_arg2)) (ix2 y0 y1 : S128x512.Idx) from rfl).trans (congrArg (fvOut (m ((c : Thread nD τ).loc main_arg0)) (m ((c : Thread nD τ).loc main_arg1)) (m ((c : Thread nD τ).loc main_arg2))) ee.symm)

theorem block_fk16 (c : Dev nD) (t : Fin cfg0.N) (p : Fin 128) (j : Fin 512) :
    out0_12 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 2056 (by decide) j) := by
  rw [fk16_at, seg_hi m c t p ⟨2048 + j.val, by omega⟩ (by show ¬ 2048 + j.val < 1536; omega) (colAt 2056 (by decide) j) (by show 2056 + j.val = 2048 + j.val + 8; omega)]

def fk16Out (x : FVec Ideal S128x1x1024 .f32) (ng : FVec Ideal S2x4x1024 .f32) (w : FVec Ideal S1x1024x3088 .f32) : FVec Ideal S128x512 .bf16 :=
  fun i => wideAt x ng w (rowSeq (i 0)) (rowTok (i 0)) (colAt 2056 (by decide : 2056 + 512 ≤ 3088) (i 1))

theorem final_fk16 (c : Dev nD) : (dats m 0 c).arrAt 12 (cfgs 0).N = fk16Out (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  idx_vars y
  refine (block_fk16 m c t y0 y1).trans ?_
  have ee : ((View.whole main_v20_7).slice (win0_12.rect t)).emb (ix2 y0 y1) = (ix2 y0 y1 : S128x512.Idx) := by
    blk_ext [idx t]
  exact (show _ = fk16Out (m ((c : Thread nD τ).loc main_arg0)) (m ((c : Thread nD τ).loc main_arg1)) (m ((c : Thread nD τ).loc main_arg2)) (ix2 y0 y1 : S128x512.Idx) from rfl).trans (congrArg (fk16Out (m ((c : Thread nD τ).loc main_arg0)) (m ((c : Thread nD τ).loc main_arg1)) (m ((c : Thread nD τ).loc main_arg2))) ee.symm)

theorem block_fv16 (c : Dev nD) (t : Fin cfg0.N) (p : Fin 128) (j : Fin 512) :
    out0_13 (F := Ideal) (iblk m c 0 t) (iblk m c 1 t) (iblk m c 2 t) (iblk m c 3 t) (iblk m c 4 t) (ix2 p j)
      = wideAt (m ((c : Thread nD τ).loc main_arg0)) (m ((c : Thread nD τ).loc main_arg1)) (m ((c : Thread nD τ).loc main_arg2)) (seqOf t p) (tokOf t p) (colAt 2568 (by decide) j) := by
  rw [fv16_at, seg_hi m c t p ⟨2560 + j.val, by omega⟩ (by show ¬ 2560 + j.val < 1536; omega) (colAt 2568 (by decide) j) (by show 2568 + j.val = 2560 + j.val + 8; omega)]

def fv16Out (x : FVec Ideal S128x1x1024 .f32) (ng : FVec Ideal S2x4x1024 .f32) (w : FVec Ideal S1x1024x3088 .f32) : FVec Ideal S128x512 .bf16 :=
  fun i => wideAt x ng w (rowSeq (i 0)) (rowTok (i 0)) (colAt 2568 (by decide : 2568 + 512 ≤ 3088) (i 1))

theorem final_fv16 (c : Dev nD) : (dats m 0 c).arrAt 13 (cfgs 0).N = fv16Out (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  idx_vars y
  refine (block_fv16 m c t y0 y1).trans ?_
  have ee : ((View.whole main_v20_8).slice (win0_13.rect t)).emb (ix2 y0 y1) = (ix2 y0 y1 : S128x512.Idx) := by
    blk_ext [idx t]
  exact (show _ = fv16Out (m ((c : Thread nD τ).loc main_arg0)) (m ((c : Thread nD τ).loc main_arg1)) (m ((c : Thread nD τ).loc main_arg2)) (ix2 y0 y1 : S128x512.Idx) from rfl).trans (congrArg (fv16Out (m ((c : Thread nD τ).loc main_arg0)) (m ((c : Thread nD τ).loc main_arg1)) (m ((c : Thread nD τ).loc main_arg2))) ee.symm)

theorem block_g (c : Dev nD) (t : Fin cfg0.N) (p : Fin 128) (n : Fin 128) :
    out0_14 (F := Ideal) (iblk m c 0 t) (iblk m c 1 t) (iblk m c 2 t) (iblk m c 3 t) (iblk m c 4 t) (ix2 p n) = gateAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (seqOf t p) (tokOf t p) n := by
  rw [g_at, blockGate_eq]

def gOut (x : FVec Ideal S128x1x1024 .f32) (ng : FVec Ideal S2x4x1024 .f32) (w : FVec Ideal S1x1024x3088 .f32) (ib fb : FVec Ideal S1x4 .f32) (xb : FVec Ideal S1x8 .f32) : FVec Ideal S128x128 .f32 :=
  fun i => gateAt x ng w ib fb xb (rowSeq (i 0)) (rowTok (i 0)) (i 1)

theorem final_g (c : Dev nD) : (dats m 0 c).arrAt 14 (cfgs 0).N = gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t _ y => ?_
  blk_simp
  rw [after0_14]
  idx_vars y
  refine (block_g m c t y0 y1).trans ?_
  have ee : ((View.whole main_v20_9).slice (win0_14.rect t)).emb (ix2 y0 y1) = (ix2 y0 y1 : S128x128.Idx) := by
    blk_ext [idx t]
  exact (show _ = gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 y0 y1 : S128x128.Idx) from rfl).trans (congrArg (gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ee.symm)

end Cert.Kernel6Ideal.RefValue

namespace Cert.Reference6Ideal.RefValue

open Cert.Reference6Ideal Cert.Reference6Ideal.Gen Cert.Reference6Ideal.Value Cert.Rows
open Idealize.ShloMosaic Idealize.ShloMosaic.TcCoe Idealize.SL.Sem

/-- The reference's normalised activations, and their product with the wide matrix. -/
def normT (x : FVec Ideal S128x1x1024 .f32) (ng : FVec Ideal S2x4x1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 (shapeCast _ (extractStridedSlice S1x1x1024 ![0, 0, 0] ng slices_S2x4x1024_S1x1x1024_0_0_0) shapeCasts_S1x1x1024_S1024)))

def projT (x : FVec Ideal S128x1x1024 .f32) (ng : FVec Ideal S2x4x1024 .f32) (w : FVec Ideal S1x1024x3088 .f32) : FVec Ideal S128x1x3088 .f32 :=
  Host.dotGeneral dot_S128x1x1024_S1024x3088_S128x1x3088_2_0_01_1_n_n none (normT x ng) (shapeCast _ w shapeCasts_S1x1024x3088_S1024x3088)

theorem normT_at (x : FVec Ideal S128x1x1024 .f32) (ng : FVec Ideal S2x4x1024 .f32) (s : Fin 128) (t : Fin 1) (k : Fin 1024) :
    normT x ng (ix3 s t k) = Cert.Kernel6Ideal.RefValue.hRow x ng s t k := by
  obtain rfl : t = 0 := Subsingleton.elim _ _
  pointwise [normT, Cert.Kernel6Ideal.RefValue.hRow, rms]

theorem projT_at (x : FVec Ideal S128x1x1024 .f32) (ng : FVec Ideal S2x4x1024 .f32) (w : FVec Ideal S1x1024x3088 .f32) (s : Fin 128) (t : Fin 1) (n : Fin 3088) :
    projT x ng w (ix3 s t n) = Cert.Kernel6Ideal.RefValue.wideAt x ng w s t n := by
  obtain rfl : t = 0 := Subsingleton.elim _ _
  pointwise [projT, normT_at, Cert.Kernel6Ideal.RefValue.wideAt, wide]

/-- The logarithm of the logistic function over 4 columns, operation by operation. -/
def lsig4T (v : FVec Ideal S128x1x4 .f32) : FVec Ideal S128x1x4 .f32 :=
  Host.negf (select (cmpf .une (subf (Host.negf v) (broadcastInDim S128x1x4 ![] bcast_S_S128x1x4 (constant S_ .f32 0x00000000#32))) (subf (Host.negf v) (broadcastInDim S128x1x4 ![] bcast_S_S128x1x4 (constant S_ .f32 0x00000000#32)))) (addf (Host.negf v) (broadcastInDim S128x1x4 ![] bcast_S_S128x1x4 (constant S_ .f32 0x00000000#32)))
    (addf (maximumf (Host.negf v) (broadcastInDim S128x1x4 ![] bcast_S_S128x1x4 (constant S_ .f32 0x00000000#32))) (Host.log1p (Host.exp (Host.negf (Host.absf (subf (Host.negf v) (broadcastInDim S128x1x4 ![] bcast_S_S128x1x4 (constant S_ .f32 0x00000000#32)))))))))

theorem lsig4T_at (v : FVec Ideal S128x1x4 .f32) (s : Fin 128) (t : Fin 1) (j : Fin 4) :
    lsig4T v (ix3 s t j) = lsig (v (ix3 s t j)) := by
  rw [← lsig_host]
  pointwise [lsig4T, tailLog]
  simp only [ne_eq, not_true_eq_false, if_false, zero_sub]
  rfl

/-- The logarithm of the logistic function over 8 columns, operation by operation. -/
def lsig8T (v : FVec Ideal S128x1x8 .f32) : FVec Ideal S128x1x8 .f32 :=
  Host.negf (select (cmpf .une (subf (Host.negf v) (broadcastInDim S128x1x8 ![] bcast_S_S128x1x8 (constant S_ .f32 0x00000000#32))) (subf (Host.negf v) (broadcastInDim S128x1x8 ![] bcast_S_S128x1x8 (constant S_ .f32 0x00000000#32)))) (addf (Host.negf v) (broadcastInDim S128x1x8 ![] bcast_S_S128x1x8 (constant S_ .f32 0x00000000#32)))
    (addf (maximumf (Host.negf v) (broadcastInDim S128x1x8 ![] bcast_S_S128x1x8 (constant S_ .f32 0x00000000#32))) (Host.log1p (Host.exp (Host.negf (Host.absf (subf (Host.negf v) (broadcastInDim S128x1x8 ![] bcast_S_S128x1x8 (constant S_ .f32 0x00000000#32)))))))))

theorem lsig8T_at (v : FVec Ideal S128x1x8 .f32) (s : Fin 128) (t : Fin 1) (j : Fin 8) :
    lsig8T v (ix3 s t j) = lsig (v (ix3 s t j)) := by
  rw [← lsig_host]
  pointwise [lsig8T, tailLog]
  simp only [ne_eq, not_true_eq_false, if_false, zero_sub]
  rfl

/-- The logarithm of the logistic function over 112 columns, operation by operation. -/
def lsig112T (v : FVec Ideal S128x1x112 .f32) : FVec Ideal S128x1x112 .f32 :=
  Host.negf (select (cmpf .une (subf (Host.negf v) (broadcastInDim S128x1x112 ![] bcast_S_S128x1x112 (constant S_ .f32 0x00000000#32))) (subf (Host.negf v) (broadcastInDim S128x1x112 ![] bcast_S_S128x1x112 (constant S_ .f32 0x00000000#32)))) (addf (Host.negf v) (broadcastInDim S128x1x112 ![] bcast_S_S128x1x112 (constant S_ .f32 0x00000000#32)))
    (addf (maximumf (Host.negf v) (broadcastInDim S128x1x112 ![] bcast_S_S128x1x112 (constant S_ .f32 0x00000000#32))) (Host.log1p (Host.exp (Host.negf (Host.absf (subf (Host.negf v) (broadcastInDim S128x1x112 ![] bcast_S_S128x1x112 (constant S_ .f32 0x00000000#32)))))))))

theorem lsig112T_at (v : FVec Ideal S128x1x112 .f32) (s : Fin 128) (t : Fin 1) (j : Fin 112) :
    lsig112T v (ix3 s t j) = lsig (v (ix3 s t j)) := by
  rw [← lsig_host]
  pointwise [lsig112T, tailLog]
  simp only [ne_eq, not_true_eq_false, if_false, zero_sub]
  rfl

/-- The sixteen gates and the lanes past them. -/
def gatesT (x : FVec Ideal S128x1x1024 .f32) (ng : FVec Ideal S2x4x1024 .f32) (w : FVec Ideal S1x1024x3088 .f32) (ib fb : FVec Ideal S1x4 .f32) (xb : FVec Ideal S1x8 .f32) : FVec Ideal S128x1x128 .f32 :=
  concatenate S128x1x128 2 [⟨S128x1x4, (addf (extractStridedSlice S128x1x4 ![0, 0, 1536] (projT x ng w) slices_S128x1x3088_S128x1x4_0_0_1536) (broadcastInDim S128x1x4 ![0, 1, 2] bcast_S1x1x4_S128x1x4_0_1_2 (broadcastInDim S1x1x4 ![2] bcast_S4_S1x1x4_2 (shapeCast _ ib shapeCasts_S1x4_S4))) : FVec Ideal S128x1x4 .f32)⟩,
    ⟨S128x1x4, lsig4T (addf (extractStridedSlice S128x1x4 ![0, 0, 1540] (projT x ng w) slices_S128x1x3088_S128x1x4_0_0_1540) (broadcastInDim S128x1x4 ![0, 1, 2] bcast_S1x1x4_S128x1x4_0_1_2 (broadcastInDim S1x1x4 ![2] bcast_S4_S1x1x4_2 (shapeCast _ fb shapeCasts_S1x4_S4))))⟩,
    ⟨S128x1x8, lsig8T (addf (extractStridedSlice S128x1x8 ![0, 0, 3080] (projT x ng w) slices_S128x1x3088_S128x1x8_0_0_3080) (broadcastInDim S128x1x8 ![0, 1, 2] bcast_S1x1x8_S128x1x8_0_1_2 (broadcastInDim S1x1x8 ![2] bcast_S8_S1x1x8_2 (shapeCast _ xb shapeCasts_S1x8_S8))))⟩,
    ⟨S128x1x112, lsig112T (broadcastInDim S128x1x112 ![] bcast_S_S128x1x112 (constant S_ .f32 0x00000000#32))⟩]
    concatenates_S128x1x4_S128x1x4_S128x1x8_S128x1x112_S128x1x128_d2

theorem gatesT_at (x : FVec Ideal S128x1x1024 .f32) (ng : FVec Ideal S2x4x1024 .f32) (w : FVec Ideal S1x1024x3088 .f32) (ib fb : FVec Ideal S1x4 .f32) (xb : FVec Ideal S1x8 .f32) (s : Fin 128) (t : Fin 1) (n : Fin 128) :
    gatesT x ng w ib fb xb (ix3 s t n) = Cert.Kernel6Ideal.RefValue.gateAt x ng w ib fb xb s t n := by
  obtain rfl : t = 0 := Subsingleton.elim _ _
  unfold Cert.Kernel6Ideal.RefValue.gateAt gate
  by_cases h4 : n.val < 4
  · pointwise [gatesT, projT_at, Cert.Kernel6Ideal.RefValue.wideAt, h4]
  · by_cases h8 : n.val < 8
    · have q : n.val - 4 < 4 := by omega
      have e : 1540 + (n.val - 4) = 1536 + n.val := by omega
      pointwise [gatesT, lsig4T_at, projT_at, Cert.Kernel6Ideal.RefValue.wideAt, h4, h8, q, e]
    · by_cases h16 : n.val < 16
      · have q : ¬ n.val - 4 < 4 := by omega
        have r : n.val - 4 - 4 < 8 := by omega
        have e : 3080 + (n.val - 4 - 4) = 3072 + n.val := by omega
        have e' : n.val - 4 - 4 = n.val - 8 := by omega
        have r' : n.val - 8 < 8 := by omega
        have e2 : 3080 + (n.val - 8) = 3072 + n.val := by omega
        pointwise [gatesT, lsig8T_at, projT_at, Cert.Kernel6Ideal.RefValue.wideAt, h4, h8, h16, q, r, e, e', r', e2]
      · have q : ¬ n.val - 4 < 4 := by omega
        have r : ¬ n.val - 4 - 4 < 8 := by omega
        pointwise [gatesT, lsig112T_at, h4, h8, h16, q, r]

def mqT (x : FVec Ideal S128x1x1024 .f32) (ng : FVec Ideal S2x4x1024 .f32) (w : FVec Ideal S1x1024x3088 .f32) : FVec Ideal S128x256 .bf16 :=
  truncf .bf16 (shapeCast _ (extractStridedSlice S128x1x256 ![0, 0, 0] (projT x ng w) slices_S128x1x3088_S128x1x256_0_0_0) shapeCasts_S128x1x256_S128x256) bitsLt_bf16_f32

theorem mqT_eq (x : FVec Ideal S128x1x1024 .f32) (ng : FVec Ideal S2x4x1024 .f32) (w : FVec Ideal S1x1024x3088 .f32) :
    mqT x ng w = Cert.Kernel6Ideal.RefValue.mqOut x ng w := by
  funext i
  idx_vars i
  pointwise [mqT, projT_at, Cert.Kernel6Ideal.RefValue.mqOut, Cert.Kernel6Ideal.RefValue.rowSeq, Cert.Kernel6Ideal.RefValue.rowTok, Cert.Kernel6Ideal.RefValue.colAt]

def mkT (x : FVec Ideal S128x1x1024 .f32) (ng : FVec Ideal S2x4x1024 .f32) (w : FVec Ideal S1x1024x3088 .f32) : FVec Ideal S128x256 .bf16 :=
  truncf .bf16 (shapeCast _ (mulf (extractStridedSlice S128x1x256 ![0, 0, 256] (projT x ng w) slices_S128x1x3088_S128x1x256_0_0_256) (broadcastInDim S128x1x256 ![] bcast_S_S128x1x256 (constant S_ .f32 0x3E000000#32))) shapeCasts_S128x1x256_S128x256) bitsLt_bf16_f32

theorem mkT_eq (x : FVec Ideal S128x1x1024 .f32) (ng : FVec Ideal S2x4x1024 .f32) (w : FVec Ideal S1x1024x3088 .f32) :
    mkT x ng w = Cert.Kernel6Ideal.RefValue.mkOut x ng w := by
  funext i
  idx_vars i
  pointwise [mkT, projT_at, Cert.Kernel6Ideal.RefValue.mkOut, Cert.Kernel6Ideal.RefValue.rowSeq, Cert.Kernel6Ideal.RefValue.rowTok, Cert.Kernel6Ideal.RefValue.colAt]

def mvT (x : FVec Ideal S128x1x1024 .f32) (ng : FVec Ideal S2x4x1024 .f32) (w : FVec Ideal S1x1024x3088 .f32) : FVec Ideal S128x512 .bf16 :=
  truncf .bf16 (shapeCast _ (extractStridedSlice S128x1x512 ![0, 0, 512] (projT x ng w) slices_S128x1x3088_S128x1x512_0_0_512) shapeCasts_S128x1x512_S128x512) bitsLt_bf16_f32

theorem mvT_eq (x : FVec Ideal S128x1x1024 .f32) (ng : FVec Ideal S2x4x1024 .f32) (w : FVec Ideal S1x1024x3088 .f32) :
    mvT x ng w = Cert.Kernel6Ideal.RefValue.mvOut x ng w := by
  funext i
  idx_vars i
  pointwise [mvT, projT_at, Cert.Kernel6Ideal.RefValue.mvOut, Cert.Kernel6Ideal.RefValue.rowSeq, Cert.Kernel6Ideal.RefValue.rowTok, Cert.Kernel6Ideal.RefValue.colAt]

def moT (x : FVec Ideal S128x1x1024 .f32) (ng : FVec Ideal S2x4x1024 .f32) (w : FVec Ideal S1x1024x3088 .f32) : FVec Ideal S128x512 .f32 :=
  shapeCast _ (extractStridedSlice S128x1x512 ![0, 0, 1024] (projT x ng w) slices_S128x1x3088_S128x1x512_0_0_1024) shapeCasts_S128x1x512_S128x512

theorem moT_eq (x : FVec Ideal S128x1x1024 .f32) (ng : FVec Ideal S2x4x1024 .f32) (w : FVec Ideal S1x1024x3088 .f32) :
    moT x ng w = Cert.Kernel6Ideal.RefValue.moOut x ng w := by
  funext i
  idx_vars i
  pointwise [moT, projT_at, Cert.Kernel6Ideal.RefValue.moOut, Cert.Kernel6Ideal.RefValue.rowSeq, Cert.Kernel6Ideal.RefValue.rowTok, Cert.Kernel6Ideal.RefValue.colAt]

def fqT (x : FVec Ideal S128x1x1024 .f32) (ng : FVec Ideal S2x4x1024 .f32) (w : FVec Ideal S1x1024x3088 .f32) : FVec Ideal S128x512 .bf16 :=
  truncf .bf16 (shapeCast _ (mulf (extractStridedSlice S128x1x512 ![0, 0, 1544] (projT x ng w) slices_S128x1x3088_S128x1x512_0_0_1544) (broadcastInDim S128x1x512 ![] bcast_S_S128x1x512 (constant S_ .f32 0x3E000000#32))) shapeCasts_S128x1x512_S128x512) bitsLt_bf16_f32

theorem fqT_eq (x : FVec Ideal S128x1x1024 .f32) (ng : FVec Ideal S2x4x1024 .f32) (w : FVec Ideal S1x1024x3088 .f32) :
    fqT x ng w = Cert.Kernel6Ideal.RefValue.fqOut x ng w := by
  funext i
  idx_vars i
  pointwise [fqT, projT_at, Cert.Kernel6Ideal.RefValue.fqOut, Cert.Kernel6Ideal.RefValue.rowSeq, Cert.Kernel6Ideal.RefValue.rowTok, Cert.Kernel6Ideal.RefValue.colAt]

def fkT (x : FVec Ideal S128x1x1024 .f32) (ng : FVec Ideal S2x4x1024 .f32) (w : FVec Ideal S1x1024x3088 .f32) : FVec Ideal S128x512 .f32 :=
  shapeCast _ (extractStridedSlice S128x1x512 ![0, 0, 2056] (projT x ng w) slices_S128x1x3088_S128x1x512_0_0_2056) shapeCasts_S128x1x512_S128x512

theorem fkT_eq (x : FVec Ideal S128x1x1024 .f32) (ng : FVec Ideal S2x4x1024 .f32) (w : FVec Ideal S1x1024x3088 .f32) :
    fkT x ng w = Cert.Kernel6Ideal.RefValue.fkOut x ng w := by
  funext i
  idx_vars i
  pointwise [fkT, projT_at, Cert.Kernel6Ideal.RefValue.fkOut, Cert.Kernel6Ideal.RefValue.rowSeq, Cert.Kernel6Ideal.RefValue.rowTok, Cert.Kernel6Ideal.RefValue.colAt]

def fvT (x : FVec Ideal S128x1x1024 .f32) (ng : FVec Ideal S2x4x1024 .f32) (w : FVec Ideal S1x1024x3088 .f32) : FVec Ideal S128x512 .f32 :=
  shapeCast _ (extractStridedSlice S128x1x512 ![0, 0, 2568] (projT x ng w) slices_S128x1x3088_S128x1x512_0_0_2568) shapeCasts_S128x1x512_S128x512

theorem fvT_eq (x : FVec Ideal S128x1x1024 .f32) (ng : FVec Ideal S2x4x1024 .f32) (w : FVec Ideal S1x1024x3088 .f32) :
    fvT x ng w = Cert.Kernel6Ideal.RefValue.fvOut x ng w := by
  funext i
  idx_vars i
  pointwise [fvT, projT_at, Cert.Kernel6Ideal.RefValue.fvOut, Cert.Kernel6Ideal.RefValue.rowSeq, Cert.Kernel6Ideal.RefValue.rowTok, Cert.Kernel6Ideal.RefValue.colAt]

def fk16T (x : FVec Ideal S128x1x1024 .f32) (ng : FVec Ideal S2x4x1024 .f32) (w : FVec Ideal S1x1024x3088 .f32) : FVec Ideal S128x512 .bf16 :=
  truncf .bf16 (shapeCast _ (extractStridedSlice S128x1x512 ![0, 0, 2056] (projT x ng w) slices_S128x1x3088_S128x1x512_0_0_2056) shapeCasts_S128x1x512_S128x512) bitsLt_bf16_f32

theorem fk16T_eq (x : FVec Ideal S128x1x1024 .f32) (ng : FVec Ideal S2x4x1024 .f32) (w : FVec Ideal S1x1024x3088 .f32) :
    fk16T x ng w = Cert.Kernel6Ideal.RefValue.fk16Out x ng w := by
  funext i
  idx_vars i
  pointwise [fk16T, projT_at, Cert.Kernel6Ideal.RefValue.fk16Out, Cert.Kernel6Ideal.RefValue.rowSeq, Cert.Kernel6Ideal.RefValue.rowTok, Cert.Kernel6Ideal.RefValue.colAt]

def fv16T (x : FVec Ideal S128x1x1024 .f32) (ng : FVec Ideal S2x4x1024 .f32) (w : FVec Ideal S1x1024x3088 .f32) : FVec Ideal S128x512 .bf16 :=
  truncf .bf16 (shapeCast _ (extractStridedSlice S128x1x512 ![0, 0, 2568] (projT x ng w) slices_S128x1x3088_S128x1x512_0_0_2568) shapeCasts_S128x1x512_S128x512) bitsLt_bf16_f32

theorem fv16T_eq (x : FVec Ideal S128x1x1024 .f32) (ng : FVec Ideal S2x4x1024 .f32) (w : FVec Ideal S1x1024x3088 .f32) :
    fv16T x ng w = Cert.Kernel6Ideal.RefValue.fv16Out x ng w := by
  funext i
  idx_vars i
  pointwise [fv16T, projT_at, Cert.Kernel6Ideal.RefValue.fv16Out, Cert.Kernel6Ideal.RefValue.rowSeq, Cert.Kernel6Ideal.RefValue.rowTok, Cert.Kernel6Ideal.RefValue.colAt]

def gT (x : FVec Ideal S128x1x1024 .f32) (ng : FVec Ideal S2x4x1024 .f32) (w : FVec Ideal S1x1024x3088 .f32) (ib fb : FVec Ideal S1x4 .f32) (xb : FVec Ideal S1x8 .f32) : FVec Ideal S128x128 .f32 :=
  shapeCast _ (gatesT x ng w ib fb xb) shapeCasts_S128x1x128_S128x128

theorem gT_eq (x : FVec Ideal S128x1x1024 .f32) (ng : FVec Ideal S2x4x1024 .f32) (w : FVec Ideal S1x1024x3088 .f32) (ib fb : FVec Ideal S1x4 .f32) (xb : FVec Ideal S1x8 .f32) :
    gT x ng w ib fb xb = Cert.Kernel6Ideal.RefValue.gOut x ng w ib fb xb := by
  funext i
  idx_vars i
  pointwise [gT, gatesT_at, Cert.Kernel6Ideal.RefValue.gOut, Cert.Kernel6Ideal.RefValue.rowSeq, Cert.Kernel6Ideal.RefValue.rowTok, Cert.Kernel6Ideal.RefValue.colAt]

end Cert.Reference6Ideal.RefValue

end
-- ==== Proof.InStepClaim.lean ====
module

public import proofs.«01_k».proof.Defs
public import proofs.«01_k».proof.Proof.InStepValue
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.Value
public import Idealize.ShloMosaic.Lib.Quiescent

@[expose] public section

set_option maxRecDepth 16384

noncomputable section

namespace Cert.Proof.InStepClaim

open Idealize.ShloMosaic Idealize.ShloMosaic.TcCoe Idealize.SL.Sem

/-- Result 0 of the call as a function of the argument arrays. -/
def value0 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x256 .bf16 :=
  Cert.Kernel6Ideal.RefValue.mqOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 1 of the call as a function of the argument arrays. -/
def value1 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x256 .bf16 :=
  Cert.Kernel6Ideal.RefValue.mkOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 2 of the call as a function of the argument arrays. -/
def value2 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .bf16 :=
  Cert.Kernel6Ideal.RefValue.mvOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 3 of the call as a function of the argument arrays. -/
def value3 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .f32 :=
  Cert.Kernel6Ideal.RefValue.moOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 4 of the call as a function of the argument arrays. -/
def value4 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .bf16 :=
  Cert.Kernel6Ideal.RefValue.fqOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 5 of the call as a function of the argument arrays. -/
def value5 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .f32 :=
  Cert.Kernel6Ideal.RefValue.fkOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 6 of the call as a function of the argument arrays. -/
def value6 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .f32 :=
  Cert.Kernel6Ideal.RefValue.fvOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 7 of the call as a function of the argument arrays. -/
def value7 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .bf16 :=
  Cert.Kernel6Ideal.RefValue.fk16Out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 8 of the call as a function of the argument arrays. -/
def value8 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x512 .bf16 :=
  Cert.Kernel6Ideal.RefValue.fv16Out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))

/-- Result 9 of the call as a function of the argument arrays. -/
def value9 (m : (ℓ : Loc Cert.Kernel6Ideal.nD Cert.Kernel6Ideal.τ Cert.Kernel6Ideal.sig) → Buf (Elt Ideal) ℓ) (c : Dev Cert.Kernel6Ideal.nD) : FVec Ideal Cert.Kernel6Ideal.S128x128 .f32 :=
  Cert.Kernel6Ideal.RefValue.gOut (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2.2.2.2.2.2.2.2.2.2, Idealize.ShloMosaic.sem_eq_zero_of_no_sems (by decide) r.2⟩)
    (Cert.Reference6Ideal.Value.run (F := Ideal) m ρ)

theorem preserves : Cert.preserves_Kernel6_Kernel6Ideal := trivial

/-- The kernel's result arrays and the reference's are the same functions of the same arguments. -/
theorem algebraic : Cert.algebraic_Kernel6Ideal_Reference6Ideal := by
  intro m ρ m' ρ' _ hagree
  refine ⟨fun c => value0 m c, fun c => value1 m c, fun c => value2 m c, fun c => value3 m c, fun c => value4 m c, fun c => value5 m c, fun c => value6 m c, fun c => value7 m c, fun c => value8 m c, fun c => value9 m c, ?_, ?_⟩
  · refine (θ_run Cert.Kernel6Ideal.defs _ _).mono (fun _ h c => ⟨(h c).1.trans (Cert.Kernel6Ideal.RefValue.final_mq m c), (h c).2.1.trans (Cert.Kernel6Ideal.RefValue.final_mk m c), (h c).2.2.1.trans (Cert.Kernel6Ideal.RefValue.final_mv m c), (h c).2.2.2.1.trans (Cert.Kernel6Ideal.RefValue.final_mo m c), (h c).2.2.2.2.1.trans (Cert.Kernel6Ideal.RefValue.final_fq m c), (h c).2.2.2.2.2.1.trans (Cert.Kernel6Ideal.RefValue.final_fk m c), (h c).2.2.2.2.2.2.1.trans (Cert.Kernel6Ideal.RefValue.final_fv m c), (h c).2.2.2.2.2.2.2.1.trans (Cert.Kernel6Ideal.RefValue.final_fk16 m c), (h c).2.2.2.2.2.2.2.2.1.trans (Cert.Kernel6Ideal.RefValue.final_fv16 m c), (h c).2.2.2.2.2.2.2.2.2.1.trans (Cert.Kernel6Ideal.RefValue.final_g m c), (h c).2.2.2.2.2.2.2.2.2.2⟩)
      (Cert.Kernel6Ideal.Value.run_blocks (F := Ideal) m ρ)
  · refine (θ_run Cert.Reference6Ideal.defs _ _).mono (fun _ h c => ⟨(h c).1.trans ((Cert.Reference6Ideal.RefValue.mqT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.1.trans ((Cert.Reference6Ideal.RefValue.mkT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.1.trans ((Cert.Reference6Ideal.RefValue.mvT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.1.trans ((Cert.Reference6Ideal.RefValue.moT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.1.trans ((Cert.Reference6Ideal.RefValue.fqT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.2.1.trans ((Cert.Reference6Ideal.RefValue.fkT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.2.2.1.trans ((Cert.Reference6Ideal.RefValue.fvT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.2.2.2.1.trans ((Cert.Reference6Ideal.RefValue.fk16T_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.2.2.2.2.1.trans ((Cert.Reference6Ideal.RefValue.fv16T_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans ?_), (h c).2.2.2.2.2.2.2.2.2.1.trans ((Cert.Reference6Ideal.RefValue.gT_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5))).trans ?_), (h c).2.2.2.2.2.2.2.2.2.2⟩)
      (Cert.Reference6Ideal.Value.run (F := Ideal) m' ρ')
    all_goals
      simp only [(hagree c).1, (hagree c).2.1, (hagree c).2.2.1, (hagree c).2.2.2.1, (hagree c).2.2.2.2.1, (hagree c).2.2.2.2.2]
      rfl

end Cert.Proof.InStepClaim

end
-- ==== Proof.ProjRows.lean ====
module

public import proofs.«01_k».proof.Proof.GateRows
public import proofs.«01_k».proof.Proof.HeadRows

@[expose] public section

set_option maxRecDepth 16384

noncomputable section

/-! The odd layer's projections of a token: every one mixes the token's row `h` with the row before it, whose difference
from `h` is `d`, by a weight per entry, and multiplies the mixed row by a matrix. `z` holds the vectors the layer has per
entry: the six mixing weights, the two offsets, and the two scales of the key. -/

namespace Cert.Rows

open Idealize.ShloMosaic

/-- A mixed row. -/
def mixed (h d g : Fin 1024 → EReal) (k : Fin 1024) : EReal := h k + d k * g k

/-- One entry of a row's product with a matrix. -/
def along {n : ℕ} (h : Fin 1024 → EReal) (w : Fin 1024 → Fin n → EReal) (j : Fin n) : EReal := ∑ k : Fin 1024, h k * w k j

/-- The logistic function. -/
def expit (v : EReal) : EReal := Ideal.div 1 (1 + Ideal.exp (-v))

/-- The logarithm of `1 + exp (-v)`. -/
def softNeg (v : EReal) : EReal := max (-v) 0 + tailLog (-v)

/-- The logarithm of a decay. -/
def decayLog (h d : Fin 1024 → EReal) (z : Fin 10 → Fin 1024 → EReal) (w1 : Fin 1024 → Fin 64 → EReal) (w2 : Fin 64 → Fin 1024 → EReal)
    (j : Fin 1024) : EReal :=
  -Ideal.exp (-softNeg (z 6 j + ∑ l : Fin 64, Ideal.tanh (along (mixed h d (z 1)) w1 l) * w2 l j) - Ideal.ofBits .f32 0x3F000000#32)

/-- The rate at which a key is replaced. -/
def rate (h d : Fin 1024 → EReal) (z : Fin 10 → Fin 1024 → EReal) (a1 : Fin 1024 → Fin 64 → EReal) (a2 : Fin 64 → Fin 1024 → EReal)
    (j : Fin 1024) : EReal :=
  expit (z 7 j + ∑ l : Fin 64, along (mixed h d (z 4)) a1 l * a2 l j)

/-- The output gate. -/
def outGate (h d : Fin 1024 → EReal) (z : Fin 10 → Fin 1024 → EReal) (g1 : Fin 1024 → Fin 128 → EReal) (g2 : Fin 128 → Fin 1024 → EReal)
    (j : Fin 1024) : EReal :=
  ∑ l : Fin 128, expit (along (mixed h d (z 5)) g1 l) * g2 l j

/-- A row divided by the length of each of its heads. -/
def headUnit (q : Fin 1024 → EReal) (j : Fin 1024) : EReal :=
  Ideal.div (q j) (max (Ideal.sqrt (∑ l : Fin 64, q (lane (hd j) l) * q (lane (hd j) l))) (Ideal.ofBits .f32 0x2B8CBCCC#32))

/-- The direction a key is removed along. -/
def removal (h d : Fin 1024 → EReal) (z : Fin 10 → Fin 1024 → EReal) (wk : Fin 1024 → Fin 1024 → EReal) (j : Fin 1024) : EReal :=
  headUnit (fun i => along (mixed h d (z 2)) wk i * z 8 i) j

/-- The key that is written. -/
def written (h d : Fin 1024 → EReal) (z : Fin 10 → Fin 1024 → EReal) (wk : Fin 1024 → Fin 1024 → EReal)
    (a1 : Fin 1024 → Fin 64 → EReal) (a2 : Fin 64 → Fin 1024 → EReal) (j : Fin 1024) : EReal :=
  along (mixed h d (z 2)) wk j * (1 + (rate h d z a1 a2 j - 1) * z 9 j)

end Cert.Rows

end
-- ==== Proof.ProjBlock.lean ====
module

public import proofs.«01_k».proof.Proof.ProjRows
public import proofs.«01_k».proof.Proof.Gen.Kernel7Ideal.Value
public import Idealize.ShloMosaic.Lib.Pipeline.ValueKit
public import Idealize.ShloMosaic.Lib.Claim

@[expose] public section

set_option maxRecDepth 16384

noncomputable section

namespace Cert.Kernel7Ideal.RefValue

open Cert.Kernel7Ideal Cert.Kernel7Ideal.Gen Cert.Rows
open Idealize.ShloMosaic Idealize.ShloMosaic.TcCoe Idealize.SL.Sem
open Idealize.ShloMosaic.Pipeline (Dat)

variable (i : grid0.Coords) (x0 : FVec Ideal S512x1024 .f32) (x1 : FVec Ideal S8x1024 .f32) (x2 : FVec Ideal S1x1x1024 .f32)
  (x3 : FVec Ideal S1x1024 .f32) (x4 : FVec Ideal S16x1024 .f32) (x5 x6 x7 : FVec Ideal S1024x1024 .bf16)
  (x8 : FVec Ideal S1024x64 .bf16) (x9 : FVec Ideal S64x1024 .bf16) (x10 : FVec Ideal S1024x64 .bf16) (x11 : FVec Ideal S64x1024 .bf16)
  (x12 : FVec Ideal S1024x128 .bf16) (x13 : FVec Ideal S128x1024 .bf16)

/-- Row `p` of a block after the normalisation. -/
def nRow (p : Fin 512) : Fin 1024 → EReal := rms (fun k => x0 (ix2 p k)) (fun k => x3 (ix2 0 k))

/-- The row before a block's first one: the state handed in at the start of a sequence, the last of the eight rows
before the block elsewhere. -/
def edgeRow (k : Fin 1024) : EReal :=
  if (i 1).val = 0 then x2 (ix3 0 0 k) else rms (fun k => x1 (ix2 7 k)) (fun k => x3 (ix2 0 k)) k

/-- The row before row `p` of a block. -/
def backRow (p : Fin 512) (k : Fin 1024) : EReal :=
  if h : p.val = 0 then edgeRow i x1 x2 x3 k else nRow x0 x3 ⟨p.val - 1, by omega⟩ k

/-- Its difference from row `p`. -/
def dRow (p : Fin 512) (k : Fin 1024) : EReal := backRow i x0 x1 x2 x3 p k - nRow x0 x3 p k

/-- The vectors per entry. -/
def zBlk (a : Fin 10) (k : Fin 1024) : EReal := x4 (ix2 ⟨a.val, by omega⟩ k)

theorem norm_at (p : Fin 512) (k : Fin 1024) : k0_pay4 (F := Ideal) x3 x0 (ix2 p k) = nRow x0 x3 p k := by
  pointwise [k0_pay4, k0_pay3, nRow, rms]

theorem first_tile : ∀ q : Fin 16, IntOp.cmpi CmpIPredicate.eq (BitVec.ofNat 32 q.val) 0#32 = if q.val = 0 then 1#1 else 0#1 := by
  decide

theorem first_row : ∀ q : Fin 512, IntOp.cmpi CmpIPredicate.eq (BitVec.ofNat 32 q.val) 0#32 = if q.val = 0 then 1#1 else 0#1 := by
  decide +kernel

theorem edge_at (k : Fin 1024) : k0_pay7 (F := Ideal) i x3 x1 x2 (ix2 0 k) = edgeRow i x1 x2 x3 k := by
  pointwise [k0_pay7, k0_pay3, edgeRow, rms]
  rw [show Scalar.cmpi CmpIPredicate.eq (BitVec.ofNat 32 (i 1).val) 0#32 = if (i 1).val = 0 then 1#1 else 0#1 from first_tile (i 1)]
  by_cases h : (i 1).val = 0
  · rw [if_pos h, if_pos h]; rfl
  · rw [if_neg h, if_neg h]; rfl

theorem turn_at (p : Fin 512) (k : Fin 1024) (h : ¬ p.val = 0) :
    k0_pay6 (F := Ideal) x3 x0 (ix2 p k) = nRow x0 x3 ⟨p.val - 1, by omega⟩ k := by
  have e : (p.val + 512 - 1) % 512 = p.val - 1 := by omega
  pointwise [k0_pay6, norm_at, e]

theorem diff_at (p : Fin 512) (k : Fin 1024) :
    k0_pay8 (F := Ideal) (k0_pay33 (F := Ideal) i x0 x1 x2 x3 x4 x5 x6 x7 x8 x9 x10 x11 x12 x13) (k0_pay34 (F := Ideal) i x0 x1 x2 x3 x4 x5 x6 x7 x8 x9 x10 x11 x12 x13) (k0_pay35 (F := Ideal) i x0 x1 x2 x3 x4 x5 x6 x7 x8 x9 x10 x11 x12 x13) (k0_pay36 (F := Ideal) i x0 x1 x2 x3 x4 x5 x6 x7 x8 x9 x10 x11 x12 x13) (ix2 p k) = dRow i x0 x1 x2 x3 p k := by
  have hr := first_row p
  have he := fun a b c => edge_at i a b c k
  by_cases h : p.val = 0
  · pointwise [k0_pay8, k0_pay33, k0_pay34, k0_pay35, k0_pay36, k0_pay5, he, norm_at, dRow, backRow, h]
    pointwise [edgeRow, nRow, rms]
  · have ht := fun a b => turn_at a b p k h
    pointwise [k0_pay8, k0_pay33, k0_pay34, k0_pay35, k0_pay36, k0_pay5, ht, norm_at, dRow, backRow, h]
    rw [hr, if_neg h]
    pointwise [nRow, rms]

theorem h_at (p : Fin 512) (k : Fin 1024) : (k0_pay33 (F := Ideal) i x0 x1 x2 x3 x4 x5 x6 x7 x8 x9 x10 x11 x12 x13) (ix2 p k) = nRow x0 x3 p k := by
  unfold k0_pay33
  refine (norm_at _ _ p k).trans ?_
  pointwise [nRow, rms]

/-- The matrix of ones on the diagonal blocks of 64, zeros elsewhere. -/
theorem mask_at (a b : Fin 256) : (k0_pay42 (F := Ideal) i x0 x1 x2 x3 x4 x5 x6 x7 x8 x9 x10 x11 x12 x13) (ix2 a b) = if a.val / 64 = b.val / 64 then (1 : EReal) else 0 := by
  unfold k0_pay42
  pointwise [k0_pay23, k0_pay20, k0_pay21, k0_pay22]
  rw [head_index a, head_index b, head_same ⟨a.val / 64, by omega⟩ ⟨b.val / 64, by omega⟩]
  split_ifs <;> rfl

theorem unit_at (Q S : FVec Ideal S512x1024 .f32) (M : FVec Ideal S256x256 .bf16)
    (hM : ∀ a b : Fin 256, M (ix2 a b) = if a.val / 64 = b.val / 64 then (1 : EReal) else 0) (q : Fin 1024 → EReal) (p : Fin 512)
    (hQ : ∀ n, Q (ix2 p n) = q n) (hS : ∀ n, S (ix2 p n) = q n * q n) (j : Fin 1024) :
    k0_pay26 (F := Ideal) Q M (k0_pay24 S) (k0_pay25 S) (ix2 p j) = headUnit q j := by
  pointwise [k0_pay26, k0_pay25, k0_pay24]
  rw [head_tiles (fun a b => M (ix2 a b)) hM (fun i => S (ix2 p i)) j]
  simp only [hQ, hS]
  rfl

theorem k_at (p : Fin 512) (j : Fin 1024) :
    (k0_pay38 (F := Ideal) i x0 x1 x2 x3 x4 x5 x6 x7 x8 x9 x10 x11 x12 x13) (ix2 p j) = along (mixed (nRow x0 x3 p) (dRow i x0 x1 x2 x3 p) (zBlk x4 2)) (fun k n => x6 (ix2 k n)) j := by
  unfold k0_pay38
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay10, hh, hd, along, mixed, zBlk] <;> rfl

theorem a_at (p : Fin 512) (j : Fin 1024) :
    (k0_pay39 (F := Ideal) i x0 x1 x2 x3 x4 x5 x6 x7 x8 x9 x10 x11 x12 x13) (ix2 p j) = rate (nRow x0 x3 p) (dRow i x0 x1 x2 x3 p) (zBlk x4) (fun k n => x10 (ix2 k n)) (fun k n => x11 (ix2 k n)) j := by
  unfold k0_pay39 k0_pay37
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay16, k0_pay15, hh, hd, rate, expit, along, mixed, zBlk]
  simp only [zero_sub]

theorem q_at (p : Fin 512) (j : Fin 1024) :
    (k0_pay40 (F := Ideal) i x0 x1 x2 x3 x4 x5 x6 x7 x8 x9 x10 x11 x12 x13) (ix2 p j) = along (mixed (nRow x0 x3 p) (dRow i x0 x1 x2 x3 p) (zBlk x4 2)) (fun k n => x6 (ix2 k n)) j * zBlk x4 8 j := by
  unfold k0_pay40
  have hk := k_at i x0 x1 x2 x3 x4 x5 x6 x7 x8 x9 x10 x11 x12 x13 p
  generalize (k0_pay38 (F := Ideal) i x0 x1 x2 x3 x4 x5 x6 x7 x8 x9 x10 x11 x12 x13) = K at hk ⊢
  pointwise [k0_pay18, hk, zBlk] <;> rfl

theorem s_at (p : Fin 512) (j : Fin 1024) :
    (k0_pay41 (F := Ideal) i x0 x1 x2 x3 x4 x5 x6 x7 x8 x9 x10 x11 x12 x13) (ix2 p j) = (along (mixed (nRow x0 x3 p) (dRow i x0 x1 x2 x3 p) (zBlk x4 2)) (fun k n => x6 (ix2 k n)) j * zBlk x4 8 j)
      * (along (mixed (nRow x0 x3 p) (dRow i x0 x1 x2 x3 p) (zBlk x4 2)) (fun k n => x6 (ix2 k n)) j * zBlk x4 8 j) := by
  unfold k0_pay41
  have hk := k_at i x0 x1 x2 x3 x4 x5 x6 x7 x8 x9 x10 x11 x12 x13 p
  generalize (k0_pay38 (F := Ideal) i x0 x1 x2 x3 x4 x5 x6 x7 x8 x9 x10 x11 x12 x13) = K at hk ⊢
  pointwise [k0_pay19, k0_pay18, hk, zBlk] <;> rfl

theorem away_at (p : Fin 512) (j : Fin 1024) :
    k0_pay26 (F := Ideal) (k0_pay40 (F := Ideal) i x0 x1 x2 x3 x4 x5 x6 x7 x8 x9 x10 x11 x12 x13) (k0_pay42 (F := Ideal) i x0 x1 x2 x3 x4 x5 x6 x7 x8 x9 x10 x11 x12 x13) (k0_pay43 (F := Ideal) i x0 x1 x2 x3 x4 x5 x6 x7 x8 x9 x10 x11 x12 x13) (k0_pay44 (F := Ideal) i x0 x1 x2 x3 x4 x5 x6 x7 x8 x9 x10 x11 x12 x13) (ix2 p j)
      = removal (nRow x0 x3 p) (dRow i x0 x1 x2 x3 p) (zBlk x4) (fun k n => x6 (ix2 k n)) j := by
  unfold k0_pay43 k0_pay44 removal
  exact unit_at _ _ _ (mask_at i x0 x1 x2 x3 x4 x5 x6 x7 x8 x9 x10 x11 x12 x13) _ p (q_at i x0 x1 x2 x3 x4 x5 x6 x7 x8 x9 x10 x11 x12 x13 p) (s_at i x0 x1 x2 x3 x4 x5 x6 x7 x8 x9 x10 x11 x12 x13 p) j

theorem block_r (p : Fin 512) (j : Fin 1024) : out0_14 (F := Ideal) i x0 x1 x2 x3 x4 x5 x6 x7 x8 x9 x10 x11 x12 x13 (ix2 p j)
    = along (mixed (nRow x0 x3 p) (dRow i x0 x1 x2 x3 p) (zBlk x4 0)) (fun k n => x5 (ix2 k n)) j := by
  unfold out0_14
  rw [View.canon_unit_zero (by funext a; fin_cases a <;> rfl)]
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay28, k0_pay9, hh, hd, along, mixed, zBlk] <;> rfl

theorem block_k (p : Fin 512) (j : Fin 1024) : out0_15 (F := Ideal) i x0 x1 x2 x3 x4 x5 x6 x7 x8 x9 x10 x11 x12 x13 (ix2 p j)
    = written (nRow x0 x3 p) (dRow i x0 x1 x2 x3 p) (zBlk x4) (fun k n => x6 (ix2 k n)) (fun k n => x10 (ix2 k n)) (fun k n => x11 (ix2 k n)) j := by
  unfold out0_15
  rw [View.canon_unit_zero (by funext a; fin_cases a <;> rfl)]
  have hk := k_at i x0 x1 x2 x3 x4 x5 x6 x7 x8 x9 x10 x11 x12 x13 p
  have ha := a_at i x0 x1 x2 x3 x4 x5 x6 x7 x8 x9 x10 x11 x12 x13 p
  generalize (k0_pay38 (F := Ideal) i x0 x1 x2 x3 x4 x5 x6 x7 x8 x9 x10 x11 x12 x13) = K at hk ⊢
  generalize (k0_pay39 (F := Ideal) i x0 x1 x2 x3 x4 x5 x6 x7 x8 x9 x10 x11 x12 x13) = A at ha ⊢
  pointwise [k0_pay29, hk, ha, written, zBlk] <;> rfl

theorem block_v (p : Fin 512) (j : Fin 1024) : out0_16 (F := Ideal) i x0 x1 x2 x3 x4 x5 x6 x7 x8 x9 x10 x11 x12 x13 (ix2 p j)
    = along (mixed (nRow x0 x3 p) (dRow i x0 x1 x2 x3 p) (zBlk x4 3)) (fun k n => x7 (ix2 k n)) j := by
  unfold out0_16
  rw [View.canon_unit_zero (by funext a; fin_cases a <;> rfl)]
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay30, k0_pay11, hh, hd, along, mixed, zBlk] <;> rfl

theorem block_na (p : Fin 512) (j : Fin 1024) : out0_17 (F := Ideal) i x0 x1 x2 x3 x4 x5 x6 x7 x8 x9 x10 x11 x12 x13 (ix2 p j)
    = -removal (nRow x0 x3 p) (dRow i x0 x1 x2 x3 p) (zBlk x4) (fun k n => x6 (ix2 k n)) j := by
  unfold out0_17
  rw [View.canon_unit_zero (by funext a; fin_cases a <;> rfl)]
  pointwise [k0_pay31, away_at]
  simp only [zero_sub]

theorem block_bb (p : Fin 512) (j : Fin 1024) : out0_18 (F := Ideal) i x0 x1 x2 x3 x4 x5 x6 x7 x8 x9 x10 x11 x12 x13 (ix2 p j)
    = removal (nRow x0 x3 p) (dRow i x0 x1 x2 x3 p) (zBlk x4) (fun k n => x6 (ix2 k n)) j
      * rate (nRow x0 x3 p) (dRow i x0 x1 x2 x3 p) (zBlk x4) (fun k n => x10 (ix2 k n)) (fun k n => x11 (ix2 k n)) j := by
  unfold out0_18
  rw [View.canon_unit_zero (by funext a; fin_cases a <;> rfl)]
  pointwise [k0_pay32, away_at, a_at]

theorem block_lw (p : Fin 512) (j : Fin 1024) : out0_19 (F := Ideal) i x0 x1 x2 x3 x4 x5 x6 x7 x8 x9 x10 x11 x12 x13 (ix2 p j)
    = decayLog (nRow x0 x3 p) (dRow i x0 x1 x2 x3 p) (zBlk x4) (fun k n => x8 (ix2 k n)) (fun k n => x9 (ix2 k n)) j := by
  unfold out0_19
  rw [View.canon_unit_zero (by funext a; fin_cases a <;> rfl)]
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay27, k0_pay14, k0_pay12, k0_pay13, hh, hd, decayLog, softNeg, tailLog, along, mixed, zBlk]
  simp only [zero_sub]
  rfl

theorem block_gate (p : Fin 512) (j : Fin 1024) : out0_20 (F := Ideal) i x0 x1 x2 x3 x4 x5 x6 x7 x8 x9 x10 x11 x12 x13 (ix2 p j)
    = outGate (nRow x0 x3 p) (dRow i x0 x1 x2 x3 p) (zBlk x4) (fun k n => x12 (ix2 k n)) (fun k n => x13 (ix2 k n)) j := by
  unfold out0_20 k0_pay37
  rw [View.canon_unit_zero (by funext a; fin_cases a <;> rfl)]
  have hh := h_at i x0 x1 x2 x3 x4 x5 x6 x7 x8 x9 x10 x11 x12 x13 p
  have hd := diff_at i x0 x1 x2 x3 x4 x5 x6 x7 x8 x9 x10 x11 x12 x13 p
  generalize (k0_pay33 (F := Ideal) i x0 x1 x2 x3 x4 x5 x6 x7 x8 x9 x10 x11 x12 x13) = H at hh hd ⊢
  generalize (k0_pay34 (F := Ideal) i x0 x1 x2 x3 x4 x5 x6 x7 x8 x9 x10 x11 x12 x13) = M at hd ⊢
  generalize (k0_pay35 (F := Ideal) i x0 x1 x2 x3 x4 x5 x6 x7 x8 x9 x10 x11 x12 x13) = R at hd ⊢
  generalize (k0_pay36 (F := Ideal) i x0 x1 x2 x3 x4 x5 x6 x7 x8 x9 x10 x11 x12 x13) = S at hd ⊢
  pointwise [k0_pay1, k0_pay17, hh, hd, outGate, expit, along, mixed, zBlk]
  simp only [zero_sub]

theorem block_last (p : Fin 8) (j : Fin 1024) : out0_21 (F := Ideal) i x0 x1 x2 x3 x4 x5 x6 x7 x8 x9 x10 x11 x12 x13 (ix3 0 p j) = nRow x0 x3 ⟨504 + p.val, by omega⟩ j := by
  unfold out0_21
  rw [View.canon_unit_zero (by funext a; fin_cases a <;> rfl)]
  have hh := fun q => h_at i x0 x1 x2 x3 x4 x5 x6 x7 x8 x9 x10 x11 x12 x13 q
  generalize (k0_pay33 (F := Ideal) i x0 x1 x2 x3 x4 x5 x6 x7 x8 x9 x10 x11 x12 x13) = H at hh ⊢
  pointwise [k0_pay2, hh]

end Cert.Kernel7Ideal.RefValue

end
-- ==== Proof.ProjArr.lean ====
module

public import proofs.«01_k».proof.Proof.ProjBlock
public import Idealize.ShloMosaic.Lib.Claim

@[expose] public section

set_option maxRecDepth 16384

noncomputable section

namespace Cert.Kernel7Ideal.RefValue

open Cert.Kernel7Ideal Cert.Kernel7Ideal.Gen Cert.Rows
open Idealize.ShloMosaic Idealize.ShloMosaic.TcCoe Idealize.SL.Sem
open Idealize.ShloMosaic.Pipeline (Dat)

/-- The normalised activations of token `t` of sequence `s`, and those of the token before it: the state handed in at
the start of a sequence. -/
def hTok (a0 : FVec Ideal S2x8192x1024 .f32) (a2 : FVec Ideal S2x4x1024 .f32) (s : Fin 2) (t : Fin 8192) : Fin 1024 → EReal :=
  rms (fun k => a0 (ix3 s t k)) (fun k => a2 (ix3 1 0 k))
def pTok (a0 : FVec Ideal S2x8192x1024 .f32) (a1 : FVec Ideal S2x1024 .f32) (a2 : FVec Ideal S2x4x1024 .f32) (s : Fin 2) (t : Fin 8192) (k : Fin 1024) : EReal :=
  if t.val = 0 then a1 (ix2 s k) else hTok a0 a2 s ⟨t.val - 1, by omega⟩ k

/-- Their difference. -/
def dTok (a0 : FVec Ideal S2x8192x1024 .f32) (a1 : FVec Ideal S2x1024 .f32) (a2 : FVec Ideal S2x4x1024 .f32) (s : Fin 2) (t : Fin 8192) (k : Fin 1024) : EReal := pTok a0 a1 a2 s t k - hTok a0 a2 s t k

/-- The layer's vectors per entry. -/
def zAt (a3 : FVec Ideal S1x6x1024 .f32) (a7 : FVec Ideal S1x1024 .f32) (a10 : FVec Ideal S1x1024 .f32) (a15 : FVec Ideal S1x1024 .f32) (a16 : FVec Ideal S1x1024 .f32) : Fin 10 → Fin 1024 → EReal :=
  ![fun k => a3 (ix3 0 0 k), fun k => a3 (ix3 0 1 k), fun k => a3 (ix3 0 2 k), fun k => a3 (ix3 0 3 k), fun k => a3 (ix3 0 4 k), fun k => a3 (ix3 0 5 k),
    fun k => a7 (ix2 0 k), fun k => a10 (ix2 0 k), fun k => a15 (ix2 0 k), fun k => a16 (ix2 0 k)]

/-- The sequence and the token of row `r` of the flattened activations. -/
def rowSeq (r : Fin 16384) : Fin 2 := ⟨r.val / 8192, by omega⟩
def rowTok (r : Fin 16384) : Fin 8192 := ⟨r.val % 8192, by omega⟩

/-- The vectors as the host code stacks them. -/
def vecsOf (a3 : FVec Ideal S1x6x1024 .f32) (a7 : FVec Ideal S1x1024 .f32) (a10 : FVec Ideal S1x1024 .f32) (a15 : FVec Ideal S1x1024 .f32) (a16 : FVec Ideal S1x1024 .f32) : FVec Ideal S16x1024 .f32 := concatenate S16x1024 0 [⟨S6x1024, (shapeCast S6x1024 a3 shapeCasts_S1x6x1024_S6x1024 : FVec Ideal S6x1024 .f32)⟩, ⟨S1x1024, a7⟩, ⟨S1x1024, a10⟩, ⟨S1x1024, a15⟩, ⟨S1x1024, a16⟩,
    ⟨S6x1024, (broadcastInDim S6x1024 ![] bcast_S_S6x1024 (constant S_ .f32 0x00000000#32) : FVec Ideal S6x1024 .f32)⟩]
    concatenates_S6x1024_S1x1024_S1x1024_S1x1024_S1x1024_S6x1024_S16x1024_d0

theorem vecs_mix (a3 : FVec Ideal S1x6x1024 .f32) (a7 : FVec Ideal S1x1024 .f32) (a10 : FVec Ideal S1x1024 .f32) (a15 : FVec Ideal S1x1024 .f32) (a16 : FVec Ideal S1x1024 .f32) (i : Fin 6) (k : Fin 1024) : vecsOf a3 a7 a10 a15 a16 (ix2 ⟨i.val, by omega⟩ k) = a3 (ix3 0 i k) := by
  have hi := i.isLt
  pointwise [vecsOf, hi]

theorem vecs_6 (a3 : FVec Ideal S1x6x1024 .f32) (a7 : FVec Ideal S1x1024 .f32) (a10 : FVec Ideal S1x1024 .f32) (a15 : FVec Ideal S1x1024 .f32) (a16 : FVec Ideal S1x1024 .f32) (k : Fin 1024) : vecsOf a3 a7 a10 a15 a16 (ix2 6 k) = a7 (ix2 0 k) := by
  pointwise [vecsOf]

theorem vecs_7 (a3 : FVec Ideal S1x6x1024 .f32) (a7 : FVec Ideal S1x1024 .f32) (a10 : FVec Ideal S1x1024 .f32) (a15 : FVec Ideal S1x1024 .f32) (a16 : FVec Ideal S1x1024 .f32) (k : Fin 1024) : vecsOf a3 a7 a10 a15 a16 (ix2 7 k) = a10 (ix2 0 k) := by
  pointwise [vecsOf]

theorem vecs_8 (a3 : FVec Ideal S1x6x1024 .f32) (a7 : FVec Ideal S1x1024 .f32) (a10 : FVec Ideal S1x1024 .f32) (a15 : FVec Ideal S1x1024 .f32) (a16 : FVec Ideal S1x1024 .f32) (k : Fin 1024) : vecsOf a3 a7 a10 a15 a16 (ix2 8 k) = a15 (ix2 0 k) := by
  pointwise [vecsOf]

theorem vecs_9 (a3 : FVec Ideal S1x6x1024 .f32) (a7 : FVec Ideal S1x1024 .f32) (a10 : FVec Ideal S1x1024 .f32) (a15 : FVec Ideal S1x1024 .f32) (a16 : FVec Ideal S1x1024 .f32) (k : Fin 1024) : vecsOf a3 a7 a10 a15 a16 (ix2 9 k) = a16 (ix2 0 k) := by
  pointwise [vecsOf]

theorem vecs_at (a3 : FVec Ideal S1x6x1024 .f32) (a7 : FVec Ideal S1x1024 .f32) (a10 : FVec Ideal S1x1024 .f32) (a15 : FVec Ideal S1x1024 .f32) (a16 : FVec Ideal S1x1024 .f32) (a : Fin 10) (k : Fin 1024) : vecsOf a3 a7 a10 a15 a16 (ix2 ⟨a.val, by omega⟩ k) = zAt a3 a7 a10 a15 a16 a k := by
  fin_cases a
  · exact vecs_mix a3 a7 a10 a15 a16 0 k
  · exact vecs_mix a3 a7 a10 a15 a16 1 k
  · exact vecs_mix a3 a7 a10 a15 a16 2 k
  · exact vecs_mix a3 a7 a10 a15 a16 3 k
  · exact vecs_mix a3 a7 a10 a15 a16 4 k
  · exact vecs_mix a3 a7 a10 a15 a16 5 k
  · exact vecs_6 a3 a7 a10 a15 a16 k
  · exact vecs_7 a3 a7 a10 a15 a16 k
  · exact vecs_8 a3 a7 a10 a15 a16 k
  · exact vecs_9 a3 a7 a10 a15 a16 k

theorem tokens_at (a0 : FVec Ideal S2x8192x1024 .f32) (r : Fin 16384) (n : Fin 1024) :
    (shapeCast S16384x1024 a0 shapeCasts_S2x8192x1024_S16384x1024 : FVec Ideal S16384x1024 .f32) (ix2 r n) = a0 (ix3 (rowSeq r) (rowTok r) n) := by
  pointwise [rowSeq, rowTok]

theorem gains_at (a2 : FVec Ideal S2x4x1024 .f32) (n : Fin 1024) :
    (broadcastInDim S1x1024 ![1] bcast_S1024_S1x1024_1 (shapeCast S1024 (extractStridedSlice S1x1x1024 ![1, 0, 0] a2 slices_S2x4x1024_S1x1x1024_1_0_0) shapeCasts_S1x1x1024_S1024) : FVec Ideal S1x1024 .f32) (ix2 0 n) = a2 (ix3 1 0 n) := by
  pointwise

variable (m : (ℓ : Loc nD τ sig) → Buf (Elt Ideal) ℓ)

theorem idx : ∀ t : Fin cfg0.N, win0_0.index t = ![t.val, 0] ∧ win0_1.index t = ![t.val * 64 - 1, 0] ∧ win0_2.index t = ![t.val / 16, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val / 16, 0, 0]
    ∧ t.val < 32 :=
  (by decide +kernel : ∀ t : Fin grid0.N, _)

theorem point_lt (t : Fin cfg0.N) : t.val < 32 := (idx t).2.2.2.2.2.2.2.2.2.2.2.2.2.2.2.2.2.2.2.2.2.2

theorem tile (t : Fin cfg0.N) : (grid0.coords t 1).val = t.val % 16 :=
  (by decide +kernel : ∀ t : Fin grid0.N, (grid0.coords t 1).val = t.val % 16) t

/-- The sequence and the token of row `p` of a grid point's blocks. -/
def seqOf (t : Fin cfg0.N) (p : Fin 512) : Fin 2 := ⟨(t.val * 512 + p.val) / 8192, by have := point_lt t; omega⟩
def tokOf (t : Fin cfg0.N) (p : Fin 512) : Fin 8192 := ⟨(t.val * 512 + p.val) % 8192, by omega⟩

theorem tokens (c : Dev nD) : (V m c main_v18 : FVec Ideal S16384x1024 .f32) = shapeCast S16384x1024 ((m ((c : Thread nD τ).loc main_arg0)) : FVec Ideal S2x8192x1024 .f32) shapeCasts_S2x8192x1024_S16384x1024 := by
  unfold V
  after_results
  rfl

theorem gains (c : Dev nD) : (V m c main_v21 : FVec Ideal S1x1024 .f32) = broadcastInDim S1x1024 ![1] bcast_S1024_S1x1024_1 (shapeCast S1024 (extractStridedSlice S1x1x1024 ![1, 0, 0] ((m ((c : Thread nD τ).loc main_arg2)) : FVec Ideal S2x4x1024 .f32) slices_S2x4x1024_S1x1x1024_1_0_0) shapeCasts_S1x1x1024_S1024) := by
  unfold V
  after_results
  rfl

theorem vecs (c : Dev nD) : (V m c main_v24 : FVec Ideal S16x1024 .f32) = vecsOf (m ((c : Thread nD τ).loc main_arg3)) (m ((c : Thread nD τ).loc main_arg7)) (m ((c : Thread nD τ).loc main_arg10)) (m ((c : Thread nD τ).loc main_arg15)) (m ((c : Thread nD τ).loc main_arg16)) := by
  unfold V
  after_results
  rfl

theorem blk0 (c : Dev nD) (t : Fin cfg0.N) (p : Fin 512) (n : Fin 1024) :
    (iblk m c 0 t : FVec Ideal S512x1024 .f32) (ix2 p n)
      = ((m ((c : Thread nD τ).loc main_arg0)) : FVec Ideal S2x8192x1024 .f32) (ix3 (seqOf t p) (tokOf t p) n) := by
  have b : (iblk m c 0 t : FVec Ideal S512x1024 .f32) (ix2 p n) = (V m c main_v18 : FVec Ideal S16384x1024 .f32) (ix2 ⟨t.val * 512 + p.val, by have := point_lt t; omega⟩ n) := by
    blk_simp [iblk]
    blk_ext [idx t]
  rw [b, tokens]
  exact tokens_at _ _ n

theorem blk1 (c : Dev nD) (t : Fin cfg0.N) (ht : ¬ t.val % 16 = 0) (n : Fin 1024) :
    (iblk m c 1 t : FVec Ideal S8x1024 .f32) (ix2 7 n)
      = ((m ((c : Thread nD τ).loc main_arg0)) : FVec Ideal S2x8192x1024 .f32) (ix3 (seqOf t 0) ⟨(t.val * 512) % 8192 - 1, by omega⟩ n) := by
  have b : (iblk m c 1 t : FVec Ideal S8x1024 .f32) (ix2 7 n) = (V m c main_v18 : FVec Ideal S16384x1024 .f32) (ix2 ⟨t.val * 512 - 1, by have := point_lt t; omega⟩ n) := by
    have e : (t.val * 64 - 1) * 8 + 7 = t.val * 512 - 1 := by omega
    blk_simp [iblk]
    blk_ext [idx t, e]
  have es : rowSeq ⟨t.val * 512 - 1, by have := point_lt t; omega⟩ = seqOf t 0 :=
    Fin.ext (by show (t.val * 512 - 1) / 8192 = (t.val * 512 + 0) / 8192; omega)
  have et : rowTok ⟨t.val * 512 - 1, by have := point_lt t; omega⟩ = ⟨(t.val * 512) % 8192 - 1, by omega⟩ :=
    Fin.ext (by show (t.val * 512 - 1) % 8192 = (t.val * 512) % 8192 - 1; omega)
  rw [b, tokens]
  refine (tokens_at _ _ n).trans ?_
  rw [es, et]

theorem blk2 (c : Dev nD) (t : Fin cfg0.N) (n : Fin 1024) :
    (iblk m c 2 t : FVec Ideal S1x1x1024 .f32) (ix3 0 0 n)
      = ((m ((c : Thread nD τ).loc main_arg1)) : FVec Ideal S2x1024 .f32) (ix2 ⟨t.val / 16, by have := point_lt t; omega⟩ n) := by
  blk_simp [iblk]
  entry_read
  pointwise
  blk_ext [idx t]

theorem blk3 (c : Dev nD) (t : Fin cfg0.N) (n : Fin 1024) :
    (iblk m c 3 t : FVec Ideal S1x1024 .f32) (ix2 0 n)
      = ((m ((c : Thread nD τ).loc main_arg2)) : FVec Ideal S2x4x1024 .f32) (ix3 1 0 n) := by
  have b : (iblk m c 3 t : FVec Ideal S1x1024 .f32) (ix2 0 n) = (V m c main_v21 : FVec Ideal S1x1024 .f32) (ix2 0 n) := by
    blk_simp [iblk]
    blk_ext [idx t]
  rw [b, gains]
  exact gains_at _ n

theorem zBlk_at (c : Dev nD) (t : Fin cfg0.N) (a : Fin 10) : zBlk (iblk m c 4 t) a = zAt (m ((c : Thread nD τ).loc main_arg3)) (m ((c : Thread nD τ).loc main_arg7)) (m ((c : Thread nD τ).loc main_arg10)) (m ((c : Thread nD τ).loc main_arg15)) (m ((c : Thread nD τ).loc main_arg16)) a := by
  funext k
  have b : (iblk m c 4 t : FVec Ideal S16x1024 .f32) (ix2 ⟨a.val, by omega⟩ k) = (V m c main_v24 : FVec Ideal S16x1024 .f32) (ix2 ⟨a.val, by omega⟩ k) := by
    blk_simp [iblk]
    blk_ext [idx t]
  unfold zBlk
  rw [b, vecs]
  exact vecs_at _ _ _ _ _ a k

theorem zBlk_eq (c : Dev nD) (t : Fin cfg0.N) : zBlk (iblk m c 4 t) = zAt (m ((c : Thread nD τ).loc main_arg3)) (m ((c : Thread nD τ).loc main_arg7)) (m ((c : Thread nD τ).loc main_arg10)) (m ((c : Thread nD τ).loc main_arg15)) (m ((c : Thread nD τ).loc main_arg16)) := funext fun a => zBlk_at m c t a

theorem blk5 (c : Dev nD) (t : Fin cfg0.N) (k : Fin 1024) (n : Fin 1024) :
    (iblk m c 5 t : FVec Ideal S1024x1024 .bf16) (ix2 k n)
      = ((m ((c : Thread nD τ).loc main_arg4)) : FVec Ideal S1x1024x1024 .f32) (ix3 0 k n) := by
  blk_simp [iblk]
  entry_read
  pointwise
  blk_ext [idx t]

theorem blk6 (c : Dev nD) (t : Fin cfg0.N) (k : Fin 1024) (n : Fin 1024) :
    (iblk m c 6 t : FVec Ideal S1024x1024 .bf16) (ix2 k n)
      = ((m ((c : Thread nD τ).loc main_arg5)) : FVec Ideal S1x1024x1024 .f32) (ix3 0 k n) := by
  blk_simp [iblk]
  entry_read
  pointwise
  blk_ext [idx t]

theorem blk7 (c : Dev nD) (t : Fin cfg0.N) (k : Fin 1024) (n : Fin 1024) :
    (iblk m c 7 t : FVec Ideal S1024x1024 .bf16) (ix2 k n)
      = ((m ((c : Thread nD τ).loc main_arg6)) : FVec Ideal S1x1024x1024 .f32) (ix3 0 k n) := by
  blk_simp [iblk]
  entry_read
  pointwise
  blk_ext [idx t]

theorem blk8 (c : Dev nD) (t : Fin cfg0.N) (k : Fin 1024) (n : Fin 64) :
    (iblk m c 8 t : FVec Ideal S1024x64 .bf16) (ix2 k n)
      = ((m ((c : Thread nD τ).loc main_arg8)) : FVec Ideal S1x1024x64 .f32) (ix3 0 k n) := by
  blk_simp [iblk]
  entry_read
  pointwise
  blk_ext [idx t]

theorem blk9 (c : Dev nD) (t : Fin cfg0.N) (k : Fin 64) (n : Fin 1024) :
    (iblk m c 9 t : FVec Ideal S64x1024 .bf16) (ix2 k n)
      = ((m ((c : Thread nD τ).loc main_arg9)) : FVec Ideal S1x64x1024 .f32) (ix3 0 k n) := by
  blk_simp [iblk]
  entry_read
  pointwise
  blk_ext [idx t]

theorem blk10 (c : Dev nD) (t : Fin cfg0.N) (k : Fin 1024) (n : Fin 64) :
    (iblk m c 10 t : FVec Ideal S1024x64 .bf16) (ix2 k n)
      = ((m ((c : Thread nD τ).loc main_arg11)) : FVec Ideal S1x1024x64 .f32) (ix3 0 k n) := by
  blk_simp [iblk]
  entry_read
  pointwise
  blk_ext [idx t]

theorem blk11 (c : Dev nD) (t : Fin cfg0.N) (k : Fin 64) (n : Fin 1024) :
    (iblk m c 11 t : FVec Ideal S64x1024 .bf16) (ix2 k n)
      = ((m ((c : Thread nD τ).loc main_arg12)) : FVec Ideal S1x64x1024 .f32) (ix3 0 k n) := by
  blk_simp [iblk]
  entry_read
  pointwise
  blk_ext [idx t]

theorem blk12 (c : Dev nD) (t : Fin cfg0.N) (k : Fin 1024) (n : Fin 128) :
    (iblk m c 12 t : FVec Ideal S1024x128 .bf16) (ix2 k n)
      = ((m ((c : Thread nD τ).loc main_arg13)) : FVec Ideal S1x1024x128 .f32) (ix3 0 k n) := by
  blk_simp [iblk]
  entry_read
  pointwise
  blk_ext [idx t]

theorem blk13 (c : Dev nD) (t : Fin cfg0.N) (k : Fin 128) (n : Fin 1024) :
    (iblk m c 13 t : FVec Ideal S128x1024 .bf16) (ix2 k n)
      = ((m ((c : Thread nD τ).loc main_arg14)) : FVec Ideal S1x128x1024 .f32) (ix3 0 k n) := by
  blk_simp [iblk]
  entry_read
  pointwise
  blk_ext [idx t]

theorem nRow_eq (c : Dev nD) (t : Fin cfg0.N) (p : Fin 512) :
    nRow (iblk m c 0 t) (iblk m c 3 t) p = hTok (m ((c : Thread nD τ).loc main_arg0)) (m ((c : Thread nD τ).loc main_arg2)) (seqOf t p) (tokOf t p) := by
  unfold nRow hTok
  simp only [blk0, blk3]

/-- The row before a block's first one is the token before, or the state handed in. -/
theorem edge_eq (c : Dev nD) (t : Fin cfg0.N) (p : Fin 512) (hp : p.val = 0) (k : Fin 1024) :
    edgeRow (grid0.coords t) (iblk m c 1 t) (iblk m c 2 t) (iblk m c 3 t) k = pTok (m ((c : Thread nD τ).loc main_arg0)) (m ((c : Thread nD τ).loc main_arg1)) (m ((c : Thread nD τ).loc main_arg2)) (seqOf t p) (tokOf t p) k := by
  obtain rfl : p = 0 := Fin.ext hp
  have hlt := point_lt t
  unfold edgeRow pTok
  rw [tile]
  by_cases ht : t.val % 16 = 0
  · have h0 : (tokOf t 0).val = 0 := by show (t.val * 512 + 0) % 8192 = 0; omega
    have es : (⟨t.val / 16, by omega⟩ : Fin 2) = seqOf t 0 := Fin.ext (by show t.val / 16 = (t.val * 512 + 0) / 8192; omega)
    rw [if_pos ht, if_pos h0, blk2, es]
  · have h0 : ¬ (tokOf t 0).val = 0 := by show ¬ (t.val * 512 + 0) % 8192 = 0; omega
    rw [if_neg ht, if_neg h0]
    unfold hTok
    simp only [blk1 m c t ht, blk3]
    rfl

theorem back_eq (c : Dev nD) (t : Fin cfg0.N) (p : Fin 512) (k : Fin 1024) :
    backRow (grid0.coords t) (iblk m c 0 t) (iblk m c 1 t) (iblk m c 2 t) (iblk m c 3 t) p k = pTok (m ((c : Thread nD τ).loc main_arg0)) (m ((c : Thread nD τ).loc main_arg1)) (m ((c : Thread nD τ).loc main_arg2)) (seqOf t p) (tokOf t p) k := by
  have hlt := point_lt t
  unfold backRow
  by_cases hp : p.val = 0
  · rw [dif_pos hp, edge_eq m c t p hp k]
  · have h0 : ¬ (tokOf t p).val = 0 := by show ¬ (t.val * 512 + p.val) % 8192 = 0; omega
    have es : seqOf t ⟨p.val - 1, by omega⟩ = seqOf t p :=
      Fin.ext (by show (t.val * 512 + (p.val - 1)) / 8192 = (t.val * 512 + p.val) / 8192; omega)
    have et : tokOf t ⟨p.val - 1, by omega⟩ = ⟨(tokOf t p).val - 1, by omega⟩ :=
      Fin.ext (by show (t.val * 512 + (p.val - 1)) % 8192 = (t.val * 512 + p.val) % 8192 - 1; omega)
    rw [dif_neg hp, nRow_eq, es, et]
    unfold pTok
    rw [if_neg h0]

theorem dRow_eq (c : Dev nD) (t : Fin cfg0.N) (p : Fin 512) :
    dRow (grid0.coords t) (iblk m c 0 t) (iblk m c 1 t) (iblk m c 2 t) (iblk m c 3 t) p = dTok (m ((c : Thread nD τ).loc main_arg0)) (m ((c : Thread nD τ).loc main_arg1)) (m ((c : Thread nD τ).loc main_arg2)) (seqOf t p) (tokOf t p) := by
  funext k
  unfold dRow dTok
  rw [back_eq, nRow_eq]

def rAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a4 : FVec Ideal S1x1024x1024 .f32) (s : Fin 2) (t : Fin 8192) (j : Fin 1024) : EReal :=
  along (mixed (hTok a0 a2 s t) (dTok a0 a1 a2 s t) ((zAt a3 a7 a10 a15 a16) 0)) (fun k n => a4 (ix3 0 k n)) j

theorem point_r (c : Dev nD) (t : Fin cfg0.N) (p : Fin 512) (j : Fin 1024) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = rAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg4)) (seqOf t p) (tokOf t p) j := by
  refine (block_r (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold rAt
  simp only [nRow_eq, dRow_eq, zBlk_eq, zBlk_at, blk5, blk6, blk7, blk8, blk9, blk10, blk11, blk12, blk13]

def rOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a4 : FVec Ideal S1x1024x1024 .f32) : FVec Ideal S16384x1024 .bf16 :=
  fun i => rAt a0 a1 a2 a3 a7 a10 a15 a16 a4 (rowSeq (i 0)) (rowTok (i 0)) (i 1)

theorem final_r (c : Dev nD) : (dats m 0 c).arrAt 14 (cfgs 0).N = rOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg4)) := by
  refine (dats m 0 c).arrAt_eq_of_covers 14 _ (by decide +kernel) fun t _ y => ?_
  blk_simp
  rw [after0_14]
  idx_vars y
  refine (point_r m c t y0 y1).trans ?_
  have ee : ((View.whole main_v26_0).slice (win0_14.rect t)).emb (ix2 y0 y1) = (ix2 ⟨t.val * 512 + y0.val, by have := point_lt t; omega⟩ y1 : S16384x1024.Idx) := by
    blk_ext [idx t]
  exact (show _ = rOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg4)) (ix2 ⟨t.val * 512 + y0.val, by have := point_lt t; omega⟩ y1 : S16384x1024.Idx) from rfl).trans (congrArg (rOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg4))) ee.symm)

def kAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) (s : Fin 2) (t : Fin 8192) (j : Fin 1024) : EReal :=
  written (hTok a0 a2 s t) (dTok a0 a1 a2 s t) (zAt a3 a7 a10 a15 a16) (fun k n => a5 (ix3 0 k n)) (fun k n => a11 (ix3 0 k n)) (fun k n => a12 (ix3 0 k n)) j

theorem point_k (c : Dev nD) (t : Fin cfg0.N) (p : Fin 512) (j : Fin 1024) :
    out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = kAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) (seqOf t p) (tokOf t p) j := by
  refine (block_k (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold kAt
  simp only [nRow_eq, dRow_eq, zBlk_eq, zBlk_at, blk5, blk6, blk7, blk8, blk9, blk10, blk11, blk12, blk13]

def kOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : FVec Ideal S16384x1024 .bf16 :=
  fun i => kAt a0 a1 a2 a3 a7 a10 a15 a16 a5 a11 a12 (rowSeq (i 0)) (rowTok (i 0)) (i 1)

theorem final_k (c : Dev nD) : (dats m 0 c).arrAt 15 (cfgs 0).N = kOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) := by
  refine (dats m 0 c).arrAt_eq_of_covers 15 _ (by decide +kernel) fun t _ y => ?_
  blk_simp
  rw [after0_15]
  idx_vars y
  refine (point_k m c t y0 y1).trans ?_
  have ee : ((View.whole main_v26_1).slice (win0_15.rect t)).emb (ix2 y0 y1) = (ix2 ⟨t.val * 512 + y0.val, by have := point_lt t; omega⟩ y1 : S16384x1024.Idx) := by
    blk_ext [idx t]
  exact (show _ = kOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) (ix2 ⟨t.val * 512 + y0.val, by have := point_lt t; omega⟩ y1 : S16384x1024.Idx) from rfl).trans (congrArg (kOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12))) ee.symm)

def vAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a6 : FVec Ideal S1x1024x1024 .f32) (s : Fin 2) (t : Fin 8192) (j : Fin 1024) : EReal :=
  along (mixed (hTok a0 a2 s t) (dTok a0 a1 a2 s t) ((zAt a3 a7 a10 a15 a16) 3)) (fun k n => a6 (ix3 0 k n)) j

theorem point_v (c : Dev nD) (t : Fin cfg0.N) (p : Fin 512) (j : Fin 1024) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = vAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg6)) (seqOf t p) (tokOf t p) j := by
  refine (block_v (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold vAt
  simp only [nRow_eq, dRow_eq, zBlk_eq, zBlk_at, blk5, blk6, blk7, blk8, blk9, blk10, blk11, blk12, blk13]

def vOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a6 : FVec Ideal S1x1024x1024 .f32) : FVec Ideal S16384x1024 .bf16 :=
  fun i => vAt a0 a1 a2 a3 a7 a10 a15 a16 a6 (rowSeq (i 0)) (rowTok (i 0)) (i 1)

theorem final_v (c : Dev nD) : (dats m 0 c).arrAt 16 (cfgs 0).N = vOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg6)) := by
  refine (dats m 0 c).arrAt_eq_of_covers 16 _ (by decide +kernel) fun t _ y => ?_
  blk_simp
  rw [after0_16]
  idx_vars y
  refine (point_v m c t y0 y1).trans ?_
  have ee : ((View.whole main_v26_2).slice (win0_16.rect t)).emb (ix2 y0 y1) = (ix2 ⟨t.val * 512 + y0.val, by have := point_lt t; omega⟩ y1 : S16384x1024.Idx) := by
    blk_ext [idx t]
  exact (show _ = vOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg6)) (ix2 ⟨t.val * 512 + y0.val, by have := point_lt t; omega⟩ y1 : S16384x1024.Idx) from rfl).trans (congrArg (vOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg6))) ee.symm)

def awayAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (s : Fin 2) (t : Fin 8192) (j : Fin 1024) : EReal :=
  -removal (hTok a0 a2 s t) (dTok a0 a1 a2 s t) (zAt a3 a7 a10 a15 a16) (fun k n => a5 (ix3 0 k n)) j

theorem point_away (c : Dev nD) (t : Fin cfg0.N) (p : Fin 512) (j : Fin 1024) :
    out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = awayAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (seqOf t p) (tokOf t p) j := by
  refine (block_na (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold awayAt
  simp only [nRow_eq, dRow_eq, zBlk_eq, zBlk_at, blk5, blk6, blk7, blk8, blk9, blk10, blk11, blk12, blk13]

def awayOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) : FVec Ideal S16384x1024 .bf16 :=
  fun i => awayAt a0 a1 a2 a3 a7 a10 a15 a16 a5 (rowSeq (i 0)) (rowTok (i 0)) (i 1)

theorem final_away (c : Dev nD) : (dats m 0 c).arrAt 17 (cfgs 0).N = awayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) := by
  refine (dats m 0 c).arrAt_eq_of_covers 17 _ (by decide +kernel) fun t _ y => ?_
  blk_simp
  rw [after0_17]
  idx_vars y
  refine (point_away m c t y0 y1).trans ?_
  have ee : ((View.whole main_v26_3).slice (win0_17.rect t)).emb (ix2 y0 y1) = (ix2 ⟨t.val * 512 + y0.val, by have := point_lt t; omega⟩ y1 : S16384x1024.Idx) := by
    blk_ext [idx t]
  exact (show _ = awayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (ix2 ⟨t.val * 512 + y0.val, by have := point_lt t; omega⟩ y1 : S16384x1024.Idx) from rfl).trans (congrArg (awayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5))) ee.symm)

def backAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) (s : Fin 2) (t : Fin 8192) (j : Fin 1024) : EReal :=
  removal (hTok a0 a2 s t) (dTok a0 a1 a2 s t) (zAt a3 a7 a10 a15 a16) (fun k n => a5 (ix3 0 k n)) j * rate (hTok a0 a2 s t) (dTok a0 a1 a2 s t) (zAt a3 a7 a10 a15 a16) (fun k n => a11 (ix3 0 k n)) (fun k n => a12 (ix3 0 k n)) j

theorem point_back (c : Dev nD) (t : Fin cfg0.N) (p : Fin 512) (j : Fin 1024) :
    out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = backAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) (seqOf t p) (tokOf t p) j := by
  refine (block_bb (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold backAt
  simp only [nRow_eq, dRow_eq, zBlk_eq, zBlk_at, blk5, blk6, blk7, blk8, blk9, blk10, blk11, blk12, blk13]

def backOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : FVec Ideal S16384x1024 .bf16 :=
  fun i => backAt a0 a1 a2 a3 a7 a10 a15 a16 a5 a11 a12 (rowSeq (i 0)) (rowTok (i 0)) (i 1)

theorem final_back (c : Dev nD) : (dats m 0 c).arrAt 18 (cfgs 0).N = backOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) := by
  refine (dats m 0 c).arrAt_eq_of_covers 18 _ (by decide +kernel) fun t _ y => ?_
  blk_simp
  rw [after0_18]
  idx_vars y
  refine (point_back m c t y0 y1).trans ?_
  have ee : ((View.whole main_v26_4).slice (win0_18.rect t)).emb (ix2 y0 y1) = (ix2 ⟨t.val * 512 + y0.val, by have := point_lt t; omega⟩ y1 : S16384x1024.Idx) := by
    blk_ext [idx t]
  exact (show _ = backOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12)) (ix2 ⟨t.val * 512 + y0.val, by have := point_lt t; omega⟩ y1 : S16384x1024.Idx) from rfl).trans (congrArg (backOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg5)) (m ((c : Thread nD τ).loc main_arg11)) (m ((c : Thread nD τ).loc main_arg12))) ee.symm)

def decayAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (a9 : FVec Ideal S1x64x1024 .f32) (s : Fin 2) (t : Fin 8192) (j : Fin 1024) : EReal :=
  decayLog (hTok a0 a2 s t) (dTok a0 a1 a2 s t) (zAt a3 a7 a10 a15 a16) (fun k n => a8 (ix3 0 k n)) (fun k n => a9 (ix3 0 k n)) j

theorem point_decay (c : Dev nD) (t : Fin cfg0.N) (p : Fin 512) (j : Fin 1024) :
    out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = decayAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg8)) (m ((c : Thread nD τ).loc main_arg9)) (seqOf t p) (tokOf t p) j := by
  refine (block_lw (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold decayAt
  simp only [nRow_eq, dRow_eq, zBlk_eq, zBlk_at, blk5, blk6, blk7, blk8, blk9, blk10, blk11, blk12, blk13]

def decayOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (a9 : FVec Ideal S1x64x1024 .f32) : FVec Ideal S16384x1024 .f32 :=
  fun i => decayAt a0 a1 a2 a3 a7 a10 a15 a16 a8 a9 (rowSeq (i 0)) (rowTok (i 0)) (i 1)

theorem final_decay (c : Dev nD) : (dats m 0 c).arrAt 19 (cfgs 0).N = decayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg8)) (m ((c : Thread nD τ).loc main_arg9)) := by
  refine (dats m 0 c).arrAt_eq_of_covers 19 _ (by decide +kernel) fun t _ y => ?_
  blk_simp
  rw [after0_19]
  idx_vars y
  refine (point_decay m c t y0 y1).trans ?_
  have ee : ((View.whole main_v26_5).slice (win0_19.rect t)).emb (ix2 y0 y1) = (ix2 ⟨t.val * 512 + y0.val, by have := point_lt t; omega⟩ y1 : S16384x1024.Idx) := by
    blk_ext [idx t]
  exact (show _ = decayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg8)) (m ((c : Thread nD τ).loc main_arg9)) (ix2 ⟨t.val * 512 + y0.val, by have := point_lt t; omega⟩ y1 : S16384x1024.Idx) from rfl).trans (congrArg (decayOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg8)) (m ((c : Thread nD τ).loc main_arg9))) ee.symm)

def gateAt (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (a14 : FVec Ideal S1x128x1024 .f32) (s : Fin 2) (t : Fin 8192) (j : Fin 1024) : EReal :=
  outGate (hTok a0 a2 s t) (dTok a0 a1 a2 s t) (zAt a3 a7 a10 a15 a16) (fun k n => a13 (ix3 0 k n)) (fun k n => a14 (ix3 0 k n)) j

theorem point_gate (c : Dev nD) (t : Fin cfg0.N) (p : Fin 512) (j : Fin 1024) :
    out0_20 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p j)
      = gateAt (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg13)) (m ((c : Thread nD τ).loc main_arg14)) (seqOf t p) (tokOf t p) j := by
  refine (block_gate (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p j).trans ?_
  unfold gateAt
  simp only [nRow_eq, dRow_eq, zBlk_eq, zBlk_at, blk5, blk6, blk7, blk8, blk9, blk10, blk11, blk12, blk13]

def gateOut (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (a14 : FVec Ideal S1x128x1024 .f32) : FVec Ideal S16384x1024 .bf16 :=
  fun i => gateAt a0 a1 a2 a3 a7 a10 a15 a16 a13 a14 (rowSeq (i 0)) (rowTok (i 0)) (i 1)

theorem final_gate (c : Dev nD) : (dats m 0 c).arrAt 20 (cfgs 0).N = gateOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg13)) (m ((c : Thread nD τ).loc main_arg14)) := by
  refine (dats m 0 c).arrAt_eq_of_covers 20 _ (by decide +kernel) fun t _ y => ?_
  blk_simp
  rw [after0_20]
  idx_vars y
  refine (point_gate m c t y0 y1).trans ?_
  have ee : ((View.whole main_v26_6).slice (win0_20.rect t)).emb (ix2 y0 y1) = (ix2 ⟨t.val * 512 + y0.val, by have := point_lt t; omega⟩ y1 : S16384x1024.Idx) := by
    blk_ext [idx t]
  exact (show _ = gateOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg13)) (m ((c : Thread nD τ).loc main_arg14)) (ix2 ⟨t.val * 512 + y0.val, by have := point_lt t; omega⟩ y1 : S16384x1024.Idx) from rfl).trans (congrArg (gateOut (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg10)) (m ((c : Thread nD τ).loc main_arg15)) (m ((c : Thread nD τ).loc main_arg16)) (m ((c : Thread nD τ).loc main_arg13)) (m ((c : Thread nD τ).loc main_arg14))) ee.symm)

def lastOut (a0 : FVec Ideal S2x8192x1024 .f32) (a2 : FVec Ideal S2x4x1024 .f32) : FVec Ideal S2x8x1024 .f32 :=
  fun i => hTok a0 a2 (i 0) ⟨8184 + (i 1).val, by have := (i 1).isLt; show 8184 + (i 1).val < 8192; change (i 1).val < 8 at this; omega⟩ (i 2)

theorem point_last (c : Dev nD) (t : Fin cfg0.N) (p : Fin 8) (j : Fin 1024) (ht : t.val % 16 = 15) :
    out0_21 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 p j)
      = hTok (m ((c : Thread nD τ).loc main_arg0)) (m ((c : Thread nD τ).loc main_arg2)) ⟨t.val / 16, by have := point_lt t; omega⟩ ⟨8184 + p.val, by omega⟩ j := by
  have hlt := point_lt t
  have es : seqOf t ⟨504 + p.val, by omega⟩ = ⟨t.val / 16, by omega⟩ :=
    Fin.ext (by show (t.val * 512 + (504 + p.val)) / 8192 = t.val / 16; omega)
  have et : tokOf t ⟨504 + p.val, by omega⟩ = ⟨8184 + p.val, by omega⟩ :=
    Fin.ext (by show (t.val * 512 + (504 + p.val)) % 8192 = 8184 + p.val; omega)
  rw [block_last, nRow_eq, es, et]

theorem flushes : ∀ t : Fin cfg0.N, (win0_21.flush t = true) → t.val % 16 = 15 :=
  (by decide +kernel : ∀ t : Fin grid0.N, (win0_21.flush t = true) → t.val % 16 = 15)

theorem final_last (c : Dev nD) : (dats m 0 c).arrAt 21 (cfgs 0).N = lastOut (m ((c : Thread nD τ).loc main_arg0)) (m ((c : Thread nD τ).loc main_arg2)) := by
  refine (dats m 0 c).arrAt_eq_of_covers 21 _ (by decide +kernel) fun t hf y => ?_
  have ht : t.val % 16 = 15 := flushes t hf
  blk_simp
  rw [after0_21]
  idx_vars y
  obtain rfl : y0 = 0 := Subsingleton.elim _ _
  refine (point_last m c t y1 y2 ht).trans ?_
  have ee : ((View.whole main_v26_7).slice (win0_21.rect t)).emb (ix3 0 y1 y2) = (ix3 ⟨t.val / 16, by have := point_lt t; omega⟩ y1 y2 : S2x8x1024.Idx) := by
    blk_ext [idx t]
  exact (show _ = lastOut (m ((c : Thread nD τ).loc main_arg0)) (m ((c : Thread nD τ).loc main_arg2)) (ix3 ⟨t.val / 16, by have := point_lt t; omega⟩ y1 y2 : S2x8x1024.Idx) from rfl).trans (congrArg (lastOut (m ((c : Thread nD τ).loc main_arg0)) (m ((c : Thread nD τ).loc main_arg2))) ee.symm)

end Cert.Kernel7Ideal.RefValue

end
-- ==== Proof.ProjTerms.lean ====
module

public import proofs.«01_k».proof.Proof.ProjArr
public import proofs.«01_k».proof.Proof.Gen.Reference7Ideal.Run
public import Idealize.ShloMosaic.Lib.Claim

@[expose] public section

set_option maxRecDepth 16384

noncomputable section

namespace Cert.Reference7Ideal.RefValue

open Cert.Reference7Ideal Cert.Reference7Ideal.Gen Cert.Reference7Ideal.Value Cert.Rows
open Idealize.ShloMosaic Idealize.ShloMosaic.TcCoe Idealize.SL.Sem

/-- The reference's normalisation, operation by operation. -/
def normT (a0 : FVec Ideal S2x8192x1024 .f32) (a2 : FVec Ideal S2x4x1024 .f32) : FVec Ideal S2x8192x1024 .f32 :=
  mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ (extractStridedSlice S1x1x1024 ![1, 0, 0] a2 slices_S2x4x1024_S1x1x1024_1_0_0) shapeCasts_S1x1x1024_S1024)))

theorem normT_at (a0 : FVec Ideal S2x8192x1024 .f32) (a2 : FVec Ideal S2x4x1024 .f32) (s : Fin 2) (t : Fin 8192) (j : Fin 1024) : normT a0 a2 (ix3 s t j) = (Cert.Kernel7Ideal.RefValue.hTok a0 a2 s t) j := by
  pointwise [normT, Cert.Kernel7Ideal.RefValue.hTok, rms]

/-- The token before less the token. -/
def stepT (a0 : FVec Ideal S2x8192x1024 .f32) (a1 : FVec Ideal S2x1024 .f32) (a2 : FVec Ideal S2x4x1024 .f32) : FVec Ideal S2x8192x1024 .f32 :=
  subf (concatenate S2x8192x1024 1 [⟨S2x1x1024, (broadcastInDim S2x1x1024 ![0, 2] bcast_S2x1024_S2x1x1024_0_2 a1 : FVec Ideal S2x1x1024 .f32)⟩, ⟨S2x8191x1024, (extractStridedSlice S2x8191x1024 ![0, 0, 0] (normT a0 a2) slices_S2x8192x1024_S2x8191x1024_0_0_0 : FVec Ideal S2x8191x1024 .f32)⟩] concatenates_S2x1x1024_S2x8191x1024_S2x8192x1024_d1) (normT a0 a2)

theorem stepT_at (a0 : FVec Ideal S2x8192x1024 .f32) (a1 : FVec Ideal S2x1024 .f32) (a2 : FVec Ideal S2x4x1024 .f32) (s : Fin 2) (t : Fin 8192) (j : Fin 1024) : stepT a0 a1 a2 (ix3 s t j) = (Cert.Kernel7Ideal.RefValue.dTok a0 a1 a2 s t) j := by
  have hn := fun q => normT_at a0 a2 s q j
  unfold stepT Cert.Kernel7Ideal.RefValue.dTok Cert.Kernel7Ideal.RefValue.pTok
  generalize normT a0 a2 = H at hn ⊢
  by_cases h : t.val = 0
  · have h1 : t.val < 1 := by omega
    pointwise [hn, h, h1]
  · have h1 : ¬ t.val < 1 := by omega
    pointwise [hn, h, h1]

/-- The mixed rows: mixture `i` of the six. -/
def mix0T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 0, 0] a3 slices_S1x6x1024_S1x1x1024_0_0_0) shapeCasts_S1x1x1024_S1024))))

theorem mix0T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix0T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 0) j := by
  have e : mix0T a0 a1 a2 a3 (ix3 s t j) = (Cert.Kernel7Ideal.RefValue.hTok a0 a2 s t) j + (Cert.Kernel7Ideal.RefValue.dTok a0 a1 a2 s t) j * a3 (ix3 0 0 j) := by
    pointwise [mix0T, normT_at, stepT_at]
  exact e

def mix1T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 1, 0] a3 slices_S1x6x1024_S1x1x1024_0_1_0) shapeCasts_S1x1x1024_S1024))))

theorem mix1T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix1T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 1) j := by
  have e : mix1T a0 a1 a2 a3 (ix3 s t j) = (Cert.Kernel7Ideal.RefValue.hTok a0 a2 s t) j + (Cert.Kernel7Ideal.RefValue.dTok a0 a1 a2 s t) j * a3 (ix3 0 1 j) := by
    pointwise [mix1T, normT_at, stepT_at]
  exact e

def mix2T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 2, 0] a3 slices_S1x6x1024_S1x1x1024_0_2_0) shapeCasts_S1x1x1024_S1024))))

theorem mix2T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix2T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 2) j := by
  have e : mix2T a0 a1 a2 a3 (ix3 s t j) = (Cert.Kernel7Ideal.RefValue.hTok a0 a2 s t) j + (Cert.Kernel7Ideal.RefValue.dTok a0 a1 a2 s t) j * a3 (ix3 0 2 j) := by
    pointwise [mix2T, normT_at, stepT_at]
  exact e

def mix3T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 3, 0] a3 slices_S1x6x1024_S1x1x1024_0_3_0) shapeCasts_S1x1x1024_S1024))))

theorem mix3T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix3T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 3) j := by
  have e : mix3T a0 a1 a2 a3 (ix3 s t j) = (Cert.Kernel7Ideal.RefValue.hTok a0 a2 s t) j + (Cert.Kernel7Ideal.RefValue.dTok a0 a1 a2 s t) j * a3 (ix3 0 3 j) := by
    pointwise [mix3T, normT_at, stepT_at]
  exact e

def mix4T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 4, 0] a3 slices_S1x6x1024_S1x1x1024_0_4_0) shapeCasts_S1x1x1024_S1024))))

theorem mix4T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix4T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 4) j := by
  have e : mix4T a0 a1 a2 a3 (ix3 s t j) = (Cert.Kernel7Ideal.RefValue.hTok a0 a2 s t) j + (Cert.Kernel7Ideal.RefValue.dTok a0 a1 a2 s t) j * a3 (ix3 0 4 j) := by
    pointwise [mix4T, normT_at, stepT_at]
  exact e

def mix5T (a0 : FVec Ideal S2x8192x1024 .f32) (a1 : FVec Ideal S2x1024 .f32) (a2 : FVec Ideal S2x4x1024 .f32) (a3 : FVec Ideal S1x6x1024 .f32) : FVec Ideal S2x8192x1024 .f32 :=
  addf (normT a0 a2) (mulf (stepT a0 a1 a2) (broadcastInDim S2x8192x1024 ![0, 1, 2] bcast_S1x1x1024_S2x8192x1024_0_1_2 (broadcastInDim S1x1x1024 ![2] bcast_S1024_S1x1x1024_2 (shapeCast _ (extractStridedSlice S1x1x1024 ![0, 5, 0] a3 slices_S1x6x1024_S1x1x1024_0_5_0) shapeCasts_S1x1x1024_S1024))))

theorem mix5T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (s : Fin 2) (t : Fin 8192) (j : Fin 1024) : mix5T a0 a1 a2 a3 (ix3 s t j) = mixed (Cert.Kernel7Ideal.RefValue.hTok a0 a2 s t) (Cert.Kernel7Ideal.RefValue.dTok a0 a1 a2 s t) ((Cert.Kernel7Ideal.RefValue.zAt a3 a7 a10 a15 a16) 5) j := by
  have e : mix5T a0 a1 a2 a3 (ix3 s t j) = (Cert.Kernel7Ideal.RefValue.hTok a0 a2 s t) j + (Cert.Kernel7Ideal.RefValue.dTok a0 a1 a2 s t) j * a3 (ix3 0 5 j) := by
    pointwise [mix5T, normT_at, stepT_at]
  exact e

def proj0T (a0 : FVec Ideal S2x8192x1024 .f32) (a1 : FVec Ideal S2x1024 .f32) (a2 : FVec Ideal S2x4x1024 .f32) (a3 : FVec Ideal S1x6x1024 .f32) (a4 : FVec Ideal S1x1024x1024 .f32) : FVec Ideal S2x8192x1024 .f32 :=
  Host.dotGeneral dot_S2x8192x1024_S1024x1024_S2x8192x1024_2_0_01_1_n_n none (mix0T a0 a1 a2 a3) (shapeCast _ a4 shapeCasts_S1x1024x1024_S1024x1024)

theorem proj0T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a4 : FVec Ideal S1x1024x1024 .f32) (s : Fin 2) (t : Fin 8192) (j : Fin 1024) :
    proj0T a0 a1 a2 a3 a4 (ix3 s t j) = along (mixed (Cert.Kernel7Ideal.RefValue.hTok a0 a2 s t) (Cert.Kernel7Ideal.RefValue.dTok a0 a1 a2 s t) ((Cert.Kernel7Ideal.RefValue.zAt a3 a7 a10 a15 a16) 0)) (fun k n => a4 (ix3 0 k n)) j := by
  have hm := fun k => mix0T_at a0 a1 a2 a3 a7 a10 a15 a16 s t k
  unfold proj0T along
  generalize mix0T a0 a1 a2 a3 = M at hm ⊢
  pointwise [hm]

def proj1T (a0 : FVec Ideal S2x8192x1024 .f32) (a1 : FVec Ideal S2x1024 .f32) (a2 : FVec Ideal S2x4x1024 .f32) (a3 : FVec Ideal S1x6x1024 .f32) (a8 : FVec Ideal S1x1024x64 .f32) : FVec Ideal S2x8192x64 .f32 :=
  Host.dotGeneral dot_S2x8192x1024_S1024x64_S2x8192x64_2_0_01_1_n_n none (mix1T a0 a1 a2 a3) (shapeCast _ a8 shapeCasts_S1x1024x64_S1024x64)

theorem proj1T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (s : Fin 2) (t : Fin 8192) (j : Fin 64) :
    proj1T a0 a1 a2 a3 a8 (ix3 s t j) = along (mixed (Cert.Kernel7Ideal.RefValue.hTok a0 a2 s t) (Cert.Kernel7Ideal.RefValue.dTok a0 a1 a2 s t) ((Cert.Kernel7Ideal.RefValue.zAt a3 a7 a10 a15 a16) 1)) (fun k n => a8 (ix3 0 k n)) j := by
  have hm := fun k => mix1T_at a0 a1 a2 a3 a7 a10 a15 a16 s t k
  unfold proj1T along
  generalize mix1T a0 a1 a2 a3 = M at hm ⊢
  pointwise [hm]

def proj2T (a0 : FVec Ideal S2x8192x1024 .f32) (a1 : FVec Ideal S2x1024 .f32) (a2 : FVec Ideal S2x4x1024 .f32) (a3 : FVec Ideal S1x6x1024 .f32) (a5 : FVec Ideal S1x1024x1024 .f32) : FVec Ideal S2x8192x1024 .f32 :=
  Host.dotGeneral dot_S2x8192x1024_S1024x1024_S2x8192x1024_2_0_01_1_n_n none (mix2T a0 a1 a2 a3) (shapeCast _ a5 shapeCasts_S1x1024x1024_S1024x1024)

theorem proj2T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (s : Fin 2) (t : Fin 8192) (j : Fin 1024) :
    proj2T a0 a1 a2 a3 a5 (ix3 s t j) = along (mixed (Cert.Kernel7Ideal.RefValue.hTok a0 a2 s t) (Cert.Kernel7Ideal.RefValue.dTok a0 a1 a2 s t) ((Cert.Kernel7Ideal.RefValue.zAt a3 a7 a10 a15 a16) 2)) (fun k n => a5 (ix3 0 k n)) j := by
  have hm := fun k => mix2T_at a0 a1 a2 a3 a7 a10 a15 a16 s t k
  unfold proj2T along
  generalize mix2T a0 a1 a2 a3 = M at hm ⊢
  pointwise [hm]

def proj3T (a0 : FVec Ideal S2x8192x1024 .f32) (a1 : FVec Ideal S2x1024 .f32) (a2 : FVec Ideal S2x4x1024 .f32) (a3 : FVec Ideal S1x6x1024 .f32) (a6 : FVec Ideal S1x1024x1024 .f32) : FVec Ideal S2x8192x1024 .f32 :=
  Host.dotGeneral dot_S2x8192x1024_S1024x1024_S2x8192x1024_2_0_01_1_n_n none (mix3T a0 a1 a2 a3) (shapeCast _ a6 shapeCasts_S1x1024x1024_S1024x1024)

theorem proj3T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a6 : FVec Ideal S1x1024x1024 .f32) (s : Fin 2) (t : Fin 8192) (j : Fin 1024) :
    proj3T a0 a1 a2 a3 a6 (ix3 s t j) = along (mixed (Cert.Kernel7Ideal.RefValue.hTok a0 a2 s t) (Cert.Kernel7Ideal.RefValue.dTok a0 a1 a2 s t) ((Cert.Kernel7Ideal.RefValue.zAt a3 a7 a10 a15 a16) 3)) (fun k n => a6 (ix3 0 k n)) j := by
  have hm := fun k => mix3T_at a0 a1 a2 a3 a7 a10 a15 a16 s t k
  unfold proj3T along
  generalize mix3T a0 a1 a2 a3 = M at hm ⊢
  pointwise [hm]

def proj4T (a0 : FVec Ideal S2x8192x1024 .f32) (a1 : FVec Ideal S2x1024 .f32) (a2 : FVec Ideal S2x4x1024 .f32) (a3 : FVec Ideal S1x6x1024 .f32) (a11 : FVec Ideal S1x1024x64 .f32) : FVec Ideal S2x8192x64 .f32 :=
  Host.dotGeneral dot_S2x8192x1024_S1024x64_S2x8192x64_2_0_01_1_n_n none (mix4T a0 a1 a2 a3) (shapeCast _ a11 shapeCasts_S1x1024x64_S1024x64)

theorem proj4T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a11 : FVec Ideal S1x1024x64 .f32) (s : Fin 2) (t : Fin 8192) (j : Fin 64) :
    proj4T a0 a1 a2 a3 a11 (ix3 s t j) = along (mixed (Cert.Kernel7Ideal.RefValue.hTok a0 a2 s t) (Cert.Kernel7Ideal.RefValue.dTok a0 a1 a2 s t) ((Cert.Kernel7Ideal.RefValue.zAt a3 a7 a10 a15 a16) 4)) (fun k n => a11 (ix3 0 k n)) j := by
  have hm := fun k => mix4T_at a0 a1 a2 a3 a7 a10 a15 a16 s t k
  unfold proj4T along
  generalize mix4T a0 a1 a2 a3 = M at hm ⊢
  pointwise [hm]

def proj5T (a0 : FVec Ideal S2x8192x1024 .f32) (a1 : FVec Ideal S2x1024 .f32) (a2 : FVec Ideal S2x4x1024 .f32) (a3 : FVec Ideal S1x6x1024 .f32) (a13 : FVec Ideal S1x1024x128 .f32) : FVec Ideal S2x8192x128 .f32 :=
  Host.dotGeneral dot_S2x8192x1024_S1024x128_S2x8192x128_2_0_01_1_n_n none (mix5T a0 a1 a2 a3) (shapeCast _ a13 shapeCasts_S1x1024x128_S1024x128)

theorem proj5T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (s : Fin 2) (t : Fin 8192) (j : Fin 128) :
    proj5T a0 a1 a2 a3 a13 (ix3 s t j) = along (mixed (Cert.Kernel7Ideal.RefValue.hTok a0 a2 s t) (Cert.Kernel7Ideal.RefValue.dTok a0 a1 a2 s t) ((Cert.Kernel7Ideal.RefValue.zAt a3 a7 a10 a15 a16) 5)) (fun k n => a13 (ix3 0 k n)) j := by
  have hm := fun k => mix5T_at a0 a1 a2 a3 a7 a10 a15 a16 s t k
  unfold proj5T along
  generalize mix5T a0 a1 a2 a3 = M at hm ⊢
  pointwise [hm]

/-- The decays before the last exponentials. -/
def rawT (a0 : FVec Ideal S2x8192x1024 .f32) (a1 : FVec Ideal S2x1024 .f32) (a2 : FVec Ideal S2x4x1024 .f32) (a3 : FVec Ideal S1x6x1024 .f32) (a7 : FVec Ideal S1x1024 .f32) (a8 : FVec Ideal S1x1024x64 .f32) (a9 : FVec Ideal S1x64x1024 .f32) : FVec Ideal S2x8192x1024 .f32 :=
  addf (broadcastInDim S2x8192x1024 ![0, 1, 2] bcast_S1x1x1024_S2x8192x1024_0_1_2 (broadcastInDim S1x1x1024 ![2] bcast_S1024_S1x1x1024_2 (shapeCast _ a7 shapeCasts_S1x1024_S1024))) (Host.dotGeneral dot_S2x8192x64_S64x1024_S2x8192x1024_2_0_01_1_n_n none (Host.tanh (proj1T a0 a1 a2 a3 a8)) (shapeCast _ a9 shapeCasts_S1x64x1024_S64x1024))

theorem rawT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (a9 : FVec Ideal S1x64x1024 .f32) (s : Fin 2) (t : Fin 8192) (j : Fin 1024) :
    rawT a0 a1 a2 a3 a7 a8 a9 (ix3 s t j)
      = (Cert.Kernel7Ideal.RefValue.zAt a3 a7 a10 a15 a16) 6 j + ∑ l : Fin 64, Ideal.tanh (along (mixed (Cert.Kernel7Ideal.RefValue.hTok a0 a2 s t) (Cert.Kernel7Ideal.RefValue.dTok a0 a1 a2 s t) ((Cert.Kernel7Ideal.RefValue.zAt a3 a7 a10 a15 a16) 1)) (fun k n => a8 (ix3 0 k n)) l) * a9 (ix3 0 l j) := by
  have hp := fun l => proj1T_at a0 a1 a2 a3 a7 a10 a15 a16 a8 s t l
  unfold rawT
  generalize proj1T a0 a1 a2 a3 a8 = D at hp ⊢
  refine Eq.trans (b := (a7 (ix2 0 j) : EReal) + ∑ l : Fin 64, Ideal.tanh (D (ix3 s t l)) * a9 (ix3 0 l j)) (by pointwise) ?_
  simp only [hp]
  rfl

/-- The logarithms of the decays, from those. -/
def softT (w : FVec Ideal S2x8192x1024 .f32) : FVec Ideal S2x8192x1024 .f32 :=
  Host.negf (Host.exp (subf (Host.negf (select (cmpf .une (subf (Host.negf w) (broadcastInDim S2x8192x1024 ![] bcast_S_S2x8192x1024 (constant S_ .f32 0x00000000#32))) (subf (Host.negf w) (broadcastInDim S2x8192x1024 ![] bcast_S_S2x8192x1024 (constant S_ .f32 0x00000000#32)))) (addf (Host.negf w) (broadcastInDim S2x8192x1024 ![] bcast_S_S2x8192x1024 (constant S_ .f32 0x00000000#32))) (addf (maximumf (Host.negf w) (broadcastInDim S2x8192x1024 ![] bcast_S_S2x8192x1024 (constant S_ .f32 0x00000000#32))) (Host.log1p (Host.exp (Host.negf (Host.absf (subf (Host.negf w) (broadcastInDim S2x8192x1024 ![] bcast_S_S2x8192x1024 (constant S_ .f32 0x00000000#32)))))))))) (broadcastInDim S2x8192x1024 ![] bcast_S_S2x8192x1024 (constant S_ .f32 0x3F000000#32))))

theorem softT_at (w : FVec Ideal S2x8192x1024 .f32) (s : Fin 2) (t : Fin 8192) (j : Fin 1024) :
    softT w (ix3 s t j) = -Ideal.exp (-softNeg (w (ix3 s t j)) - Ideal.ofBits .f32 0x3F000000#32) := by
  pointwise [softT, softNeg, tailLog]
  simp only [ne_eq, not_true_eq_false, if_false, zero_sub]
  rfl

/-- The rates at which the keys are replaced. -/
def rateT (a0 : FVec Ideal S2x8192x1024 .f32) (a1 : FVec Ideal S2x1024 .f32) (a2 : FVec Ideal S2x4x1024 .f32) (a3 : FVec Ideal S1x6x1024 .f32) (a10 : FVec Ideal S1x1024 .f32) (a11 : FVec Ideal S1x1024x64 .f32) (a12 : FVec Ideal S1x64x1024 .f32) : FVec Ideal S2x8192x1024 .f32 :=
  Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (addf (broadcastInDim S2x8192x1024 ![0, 1, 2] bcast_S1x1x1024_S2x8192x1024_0_1_2 (broadcastInDim S1x1x1024 ![2] bcast_S1024_S1x1x1024_2 (shapeCast _ a10 shapeCasts_S1x1024_S1024))) (Host.dotGeneral dot_S2x8192x64_S64x1024_S2x8192x1024_2_0_01_1_n_n none (proj4T a0 a1 a2 a3 a11) (shapeCast _ a12 shapeCasts_S1x64x1024_S64x1024))))))

theorem rateT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a11 : FVec Ideal S1x1024x64 .f32) (a12 : FVec Ideal S1x64x1024 .f32) (s : Fin 2) (t : Fin 8192) (j : Fin 1024) :
    rateT a0 a1 a2 a3 a10 a11 a12 (ix3 s t j) = rate (Cert.Kernel7Ideal.RefValue.hTok a0 a2 s t) (Cert.Kernel7Ideal.RefValue.dTok a0 a1 a2 s t) (Cert.Kernel7Ideal.RefValue.zAt a3 a7 a10 a15 a16) (fun k n => a11 (ix3 0 k n)) (fun k n => a12 (ix3 0 k n)) j := by
  have hp := fun l => proj4T_at a0 a1 a2 a3 a7 a10 a15 a16 a11 s t l
  unfold rateT rate
  generalize proj4T a0 a1 a2 a3 a11 = D at hp ⊢
  refine Eq.trans (b := expit ((a10 (ix2 0 j) : EReal) + ∑ l : Fin 64, D (ix3 s t l) * a12 (ix3 0 l j))) (by pointwise [expit, unit]) ?_
  simp only [hp]
  rfl

/-- The keys scaled per entry. -/
def scaledT (a0 : FVec Ideal S2x8192x1024 .f32) (a1 : FVec Ideal S2x1024 .f32) (a2 : FVec Ideal S2x4x1024 .f32) (a3 : FVec Ideal S1x6x1024 .f32) (a5 : FVec Ideal S1x1024x1024 .f32) (a15 : FVec Ideal S1x1024 .f32) : FVec Ideal S2x8192x1024 .f32 := mulf (proj2T a0 a1 a2 a3 a5) (broadcastInDim S2x8192x1024 ![0, 1, 2] bcast_S1x1x1024_S2x8192x1024_0_1_2 (broadcastInDim S1x1x1024 ![2] bcast_S1024_S1x1x1024_2 (shapeCast _ a15 shapeCasts_S1x1024_S1024)))

theorem scaledT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (s : Fin 2) (t : Fin 8192) (j : Fin 1024) :
    scaledT a0 a1 a2 a3 a5 a15 (ix3 s t j) = along (mixed (Cert.Kernel7Ideal.RefValue.hTok a0 a2 s t) (Cert.Kernel7Ideal.RefValue.dTok a0 a1 a2 s t) ((Cert.Kernel7Ideal.RefValue.zAt a3 a7 a10 a15 a16) 2)) (fun k n => a5 (ix3 0 k n)) j * (Cert.Kernel7Ideal.RefValue.zAt a3 a7 a10 a15 a16) 8 j := by
  have hp := proj2T_at a0 a1 a2 a3 a7 a10 a15 a16 a5 s t j
  unfold scaledT
  generalize proj2T a0 a1 a2 a3 a5 = D at hp ⊢
  refine Eq.trans (b := (D (ix3 s t j) * a15 (ix2 0 j) : EReal)) (by pointwise) ?_
  rw [hp]
  rfl

/-- An array divided by the length of each of its heads. -/
def headsT (q : FVec Ideal S2x8192x1024 .f32) : FVec Ideal S2x8192x16x64 .f32 := shapeCast _ q shapeCasts_S2x8192x1024_S2x8192x16x64
def unitT (q : FVec Ideal S2x8192x1024 .f32) : FVec Ideal S2x8192x1024 .f32 :=
  shapeCast _ (Host.divf (headsT q) (broadcastInDim S2x8192x16x64 ![0, 1, 2, 3] bcast_S2x8192x16x1_S2x8192x16x64_0_1_2_3 (maximumf (Host.sqrt (broadcastInDim S2x8192x16x1 ![0, 1, 2] bcast_S2x8192x16_S2x8192x16x1_0_1_2 (Host.reduceAdd (mulf (headsT q) (headsT q)) (constant S_ .f32 0x00000000#32) reducesTo_S2x8192x16x64_S2x8192x16_d3 h_S_))) (broadcastInDim S2x8192x16x1 ![] bcast_S_S2x8192x16x1 (constant S_ .f32 0x2B8CBCCC#32))))) shapeCasts_S2x8192x16x64_S2x8192x1024

theorem headsT_at (q : FVec Ideal S2x8192x1024 .f32) (s : Fin 2) (t : Fin 8192) (h : Fin 16) (l : Fin 64) : headsT q (ix4 s t h l) = q (ix3 s t (lane h l)) := by
  pointwise [headsT, lane]

theorem unitT_at (q : FVec Ideal S2x8192x1024 .f32) (s : Fin 2) (t : Fin 8192) (j : Fin 1024) : unitT q (ix3 s t j) = headUnit (fun n => q (ix3 s t n)) j := by
  have hq := headsT_at q
  unfold unitT headUnit
  generalize headsT q = G at hq ⊢
  pointwise [hq, hd, plc, lane]
  simp only [Nat.div_add_mod']

theorem removalT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (s : Fin 2) (t : Fin 8192) (j : Fin 1024) :
    unitT (scaledT a0 a1 a2 a3 a5 a15) (ix3 s t j) = removal (Cert.Kernel7Ideal.RefValue.hTok a0 a2 s t) (Cert.Kernel7Ideal.RefValue.dTok a0 a1 a2 s t) (Cert.Kernel7Ideal.RefValue.zAt a3 a7 a10 a15 a16) (fun k n => a5 (ix3 0 k n)) j := by
  rw [unitT_at]
  unfold removal
  exact congrArg (fun q => headUnit q j) (funext fun n => scaledT_at a0 a1 a2 a3 a7 a10 a15 a16 a5 s t n)

/-- The keys that are written. -/
def writtenT (a0 : FVec Ideal S2x8192x1024 .f32) (a1 : FVec Ideal S2x1024 .f32) (a2 : FVec Ideal S2x4x1024 .f32) (a3 : FVec Ideal S1x6x1024 .f32) (a5 : FVec Ideal S1x1024x1024 .f32) (a10 : FVec Ideal S1x1024 .f32) (a11 : FVec Ideal S1x1024x64 .f32) (a12 : FVec Ideal S1x64x1024 .f32) (a16 : FVec Ideal S1x1024 .f32) : FVec Ideal S2x8192x1024 .f32 :=
  mulf (proj2T a0 a1 a2 a3 a5) (addf (broadcastInDim S2x8192x1024 ![] bcast_S_S2x8192x1024 (constant S_ .f32 0x3F800000#32)) (mulf (subf (rateT a0 a1 a2 a3 a10 a11 a12) (broadcastInDim S2x8192x1024 ![] bcast_S_S2x8192x1024 (constant S_ .f32 0x3F800000#32))) (broadcastInDim S2x8192x1024 ![0, 1, 2] bcast_S1x1x1024_S2x8192x1024_0_1_2 (broadcastInDim S1x1x1024 ![2] bcast_S1024_S1x1x1024_2 (shapeCast _ a16 shapeCasts_S1x1024_S1024)))))

theorem writtenT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) (s : Fin 2) (t : Fin 8192) (j : Fin 1024) :
    writtenT a0 a1 a2 a3 a5 a10 a11 a12 a16 (ix3 s t j) = written (Cert.Kernel7Ideal.RefValue.hTok a0 a2 s t) (Cert.Kernel7Ideal.RefValue.dTok a0 a1 a2 s t) (Cert.Kernel7Ideal.RefValue.zAt a3 a7 a10 a15 a16) (fun k n => a5 (ix3 0 k n)) (fun k n => a11 (ix3 0 k n)) (fun k n => a12 (ix3 0 k n)) j := by
  have hp := proj2T_at a0 a1 a2 a3 a7 a10 a15 a16 a5 s t j
  have hr := rateT_at a0 a1 a2 a3 a7 a10 a15 a16 a11 a12 s t j
  unfold writtenT written
  generalize proj2T a0 a1 a2 a3 a5 = D at hp ⊢
  generalize rateT a0 a1 a2 a3 a10 a11 a12 = R at hr ⊢
  refine Eq.trans (b := (D (ix3 s t j) * (1 + (R (ix3 s t j) - 1) * a16 (ix2 0 j)) : EReal)) (by pointwise [unit]) ?_
  rw [hp, hr]
  rfl

/-- The output gates. -/
def gatesT (a0 : FVec Ideal S2x8192x1024 .f32) (a1 : FVec Ideal S2x1024 .f32) (a2 : FVec Ideal S2x4x1024 .f32) (a3 : FVec Ideal S1x6x1024 .f32) (a13 : FVec Ideal S1x1024x128 .f32) (a14 : FVec Ideal S1x128x1024 .f32) : FVec Ideal S2x8192x1024 .f32 :=
  Host.dotGeneral dot_S2x8192x128_S128x1024_S2x8192x1024_2_0_01_1_n_n none (Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (proj5T a0 a1 a2 a3 a13))))) (shapeCast _ a14 shapeCasts_S1x128x1024_S128x1024)

theorem gatesT_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (a14 : FVec Ideal S1x128x1024 .f32) (s : Fin 2) (t : Fin 8192) (j : Fin 1024) :
    gatesT a0 a1 a2 a3 a13 a14 (ix3 s t j) = outGate (Cert.Kernel7Ideal.RefValue.hTok a0 a2 s t) (Cert.Kernel7Ideal.RefValue.dTok a0 a1 a2 s t) (Cert.Kernel7Ideal.RefValue.zAt a3 a7 a10 a15 a16) (fun k n => a13 (ix3 0 k n)) (fun k n => a14 (ix3 0 k n)) j := by
  have hp := fun l => proj5T_at a0 a1 a2 a3 a7 a10 a15 a16 a13 s t l
  unfold gatesT outGate
  generalize proj5T a0 a1 a2 a3 a13 = D at hp ⊢
  refine Eq.trans (b := ∑ l : Fin 128, expit (D (ix3 s t l)) * a14 (ix3 0 l j)) (by pointwise [expit, unit]) ?_
  simp only [hp]

/-- A result of the projections: its rows flattened. -/
def flatT (y : FVec Ideal S2x8192x1024 .f32) : FVec Ideal S16384x1024 .f32 := shapeCast _ y shapeCasts_S2x8192x1024_S16384x1024

theorem flatT_at (y : FVec Ideal S2x8192x1024 .f32) (r : Fin 16384) (j : Fin 1024) : flatT y (ix2 r j) = y (ix3 (Cert.Kernel7Ideal.RefValue.rowSeq r) (Cert.Kernel7Ideal.RefValue.rowTok r) j) := by
  pointwise [flatT, Cert.Kernel7Ideal.RefValue.rowSeq, Cert.Kernel7Ideal.RefValue.rowTok]

end Cert.Reference7Ideal.RefValue

end
-- ==== Proof.ProjValue.lean ====
module

public import proofs.«01_k».proof.Proof.ProjTerms
public import proofs.«01_k».proof.Proof.Gen.Reference7Ideal.Run
public import Idealize.ShloMosaic.Lib.Claim

@[expose] public section

set_option maxRecDepth 16384

noncomputable section

namespace Cert.Reference7Ideal.RefValue

open Cert.Reference7Ideal Cert.Reference7Ideal.Gen Cert.Reference7Ideal.Value Cert.Rows
open Idealize.ShloMosaic Idealize.ShloMosaic.TcCoe Idealize.SL.Sem

def rT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a4 : FVec Ideal S1x1024x1024 .f32) : FVec Ideal S16384x1024 .bf16 := truncf .bf16 (flatT (proj0T a0 a1 a2 a3 a4)) bitsLt_bf16_f32

theorem rT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a4 : FVec Ideal S1x1024x1024 .f32) : rT a0 a1 a2 a3 a7 a10 a15 a16 a4 = Cert.Kernel7Ideal.RefValue.rOut a0 a1 a2 a3 a7 a10 a15 a16 a4 := by
  funext i
  idx_vars i
  refine (flatT_at (proj0T a0 a1 a2 a3 a4) i0 i1).trans ?_
  exact proj0T_at a0 a1 a2 a3 a7 a10 a15 a16 a4 (Cert.Kernel7Ideal.RefValue.rowSeq i0) (Cert.Kernel7Ideal.RefValue.rowTok i0) i1

def kT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : FVec Ideal S16384x1024 .bf16 := truncf .bf16 (flatT (writtenT a0 a1 a2 a3 a5 a10 a11 a12 a16)) bitsLt_bf16_f32

theorem kT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : kT a0 a1 a2 a3 a7 a10 a15 a16 a5 a11 a12 = Cert.Kernel7Ideal.RefValue.kOut a0 a1 a2 a3 a7 a10 a15 a16 a5 a11 a12 := by
  funext i
  idx_vars i
  refine (flatT_at (writtenT a0 a1 a2 a3 a5 a10 a11 a12 a16) i0 i1).trans ?_
  exact writtenT_at a0 a1 a2 a3 a7 a10 a15 a16 a5 a11 a12 (Cert.Kernel7Ideal.RefValue.rowSeq i0) (Cert.Kernel7Ideal.RefValue.rowTok i0) i1

def vT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a6 : FVec Ideal S1x1024x1024 .f32) : FVec Ideal S16384x1024 .bf16 := truncf .bf16 (flatT (proj3T a0 a1 a2 a3 a6)) bitsLt_bf16_f32

theorem vT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a6 : FVec Ideal S1x1024x1024 .f32) : vT a0 a1 a2 a3 a7 a10 a15 a16 a6 = Cert.Kernel7Ideal.RefValue.vOut a0 a1 a2 a3 a7 a10 a15 a16 a6 := by
  funext i
  idx_vars i
  refine (flatT_at (proj3T a0 a1 a2 a3 a6) i0 i1).trans ?_
  exact proj3T_at a0 a1 a2 a3 a7 a10 a15 a16 a6 (Cert.Kernel7Ideal.RefValue.rowSeq i0) (Cert.Kernel7Ideal.RefValue.rowTok i0) i1

/-- Negation and product, entry by entry. -/
theorem negT_at (U : FVec Ideal S2x8192x1024 .f32) (s : Fin 2) (t : Fin 8192) (j : Fin 1024) : (Host.negf U (ix3 s t j) : EReal) = -(U (ix3 s t j)) := by
  pointwise
theorem mulT_at (U R : FVec Ideal S2x8192x1024 .f32) (s : Fin 2) (t : Fin 8192) (j : Fin 1024) : (mulf U R (ix3 s t j) : EReal) = U (ix3 s t j) * R (ix3 s t j) := by
  pointwise

def away3T (a0 : FVec Ideal S2x8192x1024 .f32) (a1 : FVec Ideal S2x1024 .f32) (a2 : FVec Ideal S2x4x1024 .f32) (a3 : FVec Ideal S1x6x1024 .f32) (a15 : FVec Ideal S1x1024 .f32) (a5 : FVec Ideal S1x1024x1024 .f32) : FVec Ideal S2x8192x1024 .f32 := Host.negf (unitT (scaledT a0 a1 a2 a3 a5 a15))

theorem away3T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (s : Fin 2) (t : Fin 8192) (j : Fin 1024) : (away3T a0 a1 a2 a3 a15 a5 (ix3 s t j) : EReal) = -(removal (Cert.Kernel7Ideal.RefValue.hTok a0 a2 s t) (Cert.Kernel7Ideal.RefValue.dTok a0 a1 a2 s t) (Cert.Kernel7Ideal.RefValue.zAt a3 a7 a10 a15 a16) (fun k n => a5 (ix3 0 k n)) j) := by
  have hu := removalT_at a0 a1 a2 a3 a7 a10 a15 a16 a5 s t j
  unfold away3T
  generalize unitT (scaledT a0 a1 a2 a3 a5 a15) = U at hu ⊢
  rw [negT_at, hu]

def back3T (a0 : FVec Ideal S2x8192x1024 .f32) (a1 : FVec Ideal S2x1024 .f32) (a2 : FVec Ideal S2x4x1024 .f32) (a3 : FVec Ideal S1x6x1024 .f32) (a10 : FVec Ideal S1x1024 .f32) (a15 : FVec Ideal S1x1024 .f32) (a5 : FVec Ideal S1x1024x1024 .f32) (a11 : FVec Ideal S1x1024x64 .f32) (a12 : FVec Ideal S1x64x1024 .f32) : FVec Ideal S2x8192x1024 .f32 := mulf (unitT (scaledT a0 a1 a2 a3 a5 a15)) (rateT a0 a1 a2 a3 a10 a11 a12)

theorem back3T_at (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) (s : Fin 2) (t : Fin 8192) (j : Fin 1024) : (back3T a0 a1 a2 a3 a10 a15 a5 a11 a12 (ix3 s t j) : EReal) = (removal (Cert.Kernel7Ideal.RefValue.hTok a0 a2 s t) (Cert.Kernel7Ideal.RefValue.dTok a0 a1 a2 s t) (Cert.Kernel7Ideal.RefValue.zAt a3 a7 a10 a15 a16) (fun k n => a5 (ix3 0 k n)) j) * (rate (Cert.Kernel7Ideal.RefValue.hTok a0 a2 s t) (Cert.Kernel7Ideal.RefValue.dTok a0 a1 a2 s t) (Cert.Kernel7Ideal.RefValue.zAt a3 a7 a10 a15 a16) (fun k n => a11 (ix3 0 k n)) (fun k n => a12 (ix3 0 k n)) j) := by
  have hu := removalT_at a0 a1 a2 a3 a7 a10 a15 a16 a5 s t j
  have hr := rateT_at a0 a1 a2 a3 a7 a10 a15 a16 a11 a12 s t j
  unfold back3T
  generalize unitT (scaledT a0 a1 a2 a3 a5 a15) = U at hu ⊢
  generalize rateT a0 a1 a2 a3 a10 a11 a12 = R at hr ⊢
  rw [mulT_at, hu, hr]

def awayT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) : FVec Ideal S16384x1024 .bf16 := truncf .bf16 (flatT (away3T a0 a1 a2 a3 a15 a5)) bitsLt_bf16_f32

theorem awayT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) : awayT a0 a1 a2 a3 a7 a10 a15 a16 a5 = Cert.Kernel7Ideal.RefValue.awayOut a0 a1 a2 a3 a7 a10 a15 a16 a5 := by
  funext i
  idx_vars i
  refine (flatT_at (away3T a0 a1 a2 a3 a15 a5) i0 i1).trans ?_
  exact away3T_at a0 a1 a2 a3 a7 a10 a15 a16 a5 (Cert.Kernel7Ideal.RefValue.rowSeq i0) (Cert.Kernel7Ideal.RefValue.rowTok i0) i1

def backT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : FVec Ideal S16384x1024 .bf16 := truncf .bf16 (flatT (back3T a0 a1 a2 a3 a10 a15 a5 a11 a12)) bitsLt_bf16_f32

theorem backT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a5 : FVec Ideal S1x1024x1024 .f32) (a11 : FVec Ideal S1x1024x64 .f32) (a12 : FVec Ideal S1x64x1024 .f32) : backT a0 a1 a2 a3 a7 a10 a15 a16 a5 a11 a12 = Cert.Kernel7Ideal.RefValue.backOut a0 a1 a2 a3 a7 a10 a15 a16 a5 a11 a12 := by
  funext i
  idx_vars i
  refine (flatT_at (back3T a0 a1 a2 a3 a10 a15 a5 a11 a12) i0 i1).trans ?_
  exact back3T_at a0 a1 a2 a3 a7 a10 a15 a16 a5 a11 a12 (Cert.Kernel7Ideal.RefValue.rowSeq i0) (Cert.Kernel7Ideal.RefValue.rowTok i0) i1

def decayT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (a9 : FVec Ideal S1x64x1024 .f32) : FVec Ideal S16384x1024 .f32 := flatT (softT (rawT a0 a1 a2 a3 a7 a8 a9))

theorem decayT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a8 : FVec Ideal S1x1024x64 .f32) (a9 : FVec Ideal S1x64x1024 .f32) : decayT a0 a1 a2 a3 a7 a10 a15 a16 a8 a9 = Cert.Kernel7Ideal.RefValue.decayOut a0 a1 a2 a3 a7 a10 a15 a16 a8 a9 := by
  funext i
  idx_vars i
  refine (flatT_at (softT (rawT a0 a1 a2 a3 a7 a8 a9)) i0 i1).trans ?_
  refine (softT_at _ (Cert.Kernel7Ideal.RefValue.rowSeq i0) (Cert.Kernel7Ideal.RefValue.rowTok i0) i1).trans ?_
  rw [rawT_at a0 a1 a2 a3 a7 a10 a15 a16 a8 a9 (Cert.Kernel7Ideal.RefValue.rowSeq i0) (Cert.Kernel7Ideal.RefValue.rowTok i0) i1]
  rfl

def gateT (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (a14 : FVec Ideal S1x128x1024 .f32) : FVec Ideal S16384x1024 .bf16 := truncf .bf16 (flatT (gatesT a0 a1 a2 a3 a13 a14)) bitsLt_bf16_f32

theorem gateT_eq (a0 : FVec Ideal S2x8192x1024 .f32) (a1 : FVec Ideal S2x1024 .f32) (a2 : FVec Ideal S2x4x1024 .f32) (a3 : FVec Ideal S1x6x1024 .f32) (a7 : FVec Ideal S1x1024 .f32) (a10 : FVec Ideal S1x1024 .f32) (a15 : FVec Ideal S1x1024 .f32) (a16 : FVec Ideal S1x1024 .f32) (a13 : FVec Ideal S1x1024x128 .f32) (a14 : FVec Ideal S1x128x1024 .f32) : gateT a0 a1 a2 a3 a7 a10 a15 a16 a13 a14 = Cert.Kernel7Ideal.RefValue.gateOut a0 a1 a2 a3 a7 a10 a15 a16 a13 a14 := by
  funext i
  idx_vars i
  refine (flatT_at (gatesT a0 a1 a2 a3 a13 a14) i0 i1).trans ?_
  exact gatesT_at a0 a1 a2 a3 a7 a10 a15 a16 a13 a14 (Cert.Kernel7Ideal.RefValue.rowSeq i0) (Cert.Kernel7Ideal.RefValue.rowTok i0) i1

def lastT (a0 : FVec Ideal S2x8192x1024 .f32) (a2 : FVec Ideal S2x4x1024 .f32) : FVec Ideal S2x8x1024 .f32 := extractStridedSlice S2x8x1024 ![0, 8184, 0] (normT a0 a2) slices_S2x8192x1024_S2x8x1024_0_8184_0

theorem lastT_eq (a0 : FVec Ideal S2x8192x1024 .f32) (a2 : FVec Ideal S2x4x1024 .f32) : lastT a0 a2 = Cert.Kernel7Ideal.RefValue.lastOut a0 a2 := by
  funext i
  idx_vars i
  pointwise [lastT, normT_at, Cert.Kernel7Ideal.RefValue.lastOut]

end Cert.Reference7Ideal.RefValue

end
-- ==== Proof.ProjClaim.lean ====
module

public import proofs.«01_k».proof.Defs
public import proofs.«01_k».proof.Proof.ProjValue
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.Value
public import Idealize.ShloMosaic.Lib.Quiescent

@[expose] public section

set_option maxRecDepth 16384

noncomputable section

namespace Cert.Proof.ProjClaim

open Idealize.ShloMosaic Idealize.ShloMosaic.TcCoe Idealize.SL.Sem

/-- Result 0 of the call as a function of the argument arrays. -/
def value0 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.rOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg4))

/-- Result 1 of the call as a function of the argument arrays. -/
def value1 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.kOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12))

/-- Result 2 of the call as a function of the argument arrays. -/
def value2 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.vOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg6))

/-- Result 3 of the call as a function of the argument arrays. -/
def value3 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.awayOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg5))

/-- Result 4 of the call as a function of the argument arrays. -/
def value4 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.backOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12))

/-- Result 5 of the call as a function of the argument arrays. -/
def value5 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .f32 :=
  Cert.Kernel7Ideal.RefValue.decayOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9))

/-- Result 6 of the call as a function of the argument arrays. -/
def value6 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S16384x1024 .bf16 :=
  Cert.Kernel7Ideal.RefValue.gateOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg15)) (m ((c.tc : Thread Cert.Kernel7Ideal.nD Cert.Kernel7Ideal.τ).loc Cert.Kernel7Ideal.main_arg16)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))

/-- Result 7 of the call as a function of the argument arrays. -/
def value7 (m : (ℓ : Loc Cert.Kernel7Ideal.nD Cert.Kernel7Ideal.τ Cert.Kernel7Ideal.sig) → Buf (Elt Ideal) ℓ) (c : Dev Cert.Kernel7Ideal.nD) : FVec Ideal Cert.Kernel7Ideal.S2x8x1024 .f32 :=
  Cert.Kernel7Ideal.RefValue.lastOut (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2))

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2.2.2.2.2.2.2.2, Idealize.ShloMosaic.sem_eq_zero_of_no_sems (by decide) r.2⟩)
    (Cert.Reference7Ideal.Value.run (F := Ideal) m ρ)

theorem preserves : Cert.preserves_Kernel7_Kernel7Ideal := trivial

/-- The kernel's result arrays and the reference's are the same functions of the same arguments. -/
theorem algebraic : Cert.algebraic_Kernel7Ideal_Reference7Ideal := by
  intro m ρ m' ρ' _ hagree
  refine ⟨fun c => value0 m c, fun c => value1 m c, fun c => value2 m c, fun c => value3 m c, fun c => value4 m c, fun c => value5 m c, fun c => value6 m c, fun c => value7 m c, ?_, ?_⟩
  · refine (θ_run Cert.Kernel7Ideal.defs _ _).mono (fun _ h c => ⟨(h c).1.trans (Cert.Kernel7Ideal.RefValue.final_r m c), (h c).2.1.trans (Cert.Kernel7Ideal.RefValue.final_k m c), (h c).2.2.1.trans (Cert.Kernel7Ideal.RefValue.final_v m c), (h c).2.2.2.1.trans (Cert.Kernel7Ideal.RefValue.final_away m c), (h c).2.2.2.2.1.trans (Cert.Kernel7Ideal.RefValue.final_back m c), (h c).2.2.2.2.2.1.trans (Cert.Kernel7Ideal.RefValue.final_decay m c), (h c).2.2.2.2.2.2.1.trans (Cert.Kernel7Ideal.RefValue.final_gate m c), (h c).2.2.2.2.2.2.2.1.trans (Cert.Kernel7Ideal.RefValue.final_last m c), (h c).2.2.2.2.2.2.2.2⟩)
      (Cert.Kernel7Ideal.Value.run_blocks (F := Ideal) m ρ)
  · refine (θ_run Cert.Reference7Ideal.defs _ _).mono (fun _ h c => ⟨(h c).1.trans ((Cert.Reference7Ideal.RefValue.rT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg4))).trans ?_), (h c).2.1.trans ((Cert.Reference7Ideal.RefValue.kT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg11)) (m' ((c.tc : Thread Cert.Reference7Ideal.nD Cert.Reference7Ideal.τ).loc Cert.Reference7Ideal.main_arg12))).trans ?_), (h c).2.2.1.trans ((Cert.Reference7Ideal.RefValue.vT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg6))).trans ?_), (h c).2.2.2.1.trans ((Cert.Reference7Ideal.RefValue.awayT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg5))).trans ?_), (h c).2.2.2.2.1.trans ((Cert.Reference7Ideal.RefValue.backT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg11)) (m' ((c.tc : Thread Cert.Reference7Ideal.nD Cert.Reference7Ideal.τ).loc Cert.Reference7Ideal.main_arg12))).trans ?_), (h c).2.2.2.2.2.1.trans ((Cert.Reference7Ideal.RefValue.decayT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9))).trans ?_), (h c).2.2.2.2.2.2.1.trans ((Cert.Reference7Ideal.RefValue.gateT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg15)) (m' ((c.tc : Thread Cert.Reference7Ideal.nD Cert.Reference7Ideal.τ).loc Cert.Reference7Ideal.main_arg16)) (m' ((c.tc : Thread Cert.Reference7Ideal.nD Cert.Reference7Ideal.τ).loc Cert.Reference7Ideal.main_arg13)) (m' ((c.tc : Thread Cert.Reference7Ideal.nD Cert.Reference7Ideal.τ).loc Cert.Reference7Ideal.main_arg14))).trans ?_), (h c).2.2.2.2.2.2.2.1.trans ((Cert.Reference7Ideal.RefValue.lastT_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg2))).trans ?_), (h c).2.2.2.2.2.2.2.2⟩)
      (Cert.Reference7Ideal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
      rfl

end Cert.Proof.ProjClaim

end
-- ==== Proof.MlstmRows.lean ====
module

public import proofs.«01_k».proof.Proof.Rows

@[expose] public section

set_option maxRecDepth 16384

noncomputable section

namespace Cert.Rows

open Idealize.ShloMosaic

/-! One head's step of the mLSTM, on extended reals: the query and key rows `q`, `k`, the value row `v`, the gates `ig` and
    `lf`, and the state carried in: the matrix `c`, the row `n` and the scale `m`. -/

/-- The new scale. -/
def newScale (ig lf m : EReal) : EReal := max (lf + m) ig

/-- The new token's weight. -/
def inWeight (ig lf m : EReal) : EReal := Ideal.exp (ig - newScale ig lf m)

/-- The old state's weight. -/
def keepWeight (ig lf m : EReal) : EReal := Ideal.exp (lf + m - newScale ig lf m)

/-- The new token's score. -/
def tokenScore {d : Nat} (q k : Fin d → EReal) (ig lf m : EReal) : EReal := (∑ j, q j * k j) * inWeight ig lf m

/-- What is read out of the state, before it is normalised. -/
def readNum {d e : Nat} (q k : Fin d → EReal) (v : Fin e → EReal) (ig lf m : EReal) (c : Fin d → Fin e → EReal) (j : Fin e) : EReal :=
  keepWeight ig lf m * (∑ i, q i * c i j) + tokenScore q k ig lf m * v j

/-- What it is divided by. -/
def readDen {d : Nat} (q k : Fin d → EReal) (ig lf m : EReal) (n : Fin d → EReal) : EReal :=
  max (max (keepWeight ig lf m * (∑ i, q i * n i) + tokenScore q k ig lf m) (-(keepWeight ig lf m * (∑ i, q i * n i) + tokenScore q k ig lf m)))
    (Ideal.exp (-newScale ig lf m))

/-- The head's row. -/
def readRow {d e : Nat} (q k : Fin d → EReal) (v : Fin e → EReal) (ig lf m : EReal) (c : Fin d → Fin e → EReal) (n : Fin d → EReal) (j : Fin e) : EReal :=
  Ideal.div (readNum q k v ig lf m c j) (readDen q k ig lf m n)

/-- The head's row scaled to unit mean square, weighted by `g` and gated by `o`. -/
def gatedRow {e : Nat} (r g o : Fin e → EReal) (j : Fin e) : EReal :=
  r j * Ideal.rsqrt (Ideal.div (∑ i, r i * r i) (Ideal.ofBits .f32 0x43000000#32) + Ideal.ofBits .f32 0x358637BD#32) * g j * Ideal.div 1 (1 + Ideal.exp (-o j))

/-- The new matrix. -/
def newMatrix {d e : Nat} (k : Fin d → EReal) (v : Fin e → EReal) (ig lf m : EReal) (c : Fin d → Fin e → EReal) (i : Fin d) (j : Fin e) : EReal :=
  keepWeight ig lf m * c i j + inWeight ig lf m * k i * v j

/-- The new row. -/
def newSum {d : Nat} (k : Fin d → EReal) (ig lf m : EReal) (n : Fin d → EReal) (i : Fin d) : EReal :=
  keepWeight ig lf m * n i + inWeight ig lf m * k i

/-- A finite number less itself is nought. -/
theorem sub_self_of_finite {x : EReal} (h : x ≠ ⊤ ∧ x ≠ ⊥) : x - x = 0 := by
  lift x to ℝ using h
  rw [← EReal.coe_sub, sub_self, EReal.coe_zero]

end Cert.Rows
-- ==== Proof.MlstmBlock.lean ====
module

public import proofs.«01_k».proof.Proof.MlstmRows
public import proofs.«01_k».proof.Proof.Gen.Kernel8Ideal.Value
public import Idealize.ShloMosaic.Lib.Pipeline.ValueKit
public import Idealize.ShloMosaic.Lib.WordCmp

@[expose] public section

set_option maxRecDepth 16384

noncomputable section

namespace Cert.Kernel8Ideal.RefValue

open Cert.Kernel8Ideal Cert.Kernel8Ideal.Gen Cert.Rows
open Idealize.ShloMosaic Idealize.ShloMosaic.TcCoe Idealize.SL.Sem

/-- Lane `e` of head `h` among the 512 lanes of the four heads, and a lane's head and place. -/
def vlane (h : Fin 4) (e : Fin 128) : Fin 512 := ⟨h.val * 128 + e.val, by omega⟩
def vhead (j : Fin 512) : Fin 4 := ⟨j.val / 128, by omega⟩
def vplace (j : Fin 512) : Fin 128 := ⟨j.val % 128, by omega⟩

theorem vhead_vlane (h : Fin 4) (e : Fin 128) : vhead (vlane h e) = h := Fin.ext (by show (h.val * 128 + e.val) / 128 = h.val; omega)
theorem vplace_vlane (h : Fin 4) (e : Fin 128) : vplace (vlane h e) = e := Fin.ext (by show (h.val * 128 + e.val) % 128 = e.val; omega)

/-- The unit matrix's row `d` picks entry `d`. -/
theorem pick_row (d : Fin 64) (f : Fin 64 → EReal) :
    (∑ l : Fin 64, Scalar.select (IntOp.cmpi CmpIPredicate.eq (BitVec.ofNat 32 d.val) (BitVec.ofNat 32 l.val)) (f l) 0) = f d := by
  rw [Finset.sum_eq_single d]
  · rw [(WordCmp.cmpi_eq_ofNat_eq_one_iff (w := 32) (by have := d.isLt; omega) (by have := d.isLt; omega)).mpr rfl]
    rfl
  · intro l _ hl
    rw [(WordCmp.cmpi_eq_ofNat_eq_zero_iff (w := 32) (by have := d.isLt; omega) (by have := l.isLt; omega)).mpr (fun h => hl (Fin.ext h.symm))]
    rfl
  · exact fun h => absurd (Finset.mem_univ d) h

theorem cols0_at (x : FVec Ideal S1x4x64 .bf16) (hx : ∀ d : Fin 64, x (ix3 0 0 d) ≠ (⊤ : EReal) ∧ x (ix3 0 0 d) ≠ (⊥ : EReal)) (d : Fin 64) :
    (k0_pay3 (F := Ideal) x (ix2 d 0) : EReal) = x (ix3 0 0 d) := by
  pointwise [k0_pay3, k0_pay2, pick_row]
  rw [sub_self_of_finite (hx d)]
  simp

theorem cols1_at (x : FVec Ideal S1x4x64 .bf16) (hx : ∀ d : Fin 64, x (ix3 0 1 d) ≠ (⊤ : EReal) ∧ x (ix3 0 1 d) ≠ (⊥ : EReal)) (d : Fin 64) :
    (k0_pay3 (F := Ideal) x (ix2 d 1) : EReal) = x (ix3 0 1 d) := by
  pointwise [k0_pay3, k0_pay2, pick_row]
  rw [sub_self_of_finite (hx d)]
  simp

theorem cols2_at (x : FVec Ideal S1x4x64 .bf16) (hx : ∀ d : Fin 64, x (ix3 0 2 d) ≠ (⊤ : EReal) ∧ x (ix3 0 2 d) ≠ (⊥ : EReal)) (d : Fin 64) :
    (k0_pay3 (F := Ideal) x (ix2 d 2) : EReal) = x (ix3 0 2 d) := by
  pointwise [k0_pay3, k0_pay2, pick_row]
  rw [sub_self_of_finite (hx d)]
  simp

theorem cols3_at (x : FVec Ideal S1x4x64 .bf16) (hx : ∀ d : Fin 64, x (ix3 0 3 d) ≠ (⊤ : EReal) ∧ x (ix3 0 3 d) ≠ (⊥ : EReal)) (d : Fin 64) :
    (k0_pay3 (F := Ideal) x (ix2 d 3) : EReal) = x (ix3 0 3 d) := by
  pointwise [k0_pay3, k0_pay2, pick_row]
  rw [sub_self_of_finite (hx d)]
  simp

variable (x0 x1 : FVec Ideal S1x4x64 .bf16) (x2 : FVec Ideal S1x4x128 .bf16) (x3 : FVec Ideal S1x1x512 .f32) (x4 : FVec Ideal S1x1x128 .f32)
  (x5 : FVec Ideal S1x1x4 .f32) (x6 : FVec Ideal S1x512 .f32) (x7 : FVec Ideal S1x4x64x128 .f32) (x8 : FVec Ideal S1x4x64 .f32)

/-- Head `h`'s gates and carried scale in a block. -/
def bIn (h : Fin 4) : EReal := x4 (ix3 0 0 ⟨h.val, by omega⟩)
def bFg (h : Fin 4) : EReal := x4 (ix3 0 0 ⟨4 + h.val, by omega⟩)
def bMax (h : Fin 4) : EReal := x5 (ix3 0 0 h)

/-- Head `h`'s row in a block, before and after it is scaled and gated. -/
def bRow (h : Fin 4) : Fin 128 → EReal :=
  readRow (fun d : Fin 64 => x0 (ix3 0 h d)) (fun d => x1 (ix3 0 h d)) (fun e => x2 (ix3 0 h e)) (bIn x4 h) (bFg x4 h) (bMax x5 h)
    (fun d e => x7 (ix4 0 h d e)) (fun d => x8 (ix3 0 h d))
def bOut (h : Fin 4) : Fin 128 → EReal :=
  gatedRow (bRow x0 x1 x2 x4 x5 x7 x8 h) (fun e => x6 (ix2 0 (vlane h e))) (fun e => x3 (ix3 0 0 (vlane h e)))

/-- Head `h`'s new matrix, row and scale in a block. -/
def bMatrix (h : Fin 4) (d : Fin 64) (e : Fin 128) : EReal :=
  newMatrix (fun d : Fin 64 => x1 (ix3 0 h d)) (fun e : Fin 128 => x2 (ix3 0 h e)) (bIn x4 h) (bFg x4 h) (bMax x5 h) (fun d e => x7 (ix4 0 h d e)) d e
def bSum (h : Fin 4) (d : Fin 64) : EReal :=
  newSum (fun d : Fin 64 => x1 (ix3 0 h d)) (bIn x4 h) (bFg x4 h) (bMax x5 h) (fun d => x8 (ix3 0 h d)) d
def bScale (h : Fin 4) : EReal := newScale (bIn x4 h) (bFg x4 h) (bMax x5 h)

theorem row0_at (e : Fin 128) : (k0_pay18 (F := Ideal) (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3) (ix2 0 e) : EReal)
      = bRow x0 x1 x2 x4 x5 x7 x8 0 e := by
  pointwise [k0_pay18, k0_pay69, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bRow, bIn, bFg, bMax, readRow, readNum, readDen, tokenScore, inWeight, keepWeight, newScale, zero_sub, Ideal.absf_def]

theorem row3_at (e : Fin 128) : (k0_pay69 (F := Ideal) (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21) (ix2 0 e) : EReal)
      = bRow x0 x1 x2 x4 x5 x7 x8 3 e := by
  pointwise [k0_pay18, k0_pay69, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bRow, bIn, bFg, bMax, readRow, readNum, readDen, tokenScore, inWeight, keepWeight, newScale, zero_sub, Ideal.absf_def]

theorem out0_at (e : Fin 128) : (k0_pay20 (F := Ideal) (k0_pay18 (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3)) (k0_pay19 (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3)) (View.ld x6 r0_6) (View.ld x3 r0_7) (ix3 0 0 e) : EReal)
      = bOut x0 x1 x2 x3 x4 x5 x6 x7 x8 0 e := by
  have hr := row0_at x0 x1 x2 x3 x4 x5 x6 x7 x8
  unfold bOut k0_pay19
  generalize k0_pay18 (F := Ideal) (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3) = Y at hr ⊢
  pointwise [k0_pay20, hr, gatedRow, vlane, zero_sub]

theorem out1_at (e : Fin 128) : (k0_pay37 (F := Ideal) (k0_pay87 x0 x1 x2 x3 x4 x5 x6 x7 x8) (k0_pay32 (k0_pay75 x0 x1 x2 x3 x4 x5 x6 x7 x8) (k0_pay77 x0 x1 x2 x3 x4 x5 x6 x7 x8) (k0_pay78 x0 x1 x2 x3 x4 x5 x6 x7 x8) (View.ld x0 r0_9)) (k0_pay35 (k0_pay75 x0 x1 x2 x3 x4 x5 x6 x7 x8) (k0_pay77 x0 x1 x2 x3 x4 x5 x6 x7 x8) (k0_pay78 x0 x1 x2 x3 x4 x5 x6 x7 x8) (View.ld x0 r0_9) (View.ld x2 r0_10) (View.ld x7 r0_11)) (k0_pay36 (k0_pay77 x0 x1 x2 x3 x4 x5 x6 x7 x8) (k0_pay78 x0 x1 x2 x3 x4 x5 x6 x7 x8) (View.ld x0 r0_9) (View.ld x8 r0_9)) (View.ld x6 r0_12) (View.ld x3 r0_13) (ix3 0 0 e) : EReal)
      = bOut x0 x1 x2 x3 x4 x5 x6 x7 x8 1 e := by
  pointwise [k0_pay37, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bOut, gatedRow, vlane, bRow, bIn, bFg, bMax, readRow, readNum, readDen, tokenScore, inWeight, keepWeight, newScale, zero_sub, Ideal.absf_def]

theorem out2_at (e : Fin 128) : (k0_pay55 (F := Ideal) (k0_pay53 (k0_pay42 (View.ld x0 r0_15)) (k0_pay90 x0 x1 x2 x3 x4 x5 x6 x7 x8) (k0_pay91 x0 x1 x2 x3 x4 x5 x6 x7 x8) (k0_pay93 x0 x1 x2 x3 x4 x5 x6 x7 x8) (k0_pay50 (k0_pay75 x0 x1 x2 x3 x4 x5 x6 x7 x8) (k0_pay77 x0 x1 x2 x3 x4 x5 x6 x7 x8) (k0_pay78 x0 x1 x2 x3 x4 x5 x6 x7 x8) (View.ld x0 r0_15)) (k0_pay94 x0 x1 x2 x3 x4 x5 x6 x7 x8) (View.ld x8 r0_15) (View.ld x6 r0_18)) (k0_pay54 (View.ld x3 r0_19)) (ix3 0 0 e) : EReal)
      = bOut x0 x1 x2 x3 x4 x5 x6 x7 x8 2 e := by
  pointwise [k0_pay55, k0_pay54, k0_pay53, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bOut, gatedRow, vlane, bRow, bIn, bFg, bMax, readRow, readNum, readDen, tokenScore, inWeight, keepWeight, newScale, zero_sub, Ideal.absf_def]

theorem out3_at (e : Fin 128) : (k0_pay72 (F := Ideal) (k0_pay69 (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21)) (k0_pay70 (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21)) (k0_pay71 (F := Ideal)) (View.ld x6 r0_24) (View.ld x3 r0_25) (ix3 0 0 e) : EReal)
      = bOut x0 x1 x2 x3 x4 x5 x6 x7 x8 3 e := by
  have hr := row3_at x0 x1 x2 x3 x4 x5 x6 x7 x8
  unfold bOut k0_pay70
  generalize k0_pay69 (F := Ideal) (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21) = Y at hr ⊢
  pointwise [k0_pay72, k0_pay71, hr, gatedRow, vlane, zero_sub]

theorem matrix0_at (hx : ∀ (h : Fin 4) (d : Fin 64), x1 (ix3 0 h d) ≠ (⊤ : EReal) ∧ x1 (ix3 0 h d) ≠ (⊥ : EReal)) (d : Fin 64) (e : Fin 128) : (k0_pay21 (F := Ideal) (k0_pay76 x0 x1 x2 x3 x4 x5 x6 x7 x8) (k0_pay81 x0 x1 x2 x3 x4 x5 x6 x7 x8) (k0_pay85 x0 x1 x2 x3 x4 x5 x6 x7 x8) (k0_pay86 x0 x1 x2 x3 x4 x5 x6 x7 x8) (k0_pay16 (View.ld x7 r0_5)) (ix4 0 0 d e) : EReal)
      = bMatrix x1 x2 x4 x5 x7 0 d e := by
  have hl : ∀ d : Fin 64, ((View.ld (Val := Elt Ideal) (e' := .bf16) x1 r0_0) (ix3 0 0 d) : EReal) = x1 (ix3 0 0 d) := fun d => by pointwise
  have hc : ∀ d : Fin 64, (k0_pay3 (F := Ideal) (View.ld x1 r0_0) (ix2 d 0) : EReal) = x1 (ix3 0 0 d) :=
    fun d => (cols0_at _ (fun d => by rw [hl]; exact hx 0 d) d).trans (hl d)
  unfold k0_pay76
  generalize k0_pay3 (F := Ideal) (View.ld x1 r0_0) = Y at hc ⊢
  pointwise [k0_pay21, k0_pay38, k0_pay39, k0_pay56, k0_pay73, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, hc, bMatrix, newMatrix, bRow, bIn, bFg, bMax, readRow, readNum, readDen, tokenScore, inWeight, keepWeight, newScale, zero_sub, Ideal.absf_def]

theorem matrix1_at (hx : ∀ (h : Fin 4) (d : Fin 64), x1 (ix3 0 h d) ≠ (⊤ : EReal) ∧ x1 (ix3 0 h d) ≠ (⊥ : EReal)) (d : Fin 64) (e : Fin 128) : (k0_pay39 (F := Ideal) (k0_pay38 (k0_pay76 x0 x1 x2 x3 x4 x5 x6 x7 x8) (k0_pay26 (View.ld x2 r0_10)) (k0_pay88 x0 x1 x2 x3 x4 x5 x6 x7 x8) (k0_pay89 x0 x1 x2 x3 x4 x5 x6 x7 x8) (k0_pay33 (View.ld x7 r0_11))) (ix4 0 0 d e) : EReal)
      = bMatrix x1 x2 x4 x5 x7 1 d e := by
  have hl : ∀ d : Fin 64, ((View.ld (Val := Elt Ideal) (e' := .bf16) x1 r0_0) (ix3 0 1 d) : EReal) = x1 (ix3 0 1 d) := fun d => by pointwise
  have hc : ∀ d : Fin 64, (k0_pay3 (F := Ideal) (View.ld x1 r0_0) (ix2 d 1) : EReal) = x1 (ix3 0 1 d) :=
    fun d => (cols1_at _ (fun d => by rw [hl]; exact hx 1 d) d).trans (hl d)
  unfold k0_pay76
  generalize k0_pay3 (F := Ideal) (View.ld x1 r0_0) = Y at hc ⊢
  pointwise [k0_pay21, k0_pay38, k0_pay39, k0_pay56, k0_pay73, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, hc, bMatrix, newMatrix, bRow, bIn, bFg, bMax, readRow, readNum, readDen, tokenScore, inWeight, keepWeight, newScale, zero_sub, Ideal.absf_def]

theorem matrix2_at (hx : ∀ (h : Fin 4) (d : Fin 64), x1 (ix3 0 h d) ≠ (⊤ : EReal) ∧ x1 (ix3 0 h d) ≠ (⊥ : EReal)) (d : Fin 64) (e : Fin 128) : (k0_pay56 (F := Ideal) (k0_pay76 x0 x1 x2 x3 x4 x5 x6 x7 x8) (k0_pay90 x0 x1 x2 x3 x4 x5 x6 x7 x8) (k0_pay92 x0 x1 x2 x3 x4 x5 x6 x7 x8) (k0_pay93 x0 x1 x2 x3 x4 x5 x6 x7 x8) (k0_pay94 x0 x1 x2 x3 x4 x5 x6 x7 x8) (ix4 0 0 d e) : EReal)
      = bMatrix x1 x2 x4 x5 x7 2 d e := by
  have hl : ∀ d : Fin 64, ((View.ld (Val := Elt Ideal) (e' := .bf16) x1 r0_0) (ix3 0 2 d) : EReal) = x1 (ix3 0 2 d) := fun d => by pointwise
  have hc : ∀ d : Fin 64, (k0_pay3 (F := Ideal) (View.ld x1 r0_0) (ix2 d 2) : EReal) = x1 (ix3 0 2 d) :=
    fun d => (cols2_at _ (fun d => by rw [hl]; exact hx 2 d) d).trans (hl d)
  unfold k0_pay76
  generalize k0_pay3 (F := Ideal) (View.ld x1 r0_0) = Y at hc ⊢
  pointwise [k0_pay21, k0_pay38, k0_pay39, k0_pay56, k0_pay73, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, hc, bMatrix, newMatrix, bRow, bIn, bFg, bMax, readRow, readNum, readDen, tokenScore, inWeight, keepWeight, newScale, zero_sub, Ideal.absf_def]

theorem matrix3_at (hx : ∀ (h : Fin 4) (d : Fin 64), x1 (ix3 0 h d) ≠ (⊤ : EReal) ∧ x1 (ix3 0 h d) ≠ (⊥ : EReal)) (d : Fin 64) (e : Fin 128) : (k0_pay73 (F := Ideal) (k0_pay76 x0 x1 x2 x3 x4 x5 x6 x7 x8) (k0_pay97 x0 x1 x2 x3 x4 x5 x6 x7 x8) (k0_pay98 x0 x1 x2 x3 x4 x5 x6 x7 x8) (k0_pay99 x0 x1 x2 x3 x4 x5 x6 x7 x8) (k0_pay67 (View.ld x7 r0_23)) (ix4 0 0 d e) : EReal)
      = bMatrix x1 x2 x4 x5 x7 3 d e := by
  have hl : ∀ d : Fin 64, ((View.ld (Val := Elt Ideal) (e' := .bf16) x1 r0_0) (ix3 0 3 d) : EReal) = x1 (ix3 0 3 d) := fun d => by pointwise
  have hc : ∀ d : Fin 64, (k0_pay3 (F := Ideal) (View.ld x1 r0_0) (ix2 d 3) : EReal) = x1 (ix3 0 3 d) :=
    fun d => (cols3_at _ (fun d => by rw [hl]; exact hx 3 d) d).trans (hl d)
  unfold k0_pay76
  generalize k0_pay3 (F := Ideal) (View.ld x1 r0_0) = Y at hc ⊢
  pointwise [k0_pay21, k0_pay38, k0_pay39, k0_pay56, k0_pay73, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, hc, bMatrix, newMatrix, bRow, bIn, bFg, bMax, readRow, readNum, readDen, tokenScore, inWeight, keepWeight, newScale, zero_sub, Ideal.absf_def]

theorem sum0_at (d : Fin 64) : (k0_pay22 (F := Ideal) (k0_pay80 x0 x1 x2 x3 x4 x5 x6 x7 x8) (k0_pay85 x0 x1 x2 x3 x4 x5 x6 x7 x8) (k0_pay86 x0 x1 x2 x3 x4 x5 x6 x7 x8) (k0_pay17 (View.ld x8 r0_3)) (ix3 0 0 d) : EReal)
      = bSum x1 x4 x5 x8 0 d := by
  pointwise [k0_pay22, k0_pay40, k0_pay57, k0_pay74, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bSum, newSum, bRow, bIn, bFg, bMax, readRow, readNum, readDen, tokenScore, inWeight, keepWeight, newScale, zero_sub, Ideal.absf_def]

theorem sum1_at (d : Fin 64) : (k0_pay40 (F := Ideal) (k0_pay25 (k0_pay75 x0 x1 x2 x3 x4 x5 x6 x7 x8)) (k0_pay88 x0 x1 x2 x3 x4 x5 x6 x7 x8) (k0_pay89 x0 x1 x2 x3 x4 x5 x6 x7 x8) (k0_pay34 (View.ld x8 r0_9)) (ix3 0 0 d) : EReal)
      = bSum x1 x4 x5 x8 1 d := by
  pointwise [k0_pay22, k0_pay40, k0_pay57, k0_pay74, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bSum, newSum, bRow, bIn, bFg, bMax, readRow, readNum, readDen, tokenScore, inWeight, keepWeight, newScale, zero_sub, Ideal.absf_def]

theorem sum2_at (d : Fin 64) : (k0_pay57 (F := Ideal) (k0_pay43 (k0_pay75 x0 x1 x2 x3 x4 x5 x6 x7 x8)) (k0_pay92 x0 x1 x2 x3 x4 x5 x6 x7 x8) (k0_pay93 x0 x1 x2 x3 x4 x5 x6 x7 x8) (k0_pay52 (View.ld x8 r0_15)) (ix3 0 0 d) : EReal)
      = bSum x1 x4 x5 x8 2 d := by
  pointwise [k0_pay22, k0_pay40, k0_pay57, k0_pay74, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bSum, newSum, bRow, bIn, bFg, bMax, readRow, readNum, readDen, tokenScore, inWeight, keepWeight, newScale, zero_sub, Ideal.absf_def]

theorem sum3_at (d : Fin 64) : (k0_pay74 (F := Ideal) (k0_pay96 x0 x1 x2 x3 x4 x5 x6 x7 x8) (k0_pay98 x0 x1 x2 x3 x4 x5 x6 x7 x8) (k0_pay99 x0 x1 x2 x3 x4 x5 x6 x7 x8) (k0_pay68 (View.ld x8 r0_21)) (ix3 0 0 d) : EReal)
      = bSum x1 x4 x5 x8 3 d := by
  pointwise [k0_pay22, k0_pay40, k0_pay57, k0_pay74, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bSum, newSum, bRow, bIn, bFg, bMax, readRow, readNum, readDen, tokenScore, inWeight, keepWeight, newScale, zero_sub, Ideal.absf_def]

theorem scale0_at : (k0_pay23 (F := Ideal) (k0_pay13 (k0_pay82 x0 x1 x2 x3 x4 x5 x6 x7 x8) (k0_pay83 x0 x1 x2 x3 x4 x5 x6 x7 x8) (k0_pay84 x0 x1 x2 x3 x4 x5 x6 x7 x8)) (ix3 0 0 0) : EReal)
      = bScale x4 x5 0 := by
  pointwise [k0_pay1, k0_pay23, k0_pay41, k0_pay58, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bScale, bRow, bIn, bFg, bMax, readRow, readNum, readDen, tokenScore, inWeight, keepWeight, newScale, zero_sub, Ideal.absf_def]

theorem scale1_at : (k0_pay41 (F := Ideal) (k0_pay87 x0 x1 x2 x3 x4 x5 x6 x7 x8) (ix3 0 0 0) : EReal)
      = bScale x4 x5 1 := by
  pointwise [k0_pay1, k0_pay23, k0_pay41, k0_pay58, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bScale, bRow, bIn, bFg, bMax, readRow, readNum, readDen, tokenScore, inWeight, keepWeight, newScale, zero_sub, Ideal.absf_def]

theorem scale2_at : (k0_pay58 (F := Ideal) (k0_pay91 x0 x1 x2 x3 x4 x5 x6 x7 x8) (ix3 0 0 0) : EReal)
      = bScale x4 x5 2 := by
  pointwise [k0_pay1, k0_pay23, k0_pay41, k0_pay58, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bScale, bRow, bIn, bFg, bMax, readRow, readNum, readDen, tokenScore, inWeight, keepWeight, newScale, zero_sub, Ideal.absf_def]

theorem scale3_at : (k0_pay1 (F := Ideal) (k0_pay64 (k0_pay77 x0 x1 x2 x3 x4 x5 x6 x7 x8) (k0_pay78 x0 x1 x2 x3 x4 x5 x6 x7 x8)) (ix3 0 0 0) : EReal)
      = bScale x4 x5 3 := by
  pointwise [k0_pay1, k0_pay23, k0_pay41, k0_pay58, k0_pay2, k0_pay4, k0_pay5, k0_pay6, k0_pay7, k0_pay8, k0_pay9, k0_pay10, k0_pay11, k0_pay12, k0_pay13, k0_pay14, k0_pay15, k0_pay16, k0_pay17, k0_pay24, k0_pay25, k0_pay26, k0_pay27, k0_pay28, k0_pay29, k0_pay30, k0_pay31, k0_pay32, k0_pay33, k0_pay34, k0_pay35, k0_pay42, k0_pay43, k0_pay44, k0_pay45, k0_pay46, k0_pay47, k0_pay48, k0_pay49, k0_pay36, k0_pay50, k0_pay51, k0_pay52, k0_pay59, k0_pay60, k0_pay61, k0_pay62, k0_pay63, k0_pay64, k0_pay65, k0_pay66, k0_pay67, k0_pay68, k0_pay75, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, bScale, bRow, bIn, bFg, bMax, readRow, readNum, readDen, tokenScore, inWeight, keepWeight, newScale, zero_sub, Ideal.absf_def]

/-- A piece's entries are known once they are known at the piece's own places. -/
theorem at_lane (f : S1x1x128.Idx → EReal) (g : Fin 128 → EReal) (hf : ∀ e : Fin 128, f (ix3 0 0 e) = g e) (z : S1x1x128.Idx) : f z = g (z 2) := by
  idx_vars z
  obtain rfl : z0 = 0 := Fin.ext (by have := z0.isLt; omega)
  obtain rfl : z1 = 0 := Fin.ext (by have := z1.isLt; omega)
  exact hf _
theorem at_cell (f : S1x1x64x128.Idx → EReal) (g : Fin 64 → Fin 128 → EReal) (hf : ∀ (d : Fin 64) (e : Fin 128), f (ix4 0 0 d e) = g d e) (z : S1x1x64x128.Idx) : f z = g (z 2) (z 3) := by
  idx_vars z
  obtain rfl : z0 = 0 := Fin.ext (by have := z0.isLt; omega)
  obtain rfl : z1 = 0 := Fin.ext (by have := z1.isLt; omega)
  exact hf _ _
theorem at_row (f : S1x1x64.Idx → EReal) (g : Fin 64 → EReal) (hf : ∀ d : Fin 64, f (ix3 0 0 d) = g d) (z : S1x1x64.Idx) : f z = g (z 2) := by
  idx_vars z
  obtain rfl : z0 = 0 := Fin.ext (by have := z0.isLt; omega)
  obtain rfl : z1 = 0 := Fin.ext (by have := z1.isLt; omega)
  exact hf _
theorem at_one (f : S1x1x1.Idx → EReal) (g : EReal) (hf : f (ix3 0 0 0) = g) (z : S1x1x1.Idx) : f z = g := by
  idx_vars z
  obtain rfl : z0 = 0 := Fin.ext (by have := z0.isLt; omega)
  obtain rfl : z1 = 0 := Fin.ext (by have := z1.isLt; omega)
  obtain rfl : z2 = 0 := Fin.ext (by have := z2.isLt; omega)
  exact hf

theorem out_block_lane3 (z : S1x1x128.Idx) : (r0_25.emb z) 2 = vlane 3 (z 2) := by
  idx_vars z
  exact Fin.ext (by show _ + _ = _; simp [vlane])
theorem out_block_place3 (z : S1x1x128.Idx) : bOut x0 x1 x2 x3 x4 x5 x6 x7 x8 3 (z 2) = bOut x0 x1 x2 x3 x4 x5 x6 x7 x8 (vhead ((r0_25.emb z) 2)) (vplace ((r0_25.emb z) 2)) :=
  (congrArg₂ (bOut x0 x1 x2 x3 x4 x5 x6 x7 x8) ((congrArg vhead (out_block_lane3 z)).trans (vhead_vlane 3 _)) ((congrArg vplace (out_block_lane3 z)).trans (vplace_vlane 3 _))).symm
theorem out_block3 (z : S1x1x128.Idx) : (k0_pay72 (F := Ideal) (k0_pay69 (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21)) (k0_pay70 (k0_pay77 x0 x1 x2 x3 x4 x5 x6 x7 x8) (k0_pay78 x0 x1 x2 x3 x4 x5 x6 x7 x8) (k0_pay95 x0 x1 x2 x3 x4 x5 x6 x7 x8) (k0_pay96 x0 x1 x2 x3 x4 x5 x6 x7 x8) (k0_pay97 x0 x1 x2 x3 x4 x5 x6 x7 x8) (View.ld x7 r0_23) (View.ld x8 r0_21)) (k0_pay71 (F := Ideal)) (View.ld x6 r0_24) (View.ld x3 r0_25) z : EReal) = bOut x0 x1 x2 x3 x4 x5 x6 x7 x8 (vhead ((r0_25.emb z) 2)) (vplace ((r0_25.emb z) 2)) :=
  (at_lane _ _ (out3_at x0 x1 x2 x3 x4 x5 x6 x7 x8) z).trans (out_block_place3 x0 x1 x2 x3 x4 x5 x6 x7 x8 z)

theorem out_block_lane2 (z : S1x1x128.Idx) : (r0_19.emb z) 2 = vlane 2 (z 2) := by
  idx_vars z
  exact Fin.ext (by show _ + _ = _; simp [vlane])
theorem out_block_place2 (z : S1x1x128.Idx) : bOut x0 x1 x2 x3 x4 x5 x6 x7 x8 2 (z 2) = bOut x0 x1 x2 x3 x4 x5 x6 x7 x8 (vhead ((r0_19.emb z) 2)) (vplace ((r0_19.emb z) 2)) :=
  (congrArg₂ (bOut x0 x1 x2 x3 x4 x5 x6 x7 x8) ((congrArg vhead (out_block_lane2 z)).trans (vhead_vlane 2 _)) ((congrArg vplace (out_block_lane2 z)).trans (vplace_vlane 2 _))).symm
theorem out_block2 (z : S1x1x128.Idx) : (k0_pay55 (F := Ideal) (k0_pay53 (k0_pay42 (View.ld x0 r0_15)) (k0_pay90 x0 x1 x2 x3 x4 x5 x6 x7 x8) (k0_pay91 x0 x1 x2 x3 x4 x5 x6 x7 x8) (k0_pay93 x0 x1 x2 x3 x4 x5 x6 x7 x8) (k0_pay50 (k0_pay75 x0 x1 x2 x3 x4 x5 x6 x7 x8) (k0_pay77 x0 x1 x2 x3 x4 x5 x6 x7 x8) (k0_pay78 x0 x1 x2 x3 x4 x5 x6 x7 x8) (View.ld x0 r0_15)) (k0_pay94 x0 x1 x2 x3 x4 x5 x6 x7 x8) (View.ld x8 r0_15) (View.ld x6 r0_18)) (k0_pay54 (View.ld x3 r0_19)) z : EReal) = bOut x0 x1 x2 x3 x4 x5 x6 x7 x8 (vhead ((r0_19.emb z) 2)) (vplace ((r0_19.emb z) 2)) :=
  (at_lane _ _ (out2_at x0 x1 x2 x3 x4 x5 x6 x7 x8) z).trans (out_block_place2 x0 x1 x2 x3 x4 x5 x6 x7 x8 z)

theorem out_block_lane1 (z : S1x1x128.Idx) : (r0_13.emb z) 2 = vlane 1 (z 2) := by
  idx_vars z
  exact Fin.ext (by show _ + _ = _; simp [vlane])
theorem out_block_place1 (z : S1x1x128.Idx) : bOut x0 x1 x2 x3 x4 x5 x6 x7 x8 1 (z 2) = bOut x0 x1 x2 x3 x4 x5 x6 x7 x8 (vhead ((r0_13.emb z) 2)) (vplace ((r0_13.emb z) 2)) :=
  (congrArg₂ (bOut x0 x1 x2 x3 x4 x5 x6 x7 x8) ((congrArg vhead (out_block_lane1 z)).trans (vhead_vlane 1 _)) ((congrArg vplace (out_block_lane1 z)).trans (vplace_vlane 1 _))).symm
theorem out_block1 (z : S1x1x128.Idx) : (k0_pay37 (F := Ideal) (k0_pay87 x0 x1 x2 x3 x4 x5 x6 x7 x8) (k0_pay32 (k0_pay75 x0 x1 x2 x3 x4 x5 x6 x7 x8) (k0_pay77 x0 x1 x2 x3 x4 x5 x6 x7 x8) (k0_pay78 x0 x1 x2 x3 x4 x5 x6 x7 x8) (View.ld x0 r0_9)) (k0_pay35 (k0_pay75 x0 x1 x2 x3 x4 x5 x6 x7 x8) (k0_pay77 x0 x1 x2 x3 x4 x5 x6 x7 x8) (k0_pay78 x0 x1 x2 x3 x4 x5 x6 x7 x8) (View.ld x0 r0_9) (View.ld x2 r0_10) (View.ld x7 r0_11)) (k0_pay36 (k0_pay77 x0 x1 x2 x3 x4 x5 x6 x7 x8) (k0_pay78 x0 x1 x2 x3 x4 x5 x6 x7 x8) (View.ld x0 r0_9) (View.ld x8 r0_9)) (View.ld x6 r0_12) (View.ld x3 r0_13) z : EReal) = bOut x0 x1 x2 x3 x4 x5 x6 x7 x8 (vhead ((r0_13.emb z) 2)) (vplace ((r0_13.emb z) 2)) :=
  (at_lane _ _ (out1_at x0 x1 x2 x3 x4 x5 x6 x7 x8) z).trans (out_block_place1 x0 x1 x2 x3 x4 x5 x6 x7 x8 z)

theorem out_block_lane0 (z : S1x1x128.Idx) : (r0_7.emb z) 2 = vlane 0 (z 2) := by
  idx_vars z
  exact Fin.ext (by show _ + _ = _; simp [vlane])
theorem out_block_place0 (z : S1x1x128.Idx) : bOut x0 x1 x2 x3 x4 x5 x6 x7 x8 0 (z 2) = bOut x0 x1 x2 x3 x4 x5 x6 x7 x8 (vhead ((r0_7.emb z) 2)) (vplace ((r0_7.emb z) 2)) :=
  (congrArg₂ (bOut x0 x1 x2 x3 x4 x5 x6 x7 x8) ((congrArg vhead (out_block_lane0 z)).trans (vhead_vlane 0 _)) ((congrArg vplace (out_block_lane0 z)).trans (vplace_vlane 0 _))).symm
theorem out_block0 (z : S1x1x128.Idx) : (k0_pay20 (F := Ideal) (k0_pay18 (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3)) (k0_pay19 (k0_pay79 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8) (k0_pay84 x0 x1 x2 x3 x4 x5 x6 x7 x8) (View.ld x7 r0_5) (View.ld x8 r0_3)) (View.ld x6 r0_6) (View.ld x3 r0_7) z : EReal) = bOut x0 x1 x2 x3 x4 x5 x6 x7 x8 (vhead ((r0_7.emb z) 2)) (vplace ((r0_7.emb z) 2)) :=
  (at_lane _ _ (out0_at x0 x1 x2 x3 x4 x5 x6 x7 x8) z).trans (out_block_place0 x0 x1 x2 x3 x4 x5 x6 x7 x8 z)

theorem out_block (y : S1x1x512.Idx) : (out0_9 (F := Ideal) x0 x1 x2 x3 x4 x5 x6 x7 x8 y : EReal) = (fun y : S1x1x512.Idx => bOut x0 x1 x2 x3 x4 x5 x6 x7 x8 (vhead (y 2)) (vplace (y 2))) y := by
  unfold out0_9
  refine View.canon_apply_of_pieces (Val := Elt Ideal) ((fun y : S1x1x512.Idx => bOut x0 x1 x2 x3 x4 x5 x6 x7 x8 (vhead (y 2)) (vplace (y 2))) : FVec Ideal S1x1x512 .f32) _ ?_ y (cover0_9 _ _ _ _ y)
  intro pc hpc
  rcases List.mem_cons.mp hpc with rfl | hpc
  · exact fun z => out_block3 x0 x1 x2 x3 x4 x5 x6 x7 x8 z
  rcases List.mem_cons.mp hpc with rfl | hpc
  · exact fun z => out_block2 x0 x1 x2 x3 x4 x5 x6 x7 x8 z
  rcases List.mem_cons.mp hpc with rfl | hpc
  · exact fun z => out_block1 x0 x1 x2 x3 x4 x5 x6 x7 x8 z
  rcases List.mem_cons.mp hpc with rfl | hpc
  · exact fun z => out_block0 x0 x1 x2 x3 x4 x5 x6 x7 x8 z
  nomatch hpc

theorem matrix_block_head3 (z : S1x1x64x128.Idx) : (r0_23.emb z) 1 = (3 : Fin 4) := by
  idx_vars z
  exact Fin.ext (by show _ + _ = _; simp)
theorem matrix_block_row3 (z : S1x1x64x128.Idx) : (r0_23.emb z) 2 = z 2 := by
  idx_vars z
  exact Fin.ext (by show _ + _ = _; simp)
theorem matrix_block_col3 (z : S1x1x64x128.Idx) : (r0_23.emb z) 3 = z 3 := by
  idx_vars z
  exact Fin.ext (by show _ + _ = _; simp)
theorem matrix_block_place3 (z : S1x1x64x128.Idx) : bMatrix x1 x2 x4 x5 x7 3 (z 2) (z 3) = bMatrix x1 x2 x4 x5 x7 ((r0_23.emb z) 1) ((r0_23.emb z) 2) ((r0_23.emb z) 3) := by
  rw [matrix_block_head3, matrix_block_row3, matrix_block_col3]
theorem matrix_block3 (hx : ∀ (h : Fin 4) (d : Fin 64), x1 (ix3 0 h d) ≠ (⊤ : EReal) ∧ x1 (ix3 0 h d) ≠ (⊥ : EReal)) (z : S1x1x64x128.Idx) : (k0_pay73 (F := Ideal) (k0_pay76 x0 x1 x2 x3 x4 x5 x6 x7 x8) (k0_pay97 x0 x1 x2 x3 x4 x5 x6 x7 x8) (k0_pay98 x0 x1 x2 x3 x4 x5 x6 x7 x8) (k0_pay99 x0 x1 x2 x3 x4 x5 x6 x7 x8) (k0_pay67 (View.ld x7 r0_23)) z : EReal) = bMatrix x1 x2 x4 x5 x7 ((r0_23.emb z) 1) ((r0_23.emb z) 2) ((r0_23.emb z) 3) :=
  (at_cell _ _ (matrix3_at x0 x1 x2 x3 x4 x5 x6 x7 x8 hx) z).trans (matrix_block_place3 x1 x2 x4 x5 x7 z)

theorem matrix_block_head2 (z : S1x1x64x128.Idx) : (r0_17.emb z) 1 = (2 : Fin 4) := by
  idx_vars z
  exact Fin.ext (by show _ + _ = _; simp)
theorem matrix_block_row2 (z : S1x1x64x128.Idx) : (r0_17.emb z) 2 = z 2 := by
  idx_vars z
  exact Fin.ext (by show _ + _ = _; simp)
theorem matrix_block_col2 (z : S1x1x64x128.Idx) : (r0_17.emb z) 3 = z 3 := by
  idx_vars z
  exact Fin.ext (by show _ + _ = _; simp)
theorem matrix_block_place2 (z : S1x1x64x128.Idx) : bMatrix x1 x2 x4 x5 x7 2 (z 2) (z 3) = bMatrix x1 x2 x4 x5 x7 ((r0_17.emb z) 1) ((r0_17.emb z) 2) ((r0_17.emb z) 3) := by
  rw [matrix_block_head2, matrix_block_row2, matrix_block_col2]
theorem matrix_block2 (hx : ∀ (h : Fin 4) (d : Fin 64), x1 (ix3 0 h d) ≠ (⊤ : EReal) ∧ x1 (ix3 0 h d) ≠ (⊥ : EReal)) (z : S1x1x64x128.Idx) : (k0_pay56 (F := Ideal) (k0_pay76 x0 x1 x2 x3 x4 x5 x6 x7 x8) (k0_pay90 x0 x1 x2 x3 x4 x5 x6 x7 x8) (k0_pay92 x0 x1 x2 x3 x4 x5 x6 x7 x8) (k0_pay93 x0 x1 x2 x3 x4 x5 x6 x7 x8) (k0_pay94 x0 x1 x2 x3 x4 x5 x6 x7 x8) z : EReal) = bMatrix x1 x2 x4 x5 x7 ((r0_17.emb z) 1) ((r0_17.emb z) 2) ((r0_17.emb z) 3) :=
  (at_cell _ _ (matrix2_at x0 x1 x2 x3 x4 x5 x6 x7 x8 hx) z).trans (matrix_block_place2 x1 x2 x4 x5 x7 z)

theorem matrix_block_head1 (z : S1x1x64x128.Idx) : (r0_11.emb z) 1 = (1 : Fin 4) := by
  idx_vars z
  exact Fin.ext (by show _ + _ = _; simp)
theorem matrix_block_row1 (z : S1x1x64x128.Idx) : (r0_11.emb z) 2 = z 2 := by
  idx_vars z
  exact Fin.ext (by show _ + _ = _; simp)
theorem matrix_block_col1 (z : S1x1x64x128.Idx) : (r0_11.emb z) 3 = z 3 := by
  idx_vars z
  exact Fin.ext (by show _ + _ = _; simp)
theorem matrix_block_place1 (z : S1x1x64x128.Idx) : bMatrix x1 x2 x4 x5 x7 1 (z 2) (z 3) = bMatrix x1 x2 x4 x5 x7 ((r0_11.emb z) 1) ((r0_11.emb z) 2) ((r0_11.emb z) 3) := by
  rw [matrix_block_head1, matrix_block_row1, matrix_block_col1]
theorem matrix_block1 (hx : ∀ (h : Fin 4) (d : Fin 64), x1 (ix3 0 h d) ≠ (⊤ : EReal) ∧ x1 (ix3 0 h d) ≠ (⊥ : EReal)) (z : S1x1x64x128.Idx) : (k0_pay39 (F := Ideal) (k0_pay38 (k0_pay76 x0 x1 x2 x3 x4 x5 x6 x7 x8) (k0_pay26 (View.ld x2 r0_10)) (k0_pay88 x0 x1 x2 x3 x4 x5 x6 x7 x8) (k0_pay89 x0 x1 x2 x3 x4 x5 x6 x7 x8) (k0_pay33 (View.ld x7 r0_11))) z : EReal) = bMatrix x1 x2 x4 x5 x7 ((r0_11.emb z) 1) ((r0_11.emb z) 2) ((r0_11.emb z) 3) :=
  (at_cell _ _ (matrix1_at x0 x1 x2 x3 x4 x5 x6 x7 x8 hx) z).trans (matrix_block_place1 x1 x2 x4 x5 x7 z)

theorem matrix_block_head0 (z : S1x1x64x128.Idx) : (r0_5.emb z) 1 = (0 : Fin 4) := by
  idx_vars z
  exact Fin.ext (by show _ + _ = _; simp)
theorem matrix_block_row0 (z : S1x1x64x128.Idx) : (r0_5.emb z) 2 = z 2 := by
  idx_vars z
  exact Fin.ext (by show _ + _ = _; simp)
theorem matrix_block_col0 (z : S1x1x64x128.Idx) : (r0_5.emb z) 3 = z 3 := by
  idx_vars z
  exact Fin.ext (by show _ + _ = _; simp)
theorem matrix_block_place0 (z : S1x1x64x128.Idx) : bMatrix x1 x2 x4 x5 x7 0 (z 2) (z 3) = bMatrix x1 x2 x4 x5 x7 ((r0_5.emb z) 1) ((r0_5.emb z) 2) ((r0_5.emb z) 3) := by
  rw [matrix_block_head0, matrix_block_row0, matrix_block_col0]
theorem matrix_block0 (hx : ∀ (h : Fin 4) (d : Fin 64), x1 (ix3 0 h d) ≠ (⊤ : EReal) ∧ x1 (ix3 0 h d) ≠ (⊥ : EReal)) (z : S1x1x64x128.Idx) : (k0_pay21 (F := Ideal) (k0_pay76 x0 x1 x2 x3 x4 x5 x6 x7 x8) (k0_pay81 x0 x1 x2 x3 x4 x5 x6 x7 x8) (k0_pay85 x0 x1 x2 x3 x4 x5 x6 x7 x8) (k0_pay86 x0 x1 x2 x3 x4 x5 x6 x7 x8) (k0_pay16 (View.ld x7 r0_5)) z : EReal) = bMatrix x1 x2 x4 x5 x7 ((r0_5.emb z) 1) ((r0_5.emb z) 2) ((r0_5.emb z) 3) :=
  (at_cell _ _ (matrix0_at x0 x1 x2 x3 x4 x5 x6 x7 x8 hx) z).trans (matrix_block_place0 x1 x2 x4 x5 x7 z)

theorem matrix_block (hx : ∀ (h : Fin 4) (d : Fin 64), x1 (ix3 0 h d) ≠ (⊤ : EReal) ∧ x1 (ix3 0 h d) ≠ (⊥ : EReal)) (y : S1x4x64x128.Idx) : (out0_10 (F := Ideal) x0 x1 x2 x3 x4 x5 x6 x7 x8 y : EReal) = (fun y : S1x4x64x128.Idx => bMatrix x1 x2 x4 x5 x7 (y 1) (y 2) (y 3)) y := by
  unfold out0_10
  refine View.canon_apply_of_pieces (Val := Elt Ideal) ((fun y : S1x4x64x128.Idx => bMatrix x1 x2 x4 x5 x7 (y 1) (y 2) (y 3)) : FVec Ideal S1x4x64x128 .f32) _ ?_ y (cover0_10 _ _ _ _ y)
  intro pc hpc
  rcases List.mem_cons.mp hpc with rfl | hpc
  · exact fun z => matrix_block3 x0 x1 x2 x3 x4 x5 x6 x7 x8 hx z
  rcases List.mem_cons.mp hpc with rfl | hpc
  · exact fun z => matrix_block2 x0 x1 x2 x3 x4 x5 x6 x7 x8 hx z
  rcases List.mem_cons.mp hpc with rfl | hpc
  · exact fun z => matrix_block1 x0 x1 x2 x3 x4 x5 x6 x7 x8 hx z
  rcases List.mem_cons.mp hpc with rfl | hpc
  · exact fun z => matrix_block0 x0 x1 x2 x3 x4 x5 x6 x7 x8 hx z
  nomatch hpc

theorem sum_block_head3 (z : S1x1x64.Idx) : (r0_21.emb z) 1 = (3 : Fin 4) := by
  idx_vars z
  exact Fin.ext (by show _ + _ = _; simp)
theorem sum_block_row3 (z : S1x1x64.Idx) : (r0_21.emb z) 2 = z 2 := by
  idx_vars z
  exact Fin.ext (by show _ + _ = _; simp)
theorem sum_block_place3 (z : S1x1x64.Idx) : bSum x1 x4 x5 x8 3 (z 2) = bSum x1 x4 x5 x8 ((r0_21.emb z) 1) ((r0_21.emb z) 2) := by
  rw [sum_block_head3, sum_block_row3]
theorem sum_block3 (z : S1x1x64.Idx) : (k0_pay74 (F := Ideal) (k0_pay96 x0 x1 x2 x3 x4 x5 x6 x7 x8) (k0_pay98 x0 x1 x2 x3 x4 x5 x6 x7 x8) (k0_pay99 x0 x1 x2 x3 x4 x5 x6 x7 x8) (k0_pay68 (View.ld x8 r0_21)) z : EReal) = bSum x1 x4 x5 x8 ((r0_21.emb z) 1) ((r0_21.emb z) 2) :=
  (at_row _ _ (sum3_at x0 x1 x2 x3 x4 x5 x6 x7 x8) z).trans (sum_block_place3 x1 x4 x5 x8 z)

theorem sum_block_head2 (z : S1x1x64.Idx) : (r0_15.emb z) 1 = (2 : Fin 4) := by
  idx_vars z
  exact Fin.ext (by show _ + _ = _; simp)
theorem sum_block_row2 (z : S1x1x64.Idx) : (r0_15.emb z) 2 = z 2 := by
  idx_vars z
  exact Fin.ext (by show _ + _ = _; simp)
theorem sum_block_place2 (z : S1x1x64.Idx) : bSum x1 x4 x5 x8 2 (z 2) = bSum x1 x4 x5 x8 ((r0_15.emb z) 1) ((r0_15.emb z) 2) := by
  rw [sum_block_head2, sum_block_row2]
theorem sum_block2 (z : S1x1x64.Idx) : (k0_pay57 (F := Ideal) (k0_pay43 (k0_pay75 x0 x1 x2 x3 x4 x5 x6 x7 x8)) (k0_pay92 x0 x1 x2 x3 x4 x5 x6 x7 x8) (k0_pay93 x0 x1 x2 x3 x4 x5 x6 x7 x8) (k0_pay52 (View.ld x8 r0_15)) z : EReal) = bSum x1 x4 x5 x8 ((r0_15.emb z) 1) ((r0_15.emb z) 2) :=
  (at_row _ _ (sum2_at x0 x1 x2 x3 x4 x5 x6 x7 x8) z).trans (sum_block_place2 x1 x4 x5 x8 z)

theorem sum_block_head1 (z : S1x1x64.Idx) : (r0_9.emb z) 1 = (1 : Fin 4) := by
  idx_vars z
  exact Fin.ext (by show _ + _ = _; simp)
theorem sum_block_row1 (z : S1x1x64.Idx) : (r0_9.emb z) 2 = z 2 := by
  idx_vars z
  exact Fin.ext (by show _ + _ = _; simp)
theorem sum_block_place1 (z : S1x1x64.Idx) : bSum x1 x4 x5 x8 1 (z 2) = bSum x1 x4 x5 x8 ((r0_9.emb z) 1) ((r0_9.emb z) 2) := by
  rw [sum_block_head1, sum_block_row1]
theorem sum_block1 (z : S1x1x64.Idx) : (k0_pay40 (F := Ideal) (k0_pay25 (k0_pay75 x0 x1 x2 x3 x4 x5 x6 x7 x8)) (k0_pay88 x0 x1 x2 x3 x4 x5 x6 x7 x8) (k0_pay89 x0 x1 x2 x3 x4 x5 x6 x7 x8) (k0_pay34 (View.ld x8 r0_9)) z : EReal) = bSum x1 x4 x5 x8 ((r0_9.emb z) 1) ((r0_9.emb z) 2) :=
  (at_row _ _ (sum1_at x0 x1 x2 x3 x4 x5 x6 x7 x8) z).trans (sum_block_place1 x1 x4 x5 x8 z)

theorem sum_block_head0 (z : S1x1x64.Idx) : (r0_3.emb z) 1 = (0 : Fin 4) := by
  idx_vars z
  exact Fin.ext (by show _ + _ = _; simp)
theorem sum_block_row0 (z : S1x1x64.Idx) : (r0_3.emb z) 2 = z 2 := by
  idx_vars z
  exact Fin.ext (by show _ + _ = _; simp)
theorem sum_block_place0 (z : S1x1x64.Idx) : bSum x1 x4 x5 x8 0 (z 2) = bSum x1 x4 x5 x8 ((r0_3.emb z) 1) ((r0_3.emb z) 2) := by
  rw [sum_block_head0, sum_block_row0]
theorem sum_block0 (z : S1x1x64.Idx) : (k0_pay22 (F := Ideal) (k0_pay80 x0 x1 x2 x3 x4 x5 x6 x7 x8) (k0_pay85 x0 x1 x2 x3 x4 x5 x6 x7 x8) (k0_pay86 x0 x1 x2 x3 x4 x5 x6 x7 x8) (k0_pay17 (View.ld x8 r0_3)) z : EReal) = bSum x1 x4 x5 x8 ((r0_3.emb z) 1) ((r0_3.emb z) 2) :=
  (at_row _ _ (sum0_at x0 x1 x2 x3 x4 x5 x6 x7 x8) z).trans (sum_block_place0 x1 x4 x5 x8 z)

theorem sum_block (y : S1x4x64.Idx) : (out0_11 (F := Ideal) x0 x1 x2 x3 x4 x5 x6 x7 x8 y : EReal) = (fun y : S1x4x64.Idx => bSum x1 x4 x5 x8 (y 1) (y 2)) y := by
  unfold out0_11
  refine View.canon_apply_of_pieces (Val := Elt Ideal) ((fun y : S1x4x64.Idx => bSum x1 x4 x5 x8 (y 1) (y 2)) : FVec Ideal S1x4x64 .f32) _ ?_ y (cover0_11 _ _ _ _ y)
  intro pc hpc
  rcases List.mem_cons.mp hpc with rfl | hpc
  · exact fun z => sum_block3 x0 x1 x2 x3 x4 x5 x6 x7 x8 z
  rcases List.mem_cons.mp hpc with rfl | hpc
  · exact fun z => sum_block2 x0 x1 x2 x3 x4 x5 x6 x7 x8 z
  rcases List.mem_cons.mp hpc with rfl | hpc
  · exact fun z => sum_block1 x0 x1 x2 x3 x4 x5 x6 x7 x8 z
  rcases List.mem_cons.mp hpc with rfl | hpc
  · exact fun z => sum_block0 x0 x1 x2 x3 x4 x5 x6 x7 x8 z
  nomatch hpc

theorem scale_block_head3 (z : S1x1x1.Idx) : (r0_26.emb z) 2 = (3 : Fin 4) := by
  idx_vars z
  exact Fin.ext (by show _ + _ = _; simp)
theorem scale_block_place3 (z : S1x1x1.Idx) : bScale x4 x5 3 = bScale x4 x5 ((r0_26.emb z) 2) := by
  rw [scale_block_head3]
theorem scale_block3 (z : S1x1x1.Idx) : (k0_pay1 (F := Ideal) (k0_pay64 (k0_pay77 x0 x1 x2 x3 x4 x5 x6 x7 x8) (k0_pay78 x0 x1 x2 x3 x4 x5 x6 x7 x8)) z : EReal) = bScale x4 x5 ((r0_26.emb z) 2) :=
  (at_one _ _ (scale3_at x0 x1 x2 x3 x4 x5 x6 x7 x8) z).trans (scale_block_place3 x4 x5 z)

theorem scale_block_head2 (z : S1x1x1.Idx) : (r0_20.emb z) 2 = (2 : Fin 4) := by
  idx_vars z
  exact Fin.ext (by show _ + _ = _; simp)
theorem scale_block_place2 (z : S1x1x1.Idx) : bScale x4 x5 2 = bScale x4 x5 ((r0_20.emb z) 2) := by
  rw [scale_block_head2]
theorem scale_block2 (z : S1x1x1.Idx) : (k0_pay58 (F := Ideal) (k0_pay91 x0 x1 x2 x3 x4 x5 x6 x7 x8) z : EReal) = bScale x4 x5 ((r0_20.emb z) 2) :=
  (at_one _ _ (scale2_at x0 x1 x2 x3 x4 x5 x6 x7 x8) z).trans (scale_block_place2 x4 x5 z)

theorem scale_block_head1 (z : S1x1x1.Idx) : (r0_14.emb z) 2 = (1 : Fin 4) := by
  idx_vars z
  exact Fin.ext (by show _ + _ = _; simp)
theorem scale_block_place1 (z : S1x1x1.Idx) : bScale x4 x5 1 = bScale x4 x5 ((r0_14.emb z) 2) := by
  rw [scale_block_head1]
theorem scale_block1 (z : S1x1x1.Idx) : (k0_pay41 (F := Ideal) (k0_pay87 x0 x1 x2 x3 x4 x5 x6 x7 x8) z : EReal) = bScale x4 x5 ((r0_14.emb z) 2) :=
  (at_one _ _ (scale1_at x0 x1 x2 x3 x4 x5 x6 x7 x8) z).trans (scale_block_place1 x4 x5 z)

theorem scale_block_head0 (z : S1x1x1.Idx) : (r0_8.emb z) 2 = (0 : Fin 4) := by
  idx_vars z
  exact Fin.ext (by show _ + _ = _; simp)
theorem scale_block_place0 (z : S1x1x1.Idx) : bScale x4 x5 0 = bScale x4 x5 ((r0_8.emb z) 2) := by
  rw [scale_block_head0]
theorem scale_block0 (z : S1x1x1.Idx) : (k0_pay23 (F := Ideal) (k0_pay13 (k0_pay82 x0 x1 x2 x3 x4 x5 x6 x7 x8) (k0_pay83 x0 x1 x2 x3 x4 x5 x6 x7 x8) (k0_pay84 x0 x1 x2 x3 x4 x5 x6 x7 x8)) z : EReal) = bScale x4 x5 ((r0_8.emb z) 2) :=
  (at_one _ _ (scale0_at x0 x1 x2 x3 x4 x5 x6 x7 x8) z).trans (scale_block_place0 x4 x5 z)

theorem scale_block (y : S1x1x4.Idx) : (out0_12 (F := Ideal) x0 x1 x2 x3 x4 x5 x6 x7 x8 y : EReal) = (fun y : S1x1x4.Idx => bScale x4 x5 (y 2)) y := by
  unfold out0_12
  refine View.canon_apply_of_pieces (Val := Elt Ideal) ((fun y : S1x1x4.Idx => bScale x4 x5 (y 2)) : FVec Ideal S1x1x4 .f32) _ ?_ y (cover0_12 _ _ _ _ y)
  intro pc hpc
  rcases List.mem_cons.mp hpc with rfl | hpc
  · exact fun z => scale_block3 x0 x1 x2 x3 x4 x5 x6 x7 x8 z
  rcases List.mem_cons.mp hpc with rfl | hpc
  · exact fun z => scale_block2 x0 x1 x2 x3 x4 x5 x6 x7 x8 z
  rcases List.mem_cons.mp hpc with rfl | hpc
  · exact fun z => scale_block1 x0 x1 x2 x3 x4 x5 x6 x7 x8 z
  rcases List.mem_cons.mp hpc with rfl | hpc
  · exact fun z => scale_block0 x0 x1 x2 x3 x4 x5 x6 x7 x8 z
  nomatch hpc

end Cert.Kernel8Ideal.RefValue

end
-- ==== Proof.MlstmValue.lean ====
module

public import proofs.«01_k».proof.Proof.MlstmBlock
public import Idealize.ShloMosaic.Lib.Claim

@[expose] public section

set_option maxRecDepth 16384

noncomputable section

namespace Cert.Kernel8Ideal.RefValue

open Cert.Kernel8Ideal Cert.Kernel8Ideal.Gen Cert.Rows
open Idealize.ShloMosaic Idealize.ShloMosaic.TcCoe Idealize.SL.Sem
open Idealize.ShloMosaic.Pipeline (Dat)

section Functions

variable (q k : FVec Ideal S128x1x4x64 .f32) (v : FVec Ideal S128x1x4x128 .f32) (o : FVec Ideal S128x1x512 .f32) (ig lf : FVec Ideal S128x1x4 .f32)
  (g : FVec Ideal S1x512 .f32) (sc : FVec Ideal S1x128x4x64x128 .f32) (sn : FVec Ideal S1x128x4x64 .f32) (sm : FVec Ideal S1x128x4 .f32)

/-- Head `h`'s row of sequence `s`, before it is scaled and gated. -/
def seqRow (s : Fin 128) (h : Fin 4) : Fin 128 → EReal :=
  readRow (fun d : Fin 64 => q (ix4 s 0 h d)) (fun d => k (ix4 s 0 h d)) (fun e => v (ix4 s 0 h e)) (ig (ix3 s 0 h)) (lf (ix3 s 0 h)) (sm (ix3 0 s h))
    (fun d e => sc (ix5 0 s h d e)) (fun d => sn (ix4 0 s h d))

/-- The four results of the step. -/
def hmOut : FVec Ideal S128x1x512 .f32 := fun i =>
  gatedRow (seqRow q k v ig lf sc sn sm (i 0) (vhead (i 2))) (fun e => g (ix2 0 (vlane (vhead (i 2)) e))) (fun e => o (ix3 (i 0) 0 (vlane (vhead (i 2)) e))) (vplace (i 2))
def matrixOut : FVec Ideal S128x4x64x128 .f32 := fun i =>
  newMatrix (fun d : Fin 64 => k (ix4 (i 0) 0 (i 1) d)) (fun e : Fin 128 => v (ix4 (i 0) 0 (i 1) e)) (ig (ix3 (i 0) 0 (i 1))) (lf (ix3 (i 0) 0 (i 1))) (sm (ix3 0 (i 0) (i 1)))
    (fun d e => sc (ix5 0 (i 0) (i 1) d e)) (i 2) (i 3)
def sumOut : FVec Ideal S128x4x64 .f32 := fun i =>
  newSum (fun d : Fin 64 => k (ix4 (i 0) 0 (i 1) d)) (ig (ix3 (i 0) 0 (i 1))) (lf (ix3 (i 0) 0 (i 1))) (sm (ix3 0 (i 0) (i 1))) (fun d => sn (ix4 0 (i 0) (i 1) d)) (i 2)
def scaleOut : FVec Ideal S128x1x4 .f32 := fun i => newScale (ig (ix3 (i 0) 0 (i 2))) (lf (ix3 (i 0) 0 (i 2))) (sm (ix3 0 (i 0) (i 2)))

end Functions

variable (m : (ℓ : Loc nD τ sig) → Buf (Elt Ideal) ℓ)

theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![0, 0] ∧ win0_7.index t = ![t.val, 0, 0, 0] ∧ win0_8.index t = ![t.val, 0, 0] ∧ win0_9.index t = ![t.val, 0, 0] ∧ win0_10.index t = ![t.val, 0, 0, 0] ∧ win0_11.index t = ![t.val, 0, 0] ∧ win0_12.index t = ![t.val, 0, 0] ∧ t.val < 128 :=
  (by decide +kernel : ∀ t : Fin grid0.N, _)

theorem point_lt (t : Fin cfg0.N) : t.val < 128 := (idx t).2.2.2.2.2.2.2.2.2.2.2.2.2

/-- The sequence of grid point `t`. -/
def seqAt (t : Fin cfg0.N) : Fin 128 := ⟨t.val, point_lt t⟩

/-! The arrays the host hands the kernel, at their entries. -/

def rowsOf (x : FVec Ideal S128x1x4x64 .f32) : FVec Ideal S128x4x64 .bf16 :=
  shapeCast S128x4x64 (truncf .bf16 (shapeCast S128x256 x shapeCasts_S128x1x4x64_S128x256 : FVec Ideal S128x256 .f32) bitsLt_bf16_f32 : FVec Ideal S128x256 .bf16) shapeCasts_S128x256_S128x4x64
def valuesOf (x : FVec Ideal S128x1x4x128 .f32) : FVec Ideal S128x4x128 .bf16 :=
  shapeCast S128x4x128 (truncf .bf16 (shapeCast S128x512 x shapeCasts_S128x1x4x128_S128x512 : FVec Ideal S128x512 .f32) bitsLt_bf16_f32 : FVec Ideal S128x512 .bf16) shapeCasts_S128x512_S128x4x128
def outGateOf (x : FVec Ideal S128x1x512 .f32) : FVec Ideal S128x1x512 .f32 :=
  shapeCast S128x1x512 (shapeCast S128x512 x shapeCasts_S128x1x512_S128x512 : FVec Ideal S128x512 .f32) shapeCasts_S128x512_S128x1x512
def gainsOf (x : FVec Ideal S1x512 .f32) : FVec Ideal S1x512 .f32 :=
  broadcastInDim S1x512 ![1] bcast_S512_S1x512_1 (shapeCast S512 x shapeCasts_S1x512_S512 : FVec Ideal S512 .f32)
def gateRowsOf (x y : FVec Ideal S128x1x4 .f32) : FVec Ideal S128x128 .f32 :=
  concatenate S128x128 1 [⟨S128x4, (shapeCast S128x4 x shapeCasts_S128x1x4_S128x4 : FVec Ideal S128x4 .f32)⟩, ⟨S128x4, (shapeCast S128x4 y shapeCasts_S128x1x4_S128x4 : FVec Ideal S128x4 .f32)⟩,
    ⟨S128x120, (broadcastInDim S128x120 ![] bcast_S_S128x120 (constant S_ .f32 0x00000000#32) : FVec Ideal S128x120 .f32)⟩] concatenates_S128x4_S128x4_S128x120_S128x128_d1
def gatesOf (x y : FVec Ideal S128x1x4 .f32) : FVec Ideal S128x1x128 .f32 := shapeCast S128x1x128 (gateRowsOf x y) shapeCasts_S128x128_S128x1x128
def scaleOf (x : FVec Ideal S1x128x4 .f32) : FVec Ideal S128x1x4 .f32 :=
  shapeCast S128x1x4 (shapeCast S128x4 x shapeCasts_S1x128x4_S128x4 : FVec Ideal S128x4 .f32) shapeCasts_S128x4_S128x1x4
def matrixOf (x : FVec Ideal S1x128x4x64x128 .f32) : FVec Ideal S128x4x64x128 .f32 := shapeCast S128x4x64x128 x shapeCasts_S1x128x4x64x128_S128x4x64x128
def sumOf (x : FVec Ideal S1x128x4x64 .f32) : FVec Ideal S128x4x64 .f32 := shapeCast S128x4x64 x shapeCasts_S1x128x4x64_S128x4x64

theorem rowsOf_at (x : FVec Ideal S128x1x4x64 .f32) (s : Fin 128) (h : Fin 4) (d : Fin 64) : (rowsOf x (ix3 s h d) : EReal) = x (ix4 s 0 h d) := by
  pointwise [rowsOf]
theorem valuesOf_at (x : FVec Ideal S128x1x4x128 .f32) (s : Fin 128) (h : Fin 4) (e : Fin 128) : (valuesOf x (ix3 s h e) : EReal) = x (ix4 s 0 h e) := by
  pointwise [valuesOf]
theorem outGateOf_at (x : FVec Ideal S128x1x512 .f32) (s : Fin 128) (j : Fin 512) : (outGateOf x (ix3 s 0 j) : EReal) = x (ix3 s 0 j) := by
  pointwise [outGateOf]
theorem gainsOf_at (x : FVec Ideal S1x512 .f32) (j : Fin 512) : (gainsOf x (ix2 0 j) : EReal) = x (ix2 0 j) := by
  pointwise [gainsOf]
theorem gatesOf_in (x y : FVec Ideal S128x1x4 .f32) (s : Fin 128) (h : Fin 4) : (gatesOf x y (ix3 s 0 ⟨h.val, by omega⟩) : EReal) = x (ix3 s 0 h) := by
  have hh := h.isLt
  pointwise [gatesOf, gateRowsOf, hh]
theorem gatesOf_fg (x y : FVec Ideal S128x1x4 .f32) (s : Fin 128) (h : Fin 4) : (gatesOf x y (ix3 s 0 ⟨4 + h.val, by omega⟩) : EReal) = y (ix3 s 0 h) := by
  have hh : ¬ 4 + h.val < 4 := by omega
  have h4 : 4 + h.val - 4 = h.val := by omega
  have h5 := h.isLt
  pointwise [gatesOf, gateRowsOf, hh, h4, h5]
theorem scaleOf_at (x : FVec Ideal S1x128x4 .f32) (s : Fin 128) (h : Fin 4) : (scaleOf x (ix3 s 0 h) : EReal) = x (ix3 0 s h) := by
  pointwise [scaleOf]
theorem matrixOf_at (x : FVec Ideal S1x128x4x64x128 .f32) (s : Fin 128) (h : Fin 4) (d : Fin 64) (e : Fin 128) : (matrixOf x (ix4 s h d e) : EReal) = x (ix5 0 s h d e) := by
  pointwise [matrixOf]
theorem sumOf_at (x : FVec Ideal S1x128x4x64 .f32) (s : Fin 128) (h : Fin 4) (d : Fin 64) : (sumOf x (ix3 s h d) : EReal) = x (ix4 0 s h d) := by
  pointwise [sumOf]

theorem hQ (c : Dev nD) : (V m c main_v16 : FVec Ideal S128x4x64 .bf16) = rowsOf (m ((c : Thread nD τ).loc main_arg0)) := by
  unfold V
  simp only [hostOps0, List.flatten_cons, List.flatten_nil, List.append_nil, List.cons_append, List.nil_append]
  after_results
  rfl

theorem hK (c : Dev nD) : (V m c main_v17 : FVec Ideal S128x4x64 .bf16) = rowsOf (m ((c : Thread nD τ).loc main_arg1)) := by
  unfold V
  simp only [hostOps0, List.flatten_cons, List.flatten_nil, List.append_nil, List.cons_append, List.nil_append]
  after_results
  rfl

theorem hV (c : Dev nD) : (V m c main_v18 : FVec Ideal S128x4x128 .bf16) = valuesOf (m ((c : Thread nD τ).loc main_arg2)) := by
  unfold V
  simp only [hostOps0, List.flatten_cons, List.flatten_nil, List.append_nil, List.cons_append, List.nil_append]
  after_results
  rfl

theorem hO (c : Dev nD) : (V m c main_v19 : FVec Ideal S128x1x512 .f32) = outGateOf (m ((c : Thread nD τ).loc main_arg3)) := by
  unfold V
  simp only [hostOps0, List.flatten_cons, List.flatten_nil, List.append_nil, List.cons_append, List.nil_append]
  after_results
  rfl

theorem hG (c : Dev nD) : (V m c main_v20 : FVec Ideal S128x1x128 .f32) = gatesOf (m ((c : Thread nD τ).loc main_arg4)) (m ((c : Thread nD τ).loc main_arg5)) := by
  unfold V
  simp only [hostOps0, List.flatten_cons, List.flatten_nil, List.append_nil, List.cons_append, List.nil_append]
  after_results
  rfl

theorem hM (c : Dev nD) : (V m c main_v21 : FVec Ideal S128x1x4 .f32) = scaleOf (m ((c : Thread nD τ).loc main_arg9)) := by
  unfold V
  simp only [hostOps0, List.flatten_cons, List.flatten_nil, List.append_nil, List.cons_append, List.nil_append]
  after_results
  rfl

theorem hW (c : Dev nD) : (V m c main_v12 : FVec Ideal S1x512 .f32) = gainsOf (m ((c : Thread nD τ).loc main_arg6)) := by
  unfold V
  simp only [hostOps0, List.flatten_cons, List.flatten_nil, List.append_nil, List.cons_append, List.nil_append]
  after_results
  rfl

theorem hC (c : Dev nD) : (V m c main_v13 : FVec Ideal S128x4x64x128 .f32) = matrixOf (m ((c : Thread nD τ).loc main_arg7)) := by
  unfold V
  simp only [hostOps0, List.flatten_cons, List.flatten_nil, List.append_nil, List.cons_append, List.nil_append]
  after_results
  rfl

theorem hN (c : Dev nD) : (V m c main_v14 : FVec Ideal S128x4x64 .f32) = sumOf (m ((c : Thread nD τ).loc main_arg8)) := by
  unfold V
  simp only [hostOps0, List.flatten_cons, List.flatten_nil, List.append_nil, List.cons_append, List.nil_append]
  after_results
  rfl

theorem blk0 (c : Dev nD) (t : Fin cfg0.N) (h : Fin 4) (d : Fin 64) :
    ((iblk m c 0 t : FVec Ideal S1x4x64 .bf16) (ix3 0 h d) : EReal) = ((m ((c : Thread nD τ).loc main_arg0)) : FVec Ideal S128x1x4x64 .f32) (ix4 (seqAt t) 0 h d) := by
  have b : (iblk m c 0 t : FVec Ideal S1x4x64 .bf16) (ix3 0 h d) = (V m c main_v16 : FVec Ideal S128x4x64 .bf16) (ix3 (seqAt t) h d) := by
    blk_simp [iblk]
    blk_ext [idx t, seqAt]
  rw [b, hQ]
  exact rowsOf_at _ _ h d

theorem blk1 (c : Dev nD) (t : Fin cfg0.N) (h : Fin 4) (d : Fin 64) :
    ((iblk m c 1 t : FVec Ideal S1x4x64 .bf16) (ix3 0 h d) : EReal) = ((m ((c : Thread nD τ).loc main_arg1)) : FVec Ideal S128x1x4x64 .f32) (ix4 (seqAt t) 0 h d) := by
  have b : (iblk m c 1 t : FVec Ideal S1x4x64 .bf16) (ix3 0 h d) = (V m c main_v17 : FVec Ideal S128x4x64 .bf16) (ix3 (seqAt t) h d) := by
    blk_simp [iblk]
    blk_ext [idx t, seqAt]
  rw [b, hK]
  exact rowsOf_at _ _ h d

theorem blk2 (c : Dev nD) (t : Fin cfg0.N) (h : Fin 4) (e : Fin 128) :
    ((iblk m c 2 t : FVec Ideal S1x4x128 .bf16) (ix3 0 h e) : EReal) = ((m ((c : Thread nD τ).loc main_arg2)) : FVec Ideal S128x1x4x128 .f32) (ix4 (seqAt t) 0 h e) := by
  have b : (iblk m c 2 t : FVec Ideal S1x4x128 .bf16) (ix3 0 h e) = (V m c main_v18 : FVec Ideal S128x4x128 .bf16) (ix3 (seqAt t) h e) := by
    blk_simp [iblk]
    blk_ext [idx t, seqAt]
  rw [b, hV]
  exact valuesOf_at _ _ h e

theorem blk3 (c : Dev nD) (t : Fin cfg0.N) (j : Fin 512) :
    ((iblk m c 3 t : FVec Ideal S1x1x512 .f32) (ix3 0 0 j) : EReal) = ((m ((c : Thread nD τ).loc main_arg3)) : FVec Ideal S128x1x512 .f32) (ix3 (seqAt t) 0 j) := by
  have b : (iblk m c 3 t : FVec Ideal S1x1x512 .f32) (ix3 0 0 j) = (V m c main_v19 : FVec Ideal S128x1x512 .f32) (ix3 (seqAt t) 0 j) := by
    blk_simp [iblk]
    blk_ext [idx t, seqAt]
  rw [b, hO]
  exact outGateOf_at _ _ j

theorem blk5 (c : Dev nD) (t : Fin cfg0.N) (h : Fin 4) :
    ((iblk m c 5 t : FVec Ideal S1x1x4 .f32) (ix3 0 0 h) : EReal) = ((m ((c : Thread nD τ).loc main_arg9)) : FVec Ideal S1x128x4 .f32) (ix3 0 (seqAt t) h) := by
  have b : (iblk m c 5 t : FVec Ideal S1x1x4 .f32) (ix3 0 0 h) = (V m c main_v21 : FVec Ideal S128x1x4 .f32) (ix3 (seqAt t) 0 h) := by
    blk_simp [iblk]
    blk_ext [idx t, seqAt]
  rw [b, hM]
  exact scaleOf_at _ _ h

theorem blk6 (c : Dev nD) (t : Fin cfg0.N) (j : Fin 512) :
    ((iblk m c 6 t : FVec Ideal S1x512 .f32) (ix2 0 j) : EReal) = ((m ((c : Thread nD τ).loc main_arg6)) : FVec Ideal S1x512 .f32) (ix2 0 j) := by
  have b : (iblk m c 6 t : FVec Ideal S1x512 .f32) (ix2 0 j) = (V m c main_v12 : FVec Ideal S1x512 .f32) (ix2 0 j) := by
    blk_simp [iblk]
    blk_ext [idx t, seqAt]
  rw [b, hW]
  exact gainsOf_at _ j

theorem blk7 (c : Dev nD) (t : Fin cfg0.N) (h : Fin 4) (d : Fin 64) (e : Fin 128) :
    ((iblk m c 7 t : FVec Ideal S1x4x64x128 .f32) (ix4 0 h d e) : EReal) = ((m ((c : Thread nD τ).loc main_arg7)) : FVec Ideal S1x128x4x64x128 .f32) (ix5 0 (seqAt t) h d e) := by
  have b : (iblk m c 7 t : FVec Ideal S1x4x64x128 .f32) (ix4 0 h d e) = (V m c main_v13 : FVec Ideal S128x4x64x128 .f32) (ix4 (seqAt t) h d e) := by
    blk_simp [iblk]
    blk_ext [idx t, seqAt]
  rw [b, hC]
  exact matrixOf_at _ _ h d e

theorem blk8 (c : Dev nD) (t : Fin cfg0.N) (h : Fin 4) (d : Fin 64) :
    ((iblk m c 8 t : FVec Ideal S1x4x64 .f32) (ix3 0 h d) : EReal) = ((m ((c : Thread nD τ).loc main_arg8)) : FVec Ideal S1x128x4x64 .f32) (ix4 0 (seqAt t) h d) := by
  have b : (iblk m c 8 t : FVec Ideal S1x4x64 .f32) (ix3 0 h d) = (V m c main_v14 : FVec Ideal S128x4x64 .f32) (ix3 (seqAt t) h d) := by
    blk_simp [iblk]
    blk_ext [idx t, seqAt]
  rw [b, hN]
  exact sumOf_at _ _ h d

theorem blk4a (c : Dev nD) (t : Fin cfg0.N) (h : Fin 4) :
    ((iblk m c 4 t : FVec Ideal S1x1x128 .f32) (ix3 0 0 ⟨h.val, by omega⟩) : EReal) = ((m ((c : Thread nD τ).loc main_arg4)) : FVec Ideal S128x1x4 .f32) (ix3 (seqAt t) 0 h) := by
  have b : (iblk m c 4 t : FVec Ideal S1x1x128 .f32) (ix3 0 0 ⟨h.val, by omega⟩) = (V m c main_v20 : FVec Ideal S128x1x128 .f32) (ix3 (seqAt t) 0 ⟨h.val, by omega⟩) := by
    blk_simp [iblk]
    blk_ext [idx t, seqAt]
  rw [b, hG]
  exact gatesOf_in _ _ _ h

theorem blk4b (c : Dev nD) (t : Fin cfg0.N) (h : Fin 4) :
    ((iblk m c 4 t : FVec Ideal S1x1x128 .f32) (ix3 0 0 ⟨4 + h.val, by omega⟩) : EReal) = ((m ((c : Thread nD τ).loc main_arg5)) : FVec Ideal S128x1x4 .f32) (ix3 (seqAt t) 0 h) := by
  have b : (iblk m c 4 t : FVec Ideal S1x1x128 .f32) (ix3 0 0 ⟨4 + h.val, by omega⟩) = (V m c main_v20 : FVec Ideal S128x1x128 .f32) (ix3 (seqAt t) 0 ⟨4 + h.val, by omega⟩) := by
    blk_simp [iblk]
    blk_ext [idx t, seqAt]
  rw [b, hG]
  exact gatesOf_fg _ _ _ h

theorem bIn_eq (c : Dev nD) (t : Fin cfg0.N) (h : Fin 4) : bIn (iblk m c 4 t) h = ((m ((c : Thread nD τ).loc main_arg4)) : FVec Ideal S128x1x4 .f32) (ix3 (seqAt t) 0 h) := blk4a m c t h
theorem bFg_eq (c : Dev nD) (t : Fin cfg0.N) (h : Fin 4) : bFg (iblk m c 4 t) h = ((m ((c : Thread nD τ).loc main_arg5)) : FVec Ideal S128x1x4 .f32) (ix3 (seqAt t) 0 h) := blk4b m c t h
theorem bMax_eq (c : Dev nD) (t : Fin cfg0.N) (h : Fin 4) : bMax (iblk m c 5 t) h = ((m ((c : Thread nD τ).loc main_arg9)) : FVec Ideal S1x128x4 .f32) (ix3 0 (seqAt t) h) := blk5 m c t h

theorem bRow_eq (c : Dev nD) (t : Fin cfg0.N) (h : Fin 4) :
    bRow (iblk m c 0 t) (iblk m c 1 t) (iblk m c 2 t) (iblk m c 4 t) (iblk m c 5 t) (iblk m c 7 t) (iblk m c 8 t) h
      = seqRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) (seqAt t) h := by
  unfold bRow seqRow
  rw [bIn_eq, bFg_eq, bMax_eq]
  simp only [blk0, blk1, blk2, blk7, blk8]

theorem bOut_eq (c : Dev nD) (t : Fin cfg0.N) (h : Fin 4) (e : Fin 128) :
    bOut (iblk m c 0 t) (iblk m c 1 t) (iblk m c 2 t) (iblk m c 3 t) (iblk m c 4 t) (iblk m c 5 t) (iblk m c 6 t) (iblk m c 7 t) (iblk m c 8 t) h e
      = gatedRow (seqRow (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg8)) (m ((c : Thread nD τ).loc main_arg9)) (seqAt t) h) (fun e => ((m ((c : Thread nD τ).loc main_arg6)) : FVec Ideal S1x512 .f32) (ix2 0 (vlane h e))) (fun e => ((m ((c : Thread nD τ).loc main_arg3)) : FVec Ideal S128x1x512 .f32) (ix3 (seqAt t) 0 (vlane h e))) e := by
  unfold bOut
  rw [bRow_eq]
  simp only [blk3, blk6]

theorem bMatrix_eq (c : Dev nD) (t : Fin cfg0.N) (h : Fin 4) (d : Fin 64) (e : Fin 128) :
    bMatrix (iblk m c 1 t) (iblk m c 2 t) (iblk m c 4 t) (iblk m c 5 t) (iblk m c 7 t) h d e
      = matrixOut (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9)) (ix4 (seqAt t) h d e) := by
  unfold bMatrix
  rw [bIn_eq, bFg_eq, bMax_eq]
  simp only [blk1, blk2, blk7]
  rfl

theorem bSum_eq (c : Dev nD) (t : Fin cfg0.N) (h : Fin 4) (d : Fin 64) :
    bSum (iblk m c 1 t) (iblk m c 4 t) (iblk m c 5 t) (iblk m c 8 t) h d
      = sumOut (m ((c : Thread nD τ).loc main_arg1)) (m ((c : Thread nD τ).loc main_arg4)) (m ((c : Thread nD τ).loc main_arg5)) (m ((c : Thread nD τ).loc main_arg8)) (m ((c : Thread nD τ).loc main_arg9)) (ix3 (seqAt t) h d) := by
  unfold bSum
  rw [bIn_eq, bFg_eq, bMax_eq]
  simp only [blk1, blk8]
  rfl

theorem bScale_eq (c : Dev nD) (t : Fin cfg0.N) (h : Fin 4) :
    bScale (iblk m c 4 t) (iblk m c 5 t) h = scaleOut (m ((c : Thread nD τ).loc main_arg4)) (m ((c : Thread nD τ).loc main_arg5)) (m ((c : Thread nD τ).loc main_arg9)) (ix3 (seqAt t) 0 h) := by
  unfold bScale
  rw [bIn_eq, bFg_eq, bMax_eq]
  rfl

theorem final_hm (c : Dev nD) : (dats m 0 c).arrAt 9 (cfgs 0).N = (hmOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (dats m 0 c).arrAt_eq_of_covers 9 _ (by decide +kernel) fun t _ y => ?_
  blk_simp
  rw [after0_9]
  refine (out_block (iblk m c 0 t) (iblk m c 1 t) (iblk m c 2 t) (iblk m c 3 t) (iblk m c 4 t) (iblk m c 5 t) (iblk m c 6 t) (iblk m c 7 t) (iblk m c 8 t) y).trans ?_
  idx_vars y
  refine (bOut_eq m c t (vhead y2) (vplace y2)).trans ?_
  have ee : ((View.whole main_v22_0).slice (win0_9.rect t)).emb (ix3 y0 y1 y2) = (ix3 (seqAt t) 0 y2 : S128x1x512.Idx) := by
    blk_ext [idx t, seqAt]
  exact (show _ = (hmOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix3 (seqAt t) 0 y2 : S128x1x512.Idx) from rfl).trans (congrArg (hmOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ee.symm)

theorem final_matrix (c : Dev nD) (hk : ∀ (s : Fin 128) (h : Fin 4) (d : Fin 64), ((m ((c : Thread nD τ).loc main_arg1)) : FVec Ideal S128x1x4x64 .f32) (ix4 s 0 h d) ≠ (⊤ : EReal) ∧ ((m ((c : Thread nD τ).loc main_arg1)) : FVec Ideal S128x1x4x64 .f32) (ix4 s 0 h d) ≠ (⊥ : EReal)) : (dats m 0 c).arrAt 10 (cfgs 0).N = (matrixOut (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9))) := by
  refine (dats m 0 c).arrAt_eq_of_covers 10 _ (by decide +kernel) fun t _ y => ?_
  blk_simp
  rw [after0_10]
  refine (matrix_block (iblk m c 0 t) (iblk m c 1 t) (iblk m c 2 t) (iblk m c 3 t) (iblk m c 4 t) (iblk m c 5 t) (iblk m c 6 t) (iblk m c 7 t) (iblk m c 8 t) (fun h d => by rw [blk1]; exact hk _ h d) y).trans ?_
  idx_vars y
  refine (bMatrix_eq m c t y1 y2 y3).trans ?_
  have ee : ((View.whole main_v22_1).slice (win0_10.rect t)).emb (ix4 y0 y1 y2 y3) = (ix4 (seqAt t) y1 y2 y3 : S128x4x64x128.Idx) := by
    blk_ext [idx t, seqAt]
  exact (show _ = (matrixOut (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9))) (ix4 (seqAt t) y1 y2 y3 : S128x4x64x128.Idx) from rfl).trans (congrArg (matrixOut (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg9))) ee.symm)

theorem final_sum (c : Dev nD) : (dats m 0 c).arrAt 11 (cfgs 0).N = (sumOut (m ((c : Thread nD τ).loc main_arg1)) (m ((c : Thread nD τ).loc main_arg4)) (m ((c : Thread nD τ).loc main_arg5)) (m ((c : Thread nD τ).loc main_arg8)) (m ((c : Thread nD τ).loc main_arg9))) := by
  refine (dats m 0 c).arrAt_eq_of_covers 11 _ (by decide +kernel) fun t _ y => ?_
  blk_simp
  rw [after0_11]
  refine (sum_block (iblk m c 0 t) (iblk m c 1 t) (iblk m c 2 t) (iblk m c 3 t) (iblk m c 4 t) (iblk m c 5 t) (iblk m c 6 t) (iblk m c 7 t) (iblk m c 8 t) y).trans ?_
  idx_vars y
  refine (bSum_eq m c t y1 y2).trans ?_
  have ee : ((View.whole main_v22_2).slice (win0_11.rect t)).emb (ix3 y0 y1 y2) = (ix3 (seqAt t) y1 y2 : S128x4x64.Idx) := by
    blk_ext [idx t, seqAt]
  exact (show _ = (sumOut (m ((c : Thread nD τ).loc main_arg1)) (m ((c : Thread nD τ).loc main_arg4)) (m ((c : Thread nD τ).loc main_arg5)) (m ((c : Thread nD τ).loc main_arg8)) (m ((c : Thread nD τ).loc main_arg9))) (ix3 (seqAt t) y1 y2 : S128x4x64.Idx) from rfl).trans (congrArg (sumOut (m ((c : Thread nD τ).loc main_arg1)) (m ((c : Thread nD τ).loc main_arg4)) (m ((c : Thread nD τ).loc main_arg5)) (m ((c : Thread nD τ).loc main_arg8)) (m ((c : Thread nD τ).loc main_arg9))) ee.symm)

theorem final_scale (c : Dev nD) : (dats m 0 c).arrAt 12 (cfgs 0).N = (scaleOut (m ((c : Thread nD τ).loc main_arg4)) (m ((c : Thread nD τ).loc main_arg5)) (m ((c : Thread nD τ).loc main_arg9))) := by
  refine (dats m 0 c).arrAt_eq_of_covers 12 _ (by decide +kernel) fun t _ y => ?_
  blk_simp
  rw [after0_12]
  refine (scale_block (iblk m c 0 t) (iblk m c 1 t) (iblk m c 2 t) (iblk m c 3 t) (iblk m c 4 t) (iblk m c 5 t) (iblk m c 6 t) (iblk m c 7 t) (iblk m c 8 t) y).trans ?_
  idx_vars y
  refine (bScale_eq m c t y2).trans ?_
  have ee : ((View.whole main_v22_3).slice (win0_12.rect t)).emb (ix3 y0 y1 y2) = (ix3 (seqAt t) 0 y2 : S128x1x4.Idx) := by
    blk_ext [idx t, seqAt]
  exact (show _ = (scaleOut (m ((c : Thread nD τ).loc main_arg4)) (m ((c : Thread nD τ).loc main_arg5)) (m ((c : Thread nD τ).loc main_arg9))) (ix3 (seqAt t) 0 y2 : S128x1x4.Idx) from rfl).trans (congrArg (scaleOut (m ((c : Thread nD τ).loc main_arg4)) (m ((c : Thread nD τ).loc main_arg5)) (m ((c : Thread nD τ).loc main_arg9))) ee.symm)

end Cert.Kernel8Ideal.RefValue

end
-- ==== Proof.MlstmRef.lean ====
module

public import proofs.«01_k».proof.Proof.MlstmValue
public import proofs.«01_k».proof.Proof.Gen.Reference8Ideal.Run

@[expose] public section

set_option maxRecDepth 16384

noncomputable section

namespace Cert.Reference8Ideal.RefValue

open Cert.Reference8Ideal Cert.Reference8Ideal.Gen Cert.Reference8Ideal.Value Cert.Rows
open Idealize.ShloMosaic Idealize.ShloMosaic.TcCoe Idealize.SL.Sem

/-! The running sum of the forget gates over a chunk of one token is the gate. -/

theorem foldl_one {n : Nat} (hn : n = 1) (f : EReal → Fin n → EReal) (a : EReal) : (List.finRange n).foldl f a = f a ⟨0, by omega⟩ := by
  subst hn
  rfl

def runningT (x : FVec Ideal S128x4x1 .f32) : FVec Ideal S128x4x1 .f32 :=
  Host.reduceWindowAdd ![1, 1, 1] ![1, 1, 1] ![0, 0, 0] ![0, 0, 0] x (broadcastInDim S_ ![] bcast_S_S_ (constant S_ .f32 0x00000000#32) : FVec Ideal S_ .f32)
    reduceWindows_S128x4x1_S128x4x1_w1s1p0_0_w1s1p0_0_w1s1p0_0 h_S_

theorem runningT_at (x : FVec Ideal S128x4x1 .f32) (s : Fin 128) (h : Fin 4) : (runningT x (ix3 s h 0) : EReal) = x (ix3 s h 0) := by
  unfold runningT Host.reduceWindowAdd
  rw [Ideal.hostReduceWindowAdd_def]
  unfold Ideal.hostReduceWindowAdd Host.reduceWindow
  have hW : Shape.numel (⟨S128x4x1.rank, ![1, 1, 1]⟩ : Shape) = 1 := by decide
  refine (foldl_one hW _ _).trans ?_
  have hz : (broadcastInDim S_ ![] bcast_S_S_ (constant S_ .f32 0x00000000#32) : FVec Ideal S_ .f32) (Shape.Idx.first h_S_) = (0 : EReal) := by
    show Ideal.ofBits .f32 0x00000000#32 = 0
    simp
  have hw : ∀ (y : (⟨S128x4x1.rank, ![1, 1, 1]⟩ : Shape).Idx) (a : Fin 3), (y a).val = 0 := fun y a => by
    have := (y a).isLt
    fin_cases a <;> exact Nat.lt_one_iff.1 this
  rw [hz]
  refine (zero_add (_ : EReal)).trans ?_
  rw [dif_pos]
  · refine congrArg x (funext fun a => Fin.ext ?_)
    show _ * _ + _ - _ = _
    rw [hw]
    fin_cases a <;> simp
  · intro a
    refine ⟨by fin_cases a <;> exact Nat.zero_le _, ?_⟩
    show _ * _ + _ - _ < _
    rw [hw]
    fin_cases a
    · simpa using s.isLt
    · simpa using h.isLt
    · simp

/-- The causal mask of a chunk of one token is one. -/
def maskT : IVec S1x1 1 :=
  select (cmpi .sge (addi (iotaInDim S1x1 32 0) (broadcastInDim S1x1 ![] bcast_S_S1x1 (constantI S_ 32 0#32))) (iotaInDim S1x1 32 1))
    (broadcastInDim S1x1 ![] bcast_S_S1x1 (constantI S_ 1 1#1)) (broadcastInDim S1x1 ![] bcast_S_S1x1 (constantI S_ 1 0#1))

theorem maskT_at : maskT (ix2 0 0) = 1#1 := by rfl

theorem low_bits : Ideal.ofBits .f32 0xFF800000#32 = (⊥ : EReal) := by
  simp [Ideal.ofBits, Ideal.ieee]

theorem one_bits : Ideal.ofBits .f32 0x3F800000#32 = (1 : EReal) := by
  simp

theorem fold_low (f : Fin 1 → EReal) : Finset.univ.fold max (⊥ : EReal) f = f 0 := by
  rw [Finset.univ_unique, Finset.fold_singleton]
  exact max_eq_left bot_le

/-! The stages of the chunk, each a function of the arrays it reads: the gates `b` and `i`, the carried scale `p`. -/

def causalT (d : FVec Ideal S128x4x1x1 .f32) : FVec Ideal S128x4x1x1 .f32 :=
  select (broadcastInDim S128x4x1x1 ![2, 3] bcast_S1x1_S128x4x1x1_2_3 maskT) d (broadcastInDim S128x4x1x1 ![] bcast_S_S128x4x1x1 (id (constant S_ .f32 0xFF800000#32) : FVec Ideal S_ .f32))

theorem causalT_at (d : FVec Ideal S128x4x1x1 .f32) (s : Fin 128) (h : Fin 4) : (causalT d (ix4 s h 0 0) : EReal) = d (ix4 s h 0 0) := by
  pointwise [causalT, maskT_at]

def scoreT (b i : FVec Ideal S128x4x1 .f32) : FVec Ideal S128x4x1x1 .f32 :=
  causalT (addf (subf (broadcastInDim S128x4x1x1 ![0, 1, 2] bcast_S128x4x1_S128x4x1x1_0_1_2 b) (broadcastInDim S128x4x1x1 ![0, 1, 3] bcast_S128x4x1_S128x4x1x1_0_1_3 b))
    (broadcastInDim S128x4x1x1 ![0, 1, 3] bcast_S128x4x1_S128x4x1x1_0_1_3 i))

theorem scoreT_at (b i : FVec Ideal S128x4x1 .f32) (s : Fin 128) (h : Fin 4) (hb : b (ix3 s h 0) ≠ (⊤ : EReal) ∧ b (ix3 s h 0) ≠ (⊥ : EReal)) :
    (scoreT b i (ix4 s h 0 0) : EReal) = i (ix3 s h 0) := by
  unfold scoreT
  rw [causalT_at]
  refine Eq.trans (b := ((b (ix3 s h 0) : EReal) - b (ix3 s h 0) + i (ix3 s h 0) : EReal)) (by pointwise) ?_
  rw [sub_self_of_finite hb, zero_add]

def carriedT (b : FVec Ideal S128x4x1 .f32) (p : FVec Ideal S128x4 .f32) : FVec Ideal S128x4x1 .f32 :=
  addf b (broadcastInDim S128x4x1 ![0, 1] bcast_S128x4_S128x4x1_0_1 p)

theorem carriedT_at (b : FVec Ideal S128x4x1 .f32) (p : FVec Ideal S128x4 .f32) (s : Fin 128) (h : Fin 4) :
    (carriedT b p (ix3 s h 0) : EReal) = b (ix3 s h 0) + p (ix2 s h) := by
  pointwise [carriedT]

def maxT (u : FVec Ideal S128x4x1 .f32) (d : FVec Ideal S128x4x1x1 .f32) : FVec Ideal S128x4x1 .f32 :=
  maximumf u (Host.reduce FloatOps.maximumf d (constant S_ .f32 0xFF800000#32) reducesTo_S128x4x1x1_S128x4x1_d3 h_S_)

theorem maxT_at (u : FVec Ideal S128x4x1 .f32) (d : FVec Ideal S128x4x1x1 .f32) (s : Fin 128) (h : Fin 4) :
    (maxT u d (ix3 s h 0) : EReal) = max (u (ix3 s h 0) : EReal) (d (ix4 s h 0 0)) := by
  refine Eq.trans (b := max (u (ix3 s h 0) : EReal) (Finset.univ.fold max (Ideal.ofBits .f32 0xFF800000#32) fun k : Fin 1 => (d (ix4 s h 0 k) : EReal))) (by pointwise [maxT]) ?_
  rw [low_bits, fold_low]

def tokenWT (d : FVec Ideal S128x4x1x1 .f32) (n : FVec Ideal S128x4x1 .f32) : FVec Ideal S128x4x1x1 .f32 :=
  Host.exp (subf d (broadcastInDim S128x4x1x1 ![0, 1, 2] bcast_S128x4x1_S128x4x1x1_0_1_2 n))

theorem tokenWT_at (d : FVec Ideal S128x4x1x1 .f32) (n : FVec Ideal S128x4x1 .f32) (s : Fin 128) (h : Fin 4) :
    (tokenWT d n (ix4 s h 0 0) : EReal) = Ideal.exp ((d (ix4 s h 0 0) : EReal) - n (ix3 s h 0)) := by
  pointwise [tokenWT]

def keptWT (u n : FVec Ideal S128x4x1 .f32) : FVec Ideal S128x4x1 .f32 := Host.exp (subf u n)

theorem keptWT_at (u n : FVec Ideal S128x4x1 .f32) (s : Fin 128) (h : Fin 4) :
    (keptWT u n (ix3 s h 0) : EReal) = Ideal.exp ((u (ix3 s h 0) : EReal) - n (ix3 s h 0)) := by
  pointwise [keptWT]

def qkT (q k : FVec Ideal S128x4x1x64 .f32) (w : FVec Ideal S128x4x1x1 .f32) : FVec Ideal S128x4x1x1 .f32 :=
  mulf (Host.dotGeneral dot_S128x4x1x64_S128x4x1x64_S128x4x1x1_3_3_2_2_01_01 none q k) w

theorem qkT_at (q k : FVec Ideal S128x4x1x64 .f32) (w : FVec Ideal S128x4x1x1 .f32) (s : Fin 128) (h : Fin 4) :
    (qkT q k w (ix4 s h 0 0) : EReal) = (∑ d : Fin 64, (q (ix4 s h 0 d) : EReal) * k (ix4 s h 0 d)) * w (ix4 s h 0 0) := by
  pointwise [qkT]

def numT (a : FVec Ideal S128x4x1 .f32) (q : FVec Ideal S128x4x1x64 .f32) (c : FVec Ideal S128x4x64x128 .f32) (t : FVec Ideal S128x4x1x1 .f32) (v : FVec Ideal S128x4x1x128 .f32) : FVec Ideal S128x4x1x128 .f32 :=
  addf (mulf (broadcastInDim S128x4x1x128 ![0, 1, 2, 3] bcast_S128x4x1x1_S128x4x1x128_0_1_2_3 (broadcastInDim S128x4x1x1 ![0, 1, 2] bcast_S128x4x1_S128x4x1x1_0_1_2 a))
      (Host.dotGeneral dot_S128x4x1x64_S128x4x64x128_S128x4x1x128_3_2_2_3_01_01 none q c))
    (Host.dotGeneral dot_S128x4x1x1_S128x4x1x128_S128x4x1x128_3_2_2_3_01_01 none t v)

theorem numT_at (a : FVec Ideal S128x4x1 .f32) (q : FVec Ideal S128x4x1x64 .f32) (c : FVec Ideal S128x4x64x128 .f32) (t : FVec Ideal S128x4x1x1 .f32) (v : FVec Ideal S128x4x1x128 .f32)
    (s : Fin 128) (h : Fin 4) (e : Fin 128) :
    (numT a q c t v (ix4 s h 0 e) : EReal) = (a (ix3 s h 0) : EReal) * (∑ d : Fin 64, (q (ix4 s h 0 d) : EReal) * c (ix4 s h d e)) + (t (ix4 s h 0 0) : EReal) * v (ix4 s h 0 e) := by
  refine Eq.trans (b := (a (ix3 s h 0) : EReal) * (∑ d : Fin 64, (q (ix4 s h 0 d) : EReal) * c (ix4 s h d e)) + ∑ z : Fin 1, (t (ix4 s h 0 z) : EReal) * v (ix4 s h z e)) (by pointwise [numT]) ?_
  rw [Fin.sum_univ_one]

def denT (a : FVec Ideal S128x4x1 .f32) (q : FVec Ideal S128x4x1x64 .f32) (n : FVec Ideal S128x4x64 .f32) (t : FVec Ideal S128x4x1x1 .f32) : FVec Ideal S128x4x1 .f32 :=
  addf (mulf a (Host.dotGeneral dot_S128x4x1x64_S128x4x64_S128x4x1_3_2_2_n_01_01 none q n)) (Host.reduceAdd t (constant S_ .f32 0x00000000#32) reducesTo_S128x4x1x1_S128x4x1_d3 h_S_)

theorem denT_at (a : FVec Ideal S128x4x1 .f32) (q : FVec Ideal S128x4x1x64 .f32) (n : FVec Ideal S128x4x64 .f32) (t : FVec Ideal S128x4x1x1 .f32) (s : Fin 128) (h : Fin 4) :
    (denT a q n t (ix3 s h 0) : EReal) = (a (ix3 s h 0) : EReal) * (∑ d : Fin 64, (q (ix4 s h 0 d) : EReal) * n (ix3 s h d)) + t (ix4 s h 0 0) := by
  refine Eq.trans (b := (a (ix3 s h 0) : EReal) * (∑ d : Fin 64, (q (ix4 s h 0 d) : EReal) * n (ix3 s h d)) + ∑ z : Fin 1, (t (ix4 s h 0 z) : EReal)) (by pointwise [denT]) ?_
  rw [Fin.sum_univ_one]

def floorT (d n : FVec Ideal S128x4x1 .f32) : FVec Ideal S128x4x1 .f32 := maximumf (Host.absf d) (Host.exp (Host.negf n))

theorem floorT_at (d n : FVec Ideal S128x4x1 .f32) (s : Fin 128) (h : Fin 4) :
    (floorT d n (ix3 s h 0) : EReal) = max (max (d (ix3 s h 0) : EReal) (-(d (ix3 s h 0) : EReal))) (Ideal.exp (-(n (ix3 s h 0) : EReal))) := by
  pointwise [floorT, Ideal.absf_def]

def rowT (u : FVec Ideal S128x4x1x128 .f32) (d : FVec Ideal S128x4x1 .f32) : FVec Ideal S128x4x1x128 .f32 :=
  Host.divf u (broadcastInDim S128x4x1x128 ![0, 1, 2, 3] bcast_S128x4x1x1_S128x4x1x128_0_1_2_3 (broadcastInDim S128x4x1x1 ![0, 1, 2] bcast_S128x4x1_S128x4x1x1_0_1_2 d))

theorem rowT_at (u : FVec Ideal S128x4x1x128 .f32) (d : FVec Ideal S128x4x1 .f32) (s : Fin 128) (h : Fin 4) (e : Fin 128) :
    (rowT u d (ix4 s h 0 e) : EReal) = Ideal.div (u (ix4 s h 0 e)) (d (ix3 s h 0)) := by
  pointwise [rowT]

def normT (r : FVec Ideal S128x1x4x128 .f32) : FVec Ideal S128x1x4x128 .f32 :=
  mulf r (broadcastInDim S128x1x4x128 ![0, 1, 2, 3] bcast_S128x1x4x1_S128x1x4x128_0_1_2_3
    (Host.rsqrt (addf (Host.divf (broadcastInDim S128x1x4x1 ![0, 1, 2] bcast_S128x1x4_S128x1x4x1_0_1_2 (Host.reduceAdd (mulf r r) (constant S_ .f32 0x00000000#32) reducesTo_S128x1x4x128_S128x1x4_d3 h_S_))
        (broadcastInDim S128x1x4x1 ![] bcast_S_S128x1x4x1 (constant S_ .f32 0x43000000#32)))
      (broadcastInDim S128x1x4x1 ![] bcast_S_S128x1x4x1 (constant S_ .f32 0x358637BD#32)))))

theorem normT_at (r : FVec Ideal S128x1x4x128 .f32) (s : Fin 128) (h : Fin 4) (e : Fin 128) :
    (normT r (ix4 s 0 h e) : EReal) = (r (ix4 s 0 h e) : EReal) * Ideal.rsqrt (Ideal.div (∑ k : Fin 128, (r (ix4 s 0 h k) : EReal) * r (ix4 s 0 h k)) (Ideal.ofBits .f32 0x43000000#32) + Ideal.ofBits .f32 0x358637BD#32) := by
  pointwise [normT]

def gatedT (r : FVec Ideal S128x1x4x128 .f32) (g : FVec Ideal S1x512 .f32) (o : FVec Ideal S128x1x512 .f32) : FVec Ideal S128x1x512 .f32 :=
  mulf (mulf (shapeCast S128x1x512 r shapeCasts_S128x1x4x128_S128x1x512)
      (broadcastInDim S128x1x512 ![0, 1, 2] bcast_S1x1x512_S128x1x512_0_1_2 (broadcastInDim S1x1x512 ![2] bcast_S512_S1x1x512_2 (shapeCast S512 g shapeCasts_S1x512_S512))))
    (Host.divf (broadcastInDim S128x1x512 ![] bcast_S_S128x1x512 (constant S_ .f32 0x3F800000#32)) (addf (broadcastInDim S128x1x512 ![] bcast_S_S128x1x512 (constant S_ .f32 0x3F800000#32)) (Host.exp (Host.negf o))))

theorem gatedT_at (r : FVec Ideal S128x1x4x128 .f32) (g : FVec Ideal S1x512 .f32) (o : FVec Ideal S128x1x512 .f32) (s : Fin 128) (j : Fin 512) :
    (gatedT r g o (ix3 s 0 j) : EReal) = (r (ix4 s 0 (Cert.Kernel8Ideal.RefValue.vhead j) (Cert.Kernel8Ideal.RefValue.vplace j)) : EReal) * g (ix2 0 j) * Ideal.div 1 (1 + Ideal.exp (-(o (ix3 s 0 j) : EReal))) := by
  pointwise [gatedT, Cert.Kernel8Ideal.RefValue.vhead, Cert.Kernel8Ideal.RefValue.vplace]

def backT (x : FVec Ideal S128x4x1x128 .f32) : FVec Ideal S128x1x4x128 .f32 := transpose S128x1x4x128 [0, 2, 1, 3] x transposes_S128x4x1x128_S128x1x4x128_0_2_1_3

theorem backT_at (x : FVec Ideal S128x4x1x128 .f32) (s : Fin 128) (h : Fin 4) (e : Fin 128) : (backT x (ix4 s 0 h e) : EReal) = x (ix4 s h 0 e) := by
  pointwise [backT]

/-! The state the chunk leaves. -/

def flatT (b : FVec Ideal S128x4x1 .f32) : FVec Ideal S128x4 .f32 := shapeCast S128x4 b shapeCasts_S128x4x1_S128x4

theorem flatT_at (b : FVec Ideal S128x4x1 .f32) (s : Fin 128) (h : Fin 4) : (flatT b (ix2 s h) : EReal) = b (ix3 s h 0) := by
  pointwise [flatT]

def endT (b i : FVec Ideal S128x4x1 .f32) : FVec Ideal S128x4x1 .f32 := addf (subf (broadcastInDim S128x4x1 ![0, 1] bcast_S128x4_S128x4x1_0_1 (flatT b)) b) i

theorem endT_at (b i : FVec Ideal S128x4x1 .f32) (s : Fin 128) (h : Fin 4) (hb : b (ix3 s h 0) ≠ (⊤ : EReal) ∧ b (ix3 s h 0) ≠ (⊥ : EReal)) :
    (endT b i (ix3 s h 0) : EReal) = i (ix3 s h 0) := by
  have hf := flatT_at b s h
  unfold endT
  generalize flatT b = f at hf ⊢
  refine Eq.trans (b := ((f (ix2 s h) : EReal) - b (ix3 s h 0) + i (ix3 s h 0) : EReal)) (by pointwise) ?_
  rw [hf, sub_self_of_finite hb, zero_add]

def endScaleT (u : FVec Ideal S128x4 .f32) (e : FVec Ideal S128x4x1 .f32) : FVec Ideal S128x4 .f32 :=
  maximumf u (Host.reduce FloatOps.maximumf e (constant S_ .f32 0xFF800000#32) reducesTo_S128x4x1_S128x4_d2 h_S_)

theorem endScaleT_at (u : FVec Ideal S128x4 .f32) (e : FVec Ideal S128x4x1 .f32) (s : Fin 128) (h : Fin 4) :
    (endScaleT u e (ix2 s h) : EReal) = max (u (ix2 s h) : EReal) (e (ix3 s h 0)) := by
  refine Eq.trans (b := max (u (ix2 s h) : EReal) (Finset.univ.fold max (Ideal.ofBits .f32 0xFF800000#32) fun k : Fin 1 => (e (ix3 s h k) : EReal))) (by pointwise [endScaleT]) ?_
  rw [low_bits, fold_low]

def endTokenT (e : FVec Ideal S128x4x1 .f32) (n : FVec Ideal S128x4 .f32) : FVec Ideal S128x4x1 .f32 := Host.exp (subf e (broadcastInDim S128x4x1 ![0, 1] bcast_S128x4_S128x4x1_0_1 n))

theorem endTokenT_at (e : FVec Ideal S128x4x1 .f32) (n : FVec Ideal S128x4 .f32) (s : Fin 128) (h : Fin 4) :
    (endTokenT e n (ix3 s h 0) : EReal) = Ideal.exp ((e (ix3 s h 0) : EReal) - n (ix2 s h)) := by
  pointwise [endTokenT]

def endKeptT (u n : FVec Ideal S128x4 .f32) : FVec Ideal S128x4 .f32 := Host.exp (subf u n)

theorem endKeptT_at (u n : FVec Ideal S128x4 .f32) (s : Fin 128) (h : Fin 4) : (endKeptT u n (ix2 s h) : EReal) = Ideal.exp ((u (ix2 s h) : EReal) - n (ix2 s h)) := by
  pointwise [endKeptT]

def matrixT (a : FVec Ideal S128x4 .f32) (c : FVec Ideal S128x4x64x128 .f32) (w : FVec Ideal S128x4x1 .f32) (k : FVec Ideal S128x4x1x64 .f32) (v : FVec Ideal S128x4x1x128 .f32) : FVec Ideal S128x4x64x128 .f32 :=
  addf (mulf (broadcastInDim S128x4x64x128 ![0, 1, 2, 3] bcast_S128x4x1x1_S128x4x64x128_0_1_2_3 (broadcastInDim S128x4x1x1 ![0, 1] bcast_S128x4_S128x4x1x1_0_1 a)) c)
    (Host.dotGeneral dot_S128x4x1x64_S128x4x1x128_S128x4x64x128_2_2_3_3_01_01 none
      (mulf (broadcastInDim S128x4x1x64 ![0, 1, 2, 3] bcast_S128x4x1x1_S128x4x1x64_0_1_2_3 (broadcastInDim S128x4x1x1 ![0, 1, 2] bcast_S128x4x1_S128x4x1x1_0_1_2 w)) k) v)

theorem matrixT_at (a : FVec Ideal S128x4 .f32) (c : FVec Ideal S128x4x64x128 .f32) (w : FVec Ideal S128x4x1 .f32) (k : FVec Ideal S128x4x1x64 .f32) (v : FVec Ideal S128x4x1x128 .f32)
    (s : Fin 128) (h : Fin 4) (d : Fin 64) (e : Fin 128) :
    (matrixT a c w k v (ix4 s h d e) : EReal) = (a (ix2 s h) : EReal) * c (ix4 s h d e) + (w (ix3 s h 0) : EReal) * k (ix4 s h 0 d) * v (ix4 s h 0 e) := by
  refine Eq.trans (b := (a (ix2 s h) : EReal) * c (ix4 s h d e) + ∑ z : Fin 1, (w (ix3 s h 0) : EReal) * k (ix4 s h z d) * v (ix4 s h z e)) (by pointwise [matrixT]) ?_
  rw [Fin.sum_univ_one]

def sumT (a : FVec Ideal S128x4 .f32) (n : FVec Ideal S128x4x64 .f32) (w : FVec Ideal S128x4x1 .f32) (k : FVec Ideal S128x4x1x64 .f32) : FVec Ideal S128x4x64 .f32 :=
  addf (mulf (broadcastInDim S128x4x64 ![0, 1, 2] bcast_S128x4x1_S128x4x64_0_1_2 (broadcastInDim S128x4x1 ![0, 1] bcast_S128x4_S128x4x1_0_1 a)) n)
    (Host.dotGeneral dot_S128x4x1_S128x4x1x64_S128x4x64_2_2_n_3_01_01 none w k)

theorem sumT_at (a : FVec Ideal S128x4 .f32) (n : FVec Ideal S128x4x64 .f32) (w : FVec Ideal S128x4x1 .f32) (k : FVec Ideal S128x4x1x64 .f32) (s : Fin 128) (h : Fin 4) (d : Fin 64) :
    (sumT a n w k (ix3 s h d) : EReal) = (a (ix2 s h) : EReal) * n (ix3 s h d) + (w (ix3 s h 0) : EReal) * k (ix4 s h 0 d) := by
  refine Eq.trans (b := (a (ix2 s h) : EReal) * n (ix3 s h d) + ∑ z : Fin 1, (w (ix3 s h z) : EReal) * k (ix4 s h z d)) (by pointwise [sumT]) ?_
  rw [Fin.sum_univ_one]

def lastT (n : FVec Ideal S128x4 .f32) : FVec Ideal S128x1x4 .f32 := broadcastInDim S128x1x4 ![0, 2] bcast_S128x4_S128x1x4_0_2 n

theorem lastT_at (n : FVec Ideal S128x4 .f32) (s : Fin 128) (h : Fin 4) : (lastT n (ix3 s 0 h) : EReal) = n (ix2 s h) := by
  pointwise [lastT]

/-! The arguments' rows. -/

def headsT (x : FVec Ideal S128x1x4x64 .f32) : FVec Ideal S128x4x1x64 .f32 := transpose S128x4x1x64 [0, 2, 1, 3] x transposes_S128x1x4x64_S128x4x1x64_0_2_1_3
def valuesT (x : FVec Ideal S128x1x4x128 .f32) : FVec Ideal S128x4x1x128 .f32 := transpose S128x4x1x128 [0, 2, 1, 3] x transposes_S128x1x4x128_S128x4x1x128_0_2_1_3
def gateT (x : FVec Ideal S128x1x4 .f32) : FVec Ideal S128x4x1 .f32 := transpose S128x4x1 [0, 2, 1] x transposes_S128x1x4_S128x4x1_0_2_1
def cT (x : FVec Ideal S1x128x4x64x128 .f32) : FVec Ideal S128x4x64x128 .f32 := shapeCast S128x4x64x128 x shapeCasts_S1x128x4x64x128_S128x4x64x128
def nT (x : FVec Ideal S1x128x4x64 .f32) : FVec Ideal S128x4x64 .f32 := shapeCast S128x4x64 x shapeCasts_S1x128x4x64_S128x4x64
def mT (x : FVec Ideal S1x128x4 .f32) : FVec Ideal S128x4 .f32 := shapeCast S128x4 x shapeCasts_S1x128x4_S128x4

theorem headsT_at (x : FVec Ideal S128x1x4x64 .f32) (s : Fin 128) (h : Fin 4) (d : Fin 64) : (headsT x (ix4 s h 0 d) : EReal) = x (ix4 s 0 h d) := by
  pointwise [headsT]
theorem valuesT_at (x : FVec Ideal S128x1x4x128 .f32) (s : Fin 128) (h : Fin 4) (e : Fin 128) : (valuesT x (ix4 s h 0 e) : EReal) = x (ix4 s 0 h e) := by
  pointwise [valuesT]
theorem gateT_at (x : FVec Ideal S128x1x4 .f32) (s : Fin 128) (h : Fin 4) : (gateT x (ix3 s h 0) : EReal) = x (ix3 s 0 h) := by
  pointwise [gateT]
theorem cT_at (x : FVec Ideal S1x128x4x64x128 .f32) (s : Fin 128) (h : Fin 4) (d : Fin 64) (e : Fin 128) : (cT x (ix4 s h d e) : EReal) = x (ix5 0 s h d e) := by
  pointwise [cT]
theorem nT_at (x : FVec Ideal S1x128x4x64 .f32) (s : Fin 128) (h : Fin 4) (d : Fin 64) : (nT x (ix3 s h d) : EReal) = x (ix4 0 s h d) := by
  pointwise [nT]
theorem mT_at (x : FVec Ideal S1x128x4 .f32) (s : Fin 128) (h : Fin 4) : (mT x (ix2 s h) : EReal) = x (ix3 0 s h) := by
  pointwise [mT]

section Values

variable (q k : FVec Ideal S128x1x4x64 .f32) (v : FVec Ideal S128x1x4x128 .f32) (o : FVec Ideal S128x1x512 .f32) (ig lf : FVec Ideal S128x1x4 .f32)
  (g : FVec Ideal S1x512 .f32) (sc : FVec Ideal S1x128x4x64x128 .f32) (sn : FVec Ideal S1x128x4x64 .f32) (sm : FVec Ideal S1x128x4 .f32)

/-- The gates' running sum, the scores, the carried scale and the new scale, in the layout the row is read in. -/
def bA : FVec Ideal S128x4x1 .f32 := runningT (gateT lf)
def dA : FVec Ideal S128x4x1x1 .f32 := scoreT (bA lf) (gateT ig)
def uA : FVec Ideal S128x4x1 .f32 := carriedT (bA lf) (mT sm)
def scaleA : FVec Ideal S128x4x1 .f32 := maxT (uA lf sm) (dA ig lf)
def aA : FVec Ideal S128x4x1 .f32 := keptWT (uA lf sm) (scaleA ig lf sm)
def tA : FVec Ideal S128x4x1x1 .f32 := qkT (headsT q) (headsT k) (tokenWT (dA ig lf) (scaleA ig lf sm))
def rowA : FVec Ideal S128x1x4x128 .f32 :=
  backT (rowT (numT (aA ig lf sm) (headsT q) (cT sc) (tA q k ig lf sm) (valuesT v)) (floorT (denT (aA ig lf sm) (headsT q) (nT sn) (tA q k ig lf sm)) (scaleA ig lf sm)))

/-- The same in the layout the state is left in. -/
def eA : FVec Ideal S128x4x1 .f32 := endT (bA lf) (gateT ig)
def vA : FVec Ideal S128x4 .f32 := addf (flatT (bA lf)) (mT sm)
def lastA : FVec Ideal S128x4 .f32 := endScaleT (vA lf sm) (eA ig lf)

def hmA : FVec Ideal S128x1x512 .f32 := gatedT (normT (rowA q k v ig lf sc sn sm)) g o
def matrixA : FVec Ideal S128x4x64x128 .f32 := matrixT (endKeptT (vA lf sm) (lastA ig lf sm)) (cT sc) (endTokenT (eA ig lf) (lastA ig lf sm)) (headsT k) (valuesT v)
def sumA : FVec Ideal S128x4x64 .f32 := sumT (endKeptT (vA lf sm) (lastA ig lf sm)) (nT sn) (endTokenT (eA ig lf) (lastA ig lf sm)) (headsT k)
def scaleOutA : FVec Ideal S128x1x4 .f32 := lastT (lastA ig lf sm)

variable (hf : ∀ (s : Fin 128) (h : Fin 4), lf (ix3 s 0 h) ≠ (⊤ : EReal) ∧ lf (ix3 s 0 h) ≠ (⊥ : EReal))

theorem bA_at (s : Fin 128) (h : Fin 4) : (bA lf (ix3 s h 0) : EReal) = lf (ix3 s 0 h) := by
  unfold bA
  rw [runningT_at, gateT_at]

include hf

theorem bA_finite (s : Fin 128) (h : Fin 4) : bA lf (ix3 s h 0) ≠ (⊤ : EReal) ∧ bA lf (ix3 s h 0) ≠ (⊥ : EReal) := by
  rw [bA_at]
  exact hf s h

theorem dA_at (s : Fin 128) (h : Fin 4) : (dA ig lf (ix4 s h 0 0) : EReal) = ig (ix3 s 0 h) := by
  unfold dA
  rw [scoreT_at _ _ s h (bA_finite lf hf s h), gateT_at]

omit hf in
theorem uA_at (s : Fin 128) (h : Fin 4) : (uA lf sm (ix3 s h 0) : EReal) = lf (ix3 s 0 h) + sm (ix3 0 s h) := by
  unfold uA
  rw [carriedT_at, bA_at, mT_at]

theorem scaleA_at (s : Fin 128) (h : Fin 4) : (scaleA ig lf sm (ix3 s h 0) : EReal) = newScale (ig (ix3 s 0 h)) (lf (ix3 s 0 h)) (sm (ix3 0 s h)) := by
  unfold scaleA
  rw [maxT_at, uA_at, dA_at ig lf hf]
  rfl

theorem aA_at (s : Fin 128) (h : Fin 4) : (aA ig lf sm (ix3 s h 0) : EReal) = keepWeight (ig (ix3 s 0 h)) (lf (ix3 s 0 h)) (sm (ix3 0 s h)) := by
  unfold aA
  rw [keptWT_at, uA_at, scaleA_at ig lf sm hf]
  rfl

theorem tA_at (s : Fin 128) (h : Fin 4) :
    (tA q k ig lf sm (ix4 s h 0 0) : EReal) = tokenScore (fun d : Fin 64 => q (ix4 s 0 h d)) (fun d => k (ix4 s 0 h d)) (ig (ix3 s 0 h)) (lf (ix3 s 0 h)) (sm (ix3 0 s h)) := by
  unfold tA
  rw [qkT_at, tokenWT_at, dA_at ig lf hf, scaleA_at ig lf sm hf]
  simp only [headsT_at]
  rfl

theorem rowA_at (s : Fin 128) (h : Fin 4) (e : Fin 128) :
    (rowA q k v ig lf sc sn sm (ix4 s 0 h e) : EReal) = Cert.Kernel8Ideal.RefValue.seqRow q k v ig lf sc sn sm s h e := by
  unfold rowA
  rw [backT_at, rowT_at, numT_at, floorT_at, denT_at, aA_at ig lf sm hf, tA_at q k ig lf sm hf, scaleA_at ig lf sm hf]
  simp only [headsT_at, cT_at, nT_at, valuesT_at]
  rfl

theorem hmA_eq : hmA q k v o ig lf g sc sn sm = Cert.Kernel8Ideal.RefValue.hmOut q k v o ig lf g sc sn sm := by
  funext i
  idx_vars i
  obtain rfl : i1 = 0 := Fin.ext (by have := i1.isLt; omega)
  unfold hmA
  refine (gatedT_at _ _ _ i0 i2).trans ?_
  rw [normT_at]
  simp only [rowA_at q k v ig lf sc sn sm hf]
  have hv : Cert.Kernel8Ideal.RefValue.vlane (Cert.Kernel8Ideal.RefValue.vhead i2) (Cert.Kernel8Ideal.RefValue.vplace i2) = i2 :=
    Fin.ext (by show i2.val / 128 * 128 + i2.val % 128 = i2.val; omega)
  show _ = gatedRow (Cert.Kernel8Ideal.RefValue.seqRow q k v ig lf sc sn sm i0 (Cert.Kernel8Ideal.RefValue.vhead i2)) (fun e => g (ix2 0 (Cert.Kernel8Ideal.RefValue.vlane (Cert.Kernel8Ideal.RefValue.vhead i2) e)))
    (fun e => o (ix3 i0 0 (Cert.Kernel8Ideal.RefValue.vlane (Cert.Kernel8Ideal.RefValue.vhead i2) e))) (Cert.Kernel8Ideal.RefValue.vplace i2)
  unfold gatedRow
  simp only [hv]

theorem eA_at (s : Fin 128) (h : Fin 4) : (eA ig lf (ix3 s h 0) : EReal) = ig (ix3 s 0 h) := by
  unfold eA
  rw [endT_at _ _ s h (bA_finite lf hf s h), gateT_at]

omit hf in
theorem vA_at (s : Fin 128) (h : Fin 4) : (vA lf sm (ix2 s h) : EReal) = lf (ix3 s 0 h) + sm (ix3 0 s h) := by
  show (flatT (bA lf) (ix2 s h) : EReal) + mT sm (ix2 s h) = _
  rw [flatT_at, bA_at, mT_at]

theorem lastA_at (s : Fin 128) (h : Fin 4) : (lastA ig lf sm (ix2 s h) : EReal) = newScale (ig (ix3 s 0 h)) (lf (ix3 s 0 h)) (sm (ix3 0 s h)) := by
  unfold lastA
  rw [endScaleT_at, vA_at, eA_at ig lf hf]
  rfl

theorem matrixA_eq : matrixA k v ig lf sc sm = Cert.Kernel8Ideal.RefValue.matrixOut k v ig lf sc sm := by
  funext i
  idx_vars i
  unfold matrixA
  refine (matrixT_at _ _ _ _ _ i0 i1 i2 i3).trans ?_
  rw [endKeptT_at, endTokenT_at, vA_at, lastA_at ig lf sm hf, eA_at ig lf hf, cT_at, headsT_at, valuesT_at]
  rfl

theorem sumA_eq : sumA k ig lf sn sm = Cert.Kernel8Ideal.RefValue.sumOut k ig lf sn sm := by
  funext i
  idx_vars i
  unfold sumA
  refine (sumT_at _ _ _ _ i0 i1 i2).trans ?_
  rw [endKeptT_at, endTokenT_at, vA_at, lastA_at ig lf sm hf, eA_at ig lf hf, nT_at, headsT_at]
  rfl

theorem scaleOutA_eq : scaleOutA ig lf sm = Cert.Kernel8Ideal.RefValue.scaleOut ig lf sm := by
  funext i
  idx_vars i
  obtain rfl : i1 = 0 := Fin.ext (by have := i1.isLt; omega)
  unfold scaleOutA
  refine (lastT_at _ i0 i2).trans ?_
  rw [lastA_at ig lf sm hf]
  rfl

end Values

variable (m : (ℓ : Loc nD τ sig) → Buf (Elt Ideal) ℓ) (c : Dev nD)

theorem res_hm : res_main_v93 m c = hmA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v93
  rfl
theorem res_matrix : res_main_v65 m c = matrixA (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg9)) := by
  unfold res_main_v65
  rfl
theorem res_sum : res_main_v70 m c = sumA (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) := by
  unfold res_main_v70
  rfl

end Cert.Reference8Ideal.RefValue

end
-- ==== Proof.MlstmClaim.lean ====
module

public import proofs.«01_k».proof.Defs
public import proofs.«01_k».proof.Proof.MlstmValue
public import proofs.«01_k».proof.Proof.MlstmRef
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.Value
public import Idealize.ShloMosaic.Lib.Quiescent
public import Idealize.ShloMosaic.Lib.ReduceAll

@[expose] public section

set_option maxRecDepth 16384

noncomputable section

namespace Cert.Proof.MlstmClaim

open Idealize.ShloMosaic Idealize.ShloMosaic.TcCoe Idealize.SL.Sem

/-- The side conditions of the precondition's operations. -/
theorem preFacts : Cert.Pre_finite_keys_and_gates.Facts := ⟨by decide, by decide, by decide, by decide, by decide⟩

instance : Cert.Pre_finite_keys_and_gates.Facts := preFacts

theorem top_bits : Ideal.ofBits .f32 0x7F800000#32 = (⊤ : EReal) := by
  simp [Ideal.ofBits, Ideal.ieee]

/-- A number whose magnitude is less than infinity is finite. -/
theorem finite_of_lt {x : EReal} (h : Ideal.cmp .olt (max x (-x)) (Ideal.ofBits .f32 0x7F800000#32) = 1#1) : x ≠ ⊤ ∧ x ≠ ⊥ := by
  rw [top_bits] at h
  have hl : max x (-x) < ⊤ := by
    by_contra hn
    have : Ideal.cmp .olt (max x (-x)) ⊤ = 0#1 := by simp only [Ideal.cmp, hn, decide_false]; rfl
    rw [this] at h
    exact absurd h (by decide)
  constructor
  · rintro rfl
    exact absurd hl (by simp)
  · rintro rfl
    exact absurd hl (by simp)

theorem one_index : Subsingleton Cert.Pre_finite_keys_and_gates.S_.Idx := ⟨fun a b => funext fun k => k.elim0⟩

instance : Subsingleton Cert.Pre_finite_keys_and_gates.S_.Idx := one_index

theorem finite_of_pre (q k : FVec Ideal Cert.Kernel8Ideal.S128x1x4x64 .f32) (v : FVec Ideal Cert.Kernel8Ideal.S128x1x4x128 .f32) (o : FVec Ideal Cert.Kernel8Ideal.S128x1x512 .f32)
    (ig lf : FVec Ideal Cert.Kernel8Ideal.S128x1x4 .f32) (g : FVec Ideal Cert.Kernel8Ideal.S1x512 .f32) (sc : FVec Ideal Cert.Kernel8Ideal.S1x128x4x64x128 .f32)
    (sn : FVec Ideal Cert.Kernel8Ideal.S1x128x4x64 .f32) (sm : FVec Ideal Cert.Kernel8Ideal.S1x128x4 .f32)
    (h : Cert.Pre_finite_keys_and_gates.fn (F := Ideal) q k v o ig lf g sc sn sm = fun _ => 1#1) :
    (∀ i, (k i : EReal) ≠ ⊤ ∧ (k i : EReal) ≠ ⊥) ∧ (∀ i, (lf i : EReal) ≠ ⊤ ∧ (lf i : EReal) ≠ ⊥) := by
  have h0 := congrFun h (fun z => z.elim0)
  obtain ⟨hk, hl⟩ := IntOp.andi_eq_one.1 h0
  exact ⟨fun i => finite_of_lt (Host.reduce_andi_all _ _ _ _ _ hk i), fun i => finite_of_lt (Host.reduce_andi_all _ _ _ _ _ hl i)⟩

theorem finite_keys (m : (ℓ : Loc Cert.Kernel8Ideal.nD Cert.Kernel8Ideal.τ Cert.Kernel8Ideal.sig) → Buf (Elt Ideal) ℓ) (hpre : Cert.Pre_Kernel8Ideal_finite_keys_and_gates m)
    (c : Dev Cert.Kernel8Ideal.nD) (s : Fin 128) (h : Fin 4) (d : Fin 64) :
    ((m ((c.tc : Thread Cert.Kernel8Ideal.nD Cert.Kernel8Ideal.τ).loc Cert.Kernel8Ideal.main_arg1)) : FVec Ideal Cert.Kernel8Ideal.S128x1x4x64 .f32) (ix4 s 0 h d) ≠ (⊤ : EReal) ∧ ((m ((c.tc : Thread Cert.Kernel8Ideal.nD Cert.Kernel8Ideal.τ).loc Cert.Kernel8Ideal.main_arg1)) : FVec Ideal Cert.Kernel8Ideal.S128x1x4x64 .f32) (ix4 s 0 h d) ≠ (⊥ : EReal) :=
  (finite_of_pre _ _ _ _ _ _ _ _ _ _ (hpre c)).1 _

theorem finite_gates (m : (ℓ : Loc Cert.Kernel8Ideal.nD Cert.Kernel8Ideal.τ Cert.Kernel8Ideal.sig) → Buf (Elt Ideal) ℓ) (hpre : Cert.Pre_Kernel8Ideal_finite_keys_and_gates m)
    (c : Dev Cert.Kernel8Ideal.nD) (s : Fin 128) (h : Fin 4) :
    ((m ((c.tc : Thread Cert.Kernel8Ideal.nD Cert.Kernel8Ideal.τ).loc Cert.Kernel8Ideal.main_arg5)) : FVec Ideal Cert.Kernel8Ideal.S128x1x4 .f32) (ix3 s 0 h) ≠ (⊤ : EReal) ∧ ((m ((c.tc : Thread Cert.Kernel8Ideal.nD Cert.Kernel8Ideal.τ).loc Cert.Kernel8Ideal.main_arg5)) : FVec Ideal Cert.Kernel8Ideal.S128x1x4 .f32) (ix3 s 0 h) ≠ (⊥ : EReal) :=
  (finite_of_pre _ _ _ _ _ _ _ _ _ _ (hpre c)).2 _

/-- Result 0 of the call as a function of the argument arrays. -/
def value0 (m : (ℓ : Loc Cert.Kernel8Ideal.nD Cert.Kernel8Ideal.τ Cert.Kernel8Ideal.sig) → Buf (Elt Ideal) ℓ) (c : Dev Cert.Kernel8Ideal.nD) : FVec Ideal Cert.Kernel8Ideal.S128x1x512 .f32 :=
  Cert.Kernel8Ideal.RefValue.hmOut (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))

/-- Result 1 of the call as a function of the argument arrays. -/
def value1 (m : (ℓ : Loc Cert.Kernel8Ideal.nD Cert.Kernel8Ideal.τ Cert.Kernel8Ideal.sig) → Buf (Elt Ideal) ℓ) (c : Dev Cert.Kernel8Ideal.nD) : FVec Ideal Cert.Kernel8Ideal.S128x4x64x128 .f32 :=
  Cert.Kernel8Ideal.RefValue.matrixOut (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg9))

/-- Result 2 of the call as a function of the argument arrays. -/
def value2 (m : (ℓ : Loc Cert.Kernel8Ideal.nD Cert.Kernel8Ideal.τ Cert.Kernel8Ideal.sig) → Buf (Elt Ideal) ℓ) (c : Dev Cert.Kernel8Ideal.nD) : FVec Ideal Cert.Kernel8Ideal.S128x4x64 .f32 :=
  Cert.Kernel8Ideal.RefValue.sumOut (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9))

/-- Result 3 of the call as a function of the argument arrays. -/
def value3 (m : (ℓ : Loc Cert.Kernel8Ideal.nD Cert.Kernel8Ideal.τ Cert.Kernel8Ideal.sig) → Buf (Elt Ideal) ℓ) (c : Dev Cert.Kernel8Ideal.nD) : FVec Ideal Cert.Kernel8Ideal.S128x1x4 .f32 :=
  Cert.Kernel8Ideal.RefValue.scaleOut (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg9))

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)

theorem frame_ideal_pre : Cert.quiescent_Kernel8Ideal_pre_finite_keys_and_gates := fun m ρ _ => Cert.Kernel8Ideal.Gen.frame m ρ
theorem frame_reference_pre : Cert.quiescent_Reference8Ideal_pre_finite_keys_and_gates := fun m ρ _ => frame_reference m ρ trivial

theorem preserves : Cert.preserves_Kernel8_Kernel8Ideal := trivial

/-- The kernel's result arrays and the reference's are the same functions of the same arguments. -/
theorem algebraic : Cert.algebraic_Kernel8Ideal_Reference8Ideal_pre_finite_keys_and_gates := by
  intro m ρ m' ρ' hpre hagree
  refine ⟨fun c => value0 m c, fun c => value1 m c, fun c => value2 m c, fun c => value3 m c, ?_, ?_⟩
  · refine (θ_run Cert.Kernel8Ideal.defs _ _).mono (fun _ h c => ⟨(h c).1.trans (Cert.Kernel8Ideal.RefValue.final_hm m c), (h c).2.1.trans (Cert.Kernel8Ideal.RefValue.final_matrix m c (finite_keys m hpre c)), (h c).2.2.1.trans (Cert.Kernel8Ideal.RefValue.final_sum m c), (h c).2.2.2.1.trans (Cert.Kernel8Ideal.RefValue.final_scale m c), (h c).2.2.2.2⟩)
      (Cert.Kernel8Ideal.Value.run_blocks (F := Ideal) m ρ)
  · refine (θ_run Cert.Reference8Ideal.defs _ _).mono (fun _ h c => ⟨(h c).1.trans ((Cert.Reference8Ideal.RefValue.res_hm m' c).trans ?_), (h c).2.1.trans ((Cert.Reference8Ideal.RefValue.res_matrix m' c).trans ?_), (h c).2.2.1.trans ((Cert.Reference8Ideal.RefValue.res_sum m' c).trans ?_), (h c).2.2.2.1.trans (((show _ = Cert.Reference8Ideal.RefValue.scaleOutA (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg9)) from rfl)).trans ?_), (h c).2.2.2.2⟩)
      (Cert.Reference8Ideal.Value.run (F := Ideal) m' ρ')
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact Cert.Reference8Ideal.RefValue.hmA_eq _ _ _ _ _ _ _ _ _ _ (finite_gates m hpre c)
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact Cert.Reference8Ideal.RefValue.matrixA_eq _ _ _ _ _ _ (finite_gates m hpre c)
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact Cert.Reference8Ideal.RefValue.sumA_eq _ _ _ _ _ (finite_gates m hpre c)
    · simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact Cert.Reference8Ideal.RefValue.scaleOutA_eq _ _ _ (finite_gates m hpre c)

end Cert.Proof.MlstmClaim

end
-- ==== Proof.FfnStepBlock.lean ====
module

public import proofs.«01_k».proof.Proof.Rows
public import proofs.«01_k».proof.Proof.Gen.Kernel9Ideal.Value
public import Idealize.ShloMosaic.Lib.Pipeline.ValueKit
public import Idealize.ShloMosaic.Lib.Claim

@[expose] public section

set_option maxRecDepth 16384

noncomputable section

namespace Cert.Kernel9Ideal.RefValue

open Cert.Kernel9Ideal Cert.Kernel9Ideal.Gen Cert.Rows
open Idealize.ShloMosaic Idealize.ShloMosaic.TcCoe Idealize.SL.Sem
open Idealize.ShloMosaic.Pipeline (Dat)

/-- One entry of the two mixers' outputs through the output projection. -/
def mixed (hm hf : Fin 512 → EReal) (wo : Fin 1024 → Fin 1024 → EReal) (j : Fin 1024) : EReal :=
  (∑ k : Fin 512, hm k * wo ⟨k.val, by omega⟩ j) + ∑ k : Fin 512, hf k * wo ⟨512 + k.val, by omega⟩ j

variable (x0 : FVec Ideal S128x1024 .f32) (x1 x2 : FVec Ideal S128x512 .bf16) (x3 : FVec Ideal S1024x1024 .bf16)
  (x4 : FVec Ideal S3x1024 .f32) (x5 x6 : FVec Ideal S1024x2816 .bf16) (x7 : FVec Ideal S2816x1024 .bf16)

/-- Row `p` of the projected mixers of a block. -/
def vRow (p : Fin 128) : Fin 1024 → EReal :=
  mixed (fun k => x1 (ix2 p k)) (fun k => x2 (ix2 p k)) (fun k j => x3 (ix2 k j))

/-- Row `p` of a block after the first residual sum. -/
def xRow (p : Fin 128) (j : Fin 1024) : EReal :=
  x0 (ix2 p j) + rms (vRow x1 x2 x3 p) (fun k => x4 (ix2 0 k)) j

theorem pay22_at (p : Fin 128) (j : Fin 1024) :
    k0_pay22 (F := Ideal) x0 x1 x2 x3 x4 x5 x6 x7 (ix2 p j) = xRow x0 x1 x2 x3 x4 p j := by
  pointwise [k0_pay22, k0_pay2, xRow, rms, vRow, mixed]

theorem pay24_at (p : Fin 128) :
    k0_pay24 (F := Ideal) x0 x1 x2 x3 x4 x5 x6 x7 (ix2 p 0)
      = Ideal.div (∑ k : Fin 1024, xRow x0 x1 x2 x3 x4 p k * xRow x0 x1 x2 x3 x4 p k) (Ideal.ofBits .f32 0x44800000#32) + Ideal.ofBits .f32 0x358637BD#32 := by
  have h : k0_pay24 (F := Ideal) x0 x1 x2 x3 x4 x5 x6 x7 (ix2 p 0)
      = Ideal.div (∑ k : Fin 1024, k0_pay22 (F := Ideal) x0 x1 x2 x3 x4 x5 x6 x7 (ix2 p k) * k0_pay22 (F := Ideal) x0 x1 x2 x3 x4 x5 x6 x7 (ix2 p k)) (Ideal.ofBits .f32 0x44800000#32) + Ideal.ofBits .f32 0x358637BD#32 := by
    pointwise [k0_pay24, k0_pay4]
    rfl
  rw [h]
  simp only [pay22_at]

theorem pay25_at (p : Fin 128) (j : Fin 1024) :
    k0_pay25 (F := Ideal) x0 x1 x2 x3 x4 x5 x6 x7 (ix2 p j)
      = rms (xRow x0 x1 x2 x3 x4 p) (fun k => x4 (ix2 1 k)) j := by
  pointwise [k0_pay25, k0_pay5, pay22_at, pay24_at, k0_pay23, k0_pay3, rms]

theorem pay5_at (p : Fin 128) (j : Fin 1024) :
    k0_pay5 (F := Ideal) (k0_pay22 x0 x1 x2 x3 x4 x5 x6 x7) (k0_pay23 x0 x1 x2 x3 x4 x5 x6 x7) (k0_pay24 x0 x1 x2 x3 x4 x5 x6 x7) (ix2 p j)
      = rms (xRow x0 x1 x2 x3 x4 p) (fun k => x4 (ix2 1 k)) j :=
  pay25_at x0 x1 x2 x3 x4 x5 x6 x7 p j

/-- A block of the result, row by row. -/
theorem block_at (p : Fin 128) (j : Fin 1024) :
    out0_8 (F := Ideal) x0 x1 x2 x3 x4 x5 x6 x7 (ix2 p j)
      = twoBlocks (fun k => x0 (ix2 p k)) (vRow x1 x2 x3 p) (fun k => x4 (ix2 0 k)) (fun k => x4 (ix2 1 k)) (fun k => x4 (ix2 2 k))
          (fun k n => x5 (ix2 k n)) (fun k n => x6 (ix2 k n)) (fun n k => x7 (ix2 n k)) j := by
  unfold out0_8
  rw [View.canon_unit_zero (by funext a; fin_cases a <;> rfl)]
  generalize hY : k0_pay21 (F := Ideal) _ _ _ _ _ _ _ _ = Y
  have hr : ∀ i : Fin 1024, Y (ix2 p i) = ffn (rms (xRow x0 x1 x2 x3 x4 p) (fun k => x4 (ix2 1 k))) (fun k n => x5 (ix2 k n)) (fun k n => x6 (ix2 k n)) (fun n k => x7 (ix2 n k)) i := by
    intro i
    rw [ffn_tiles, ← hY]
    pointwise [k0_pay21, k0_pay20, k0_pay19, k0_pay18, k0_pay17, k0_pay16, k0_pay15, k0_pay14, k0_pay13, k0_pay12, k0_pay11, k0_pay10, k0_pay9, k0_pay8, k0_pay7, k0_pay6, pay5_at, pay25_at, tile, unit]
    simp only [zero_sub, zero_add]
  pointwise [k0_pay1, hr, pay22_at, twoBlocks, xRow, rms]
  rfl

end Cert.Kernel9Ideal.RefValue

end
-- ==== Proof.FfnStepValue.lean ====
module

public import proofs.«01_k».proof.Proof.FfnStepBlock
public import proofs.«01_k».proof.Proof.Gen.Reference9Ideal.Run
public import Idealize.ShloMosaic.Lib.Claim

@[expose] public section

set_option maxRecDepth 16384

noncomputable section

namespace Cert.Kernel9Ideal.RefValue

open Cert.Kernel9Ideal Cert.Kernel9Ideal.Gen Cert.Rows
open Idealize.ShloMosaic Idealize.ShloMosaic.TcCoe Idealize.SL.Sem
open Idealize.ShloMosaic.Pipeline (Dat)

/-- One entry of the even layer's output: token `t` of sequence `b`. -/
def outAt (x : FVec Ideal S128x1x1024 .f32) (hm hf : FVec Ideal S128x1x512 .bf16) (g : FVec Ideal S2x4x1024 .f32)
    (wo : FVec Ideal S1x1024x1024 .f32) (wg wu : FVec Ideal S2x1024x2816 .f32) (wd : FVec Ideal S2x2816x1024 .f32)
    (b : Fin 128) (t : Fin 1) (j : Fin 1024) : EReal :=
  twoBlocks (fun k => x (ix3 b t k)) (mixed (fun k => hm (ix3 b t k)) (fun k => hf (ix3 b t k)) (fun k n => wo (ix3 0 k n)))
    (fun k => g (ix3 0 1 k)) (fun k => g (ix3 0 2 k)) (fun k => g (ix3 0 3 k))
    (fun k n => wg (ix3 0 k n)) (fun k n => wu (ix3 0 k n)) (fun n k => wd (ix3 0 n k)) j

/-- The sequence and the token of row `r` of the flattened activations. -/
def rowSeq (r : Fin 128) : Fin 128 := r
def rowTok (_ : Fin 128) : Fin 1 := 0

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ t.val < 1 :=
  (by decide +kernel : ∀ t : Fin grid0.N, _)

theorem point_lt (t : Fin cfg0.N) : t.val < 1 := (idx t).2.2.2.2.2.2.2.2.2

/-- The sequence and the token of row `p` of the one grid point's blocks. -/
def seqOf (_ : Fin cfg0.N) (p : Fin 128) : Fin 128 := p
def tokOf (_ : Fin cfg0.N) (_ : Fin 128) : Fin 1 := 0

theorem blk0 (c : Dev nD) (t : Fin cfg0.N) (p : Fin 128) (n : Fin 1024) :
    (iblk m c 0 t : FVec Ideal S128x1024 .f32) (ix2 p n)
      = (m ((c : Thread nD τ).loc main_arg0) : FVec Ideal S128x1x1024 .f32) (ix3 (seqOf t p) (tokOf t p) n) := by
  blk_simp [iblk]
  entry_read
  pointwise
  blk_ext [seqOf, tokOf, idx t]

theorem blk1 (c : Dev nD) (t : Fin cfg0.N) (p : Fin 128) (n : Fin 512) :
    (iblk m c 1 t : FVec Ideal S128x512 .bf16) (ix2 p n)
      = (m ((c : Thread nD τ).loc main_arg1) : FVec Ideal S128x1x512 .bf16) (ix3 (seqOf t p) (tokOf t p) n) := by
  blk_simp [iblk]
  entry_read
  pointwise
  blk_ext [seqOf, tokOf, idx t]

theorem blk2 (c : Dev nD) (t : Fin cfg0.N) (p : Fin 128) (n : Fin 512) :
    (iblk m c 2 t : FVec Ideal S128x512 .bf16) (ix2 p n)
      = (m ((c : Thread nD τ).loc main_arg2) : FVec Ideal S128x1x512 .bf16) (ix3 (seqOf t p) (tokOf t p) n) := by
  blk_simp [iblk]
  entry_read
  pointwise
  blk_ext [seqOf, tokOf, idx t]

theorem blk3 (c : Dev nD) (t : Fin cfg0.N) (k : Fin 1024) (n : Fin 1024) :
    (iblk m c 3 t : FVec Ideal S1024x1024 .bf16) (ix2 k n)
      = (m ((c : Thread nD τ).loc main_arg4) : FVec Ideal S1x1024x1024 .f32) (ix3 0 k n) := by
  blk_simp [iblk]
  entry_read
  pointwise
  blk_ext [idx t]

theorem blk4 (c : Dev nD) (t : Fin cfg0.N) (k : Fin 3) (n : Fin 1024) :
    (iblk m c 4 t : FVec Ideal S3x1024 .f32) (ix2 k n)
      = (m ((c : Thread nD τ).loc main_arg3) : FVec Ideal S2x4x1024 .f32) (ix3 0 ⟨1 + k.val, by omega⟩ n) := by
  blk_simp [iblk]
  entry_read
  pointwise
  blk_ext [idx t]

theorem blk5 (c : Dev nD) (t : Fin cfg0.N) (k : Fin 1024) (n : Fin 2816) :
    (iblk m c 5 t : FVec Ideal S1024x2816 .bf16) (ix2 k n)
      = (m ((c : Thread nD τ).loc main_arg5) : FVec Ideal S2x1024x2816 .f32) (ix3 0 k n) := by
  blk_simp [iblk]
  entry_read
  pointwise
  blk_ext [idx t]

theorem blk6 (c : Dev nD) (t : Fin cfg0.N) (k : Fin 1024) (n : Fin 2816) :
    (iblk m c 6 t : FVec Ideal S1024x2816 .bf16) (ix2 k n)
      = (m ((c : Thread nD τ).loc main_arg6) : FVec Ideal S2x1024x2816 .f32) (ix3 0 k n) := by
  blk_simp [iblk]
  entry_read
  pointwise
  blk_ext [idx t]

theorem blk7 (c : Dev nD) (t : Fin cfg0.N) (k : Fin 2816) (n : Fin 1024) :
    (iblk m c 7 t : FVec Ideal S2816x1024 .bf16) (ix2 k n)
      = (m ((c : Thread nD τ).loc main_arg7) : FVec Ideal S2x2816x1024 .f32) (ix3 0 k n) := by
  blk_simp [iblk]
  entry_read
  pointwise
  blk_ext [idx t]

theorem block_out (c : Dev nD) (t : Fin cfg0.N) (p : Fin 128) (j : Fin 1024) :
    out0_8 (F := Ideal) (iblk m c 0 t) (iblk m c 1 t) (iblk m c 2 t) (iblk m c 3 t) (iblk m c 4 t) (iblk m c 5 t) (iblk m c 6 t) (iblk m c 7 t) (ix2 p j)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (seqOf t p) (tokOf t p) j := by
  refine (block_at (iblk m c 0 t) (iblk m c 1 t) (iblk m c 2 t) (iblk m c 3 t) (iblk m c 4 t) (iblk m c 5 t) (iblk m c 6 t) (iblk m c 7 t) p j).trans ?_
  unfold vRow outAt
  simp only [blk0, blk1, blk2, blk3, blk4, blk5, blk6, blk7]
  rfl

theorem final_out (c : Dev nD) : (dats m 0 c).arrAt 8 (cfgs 0).N
    = fun i : S128x1024.Idx => outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (rowSeq (i 0)) (rowTok (i 0)) (i 1) := by
  refine (dats m 0 c).arrAt_eq_of_covers 8 _ (by decide +kernel) fun t _ y => ?_
  blk_simp
  rw [after0_8]
  idx_vars y
  refine (block_out m c t y0 y1).trans ?_
  have e : ((View.whole main_v16).slice (win0_8.rect t)).emb (ix2 y0 y1) = (ix2 y0 y1 : S128x1024.Idx) := by
    blk_ext [idx t]
  simp only [e]
  rfl

end Cert.Kernel9Ideal.RefValue

namespace Cert.Reference9Ideal.RefValue

open Cert.Reference9Ideal Cert.Reference9Ideal.Gen Cert.Reference9Ideal.Value Cert.Rows
open Idealize.ShloMosaic Idealize.ShloMosaic.TcCoe Idealize.SL.Sem

/-- The reference's normalisation of an array with gains `g`, operation by operation. -/
def normT (y : FVec Ideal S128x1x1024 .f32) (g : FVec Ideal S1024 .f32) : FVec Ideal S128x1x1024 .f32 :=
  mulf (mulf y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf y y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 g))

theorem normT_at (y : FVec Ideal S128x1x1024 .f32) (g : FVec Ideal S1024 .f32) (b : Fin 128) (t : Fin 1) (j : Fin 1024) :
    normT y g (ix3 b t j) = rms (fun k => y (ix3 b t k)) (fun k => g (ix1 k)) j := by
  obtain rfl : t = 0 := Subsingleton.elim _ _
  pointwise [normT, rms]

/-- The reference's output projection of the two mixers. -/
def mixT (hm hf : FVec Ideal S128x1x512 .bf16) (wo : FVec Ideal S1x1024x1024 .f32) : FVec Ideal S128x1x1024 .f32 :=
  Host.dotGeneral dot_S128x1x1024_S1024x1024_S128x1x1024_2_0_01_1_n_n none
    (concatenate S128x1x1024 2 [⟨S128x1x512, (extf .f32 hm bitsLt_bf16_f32)⟩, ⟨S128x1x512, (extf .f32 hf bitsLt_bf16_f32)⟩] concatenates_S128x1x512_S128x1x512_S128x1x1024_d2)
    (shapeCast _ wo shapeCasts_S1x1024x1024_S1024x1024)

theorem mixT_at (hm hf : FVec Ideal S128x1x512 .bf16) (wo : FVec Ideal S1x1024x1024 .f32) (b : Fin 128) (t : Fin 1) (j : Fin 1024) :
    mixT hm hf wo (ix3 b t j)
      = Cert.Kernel9Ideal.RefValue.mixed (fun k => hm (ix3 b t k)) (fun k => hf (ix3 b t k)) (fun k n => wo (ix3 0 k n)) j := by
  obtain rfl : t = 0 := Subsingleton.elim _ _
  pointwise [mixT, Cert.Kernel9Ideal.RefValue.mixed]

/-- The reference's feed-forward part. -/
def ffnT (h : FVec Ideal S128x1x1024 .f32) (wg wu : FVec Ideal S1024x2816 .f32) (wd : FVec Ideal S2816x1024 .f32) : FVec Ideal S128x1x1024 .f32 :=
  Host.dotGeneral dot_S128x1x2816_S2816x1024_S128x1x1024_2_0_01_1_n_n none
    (mulf (mulf (Host.dotGeneral dot_S128x1x1024_S1024x2816_S128x1x2816_2_0_01_1_n_n none h wg)
      (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (Host.dotGeneral dot_S128x1x1024_S1024x2816_S128x1x2816_2_0_01_1_n_n none h wg))))))
      (Host.dotGeneral dot_S128x1x1024_S1024x2816_S128x1x2816_2_0_01_1_n_n none h wu)) wd

theorem ffnT_at (h : FVec Ideal S128x1x1024 .f32) (wg wu : FVec Ideal S1024x2816 .f32) (wd : FVec Ideal S2816x1024 .f32) (b : Fin 128) (t : Fin 1) (j : Fin 1024) :
    ffnT h wg wu wd (ix3 b t j) = ffn (fun k => h (ix3 b t k)) (fun k n => wg (ix2 k n)) (fun k n => wu (ix2 k n)) (fun n k => wd (ix2 n k)) j := by
  obtain rfl : t = 0 := Subsingleton.elim _ _
  pointwise [ffnT, ffn, unit]

/-- Row `o` of the even layer's gains. -/
def gain1 (g : FVec Ideal S2x4x1024 .f32) : FVec Ideal S1024 .f32 :=
  shapeCast _ (extractStridedSlice S1x1x1024 ![0, 1, 0] g slices_S2x4x1024_S1x1x1024_0_1_0) shapeCasts_S1x1x1024_S1024
def gain2 (g : FVec Ideal S2x4x1024 .f32) : FVec Ideal S1024 .f32 :=
  shapeCast _ (extractStridedSlice S1x1x1024 ![0, 2, 0] g slices_S2x4x1024_S1x1x1024_0_2_0) shapeCasts_S1x1x1024_S1024
def gain3 (g : FVec Ideal S2x4x1024 .f32) : FVec Ideal S1024 .f32 :=
  shapeCast _ (extractStridedSlice S1x1x1024 ![0, 3, 0] g slices_S2x4x1024_S1x1x1024_0_3_0) shapeCasts_S1x1x1024_S1024

/-- The even layer's matrices. -/
def up0 (w : FVec Ideal S2x1024x2816 .f32) : FVec Ideal S1024x2816 .f32 :=
  shapeCast _ (extractStridedSlice S1x1024x2816 ![0, 0, 0] w slices_S2x1024x2816_S1x1024x2816_0_0_0) shapeCasts_S1x1024x2816_S1024x2816
def down0 (w : FVec Ideal S2x2816x1024 .f32) : FVec Ideal S2816x1024 .f32 :=
  shapeCast _ (extractStridedSlice S1x2816x1024 ![0, 0, 0] w slices_S2x2816x1024_S1x2816x1024_0_0_0) shapeCasts_S1x2816x1024_S2816x1024

/-- The residual sum after the mixers. -/
def midT (x : FVec Ideal S128x1x1024 .f32) (hm hf : FVec Ideal S128x1x512 .bf16) (g : FVec Ideal S2x4x1024 .f32)
    (wo : FVec Ideal S1x1024x1024 .f32) : FVec Ideal S128x1x1024 .f32 :=
  addf x (normT (mixT hm hf wo) (gain1 g))

/-- The whole result as the reference composes it. -/
def outT (x : FVec Ideal S128x1x1024 .f32) (hm hf : FVec Ideal S128x1x512 .bf16) (g : FVec Ideal S2x4x1024 .f32)
    (wo : FVec Ideal S1x1024x1024 .f32) (wg wu : FVec Ideal S2x1024x2816 .f32) (wd : FVec Ideal S2x2816x1024 .f32) : FVec Ideal S128x1024 .f32 :=
  shapeCast _ (addf (midT x hm hf g wo) (normT (ffnT (normT (midT x hm hf g wo) (gain2 g)) (up0 wg) (up0 wu) (down0 wd)) (gain3 g))) shapeCasts_S128x1x1024_S128x1024

theorem res_eq (m : (ℓ : Loc nD τ sig) → Buf (Elt Ideal) ℓ) (c : Dev nD) :
    res_main_v63 (F := Ideal) m c = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem outT_eq (x : FVec Ideal S128x1x1024 .f32) (hm hf : FVec Ideal S128x1x512 .bf16) (g : FVec Ideal S2x4x1024 .f32)
    (wo : FVec Ideal S1x1024x1024 .f32) (wg wu : FVec Ideal S2x1024x2816 .f32) (wd : FVec Ideal S2x2816x1024 .f32) :
    outT x hm hf g wo wg wu wd = fun i : S128x1024.Idx => Cert.Kernel9Ideal.RefValue.outAt x hm hf g wo wg wu wd
      (Cert.Kernel9Ideal.RefValue.rowSeq (i 0)) (Cert.Kernel9Ideal.RefValue.rowTok (i 0)) (i 1) := by
  funext i
  idx_vars i
  pointwise [outT, midT, normT_at, ffnT_at, mixT_at, gain1, gain2, gain3, up0, down0, Cert.Kernel9Ideal.RefValue.outAt, Cert.Kernel9Ideal.RefValue.rowSeq, Cert.Kernel9Ideal.RefValue.rowTok, twoBlocks]

end Cert.Reference9Ideal.RefValue

end
-- ==== Proof.FfnStepClaim.lean ====
module

public import proofs.«01_k».proof.Defs
public import proofs.«01_k».proof.Proof.FfnStepValue
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.Value
public import Idealize.ShloMosaic.Lib.Quiescent

@[expose] public section

set_option maxRecDepth 16384

noncomputable section

namespace Cert.Proof.FfnStepClaim

open Idealize.ShloMosaic Idealize.ShloMosaic.TcCoe Idealize.SL.Sem

/-- Result 0 of the call as a function of the argument arrays. -/
def value0 (m : (ℓ : Loc Cert.Kernel9Ideal.nD Cert.Kernel9Ideal.τ Cert.Kernel9Ideal.sig) → Buf (Elt Ideal) ℓ) (c : Dev Cert.Kernel9Ideal.nD) : FVec Ideal Cert.Kernel9Ideal.S128x1024 .f32 :=
  fun i => Cert.Kernel9Ideal.RefValue.outAt (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (Cert.Kernel9Ideal.RefValue.rowSeq (i 0)) (Cert.Kernel9Ideal.RefValue.rowTok (i 0)) (i 1)

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem preserves : Cert.preserves_Kernel9_Kernel9Ideal := trivial

/-- The kernel's result arrays and the reference's are the same functions of the same arguments. -/
theorem algebraic : Cert.algebraic_Kernel9Ideal_Reference9Ideal := by
  intro m ρ m' ρ' _ hagree
  refine ⟨fun c => value0 m c, ?_, ?_⟩
  · refine (θ_run Cert.Kernel9Ideal.defs _ _).mono (fun _ h c => ⟨(h c).1.trans (Cert.Kernel9Ideal.RefValue.final_out m c), (h c).2⟩)
      (Cert.Kernel9Ideal.Value.run_blocks (F := Ideal) m ρ)
  · refine (θ_run Cert.Reference9Ideal.defs _ _).mono (fun _ h c => ⟨(h c).1.trans (((Cert.Reference9Ideal.RefValue.res_eq m' c).trans (Cert.Reference9Ideal.RefValue.outT_eq _ _ _ _ _ _ _ _)).trans ?_), (h c).2⟩)
      (Cert.Reference9Ideal.Value.run (F := Ideal) m' ρ')
    all_goals
      simp only [(hagree c).1, (hagree c).2.1, (hagree c).2.2.1, (hagree c).2.2.2.1, (hagree c).2.2.2.2.1, (hagree c).2.2.2.2.2.1, (hagree c).2.2.2.2.2.2.1, (hagree c).2.2.2.2.2.2.2]
      rfl

end Cert.Proof.FfnStepClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.StepClaim
public import proofs.«01_k».proof.Proof.FfnClaim
public import proofs.«01_k».proof.Proof.RwkvClaim
public import proofs.«01_k».proof.Proof.RwkvStepClaim
public import proofs.«01_k».proof.Proof.InClaim
public import proofs.«01_k».proof.Proof.InStepClaim
public import proofs.«01_k».proof.Proof.ProjClaim
public import proofs.«01_k».proof.Proof.MlstmClaim
public import proofs.«01_k».proof.Proof.FfnStepClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, MlstmClaim.preFacts,
  StepClaim.frame_kernel, StepClaim.frame_ideal, StepClaim.frame_reference, FfnClaim.frame_kernel, FfnClaim.frame_ideal, FfnClaim.frame_reference, RwkvClaim.frame_kernel, RwkvClaim.frame_ideal, RwkvClaim.frame_reference, RwkvStepClaim.frame_kernel, RwkvStepClaim.frame_ideal, RwkvStepClaim.frame_reference, InClaim.frame_kernel, InClaim.frame_ideal, InClaim.frame_reference, InStepClaim.frame_kernel, InStepClaim.frame_ideal, InStepClaim.frame_reference, ProjClaim.frame_kernel, ProjClaim.frame_ideal, ProjClaim.frame_reference, MlstmClaim.frame_kernel, MlstmClaim.frame_ideal, MlstmClaim.frame_ideal_pre, MlstmClaim.frame_reference, MlstmClaim.frame_reference_pre, FfnStepClaim.frame_kernel, FfnStepClaim.frame_ideal, FfnStepClaim.frame_reference,
  StepClaim.preserves, StepClaim.algebraic, FfnClaim.preserves, FfnClaim.algebraic, RwkvClaim.preserves, RwkvClaim.algebraic, RwkvStepClaim.preserves, RwkvStepClaim.algebraic, InClaim.preserves, InClaim.algebraic, InStepClaim.preserves, InStepClaim.algebraic, ProjClaim.preserves, ProjClaim.algebraic, MlstmClaim.preserves, MlstmClaim.algebraic, FfnStepClaim.preserves, FfnStepClaim.algebraic⟩

end Cert.Proof

end
